-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_GateUp (m : (ℓ : Loc Cert.GateUp.nD Cert.GateUp.τ Cert.GateUp.sig) → Buf (Elt Bits) ℓ) : Prop :=
  True

def Pre_GateUpIdeal (m : (ℓ : Loc Cert.GateUpIdeal.nD Cert.GateUpIdeal.τ Cert.GateUpIdeal.sig) → Buf (Elt Ideal) ℓ) : Prop :=
  True

def Pre_GateUpReferenceIdeal (m : (ℓ : Loc Cert.GateUpReferenceIdeal.nD Cert.GateUpReferenceIdeal.τ Cert.GateUpReferenceIdeal.sig) → Buf (Elt Ideal) ℓ) : Prop :=
  True

def Pre_Tail (m : (ℓ : Loc Cert.Tail.nD Cert.Tail.τ Cert.Tail.sig) → Buf (Elt Bits) ℓ) : Prop :=
  True

def Pre_TailIdeal (m : (ℓ : Loc Cert.TailIdeal.nD Cert.TailIdeal.τ Cert.TailIdeal.sig) → Buf (Elt Ideal) ℓ) : Prop :=
  True

def Pre_TailReferenceIdeal (m : (ℓ : Loc Cert.TailReferenceIdeal.nD Cert.TailReferenceIdeal.τ Cert.TailReferenceIdeal.sig) → Buf (Elt Ideal) ℓ) : Prop :=
  True

def Pre_DownFirst (m : (ℓ : Loc Cert.DownFirst.nD Cert.DownFirst.τ Cert.DownFirst.sig) → Buf (Elt Bits) ℓ) : Prop :=
  True

def Pre_DownFirstIdeal (m : (ℓ : Loc Cert.DownFirstIdeal.nD Cert.DownFirstIdeal.τ Cert.DownFirstIdeal.sig) → Buf (Elt Ideal) ℓ) : Prop :=
  True

def Pre_DownFirstReferenceIdeal (m : (ℓ : Loc Cert.DownFirstReferenceIdeal.nD Cert.DownFirstReferenceIdeal.τ Cert.DownFirstReferenceIdeal.sig) → Buf (Elt Ideal) ℓ) : Prop :=
  True

def Pre_DownSecond (m : (ℓ : Loc Cert.DownSecond.nD Cert.DownSecond.τ Cert.DownSecond.sig) → Buf (Elt Bits) ℓ) : Prop :=
  True

def Pre_DownSecondIdeal (m : (ℓ : Loc Cert.DownSecondIdeal.nD Cert.DownSecondIdeal.τ Cert.DownSecondIdeal.sig) → Buf (Elt Ideal) ℓ) : Prop :=
  True

def Pre_DownSecondReferenceIdeal (m : (ℓ : Loc Cert.DownSecondReferenceIdeal.nD Cert.DownSecondReferenceIdeal.τ Cert.DownSecondReferenceIdeal.sig) → Buf (Elt Ideal) ℓ) : Prop :=
  True

def Pre_InProj (m : (ℓ : Loc Cert.InProj.nD Cert.InProj.τ Cert.InProj.sig) → Buf (Elt Bits) ℓ) : Prop :=
  True

def Pre_InProjIdeal (m : (ℓ : Loc Cert.InProjIdeal.nD Cert.InProjIdeal.τ Cert.InProjIdeal.sig) → Buf (Elt Ideal) ℓ) : Prop :=
  True

def Pre_InProjReferenceIdeal (m : (ℓ : Loc Cert.InProjReferenceIdeal.nD Cert.InProjReferenceIdeal.τ Cert.InProjReferenceIdeal.sig) → Buf (Elt Ideal) ℓ) : Prop :=
  True

def Pre_OutProj (m : (ℓ : Loc Cert.OutProj.nD Cert.OutProj.τ Cert.OutProj.sig) → Buf (Elt Bits) ℓ) : Prop :=
  True

def Pre_OutProjIdeal (m : (ℓ : Loc Cert.OutProjIdeal.nD Cert.OutProjIdeal.τ Cert.OutProjIdeal.sig) → Buf (Elt Ideal) ℓ) : Prop :=
  True

def Pre_OutProjReferenceIdeal (m : (ℓ : Loc Cert.OutProjReferenceIdeal.nD Cert.OutProjReferenceIdeal.τ Cert.OutProjReferenceIdeal.sig) → Buf (Elt Ideal) ℓ) : Prop :=
  True

def Pre_Final (m : (ℓ : Loc Cert.Final.nD Cert.Final.τ Cert.Final.sig) → Buf (Elt Bits) ℓ) : Prop :=
  True

def Pre_FinalIdeal (m : (ℓ : Loc Cert.FinalIdeal.nD Cert.FinalIdeal.τ Cert.FinalIdeal.sig) → Buf (Elt Ideal) ℓ) : Prop :=
  True

def Pre_FinalReferenceIdeal (m : (ℓ : Loc Cert.FinalReferenceIdeal.nD Cert.FinalReferenceIdeal.τ Cert.FinalReferenceIdeal.sig) → Buf (Elt Ideal) ℓ) : Prop :=
  True

def Pre_Attention (m : (ℓ : Loc Cert.Attention.nD Cert.Attention.τ Cert.Attention.sig) → Buf (Elt Bits) ℓ) : Prop :=
  True

def Pre_AttentionIdeal (m : (ℓ : Loc Cert.AttentionIdeal.nD Cert.AttentionIdeal.τ Cert.AttentionIdeal.sig) → Buf (Elt Ideal) ℓ) : Prop :=
  True

def Pre_AttentionIdeal_finite_scores [hPre_finite_scores : Cert.Pre_finite_scores.Facts] (m : (ℓ : Loc Cert.AttentionIdeal.nD Cert.AttentionIdeal.τ Cert.AttentionIdeal.sig) → Buf (Elt Ideal) ℓ) : Prop :=
  ∀ c : Dev Cert.AttentionIdeal.nD,
    (Cert.Pre_finite_scores.fn (F := Ideal) (m ((c.tc : Thread Cert.AttentionIdeal.nD Cert.AttentionIdeal.τ).loc Cert.AttentionIdeal.main_arg0)) (m ((c.tc : Thread Cert.AttentionIdeal.nD Cert.AttentionIdeal.τ).loc Cert.AttentionIdeal.main_arg1)) (m ((c.tc : Thread Cert.AttentionIdeal.nD Cert.AttentionIdeal.τ).loc Cert.AttentionIdeal.main_arg2)) (m ((c.tc : Thread Cert.AttentionIdeal.nD Cert.AttentionIdeal.τ).loc Cert.AttentionIdeal.main_arg3))) = (fun _ => 1#1)

def Pre_AttentionReferenceIdeal (m : (ℓ : Loc Cert.AttentionReferenceIdeal.nD Cert.AttentionReferenceIdeal.τ Cert.AttentionReferenceIdeal.sig) → Buf (Elt Ideal) ℓ) : Prop :=
  True

def Pre_AttentionReferenceIdeal_finite_scores [hPre_finite_scores : Cert.Pre_finite_scores.Facts] (m : (ℓ : Loc Cert.AttentionReferenceIdeal.nD Cert.AttentionReferenceIdeal.τ Cert.AttentionReferenceIdeal.sig) → Buf (Elt Ideal) ℓ) : Prop :=
  ∀ c : Dev Cert.AttentionReferenceIdeal.nD,
    (Cert.Pre_finite_scores.fn (F := Ideal) (m ((c.tc : Thread Cert.AttentionReferenceIdeal.nD Cert.AttentionReferenceIdeal.τ).loc Cert.AttentionReferenceIdeal.main_arg0)) (m ((c.tc : Thread Cert.AttentionReferenceIdeal.nD Cert.AttentionReferenceIdeal.τ).loc Cert.AttentionReferenceIdeal.main_arg1)) (m ((c.tc : Thread Cert.AttentionReferenceIdeal.nD Cert.AttentionReferenceIdeal.τ).loc Cert.AttentionReferenceIdeal.main_arg2)) (m ((c.tc : Thread Cert.AttentionReferenceIdeal.nD Cert.AttentionReferenceIdeal.τ).loc Cert.AttentionReferenceIdeal.main_arg3))) = (fun _ => 1#1)

def Pre_LatentUp (m : (ℓ : Loc Cert.LatentUp.nD Cert.LatentUp.τ Cert.LatentUp.sig) → Buf (Elt Bits) ℓ) : Prop :=
  True

def Pre_LatentUpIdeal (m : (ℓ : Loc Cert.LatentUpIdeal.nD Cert.LatentUpIdeal.τ Cert.LatentUpIdeal.sig) → Buf (Elt Ideal) ℓ) : Prop :=
  True

def Pre_LatentUpReferenceIdeal (m : (ℓ : Loc Cert.LatentUpReferenceIdeal.nD Cert.LatentUpReferenceIdeal.τ Cert.LatentUpReferenceIdeal.sig) → Buf (Elt Ideal) ℓ) : Prop :=
  True

def Pre_FfnNorm (m : (ℓ : Loc Cert.FfnNorm.nD Cert.FfnNorm.τ Cert.FfnNorm.sig) → Buf (Elt Bits) ℓ) : Prop :=
  True

def Pre_FfnNormIdeal (m : (ℓ : Loc Cert.FfnNormIdeal.nD Cert.FfnNormIdeal.τ Cert.FfnNormIdeal.sig) → Buf (Elt Ideal) ℓ) : Prop :=
  True

def Pre_FfnNormReferenceIdeal (m : (ℓ : Loc Cert.FfnNormReferenceIdeal.nD Cert.FfnNormReferenceIdeal.τ Cert.FfnNormReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_GateUp [hGateUp : Cert.GateUp.Facts] : Prop :=
  ∀ (m : (ℓ : Loc Cert.GateUp.nD Cert.GateUp.τ Cert.GateUp.sig) → Buf (Elt Bits) ℓ) (g : Dev Cert.GateUp.nD → PrngReg), Pre_GateUp m →
    θ_run (Cert.GateUp.defs (F := Bits)) (onTc (τ := Cert.GateUp.τ) (Cert.GateUp.main (F := Bits))) ⟨m, fun _ => 0, g⟩ (fun r => (∀ c : Dev Cert.GateUp.nD,
      r.2.mem ((c.tc : Thread Cert.GateUp.nD Cert.GateUp.τ).loc Cert.GateUp.main_arg0) = m ((c.tc : Thread Cert.GateUp.nD Cert.GateUp.τ).loc Cert.GateUp.main_arg0)
      ∧ r.2.mem ((c.tc : Thread Cert.GateUp.nD Cert.GateUp.τ).loc Cert.GateUp.main_arg1) = m ((c.tc : Thread Cert.GateUp.nD Cert.GateUp.τ).loc Cert.GateUp.main_arg1)
      ∧ r.2.mem ((c.tc : Thread Cert.GateUp.nD Cert.GateUp.τ).loc Cert.GateUp.main_arg2) = m ((c.tc : Thread Cert.GateUp.nD Cert.GateUp.τ).loc Cert.GateUp.main_arg2))
      ∧ r.2.sem = fun _ => 0)

def quiescent_GateUpIdeal [hGateUpIdeal : Cert.GateUpIdeal.Facts] : Prop :=
  ∀ (m : (ℓ : Loc Cert.GateUpIdeal.nD Cert.GateUpIdeal.τ Cert.GateUpIdeal.sig) → Buf (Elt Ideal) ℓ) (g : Dev Cert.GateUpIdeal.nD → PrngReg), Pre_GateUpIdeal m →
    θ_run (Cert.GateUpIdeal.defs (F := Ideal)) (onTc (τ := Cert.GateUpIdeal.τ) (Cert.GateUpIdeal.main (F := Ideal))) ⟨m, fun _ => 0, g⟩ (fun r => (∀ c : Dev Cert.GateUpIdeal.nD,
      r.2.mem ((c.tc : Thread Cert.GateUpIdeal.nD Cert.GateUpIdeal.τ).loc Cert.GateUpIdeal.main_arg0) = m ((c.tc : Thread Cert.GateUpIdeal.nD Cert.GateUpIdeal.τ).loc Cert.GateUpIdeal.main_arg0)
      ∧ r.2.mem ((c.tc : Thread Cert.GateUpIdeal.nD Cert.GateUpIdeal.τ).loc Cert.GateUpIdeal.main_arg1) = m ((c.tc : Thread Cert.GateUpIdeal.nD Cert.GateUpIdeal.τ).loc Cert.GateUpIdeal.main_arg1)
      ∧ r.2.mem ((c.tc : Thread Cert.GateUpIdeal.nD Cert.GateUpIdeal.τ).loc Cert.GateUpIdeal.main_arg2) = m ((c.tc : Thread Cert.GateUpIdeal.nD Cert.GateUpIdeal.τ).loc Cert.GateUpIdeal.main_arg2))
      ∧ r.2.sem = fun _ => 0)

def quiescent_GateUpReferenceIdeal [hGateUpReferenceIdeal : Cert.GateUpReferenceIdeal.Facts] : Prop :=
  ∀ (m : (ℓ : Loc Cert.GateUpReferenceIdeal.nD Cert.GateUpReferenceIdeal.τ Cert.GateUpReferenceIdeal.sig) → Buf (Elt Ideal) ℓ) (g : Dev Cert.GateUpReferenceIdeal.nD → PrngReg), Pre_GateUpReferenceIdeal m →
    θ_run (Cert.GateUpReferenceIdeal.defs (F := Ideal)) (onTc (τ := Cert.GateUpReferenceIdeal.τ) (Cert.GateUpReferenceIdeal.main (F := Ideal))) ⟨m, fun _ => 0, g⟩ (fun r => (∀ c : Dev Cert.GateUpReferenceIdeal.nD,
      r.2.mem ((c.tc : Thread Cert.GateUpReferenceIdeal.nD Cert.GateUpReferenceIdeal.τ).loc Cert.GateUpReferenceIdeal.main_arg0) = m ((c.tc : Thread Cert.GateUpReferenceIdeal.nD Cert.GateUpReferenceIdeal.τ).loc Cert.GateUpReferenceIdeal.main_arg0)
      ∧ r.2.mem ((c.tc : Thread Cert.GateUpReferenceIdeal.nD Cert.GateUpReferenceIdeal.τ).loc Cert.GateUpReferenceIdeal.main_arg1) = m ((c.tc : Thread Cert.GateUpReferenceIdeal.nD Cert.GateUpReferenceIdeal.τ).loc Cert.GateUpReferenceIdeal.main_arg1)
      ∧ r.2.mem ((c.tc : Thread Cert.GateUpReferenceIdeal.nD Cert.GateUpReferenceIdeal.τ).loc Cert.GateUpReferenceIdeal.main_arg2) = m ((c.tc : Thread Cert.GateUpReferenceIdeal.nD Cert.GateUpReferenceIdeal.τ).loc Cert.GateUpReferenceIdeal.main_arg2))
      ∧ r.2.sem = fun _ => 0)

def quiescent_Tail [hTail : Cert.Tail.Facts] : Prop :=
  ∀ (m : (ℓ : Loc Cert.Tail.nD Cert.Tail.τ Cert.Tail.sig) → Buf (Elt Bits) ℓ) (g : Dev Cert.Tail.nD → PrngReg), Pre_Tail m →
    θ_run (Cert.Tail.defs (F := Bits)) (onTc (τ := Cert.Tail.τ) (Cert.Tail.main (F := Bits))) ⟨m, fun _ => 0, g⟩ (fun r => (∀ c : Dev Cert.Tail.nD,
      r.2.mem ((c.tc : Thread Cert.Tail.nD Cert.Tail.τ).loc Cert.Tail.main_arg0) = m ((c.tc : Thread Cert.Tail.nD Cert.Tail.τ).loc Cert.Tail.main_arg0)
      ∧ r.2.mem ((c.tc : Thread Cert.Tail.nD Cert.Tail.τ).loc Cert.Tail.main_arg1) = m ((c.tc : Thread Cert.Tail.nD Cert.Tail.τ).loc Cert.Tail.main_arg1)
      ∧ r.2.mem ((c.tc : Thread Cert.Tail.nD Cert.Tail.τ).loc Cert.Tail.main_arg2) = m ((c.tc : Thread Cert.Tail.nD Cert.Tail.τ).loc Cert.Tail.main_arg2)
      ∧ r.2.mem ((c.tc : Thread Cert.Tail.nD Cert.Tail.τ).loc Cert.Tail.main_arg3) = m ((c.tc : Thread Cert.Tail.nD Cert.Tail.τ).loc Cert.Tail.main_arg3))
      ∧ r.2.sem = fun _ => 0)

def quiescent_TailIdeal [hTailIdeal : Cert.TailIdeal.Facts] : Prop :=
  ∀ (m : (ℓ : Loc Cert.TailIdeal.nD Cert.TailIdeal.τ Cert.TailIdeal.sig) → Buf (Elt Ideal) ℓ) (g : Dev Cert.TailIdeal.nD → PrngReg), Pre_TailIdeal m →
    θ_run (Cert.TailIdeal.defs (F := Ideal)) (onTc (τ := Cert.TailIdeal.τ) (Cert.TailIdeal.main (F := Ideal))) ⟨m, fun _ => 0, g⟩ (fun r => (∀ c : Dev Cert.TailIdeal.nD,
      r.2.mem ((c.tc : Thread Cert.TailIdeal.nD Cert.TailIdeal.τ).loc Cert.TailIdeal.main_arg0) = m ((c.tc : Thread Cert.TailIdeal.nD Cert.TailIdeal.τ).loc Cert.TailIdeal.main_arg0)
      ∧ r.2.mem ((c.tc : Thread Cert.TailIdeal.nD Cert.TailIdeal.τ).loc Cert.TailIdeal.main_arg1) = m ((c.tc : Thread Cert.TailIdeal.nD Cert.TailIdeal.τ).loc Cert.TailIdeal.main_arg1)
      ∧ r.2.mem ((c.tc : Thread Cert.TailIdeal.nD Cert.TailIdeal.τ).loc Cert.TailIdeal.main_arg2) = m ((c.tc : Thread Cert.TailIdeal.nD Cert.TailIdeal.τ).loc Cert.TailIdeal.main_arg2)
      ∧ r.2.mem ((c.tc : Thread Cert.TailIdeal.nD Cert.TailIdeal.τ).loc Cert.TailIdeal.main_arg3) = m ((c.tc : Thread Cert.TailIdeal.nD Cert.TailIdeal.τ).loc Cert.TailIdeal.main_arg3))
      ∧ r.2.sem = fun _ => 0)

def quiescent_TailReferenceIdeal [hTailReferenceIdeal : Cert.TailReferenceIdeal.Facts] : Prop :=
  ∀ (m : (ℓ : Loc Cert.TailReferenceIdeal.nD Cert.TailReferenceIdeal.τ Cert.TailReferenceIdeal.sig) → Buf (Elt Ideal) ℓ) (g : Dev Cert.TailReferenceIdeal.nD → PrngReg), Pre_TailReferenceIdeal m →
    θ_run (Cert.TailReferenceIdeal.defs (F := Ideal)) (onTc (τ := Cert.TailReferenceIdeal.τ) (Cert.TailReferenceIdeal.main (F := Ideal))) ⟨m, fun _ => 0, g⟩ (fun r => (∀ c : Dev Cert.TailReferenceIdeal.nD,
      r.2.mem ((c.tc : Thread Cert.TailReferenceIdeal.nD Cert.TailReferenceIdeal.τ).loc Cert.TailReferenceIdeal.main_arg0) = m ((c.tc : Thread Cert.TailReferenceIdeal.nD Cert.TailReferenceIdeal.τ).loc Cert.TailReferenceIdeal.main_arg0)
      ∧ r.2.mem ((c.tc : Thread Cert.TailReferenceIdeal.nD Cert.TailReferenceIdeal.τ).loc Cert.TailReferenceIdeal.main_arg1) = m ((c.tc : Thread Cert.TailReferenceIdeal.nD Cert.TailReferenceIdeal.τ).loc Cert.TailReferenceIdeal.main_arg1)
      ∧ r.2.mem ((c.tc : Thread Cert.TailReferenceIdeal.nD Cert.TailReferenceIdeal.τ).loc Cert.TailReferenceIdeal.main_arg2) = m ((c.tc : Thread Cert.TailReferenceIdeal.nD Cert.TailReferenceIdeal.τ).loc Cert.TailReferenceIdeal.main_arg2)
      ∧ r.2.mem ((c.tc : Thread Cert.TailReferenceIdeal.nD Cert.TailReferenceIdeal.τ).loc Cert.TailReferenceIdeal.main_arg3) = m ((c.tc : Thread Cert.TailReferenceIdeal.nD Cert.TailReferenceIdeal.τ).loc Cert.TailReferenceIdeal.main_arg3))
      ∧ r.2.sem = fun _ => 0)

def quiescent_DownFirst [hDownFirst : Cert.DownFirst.Facts] : Prop :=
  ∀ (m : (ℓ : Loc Cert.DownFirst.nD Cert.DownFirst.τ Cert.DownFirst.sig) → Buf (Elt Bits) ℓ) (g : Dev Cert.DownFirst.nD → PrngReg), Pre_DownFirst m →
    θ_run (Cert.DownFirst.defs (F := Bits)) (onTc (τ := Cert.DownFirst.τ) (Cert.DownFirst.main (F := Bits))) ⟨m, fun _ => 0, g⟩ (fun r => (∀ c : Dev Cert.DownFirst.nD,
      r.2.mem ((c.tc : Thread Cert.DownFirst.nD Cert.DownFirst.τ).loc Cert.DownFirst.main_arg0) = m ((c.tc : Thread Cert.DownFirst.nD Cert.DownFirst.τ).loc Cert.DownFirst.main_arg0)
      ∧ r.2.mem ((c.tc : Thread Cert.DownFirst.nD Cert.DownFirst.τ).loc Cert.DownFirst.main_arg1) = m ((c.tc : Thread Cert.DownFirst.nD Cert.DownFirst.τ).loc Cert.DownFirst.main_arg1)
      ∧ r.2.mem ((c.tc : Thread Cert.DownFirst.nD Cert.DownFirst.τ).loc Cert.DownFirst.main_arg2) = m ((c.tc : Thread Cert.DownFirst.nD Cert.DownFirst.τ).loc Cert.DownFirst.main_arg2))
      ∧ r.2.sem = fun _ => 0)

def quiescent_DownFirstIdeal [hDownFirstIdeal : Cert.DownFirstIdeal.Facts] : Prop :=
  ∀ (m : (ℓ : Loc Cert.DownFirstIdeal.nD Cert.DownFirstIdeal.τ Cert.DownFirstIdeal.sig) → Buf (Elt Ideal) ℓ) (g : Dev Cert.DownFirstIdeal.nD → PrngReg), Pre_DownFirstIdeal m →
    θ_run (Cert.DownFirstIdeal.defs (F := Ideal)) (onTc (τ := Cert.DownFirstIdeal.τ) (Cert.DownFirstIdeal.main (F := Ideal))) ⟨m, fun _ => 0, g⟩ (fun r => (∀ c : Dev Cert.DownFirstIdeal.nD,
      r.2.mem ((c.tc : Thread Cert.DownFirstIdeal.nD Cert.DownFirstIdeal.τ).loc Cert.DownFirstIdeal.main_arg0) = m ((c.tc : Thread Cert.DownFirstIdeal.nD Cert.DownFirstIdeal.τ).loc Cert.DownFirstIdeal.main_arg0)
      ∧ r.2.mem ((c.tc : Thread Cert.DownFirstIdeal.nD Cert.DownFirstIdeal.τ).loc Cert.DownFirstIdeal.main_arg1) = m ((c.tc : Thread Cert.DownFirstIdeal.nD Cert.DownFirstIdeal.τ).loc Cert.DownFirstIdeal.main_arg1)
      ∧ r.2.mem ((c.tc : Thread Cert.DownFirstIdeal.nD Cert.DownFirstIdeal.τ).loc Cert.DownFirstIdeal.main_arg2) = m ((c.tc : Thread Cert.DownFirstIdeal.nD Cert.DownFirstIdeal.τ).loc Cert.DownFirstIdeal.main_arg2))
      ∧ r.2.sem = fun _ => 0)

def quiescent_DownFirstReferenceIdeal [hDownFirstReferenceIdeal : Cert.DownFirstReferenceIdeal.Facts] : Prop :=
  ∀ (m : (ℓ : Loc Cert.DownFirstReferenceIdeal.nD Cert.DownFirstReferenceIdeal.τ Cert.DownFirstReferenceIdeal.sig) → Buf (Elt Ideal) ℓ) (g : Dev Cert.DownFirstReferenceIdeal.nD → PrngReg), Pre_DownFirstReferenceIdeal m →
    θ_run (Cert.DownFirstReferenceIdeal.defs (F := Ideal)) (onTc (τ := Cert.DownFirstReferenceIdeal.τ) (Cert.DownFirstReferenceIdeal.main (F := Ideal))) ⟨m, fun _ => 0, g⟩ (fun r => (∀ c : Dev Cert.DownFirstReferenceIdeal.nD,
      r.2.mem ((c.tc : Thread Cert.DownFirstReferenceIdeal.nD Cert.DownFirstReferenceIdeal.τ).loc Cert.DownFirstReferenceIdeal.main_arg0) = m ((c.tc : Thread Cert.DownFirstReferenceIdeal.nD Cert.DownFirstReferenceIdeal.τ).loc Cert.DownFirstReferenceIdeal.main_arg0)
      ∧ r.2.mem ((c.tc : Thread Cert.DownFirstReferenceIdeal.nD Cert.DownFirstReferenceIdeal.τ).loc Cert.DownFirstReferenceIdeal.main_arg1) = m ((c.tc : Thread Cert.DownFirstReferenceIdeal.nD Cert.DownFirstReferenceIdeal.τ).loc Cert.DownFirstReferenceIdeal.main_arg1)
      ∧ r.2.mem ((c.tc : Thread Cert.DownFirstReferenceIdeal.nD Cert.DownFirstReferenceIdeal.τ).loc Cert.DownFirstReferenceIdeal.main_arg2) = m ((c.tc : Thread Cert.DownFirstReferenceIdeal.nD Cert.DownFirstReferenceIdeal.τ).loc Cert.DownFirstReferenceIdeal.main_arg2))
      ∧ r.2.sem = fun _ => 0)

def quiescent_DownSecond [hDownSecond : Cert.DownSecond.Facts] : Prop :=
  ∀ (m : (ℓ : Loc Cert.DownSecond.nD Cert.DownSecond.τ Cert.DownSecond.sig) → Buf (Elt Bits) ℓ) (g : Dev Cert.DownSecond.nD → PrngReg), Pre_DownSecond m →
    θ_run (Cert.DownSecond.defs (F := Bits)) (onTc (τ := Cert.DownSecond.τ) (Cert.DownSecond.main (F := Bits))) ⟨m, fun _ => 0, g⟩ (fun r => (∀ c : Dev Cert.DownSecond.nD,
      r.2.mem ((c.tc : Thread Cert.DownSecond.nD Cert.DownSecond.τ).loc Cert.DownSecond.main_arg0) = m ((c.tc : Thread Cert.DownSecond.nD Cert.DownSecond.τ).loc Cert.DownSecond.main_arg0)
      ∧ r.2.mem ((c.tc : Thread Cert.DownSecond.nD Cert.DownSecond.τ).loc Cert.DownSecond.main_arg1) = m ((c.tc : Thread Cert.DownSecond.nD Cert.DownSecond.τ).loc Cert.DownSecond.main_arg1)
      ∧ r.2.mem ((c.tc : Thread Cert.DownSecond.nD Cert.DownSecond.τ).loc Cert.DownSecond.main_arg2) = m ((c.tc : Thread Cert.DownSecond.nD Cert.DownSecond.τ).loc Cert.DownSecond.main_arg2))
      ∧ r.2.sem = fun _ => 0)

def quiescent_DownSecondIdeal [hDownSecondIdeal : Cert.DownSecondIdeal.Facts] : Prop :=
  ∀ (m : (ℓ : Loc Cert.DownSecondIdeal.nD Cert.DownSecondIdeal.τ Cert.DownSecondIdeal.sig) → Buf (Elt Ideal) ℓ) (g : Dev Cert.DownSecondIdeal.nD → PrngReg), Pre_DownSecondIdeal m →
    θ_run (Cert.DownSecondIdeal.defs (F := Ideal)) (onTc (τ := Cert.DownSecondIdeal.τ) (Cert.DownSecondIdeal.main (F := Ideal))) ⟨m, fun _ => 0, g⟩ (fun r => (∀ c : Dev Cert.DownSecondIdeal.nD,
      r.2.mem ((c.tc : Thread Cert.DownSecondIdeal.nD Cert.DownSecondIdeal.τ).loc Cert.DownSecondIdeal.main_arg0) = m ((c.tc : Thread Cert.DownSecondIdeal.nD Cert.DownSecondIdeal.τ).loc Cert.DownSecondIdeal.main_arg0)
      ∧ r.2.mem ((c.tc : Thread Cert.DownSecondIdeal.nD Cert.DownSecondIdeal.τ).loc Cert.DownSecondIdeal.main_arg1) = m ((c.tc : Thread Cert.DownSecondIdeal.nD Cert.DownSecondIdeal.τ).loc Cert.DownSecondIdeal.main_arg1)
      ∧ r.2.mem ((c.tc : Thread Cert.DownSecondIdeal.nD Cert.DownSecondIdeal.τ).loc Cert.DownSecondIdeal.main_arg2) = m ((c.tc : Thread Cert.DownSecondIdeal.nD Cert.DownSecondIdeal.τ).loc Cert.DownSecondIdeal.main_arg2))
      ∧ r.2.sem = fun _ => 0)

def quiescent_DownSecondReferenceIdeal [hDownSecondReferenceIdeal : Cert.DownSecondReferenceIdeal.Facts] : Prop :=
  ∀ (m : (ℓ : Loc Cert.DownSecondReferenceIdeal.nD Cert.DownSecondReferenceIdeal.τ Cert.DownSecondReferenceIdeal.sig) → Buf (Elt Ideal) ℓ) (g : Dev Cert.DownSecondReferenceIdeal.nD → PrngReg), Pre_DownSecondReferenceIdeal m →
    θ_run (Cert.DownSecondReferenceIdeal.defs (F := Ideal)) (onTc (τ := Cert.DownSecondReferenceIdeal.τ) (Cert.DownSecondReferenceIdeal.main (F := Ideal))) ⟨m, fun _ => 0, g⟩ (fun r => (∀ c : Dev Cert.DownSecondReferenceIdeal.nD,
      r.2.mem ((c.tc : Thread Cert.DownSecondReferenceIdeal.nD Cert.DownSecondReferenceIdeal.τ).loc Cert.DownSecondReferenceIdeal.main_arg0) = m ((c.tc : Thread Cert.DownSecondReferenceIdeal.nD Cert.DownSecondReferenceIdeal.τ).loc Cert.DownSecondReferenceIdeal.main_arg0)
      ∧ r.2.mem ((c.tc : Thread Cert.DownSecondReferenceIdeal.nD Cert.DownSecondReferenceIdeal.τ).loc Cert.DownSecondReferenceIdeal.main_arg1) = m ((c.tc : Thread Cert.DownSecondReferenceIdeal.nD Cert.DownSecondReferenceIdeal.τ).loc Cert.DownSecondReferenceIdeal.main_arg1)
      ∧ r.2.mem ((c.tc : Thread Cert.DownSecondReferenceIdeal.nD Cert.DownSecondReferenceIdeal.τ).loc Cert.DownSecondReferenceIdeal.main_arg2) = m ((c.tc : Thread Cert.DownSecondReferenceIdeal.nD Cert.DownSecondReferenceIdeal.τ).loc Cert.DownSecondReferenceIdeal.main_arg2))
      ∧ r.2.sem = fun _ => 0)

def quiescent_InProj [hInProj : Cert.InProj.Facts] : Prop :=
  ∀ (m : (ℓ : Loc Cert.InProj.nD Cert.InProj.τ Cert.InProj.sig) → Buf (Elt Bits) ℓ) (g : Dev Cert.InProj.nD → PrngReg), Pre_InProj m →
    θ_run (Cert.InProj.defs (F := Bits)) (onTc (τ := Cert.InProj.τ) (Cert.InProj.main (F := Bits))) ⟨m, fun _ => 0, g⟩ (fun r => (∀ c : Dev Cert.InProj.nD,
      r.2.mem ((c.tc : Thread Cert.InProj.nD Cert.InProj.τ).loc Cert.InProj.main_arg0) = m ((c.tc : Thread Cert.InProj.nD Cert.InProj.τ).loc Cert.InProj.main_arg0)
      ∧ r.2.mem ((c.tc : Thread Cert.InProj.nD Cert.InProj.τ).loc Cert.InProj.main_arg1) = m ((c.tc : Thread Cert.InProj.nD Cert.InProj.τ).loc Cert.InProj.main_arg1)
      ∧ r.2.mem ((c.tc : Thread Cert.InProj.nD Cert.InProj.τ).loc Cert.InProj.main_arg2) = m ((c.tc : Thread Cert.InProj.nD Cert.InProj.τ).loc Cert.InProj.main_arg2))
      ∧ r.2.sem = fun _ => 0)

def quiescent_InProjIdeal [hInProjIdeal : Cert.InProjIdeal.Facts] : Prop :=
  ∀ (m : (ℓ : Loc Cert.InProjIdeal.nD Cert.InProjIdeal.τ Cert.InProjIdeal.sig) → Buf (Elt Ideal) ℓ) (g : Dev Cert.InProjIdeal.nD → PrngReg), Pre_InProjIdeal m →
    θ_run (Cert.InProjIdeal.defs (F := Ideal)) (onTc (τ := Cert.InProjIdeal.τ) (Cert.InProjIdeal.main (F := Ideal))) ⟨m, fun _ => 0, g⟩ (fun r => (∀ c : Dev Cert.InProjIdeal.nD,
      r.2.mem ((c.tc : Thread Cert.InProjIdeal.nD Cert.InProjIdeal.τ).loc Cert.InProjIdeal.main_arg0) = m ((c.tc : Thread Cert.InProjIdeal.nD Cert.InProjIdeal.τ).loc Cert.InProjIdeal.main_arg0)
      ∧ r.2.mem ((c.tc : Thread Cert.InProjIdeal.nD Cert.InProjIdeal.τ).loc Cert.InProjIdeal.main_arg1) = m ((c.tc : Thread Cert.InProjIdeal.nD Cert.InProjIdeal.τ).loc Cert.InProjIdeal.main_arg1)
      ∧ r.2.mem ((c.tc : Thread Cert.InProjIdeal.nD Cert.InProjIdeal.τ).loc Cert.InProjIdeal.main_arg2) = m ((c.tc : Thread Cert.InProjIdeal.nD Cert.InProjIdeal.τ).loc Cert.InProjIdeal.main_arg2))
      ∧ r.2.sem = fun _ => 0)

def quiescent_InProjReferenceIdeal [hInProjReferenceIdeal : Cert.InProjReferenceIdeal.Facts] : Prop :=
  ∀ (m : (ℓ : Loc Cert.InProjReferenceIdeal.nD Cert.InProjReferenceIdeal.τ Cert.InProjReferenceIdeal.sig) → Buf (Elt Ideal) ℓ) (g : Dev Cert.InProjReferenceIdeal.nD → PrngReg), Pre_InProjReferenceIdeal m →
    θ_run (Cert.InProjReferenceIdeal.defs (F := Ideal)) (onTc (τ := Cert.InProjReferenceIdeal.τ) (Cert.InProjReferenceIdeal.main (F := Ideal))) ⟨m, fun _ => 0, g⟩ (fun r => (∀ c : Dev Cert.InProjReferenceIdeal.nD,
      r.2.mem ((c.tc : Thread Cert.InProjReferenceIdeal.nD Cert.InProjReferenceIdeal.τ).loc Cert.InProjReferenceIdeal.main_arg0) = m ((c.tc : Thread Cert.InProjReferenceIdeal.nD Cert.InProjReferenceIdeal.τ).loc Cert.InProjReferenceIdeal.main_arg0)
      ∧ r.2.mem ((c.tc : Thread Cert.InProjReferenceIdeal.nD Cert.InProjReferenceIdeal.τ).loc Cert.InProjReferenceIdeal.main_arg1) = m ((c.tc : Thread Cert.InProjReferenceIdeal.nD Cert.InProjReferenceIdeal.τ).loc Cert.InProjReferenceIdeal.main_arg1)
      ∧ r.2.mem ((c.tc : Thread Cert.InProjReferenceIdeal.nD Cert.InProjReferenceIdeal.τ).loc Cert.InProjReferenceIdeal.main_arg2) = m ((c.tc : Thread Cert.InProjReferenceIdeal.nD Cert.InProjReferenceIdeal.τ).loc Cert.InProjReferenceIdeal.main_arg2))
      ∧ r.2.sem = fun _ => 0)

def quiescent_OutProj [hOutProj : Cert.OutProj.Facts] : Prop :=
  ∀ (m : (ℓ : Loc Cert.OutProj.nD Cert.OutProj.τ Cert.OutProj.sig) → Buf (Elt Bits) ℓ) (g : Dev Cert.OutProj.nD → PrngReg), Pre_OutProj m →
    θ_run (Cert.OutProj.defs (F := Bits)) (onTc (τ := Cert.OutProj.τ) (Cert.OutProj.main (F := Bits))) ⟨m, fun _ => 0, g⟩ (fun r => (∀ c : Dev Cert.OutProj.nD,
      r.2.mem ((c.tc : Thread Cert.OutProj.nD Cert.OutProj.τ).loc Cert.OutProj.main_arg0) = m ((c.tc : Thread Cert.OutProj.nD Cert.OutProj.τ).loc Cert.OutProj.main_arg0)
      ∧ r.2.mem ((c.tc : Thread Cert.OutProj.nD Cert.OutProj.τ).loc Cert.OutProj.main_arg1) = m ((c.tc : Thread Cert.OutProj.nD Cert.OutProj.τ).loc Cert.OutProj.main_arg1)
      ∧ r.2.mem ((c.tc : Thread Cert.OutProj.nD Cert.OutProj.τ).loc Cert.OutProj.main_arg2) = m ((c.tc : Thread Cert.OutProj.nD Cert.OutProj.τ).loc Cert.OutProj.main_arg2)
      ∧ r.2.mem ((c.tc : Thread Cert.OutProj.nD Cert.OutProj.τ).loc Cert.OutProj.main_arg3) = m ((c.tc : Thread Cert.OutProj.nD Cert.OutProj.τ).loc Cert.OutProj.main_arg3)
      ∧ r.2.mem ((c.tc : Thread Cert.OutProj.nD Cert.OutProj.τ).loc Cert.OutProj.main_arg4) = m ((c.tc : Thread Cert.OutProj.nD Cert.OutProj.τ).loc Cert.OutProj.main_arg4)
      ∧ r.2.mem ((c.tc : Thread Cert.OutProj.nD Cert.OutProj.τ).loc Cert.OutProj.main_arg5) = m ((c.tc : Thread Cert.OutProj.nD Cert.OutProj.τ).loc Cert.OutProj.main_arg5))
      ∧ r.2.sem = fun _ => 0)

def quiescent_OutProjIdeal [hOutProjIdeal : Cert.OutProjIdeal.Facts] : Prop :=
  ∀ (m : (ℓ : Loc Cert.OutProjIdeal.nD Cert.OutProjIdeal.τ Cert.OutProjIdeal.sig) → Buf (Elt Ideal) ℓ) (g : Dev Cert.OutProjIdeal.nD → PrngReg), Pre_OutProjIdeal m →
    θ_run (Cert.OutProjIdeal.defs (F := Ideal)) (onTc (τ := Cert.OutProjIdeal.τ) (Cert.OutProjIdeal.main (F := Ideal))) ⟨m, fun _ => 0, g⟩ (fun r => (∀ c : Dev Cert.OutProjIdeal.nD,
      r.2.mem ((c.tc : Thread Cert.OutProjIdeal.nD Cert.OutProjIdeal.τ).loc Cert.OutProjIdeal.main_arg0) = m ((c.tc : Thread Cert.OutProjIdeal.nD Cert.OutProjIdeal.τ).loc Cert.OutProjIdeal.main_arg0)
      ∧ r.2.mem ((c.tc : Thread Cert.OutProjIdeal.nD Cert.OutProjIdeal.τ).loc Cert.OutProjIdeal.main_arg1) = m ((c.tc : Thread Cert.OutProjIdeal.nD Cert.OutProjIdeal.τ).loc Cert.OutProjIdeal.main_arg1)
      ∧ r.2.mem ((c.tc : Thread Cert.OutProjIdeal.nD Cert.OutProjIdeal.τ).loc Cert.OutProjIdeal.main_arg2) = m ((c.tc : Thread Cert.OutProjIdeal.nD Cert.OutProjIdeal.τ).loc Cert.OutProjIdeal.main_arg2)
      ∧ r.2.mem ((c.tc : Thread Cert.OutProjIdeal.nD Cert.OutProjIdeal.τ).loc Cert.OutProjIdeal.main_arg3) = m ((c.tc : Thread Cert.OutProjIdeal.nD Cert.OutProjIdeal.τ).loc Cert.OutProjIdeal.main_arg3)
      ∧ r.2.mem ((c.tc : Thread Cert.OutProjIdeal.nD Cert.OutProjIdeal.τ).loc Cert.OutProjIdeal.main_arg4) = m ((c.tc : Thread Cert.OutProjIdeal.nD Cert.OutProjIdeal.τ).loc Cert.OutProjIdeal.main_arg4)
      ∧ r.2.mem ((c.tc : Thread Cert.OutProjIdeal.nD Cert.OutProjIdeal.τ).loc Cert.OutProjIdeal.main_arg5) = m ((c.tc : Thread Cert.OutProjIdeal.nD Cert.OutProjIdeal.τ).loc Cert.OutProjIdeal.main_arg5))
      ∧ r.2.sem = fun _ => 0)

def quiescent_OutProjReferenceIdeal [hOutProjReferenceIdeal : Cert.OutProjReferenceIdeal.Facts] : Prop :=
  ∀ (m : (ℓ : Loc Cert.OutProjReferenceIdeal.nD Cert.OutProjReferenceIdeal.τ Cert.OutProjReferenceIdeal.sig) → Buf (Elt Ideal) ℓ) (g : Dev Cert.OutProjReferenceIdeal.nD → PrngReg), Pre_OutProjReferenceIdeal m →
    θ_run (Cert.OutProjReferenceIdeal.defs (F := Ideal)) (onTc (τ := Cert.OutProjReferenceIdeal.τ) (Cert.OutProjReferenceIdeal.main (F := Ideal))) ⟨m, fun _ => 0, g⟩ (fun r => (∀ c : Dev Cert.OutProjReferenceIdeal.nD,
      r.2.mem ((c.tc : Thread Cert.OutProjReferenceIdeal.nD Cert.OutProjReferenceIdeal.τ).loc Cert.OutProjReferenceIdeal.main_arg0) = m ((c.tc : Thread Cert.OutProjReferenceIdeal.nD Cert.OutProjReferenceIdeal.τ).loc Cert.OutProjReferenceIdeal.main_arg0)
      ∧ r.2.mem ((c.tc : Thread Cert.OutProjReferenceIdeal.nD Cert.OutProjReferenceIdeal.τ).loc Cert.OutProjReferenceIdeal.main_arg1) = m ((c.tc : Thread Cert.OutProjReferenceIdeal.nD Cert.OutProjReferenceIdeal.τ).loc Cert.OutProjReferenceIdeal.main_arg1)
      ∧ r.2.mem ((c.tc : Thread Cert.OutProjReferenceIdeal.nD Cert.OutProjReferenceIdeal.τ).loc Cert.OutProjReferenceIdeal.main_arg2) = m ((c.tc : Thread Cert.OutProjReferenceIdeal.nD Cert.OutProjReferenceIdeal.τ).loc Cert.OutProjReferenceIdeal.main_arg2)
      ∧ r.2.mem ((c.tc : Thread Cert.OutProjReferenceIdeal.nD Cert.OutProjReferenceIdeal.τ).loc Cert.OutProjReferenceIdeal.main_arg3) = m ((c.tc : Thread Cert.OutProjReferenceIdeal.nD Cert.OutProjReferenceIdeal.τ).loc Cert.OutProjReferenceIdeal.main_arg3)
      ∧ r.2.mem ((c.tc : Thread Cert.OutProjReferenceIdeal.nD Cert.OutProjReferenceIdeal.τ).loc Cert.OutProjReferenceIdeal.main_arg4) = m ((c.tc : Thread Cert.OutProjReferenceIdeal.nD Cert.OutProjReferenceIdeal.τ).loc Cert.OutProjReferenceIdeal.main_arg4)
      ∧ r.2.mem ((c.tc : Thread Cert.OutProjReferenceIdeal.nD Cert.OutProjReferenceIdeal.τ).loc Cert.OutProjReferenceIdeal.main_arg5) = m ((c.tc : Thread Cert.OutProjReferenceIdeal.nD Cert.OutProjReferenceIdeal.τ).loc Cert.OutProjReferenceIdeal.main_arg5))
      ∧ r.2.sem = fun _ => 0)

def quiescent_Final [hFinal : Cert.Final.Facts] : Prop :=
  ∀ (m : (ℓ : Loc Cert.Final.nD Cert.Final.τ Cert.Final.sig) → Buf (Elt Bits) ℓ) (g : Dev Cert.Final.nD → PrngReg), Pre_Final m →
    θ_run (Cert.Final.defs (F := Bits)) (onTc (τ := Cert.Final.τ) (Cert.Final.main (F := Bits))) ⟨m, fun _ => 0, g⟩ (fun r => (∀ c : Dev Cert.Final.nD,
      r.2.mem ((c.tc : Thread Cert.Final.nD Cert.Final.τ).loc Cert.Final.main_arg0) = m ((c.tc : Thread Cert.Final.nD Cert.Final.τ).loc Cert.Final.main_arg0)
      ∧ r.2.mem ((c.tc : Thread Cert.Final.nD Cert.Final.τ).loc Cert.Final.main_arg1) = m ((c.tc : Thread Cert.Final.nD Cert.Final.τ).loc Cert.Final.main_arg1))
      ∧ r.2.sem = fun _ => 0)

def quiescent_FinalIdeal [hFinalIdeal : Cert.FinalIdeal.Facts] : Prop :=
  ∀ (m : (ℓ : Loc Cert.FinalIdeal.nD Cert.FinalIdeal.τ Cert.FinalIdeal.sig) → Buf (Elt Ideal) ℓ) (g : Dev Cert.FinalIdeal.nD → PrngReg), Pre_FinalIdeal m →
    θ_run (Cert.FinalIdeal.defs (F := Ideal)) (onTc (τ := Cert.FinalIdeal.τ) (Cert.FinalIdeal.main (F := Ideal))) ⟨m, fun _ => 0, g⟩ (fun r => (∀ c : Dev Cert.FinalIdeal.nD,
      r.2.mem ((c.tc : Thread Cert.FinalIdeal.nD Cert.FinalIdeal.τ).loc Cert.FinalIdeal.main_arg0) = m ((c.tc : Thread Cert.FinalIdeal.nD Cert.FinalIdeal.τ).loc Cert.FinalIdeal.main_arg0)
      ∧ r.2.mem ((c.tc : Thread Cert.FinalIdeal.nD Cert.FinalIdeal.τ).loc Cert.FinalIdeal.main_arg1) = m ((c.tc : Thread Cert.FinalIdeal.nD Cert.FinalIdeal.τ).loc Cert.FinalIdeal.main_arg1))
      ∧ r.2.sem = fun _ => 0)

def quiescent_FinalReferenceIdeal [hFinalReferenceIdeal : Cert.FinalReferenceIdeal.Facts] : Prop :=
  ∀ (m : (ℓ : Loc Cert.FinalReferenceIdeal.nD Cert.FinalReferenceIdeal.τ Cert.FinalReferenceIdeal.sig) → Buf (Elt Ideal) ℓ) (g : Dev Cert.FinalReferenceIdeal.nD → PrngReg), Pre_FinalReferenceIdeal m →
    θ_run (Cert.FinalReferenceIdeal.defs (F := Ideal)) (onTc (τ := Cert.FinalReferenceIdeal.τ) (Cert.FinalReferenceIdeal.main (F := Ideal))) ⟨m, fun _ => 0, g⟩ (fun r => (∀ c : Dev Cert.FinalReferenceIdeal.nD,
      r.2.mem ((c.tc : Thread Cert.FinalReferenceIdeal.nD Cert.FinalReferenceIdeal.τ).loc Cert.FinalReferenceIdeal.main_arg0) = m ((c.tc : Thread Cert.FinalReferenceIdeal.nD Cert.FinalReferenceIdeal.τ).loc Cert.FinalReferenceIdeal.main_arg0)
      ∧ r.2.mem ((c.tc : Thread Cert.FinalReferenceIdeal.nD Cert.FinalReferenceIdeal.τ).loc Cert.FinalReferenceIdeal.main_arg1) = m ((c.tc : Thread Cert.FinalReferenceIdeal.nD Cert.FinalReferenceIdeal.τ).loc Cert.FinalReferenceIdeal.main_arg1))
      ∧ r.2.sem = fun _ => 0)

def quiescent_Attention [hAttention : Cert.Attention.Facts] : Prop :=
  ∀ (m : (ℓ : Loc Cert.Attention.nD Cert.Attention.τ Cert.Attention.sig) → Buf (Elt Bits) ℓ) (g : Dev Cert.Attention.nD → PrngReg), Pre_Attention m →
    θ_run (Cert.Attention.defs (F := Bits)) (onTc (τ := Cert.Attention.τ) (Cert.Attention.main (F := Bits))) ⟨m, fun _ => 0, g⟩ (fun r => (∀ c : Dev Cert.Attention.nD,
      r.2.mem ((c.tc : Thread Cert.Attention.nD Cert.Attention.τ).loc Cert.Attention.main_arg0) = m ((c.tc : Thread Cert.Attention.nD Cert.Attention.τ).loc Cert.Attention.main_arg0)
      ∧ r.2.mem ((c.tc : Thread Cert.Attention.nD Cert.Attention.τ).loc Cert.Attention.main_arg1) = m ((c.tc : Thread Cert.Attention.nD Cert.Attention.τ).loc Cert.Attention.main_arg1)
      ∧ r.2.mem ((c.tc : Thread Cert.Attention.nD Cert.Attention.τ).loc Cert.Attention.main_arg2) = m ((c.tc : Thread Cert.Attention.nD Cert.Attention.τ).loc Cert.Attention.main_arg2)
      ∧ r.2.mem ((c.tc : Thread Cert.Attention.nD Cert.Attention.τ).loc Cert.Attention.main_arg3) = m ((c.tc : Thread Cert.Attention.nD Cert.Attention.τ).loc Cert.Attention.main_arg3))
      ∧ r.2.sem = fun _ => 0)

def quiescent_AttentionIdeal [hAttentionIdeal : Cert.AttentionIdeal.Facts] : Prop :=
  ∀ (m : (ℓ : Loc Cert.AttentionIdeal.nD Cert.AttentionIdeal.τ Cert.AttentionIdeal.sig) → Buf (Elt Ideal) ℓ) (g : Dev Cert.AttentionIdeal.nD → PrngReg), Pre_AttentionIdeal m →
    θ_run (Cert.AttentionIdeal.defs (F := Ideal)) (onTc (τ := Cert.AttentionIdeal.τ) (Cert.AttentionIdeal.main (F := Ideal))) ⟨m, fun _ => 0, g⟩ (fun r => (∀ c : Dev Cert.AttentionIdeal.nD,
      r.2.mem ((c.tc : Thread Cert.AttentionIdeal.nD Cert.AttentionIdeal.τ).loc Cert.AttentionIdeal.main_arg0) = m ((c.tc : Thread Cert.AttentionIdeal.nD Cert.AttentionIdeal.τ).loc Cert.AttentionIdeal.main_arg0)
      ∧ r.2.mem ((c.tc : Thread Cert.AttentionIdeal.nD Cert.AttentionIdeal.τ).loc Cert.AttentionIdeal.main_arg1) = m ((c.tc : Thread Cert.AttentionIdeal.nD Cert.AttentionIdeal.τ).loc Cert.AttentionIdeal.main_arg1)
      ∧ r.2.mem ((c.tc : Thread Cert.AttentionIdeal.nD Cert.AttentionIdeal.τ).loc Cert.AttentionIdeal.main_arg2) = m ((c.tc : Thread Cert.AttentionIdeal.nD Cert.AttentionIdeal.τ).loc Cert.AttentionIdeal.main_arg2)
      ∧ r.2.mem ((c.tc : Thread Cert.AttentionIdeal.nD Cert.AttentionIdeal.τ).loc Cert.AttentionIdeal.main_arg3) = m ((c.tc : Thread Cert.AttentionIdeal.nD Cert.AttentionIdeal.τ).loc Cert.AttentionIdeal.main_arg3))
      ∧ r.2.sem = fun _ => 0)

def quiescent_AttentionIdeal_pre_finite_scores [hAttentionIdeal : Cert.AttentionIdeal.Facts] [hPre_finite_scores : Cert.Pre_finite_scores.Facts] : Prop :=
  ∀ (m : (ℓ : Loc Cert.AttentionIdeal.nD Cert.AttentionIdeal.τ Cert.AttentionIdeal.sig) → Buf (Elt Ideal) ℓ) (g : Dev Cert.AttentionIdeal.nD → PrngReg), Pre_AttentionIdeal_finite_scores m →
    θ_run (Cert.AttentionIdeal.defs (F := Ideal)) (onTc (τ := Cert.AttentionIdeal.τ) (Cert.AttentionIdeal.main (F := Ideal))) ⟨m, fun _ => 0, g⟩ (fun r => (∀ c : Dev Cert.AttentionIdeal.nD,
      r.2.mem ((c.tc : Thread Cert.AttentionIdeal.nD Cert.AttentionIdeal.τ).loc Cert.AttentionIdeal.main_arg0) = m ((c.tc : Thread Cert.AttentionIdeal.nD Cert.AttentionIdeal.τ).loc Cert.AttentionIdeal.main_arg0)
      ∧ r.2.mem ((c.tc : Thread Cert.AttentionIdeal.nD Cert.AttentionIdeal.τ).loc Cert.AttentionIdeal.main_arg1) = m ((c.tc : Thread Cert.AttentionIdeal.nD Cert.AttentionIdeal.τ).loc Cert.AttentionIdeal.main_arg1)
      ∧ r.2.mem ((c.tc : Thread Cert.AttentionIdeal.nD Cert.AttentionIdeal.τ).loc Cert.AttentionIdeal.main_arg2) = m ((c.tc : Thread Cert.AttentionIdeal.nD Cert.AttentionIdeal.τ).loc Cert.AttentionIdeal.main_arg2)
      ∧ r.2.mem ((c.tc : Thread Cert.AttentionIdeal.nD Cert.AttentionIdeal.τ).loc Cert.AttentionIdeal.main_arg3) = m ((c.tc : Thread Cert.AttentionIdeal.nD Cert.AttentionIdeal.τ).loc Cert.AttentionIdeal.main_arg3))
      ∧ r.2.sem = fun _ => 0)

def quiescent_AttentionReferenceIdeal [hAttentionReferenceIdeal : Cert.AttentionReferenceIdeal.Facts] : Prop :=
  ∀ (m : (ℓ : Loc Cert.AttentionReferenceIdeal.nD Cert.AttentionReferenceIdeal.τ Cert.AttentionReferenceIdeal.sig) → Buf (Elt Ideal) ℓ) (g : Dev Cert.AttentionReferenceIdeal.nD → PrngReg), Pre_AttentionReferenceIdeal m →
    θ_run (Cert.AttentionReferenceIdeal.defs (F := Ideal)) (onTc (τ := Cert.AttentionReferenceIdeal.τ) (Cert.AttentionReferenceIdeal.main (F := Ideal))) ⟨m, fun _ => 0, g⟩ (fun r => (∀ c : Dev Cert.AttentionReferenceIdeal.nD,
      r.2.mem ((c.tc : Thread Cert.AttentionReferenceIdeal.nD Cert.AttentionReferenceIdeal.τ).loc Cert.AttentionReferenceIdeal.main_arg0) = m ((c.tc : Thread Cert.AttentionReferenceIdeal.nD Cert.AttentionReferenceIdeal.τ).loc Cert.AttentionReferenceIdeal.main_arg0)
      ∧ r.2.mem ((c.tc : Thread Cert.AttentionReferenceIdeal.nD Cert.AttentionReferenceIdeal.τ).loc Cert.AttentionReferenceIdeal.main_arg1) = m ((c.tc : Thread Cert.AttentionReferenceIdeal.nD Cert.AttentionReferenceIdeal.τ).loc Cert.AttentionReferenceIdeal.main_arg1)
      ∧ r.2.mem ((c.tc : Thread Cert.AttentionReferenceIdeal.nD Cert.AttentionReferenceIdeal.τ).loc Cert.AttentionReferenceIdeal.main_arg2) = m ((c.tc : Thread Cert.AttentionReferenceIdeal.nD Cert.AttentionReferenceIdeal.τ).loc Cert.AttentionReferenceIdeal.main_arg2)
      ∧ r.2.mem ((c.tc : Thread Cert.AttentionReferenceIdeal.nD Cert.AttentionReferenceIdeal.τ).loc Cert.AttentionReferenceIdeal.main_arg3) = m ((c.tc : Thread Cert.AttentionReferenceIdeal.nD Cert.AttentionReferenceIdeal.τ).loc Cert.AttentionReferenceIdeal.main_arg3))
      ∧ r.2.sem = fun _ => 0)

def quiescent_AttentionReferenceIdeal_pre_finite_scores [hAttentionReferenceIdeal : Cert.AttentionReferenceIdeal.Facts] [hPre_finite_scores : Cert.Pre_finite_scores.Facts] : Prop :=
  ∀ (m : (ℓ : Loc Cert.AttentionReferenceIdeal.nD Cert.AttentionReferenceIdeal.τ Cert.AttentionReferenceIdeal.sig) → Buf (Elt Ideal) ℓ) (g : Dev Cert.AttentionReferenceIdeal.nD → PrngReg), Pre_AttentionReferenceIdeal_finite_scores m →
    θ_run (Cert.AttentionReferenceIdeal.defs (F := Ideal)) (onTc (τ := Cert.AttentionReferenceIdeal.τ) (Cert.AttentionReferenceIdeal.main (F := Ideal))) ⟨m, fun _ => 0, g⟩ (fun r => (∀ c : Dev Cert.AttentionReferenceIdeal.nD,
      r.2.mem ((c.tc : Thread Cert.AttentionReferenceIdeal.nD Cert.AttentionReferenceIdeal.τ).loc Cert.AttentionReferenceIdeal.main_arg0) = m ((c.tc : Thread Cert.AttentionReferenceIdeal.nD Cert.AttentionReferenceIdeal.τ).loc Cert.AttentionReferenceIdeal.main_arg0)
      ∧ r.2.mem ((c.tc : Thread Cert.AttentionReferenceIdeal.nD Cert.AttentionReferenceIdeal.τ).loc Cert.AttentionReferenceIdeal.main_arg1) = m ((c.tc : Thread Cert.AttentionReferenceIdeal.nD Cert.AttentionReferenceIdeal.τ).loc Cert.AttentionReferenceIdeal.main_arg1)
      ∧ r.2.mem ((c.tc : Thread Cert.AttentionReferenceIdeal.nD Cert.AttentionReferenceIdeal.τ).loc Cert.AttentionReferenceIdeal.main_arg2) = m ((c.tc : Thread Cert.AttentionReferenceIdeal.nD Cert.AttentionReferenceIdeal.τ).loc Cert.AttentionReferenceIdeal.main_arg2)
      ∧ r.2.mem ((c.tc : Thread Cert.AttentionReferenceIdeal.nD Cert.AttentionReferenceIdeal.τ).loc Cert.AttentionReferenceIdeal.main_arg3) = m ((c.tc : Thread Cert.AttentionReferenceIdeal.nD Cert.AttentionReferenceIdeal.τ).loc Cert.AttentionReferenceIdeal.main_arg3))
      ∧ r.2.sem = fun _ => 0)

def quiescent_LatentUp [hLatentUp : Cert.LatentUp.Facts] : Prop :=
  ∀ (m : (ℓ : Loc Cert.LatentUp.nD Cert.LatentUp.τ Cert.LatentUp.sig) → Buf (Elt Bits) ℓ) (g : Dev Cert.LatentUp.nD → PrngReg), Pre_LatentUp m →
    θ_run (Cert.LatentUp.defs (F := Bits)) (onTc (τ := Cert.LatentUp.τ) (Cert.LatentUp.main (F := Bits))) ⟨m, fun _ => 0, g⟩ (fun r => (∀ c : Dev Cert.LatentUp.nD,
      r.2.mem ((c.tc : Thread Cert.LatentUp.nD Cert.LatentUp.τ).loc Cert.LatentUp.main_arg0) = m ((c.tc : Thread Cert.LatentUp.nD Cert.LatentUp.τ).loc Cert.LatentUp.main_arg0)
      ∧ r.2.mem ((c.tc : Thread Cert.LatentUp.nD Cert.LatentUp.τ).loc Cert.LatentUp.main_arg1) = m ((c.tc : Thread Cert.LatentUp.nD Cert.LatentUp.τ).loc Cert.LatentUp.main_arg1)
      ∧ r.2.mem ((c.tc : Thread Cert.LatentUp.nD Cert.LatentUp.τ).loc Cert.LatentUp.main_arg2) = m ((c.tc : Thread Cert.LatentUp.nD Cert.LatentUp.τ).loc Cert.LatentUp.main_arg2)
      ∧ r.2.mem ((c.tc : Thread Cert.LatentUp.nD Cert.LatentUp.τ).loc Cert.LatentUp.main_arg3) = m ((c.tc : Thread Cert.LatentUp.nD Cert.LatentUp.τ).loc Cert.LatentUp.main_arg3)
      ∧ r.2.mem ((c.tc : Thread Cert.LatentUp.nD Cert.LatentUp.τ).loc Cert.LatentUp.main_arg4) = m ((c.tc : Thread Cert.LatentUp.nD Cert.LatentUp.τ).loc Cert.LatentUp.main_arg4)
      ∧ r.2.mem ((c.tc : Thread Cert.LatentUp.nD Cert.LatentUp.τ).loc Cert.LatentUp.main_arg5) = m ((c.tc : Thread Cert.LatentUp.nD Cert.LatentUp.τ).loc Cert.LatentUp.main_arg5))
      ∧ r.2.sem = fun _ => 0)

def quiescent_LatentUpIdeal [hLatentUpIdeal : Cert.LatentUpIdeal.Facts] : Prop :=
  ∀ (m : (ℓ : Loc Cert.LatentUpIdeal.nD Cert.LatentUpIdeal.τ Cert.LatentUpIdeal.sig) → Buf (Elt Ideal) ℓ) (g : Dev Cert.LatentUpIdeal.nD → PrngReg), Pre_LatentUpIdeal m →
    θ_run (Cert.LatentUpIdeal.defs (F := Ideal)) (onTc (τ := Cert.LatentUpIdeal.τ) (Cert.LatentUpIdeal.main (F := Ideal))) ⟨m, fun _ => 0, g⟩ (fun r => (∀ c : Dev Cert.LatentUpIdeal.nD,
      r.2.mem ((c.tc : Thread Cert.LatentUpIdeal.nD Cert.LatentUpIdeal.τ).loc Cert.LatentUpIdeal.main_arg0) = m ((c.tc : Thread Cert.LatentUpIdeal.nD Cert.LatentUpIdeal.τ).loc Cert.LatentUpIdeal.main_arg0)
      ∧ r.2.mem ((c.tc : Thread Cert.LatentUpIdeal.nD Cert.LatentUpIdeal.τ).loc Cert.LatentUpIdeal.main_arg1) = m ((c.tc : Thread Cert.LatentUpIdeal.nD Cert.LatentUpIdeal.τ).loc Cert.LatentUpIdeal.main_arg1)
      ∧ r.2.mem ((c.tc : Thread Cert.LatentUpIdeal.nD Cert.LatentUpIdeal.τ).loc Cert.LatentUpIdeal.main_arg2) = m ((c.tc : Thread Cert.LatentUpIdeal.nD Cert.LatentUpIdeal.τ).loc Cert.LatentUpIdeal.main_arg2)
      ∧ r.2.mem ((c.tc : Thread Cert.LatentUpIdeal.nD Cert.LatentUpIdeal.τ).loc Cert.LatentUpIdeal.main_arg3) = m ((c.tc : Thread Cert.LatentUpIdeal.nD Cert.LatentUpIdeal.τ).loc Cert.LatentUpIdeal.main_arg3)
      ∧ r.2.mem ((c.tc : Thread Cert.LatentUpIdeal.nD Cert.LatentUpIdeal.τ).loc Cert.LatentUpIdeal.main_arg4) = m ((c.tc : Thread Cert.LatentUpIdeal.nD Cert.LatentUpIdeal.τ).loc Cert.LatentUpIdeal.main_arg4)
      ∧ r.2.mem ((c.tc : Thread Cert.LatentUpIdeal.nD Cert.LatentUpIdeal.τ).loc Cert.LatentUpIdeal.main_arg5) = m ((c.tc : Thread Cert.LatentUpIdeal.nD Cert.LatentUpIdeal.τ).loc Cert.LatentUpIdeal.main_arg5))
      ∧ r.2.sem = fun _ => 0)

def quiescent_LatentUpReferenceIdeal [hLatentUpReferenceIdeal : Cert.LatentUpReferenceIdeal.Facts] : Prop :=
  ∀ (m : (ℓ : Loc Cert.LatentUpReferenceIdeal.nD Cert.LatentUpReferenceIdeal.τ Cert.LatentUpReferenceIdeal.sig) → Buf (Elt Ideal) ℓ) (g : Dev Cert.LatentUpReferenceIdeal.nD → PrngReg), Pre_LatentUpReferenceIdeal m →
    θ_run (Cert.LatentUpReferenceIdeal.defs (F := Ideal)) (onTc (τ := Cert.LatentUpReferenceIdeal.τ) (Cert.LatentUpReferenceIdeal.main (F := Ideal))) ⟨m, fun _ => 0, g⟩ (fun r => (∀ c : Dev Cert.LatentUpReferenceIdeal.nD,
      r.2.mem ((c.tc : Thread Cert.LatentUpReferenceIdeal.nD Cert.LatentUpReferenceIdeal.τ).loc Cert.LatentUpReferenceIdeal.main_arg0) = m ((c.tc : Thread Cert.LatentUpReferenceIdeal.nD Cert.LatentUpReferenceIdeal.τ).loc Cert.LatentUpReferenceIdeal.main_arg0)
      ∧ r.2.mem ((c.tc : Thread Cert.LatentUpReferenceIdeal.nD Cert.LatentUpReferenceIdeal.τ).loc Cert.LatentUpReferenceIdeal.main_arg1) = m ((c.tc : Thread Cert.LatentUpReferenceIdeal.nD Cert.LatentUpReferenceIdeal.τ).loc Cert.LatentUpReferenceIdeal.main_arg1)
      ∧ r.2.mem ((c.tc : Thread Cert.LatentUpReferenceIdeal.nD Cert.LatentUpReferenceIdeal.τ).loc Cert.LatentUpReferenceIdeal.main_arg2) = m ((c.tc : Thread Cert.LatentUpReferenceIdeal.nD Cert.LatentUpReferenceIdeal.τ).loc Cert.LatentUpReferenceIdeal.main_arg2)
      ∧ r.2.mem ((c.tc : Thread Cert.LatentUpReferenceIdeal.nD Cert.LatentUpReferenceIdeal.τ).loc Cert.LatentUpReferenceIdeal.main_arg3) = m ((c.tc : Thread Cert.LatentUpReferenceIdeal.nD Cert.LatentUpReferenceIdeal.τ).loc Cert.LatentUpReferenceIdeal.main_arg3)
      ∧ r.2.mem ((c.tc : Thread Cert.LatentUpReferenceIdeal.nD Cert.LatentUpReferenceIdeal.τ).loc Cert.LatentUpReferenceIdeal.main_arg4) = m ((c.tc : Thread Cert.LatentUpReferenceIdeal.nD Cert.LatentUpReferenceIdeal.τ).loc Cert.LatentUpReferenceIdeal.main_arg4)
      ∧ r.2.mem ((c.tc : Thread Cert.LatentUpReferenceIdeal.nD Cert.LatentUpReferenceIdeal.τ).loc Cert.LatentUpReferenceIdeal.main_arg5) = m ((c.tc : Thread Cert.LatentUpReferenceIdeal.nD Cert.LatentUpReferenceIdeal.τ).loc Cert.LatentUpReferenceIdeal.main_arg5))
      ∧ r.2.sem = fun _ => 0)

def quiescent_FfnNorm [hFfnNorm : Cert.FfnNorm.Facts] : Prop :=
  ∀ (m : (ℓ : Loc Cert.FfnNorm.nD Cert.FfnNorm.τ Cert.FfnNorm.sig) → Buf (Elt Bits) ℓ) (g : Dev Cert.FfnNorm.nD → PrngReg), Pre_FfnNorm m →
    θ_run (Cert.FfnNorm.defs (F := Bits)) (onTc (τ := Cert.FfnNorm.τ) (Cert.FfnNorm.main (F := Bits))) ⟨m, fun _ => 0, g⟩ (fun r => (∀ c : Dev Cert.FfnNorm.nD,
      r.2.mem ((c.tc : Thread Cert.FfnNorm.nD Cert.FfnNorm.τ).loc Cert.FfnNorm.main_arg0) = m ((c.tc : Thread Cert.FfnNorm.nD Cert.FfnNorm.τ).loc Cert.FfnNorm.main_arg0)
      ∧ r.2.mem ((c.tc : Thread Cert.FfnNorm.nD Cert.FfnNorm.τ).loc Cert.FfnNorm.main_arg1) = m ((c.tc : Thread Cert.FfnNorm.nD Cert.FfnNorm.τ).loc Cert.FfnNorm.main_arg1))
      ∧ r.2.sem = fun _ => 0)

def quiescent_FfnNormIdeal [hFfnNormIdeal : Cert.FfnNormIdeal.Facts] : Prop :=
  ∀ (m : (ℓ : Loc Cert.FfnNormIdeal.nD Cert.FfnNormIdeal.τ Cert.FfnNormIdeal.sig) → Buf (Elt Ideal) ℓ) (g : Dev Cert.FfnNormIdeal.nD → PrngReg), Pre_FfnNormIdeal m →
    θ_run (Cert.FfnNormIdeal.defs (F := Ideal)) (onTc (τ := Cert.FfnNormIdeal.τ) (Cert.FfnNormIdeal.main (F := Ideal))) ⟨m, fun _ => 0, g⟩ (fun r => (∀ c : Dev Cert.FfnNormIdeal.nD,
      r.2.mem ((c.tc : Thread Cert.FfnNormIdeal.nD Cert.FfnNormIdeal.τ).loc Cert.FfnNormIdeal.main_arg0) = m ((c.tc : Thread Cert.FfnNormIdeal.nD Cert.FfnNormIdeal.τ).loc Cert.FfnNormIdeal.main_arg0)
      ∧ r.2.mem ((c.tc : Thread Cert.FfnNormIdeal.nD Cert.FfnNormIdeal.τ).loc Cert.FfnNormIdeal.main_arg1) = m ((c.tc : Thread Cert.FfnNormIdeal.nD Cert.FfnNormIdeal.τ).loc Cert.FfnNormIdeal.main_arg1))
      ∧ r.2.sem = fun _ => 0)

def quiescent_FfnNormReferenceIdeal [hFfnNormReferenceIdeal : Cert.FfnNormReferenceIdeal.Facts] : Prop :=
  ∀ (m : (ℓ : Loc Cert.FfnNormReferenceIdeal.nD Cert.FfnNormReferenceIdeal.τ Cert.FfnNormReferenceIdeal.sig) → Buf (Elt Ideal) ℓ) (g : Dev Cert.FfnNormReferenceIdeal.nD → PrngReg), Pre_FfnNormReferenceIdeal m →
    θ_run (Cert.FfnNormReferenceIdeal.defs (F := Ideal)) (onTc (τ := Cert.FfnNormReferenceIdeal.τ) (Cert.FfnNormReferenceIdeal.main (F := Ideal))) ⟨m, fun _ => 0, g⟩ (fun r => (∀ c : Dev Cert.FfnNormReferenceIdeal.nD,
      r.2.mem ((c.tc : Thread Cert.FfnNormReferenceIdeal.nD Cert.FfnNormReferenceIdeal.τ).loc Cert.FfnNormReferenceIdeal.main_arg0) = m ((c.tc : Thread Cert.FfnNormReferenceIdeal.nD Cert.FfnNormReferenceIdeal.τ).loc Cert.FfnNormReferenceIdeal.main_arg0)
      ∧ r.2.mem ((c.tc : Thread Cert.FfnNormReferenceIdeal.nD Cert.FfnNormReferenceIdeal.τ).loc Cert.FfnNormReferenceIdeal.main_arg1) = m ((c.tc : Thread Cert.FfnNormReferenceIdeal.nD Cert.FfnNormReferenceIdeal.τ).loc Cert.FfnNormReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v40)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v40) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v161) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def preserves_GateUp_GateUpIdeal : Prop :=
  True

def algebraic_GateUpIdeal_GateUpReferenceIdeal_on_main_columns [hGateUpIdeal : Cert.GateUpIdeal.Facts] [hGateUpReferenceIdeal : Cert.GateUpReferenceIdeal.Facts] [hOn_main_columns : Cert.On_main_columns.Facts] : Prop :=
  ∀ (m : (ℓ : Loc Cert.GateUpIdeal.nD Cert.GateUpIdeal.τ Cert.GateUpIdeal.sig) → Buf (Elt Ideal) ℓ) (g : Dev Cert.GateUpIdeal.nD → PrngReg)
    (m' : (ℓ : Loc Cert.GateUpReferenceIdeal.nD Cert.GateUpReferenceIdeal.τ Cert.GateUpReferenceIdeal.sig) → Buf (Elt Ideal) ℓ) (g' : Dev Cert.GateUpReferenceIdeal.nD → PrngReg), Pre_GateUpIdeal m →
    (∀ c : Dev Cert.GateUpIdeal.nD,
      m' ((c.tc : Thread Cert.GateUpReferenceIdeal.nD Cert.GateUpReferenceIdeal.τ).loc Cert.GateUpReferenceIdeal.main_arg0) = m ((c.tc : Thread Cert.GateUpIdeal.nD Cert.GateUpIdeal.τ).loc Cert.GateUpIdeal.main_arg0)
      ∧ m' ((c.tc : Thread Cert.GateUpReferenceIdeal.nD Cert.GateUpReferenceIdeal.τ).loc Cert.GateUpReferenceIdeal.main_arg1) = m ((c.tc : Thread Cert.GateUpIdeal.nD Cert.GateUpIdeal.τ).loc Cert.GateUpIdeal.main_arg1)
      ∧ m' ((c.tc : Thread Cert.GateUpReferenceIdeal.nD Cert.GateUpReferenceIdeal.τ).loc Cert.GateUpReferenceIdeal.main_arg2) = m ((c.tc : Thread Cert.GateUpIdeal.nD Cert.GateUpIdeal.τ).loc Cert.GateUpIdeal.main_arg2)) →
    ∃ (v0 : (c : Dev Cert.GateUpIdeal.nD) → Buf (Elt Ideal) ((c.tc : Thread Cert.GateUpIdeal.nD Cert.GateUpIdeal.τ).loc Cert.GateUpIdeal.main_v4)),
      θ_run (Cert.GateUpIdeal.defs (F := Ideal)) (onTc (τ := Cert.GateUpIdeal.τ) (Cert.GateUpIdeal.main (F := Ideal))) ⟨m, fun _ => 0, g⟩ (fun r => ∀ c : Dev Cert.GateUpIdeal.nD,
          (∀ i : (⟨2, ![16384, 11008]⟩ : Shape).Idx, (Cert.On_main_columns.fn (F := Ideal) (m ((c.tc : Thread Cert.GateUpIdeal.nD Cert.GateUpIdeal.τ).loc Cert.GateUpIdeal.main_arg0)) (m ((c.tc : Thread Cert.GateUpIdeal.nD Cert.GateUpIdeal.τ).loc Cert.GateUpIdeal.main_arg1)) (m ((c.tc : Thread Cert.GateUpIdeal.nD Cert.GateUpIdeal.τ).loc Cert.GateUpIdeal.main_arg2))) i = 1#1 → r.2.mem ((c.tc : Thread Cert.GateUpIdeal.nD Cert.GateUpIdeal.τ).loc Cert.GateUpIdeal.main_v4) i = v0 c i)
          ∧ r.2.mem ((c.tc : Thread Cert.GateUpIdeal.nD Cert.GateUpIdeal.τ).loc Cert.GateUpIdeal.main_arg0) = m ((c.tc : Thread Cert.GateUpIdeal.nD Cert.GateUpIdeal.τ).loc Cert.GateUpIdeal.main_arg0)
          ∧ r.2.mem ((c.tc : Thread Cert.GateUpIdeal.nD Cert.GateUpIdeal.τ).loc Cert.GateUpIdeal.main_arg1) = m ((c.tc : Thread Cert.GateUpIdeal.nD Cert.GateUpIdeal.τ).loc Cert.GateUpIdeal.main_arg1)
          ∧ r.2.mem ((c.tc : Thread Cert.GateUpIdeal.nD Cert.GateUpIdeal.τ).loc Cert.GateUpIdeal.main_arg2) = m ((c.tc : Thread Cert.GateUpIdeal.nD Cert.GateUpIdeal.τ).loc Cert.GateUpIdeal.main_arg2))
      ∧ θ_run (Cert.GateUpReferenceIdeal.defs (F := Ideal)) (onTc (τ := Cert.GateUpReferenceIdeal.τ) (Cert.GateUpReferenceIdeal.main (F := Ideal))) ⟨m', fun _ => 0, g'⟩ (fun r => ∀ c : Dev Cert.GateUpReferenceIdeal.nD,
          (∀ i : (⟨2, ![16384, 11008]⟩ : Shape).Idx, (Cert.On_main_columns.fn (F := Ideal) (m ((c.tc : Thread Cert.GateUpIdeal.nD Cert.GateUpIdeal.τ).loc Cert.GateUpIdeal.main_arg0)) (m ((c.tc : Thread Cert.GateUpIdeal.nD Cert.GateUpIdeal.τ).loc Cert.GateUpIdeal.main_arg1)) (m ((c.tc : Thread Cert.GateUpIdeal.nD Cert.GateUpIdeal.τ).loc Cert.GateUpIdeal.main_arg2))) i = 1#1 → r.2.mem ((c.tc : Thread Cert.GateUpReferenceIdeal.nD Cert.GateUpReferenceIdeal.τ).loc Cert.GateUpReferenceIdeal.main_v9) i = v0 c i)
          ∧ r.2.mem ((c.tc : Thread Cert.GateUpReferenceIdeal.nD Cert.GateUpReferenceIdeal.τ).loc Cert.GateUpReferenceIdeal.main_arg0) = m' ((c.tc : Thread Cert.GateUpReferenceIdeal.nD Cert.GateUpReferenceIdeal.τ).loc Cert.GateUpReferenceIdeal.main_arg0)
          ∧ r.2.mem ((c.tc : Thread Cert.GateUpReferenceIdeal.nD Cert.GateUpReferenceIdeal.τ).loc Cert.GateUpReferenceIdeal.main_arg1) = m' ((c.tc : Thread Cert.GateUpReferenceIdeal.nD Cert.GateUpReferenceIdeal.τ).loc Cert.GateUpReferenceIdeal.main_arg1)
          ∧ r.2.mem ((c.tc : Thread Cert.GateUpReferenceIdeal.nD Cert.GateUpReferenceIdeal.τ).loc Cert.GateUpReferenceIdeal.main_arg2) = m' ((c.tc : Thread Cert.GateUpReferenceIdeal.nD Cert.GateUpReferenceIdeal.τ).loc Cert.GateUpReferenceIdeal.main_arg2))

def preserves_Tail_TailIdeal : Prop :=
  True

def algebraic_TailIdeal_TailReferenceIdeal [hTailIdeal : Cert.TailIdeal.Facts] [hTailReferenceIdeal : Cert.TailReferenceIdeal.Facts] : Prop :=
  ∀ (m : (ℓ : Loc Cert.TailIdeal.nD Cert.TailIdeal.τ Cert.TailIdeal.sig) → Buf (Elt Ideal) ℓ) (g : Dev Cert.TailIdeal.nD → PrngReg)
    (m' : (ℓ : Loc Cert.TailReferenceIdeal.nD Cert.TailReferenceIdeal.τ Cert.TailReferenceIdeal.sig) → Buf (Elt Ideal) ℓ) (g' : Dev Cert.TailReferenceIdeal.nD → PrngReg), Pre_TailIdeal m →
    (∀ c : Dev Cert.TailIdeal.nD,
      m' ((c.tc : Thread Cert.TailReferenceIdeal.nD Cert.TailReferenceIdeal.τ).loc Cert.TailReferenceIdeal.main_arg0) = m ((c.tc : Thread Cert.TailIdeal.nD Cert.TailIdeal.τ).loc Cert.TailIdeal.main_arg0)
      ∧ m' ((c.tc : Thread Cert.TailReferenceIdeal.nD Cert.TailReferenceIdeal.τ).loc Cert.TailReferenceIdeal.main_arg1) = m ((c.tc : Thread Cert.TailIdeal.nD Cert.TailIdeal.τ).loc Cert.TailIdeal.main_arg1)
      ∧ m' ((c.tc : Thread Cert.TailReferenceIdeal.nD Cert.TailReferenceIdeal.τ).loc Cert.TailReferenceIdeal.main_arg2) = m ((c.tc : Thread Cert.TailIdeal.nD Cert.TailIdeal.τ).loc Cert.TailIdeal.main_arg2)
      ∧ m' ((c.tc : Thread Cert.TailReferenceIdeal.nD Cert.TailReferenceIdeal.τ).loc Cert.TailReferenceIdeal.main_arg3) = m ((c.tc : Thread Cert.TailIdeal.nD Cert.TailIdeal.τ).loc Cert.TailIdeal.main_arg3)) →
    ∃ (v0 : (c : Dev Cert.TailIdeal.nD) → Buf (Elt Ideal) ((c.tc : Thread Cert.TailIdeal.nD Cert.TailIdeal.τ).loc Cert.TailIdeal.main_v5)),
      θ_run (Cert.TailIdeal.defs (F := Ideal)) (onTc (τ := Cert.TailIdeal.τ) (Cert.TailIdeal.main (F := Ideal))) ⟨m, fun _ => 0, g⟩ (fun r => ∀ c : Dev Cert.TailIdeal.nD,
          r.2.mem ((c.tc : Thread Cert.TailIdeal.nD Cert.TailIdeal.τ).loc Cert.TailIdeal.main_v5) = v0 c
          ∧ r.2.mem ((c.tc : Thread Cert.TailIdeal.nD Cert.TailIdeal.τ).loc Cert.TailIdeal.main_arg0) = m ((c.tc : Thread Cert.TailIdeal.nD Cert.TailIdeal.τ).loc Cert.TailIdeal.main_arg0)
          ∧ r.2.mem ((c.tc : Thread Cert.TailIdeal.nD Cert.TailIdeal.τ).loc Cert.TailIdeal.main_arg1) = m ((c.tc : Thread Cert.TailIdeal.nD Cert.TailIdeal.τ).loc Cert.TailIdeal.main_arg1)
          ∧ r.2.mem ((c.tc : Thread Cert.TailIdeal.nD Cert.TailIdeal.τ).loc Cert.TailIdeal.main_arg2) = m ((c.tc : Thread Cert.TailIdeal.nD Cert.TailIdeal.τ).loc Cert.TailIdeal.main_arg2)
          ∧ r.2.mem ((c.tc : Thread Cert.TailIdeal.nD Cert.TailIdeal.τ).loc Cert.TailIdeal.main_arg3) = m ((c.tc : Thread Cert.TailIdeal.nD Cert.TailIdeal.τ).loc Cert.TailIdeal.main_arg3))
      ∧ θ_run (Cert.TailReferenceIdeal.defs (F := Ideal)) (onTc (τ := Cert.TailReferenceIdeal.τ) (Cert.TailReferenceIdeal.main (F := Ideal))) ⟨m', fun _ => 0, g'⟩ (fun r => ∀ c : Dev Cert.TailReferenceIdeal.nD,
          r.2.mem ((c.tc : Thread Cert.TailReferenceIdeal.nD Cert.TailReferenceIdeal.τ).loc Cert.TailReferenceIdeal.main_v12) = v0 c
          ∧ r.2.mem ((c.tc : Thread Cert.TailReferenceIdeal.nD Cert.TailReferenceIdeal.τ).loc Cert.TailReferenceIdeal.main_arg0) = m' ((c.tc : Thread Cert.TailReferenceIdeal.nD Cert.TailReferenceIdeal.τ).loc Cert.TailReferenceIdeal.main_arg0)
          ∧ r.2.mem ((c.tc : Thread Cert.TailReferenceIdeal.nD Cert.TailReferenceIdeal.τ).loc Cert.TailReferenceIdeal.main_arg1) = m' ((c.tc : Thread Cert.TailReferenceIdeal.nD Cert.TailReferenceIdeal.τ).loc Cert.TailReferenceIdeal.main_arg1)
          ∧ r.2.mem ((c.tc : Thread Cert.TailReferenceIdeal.nD Cert.TailReferenceIdeal.τ).loc Cert.TailReferenceIdeal.main_arg2) = m' ((c.tc : Thread Cert.TailReferenceIdeal.nD Cert.TailReferenceIdeal.τ).loc Cert.TailReferenceIdeal.main_arg2)
          ∧ r.2.mem ((c.tc : Thread Cert.TailReferenceIdeal.nD Cert.TailReferenceIdeal.τ).loc Cert.TailReferenceIdeal.main_arg3) = m' ((c.tc : Thread Cert.TailReferenceIdeal.nD Cert.TailReferenceIdeal.τ).loc Cert.TailReferenceIdeal.main_arg3))

def preserves_DownFirst_DownFirstIdeal : Prop :=
  True

def algebraic_DownFirstIdeal_DownFirstReferenceIdeal [hDownFirstIdeal : Cert.DownFirstIdeal.Facts] [hDownFirstReferenceIdeal : Cert.DownFirstReferenceIdeal.Facts] : Prop :=
  ∀ (m : (ℓ : Loc Cert.DownFirstIdeal.nD Cert.DownFirstIdeal.τ Cert.DownFirstIdeal.sig) → Buf (Elt Ideal) ℓ) (g : Dev Cert.DownFirstIdeal.nD → PrngReg)
    (m' : (ℓ : Loc Cert.DownFirstReferenceIdeal.nD Cert.DownFirstReferenceIdeal.τ Cert.DownFirstReferenceIdeal.sig) → Buf (Elt Ideal) ℓ) (g' : Dev Cert.DownFirstReferenceIdeal.nD → PrngReg), Pre_DownFirstIdeal m →
    (∀ c : Dev Cert.DownFirstIdeal.nD,
      m' ((c.tc : Thread Cert.DownFirstReferenceIdeal.nD Cert.DownFirstReferenceIdeal.τ).loc Cert.DownFirstReferenceIdeal.main_arg0) = m ((c.tc : Thread Cert.DownFirstIdeal.nD Cert.DownFirstIdeal.τ).loc Cert.DownFirstIdeal.main_arg0)
      ∧ m' ((c.tc : Thread Cert.DownFirstReferenceIdeal.nD Cert.DownFirstReferenceIdeal.τ).loc Cert.DownFirstReferenceIdeal.main_arg1) = m ((c.tc : Thread Cert.DownFirstIdeal.nD Cert.DownFirstIdeal.τ).loc Cert.DownFirstIdeal.main_arg1)
      ∧ m' ((c.tc : Thread Cert.DownFirstReferenceIdeal.nD Cert.DownFirstReferenceIdeal.τ).loc Cert.DownFirstReferenceIdeal.main_arg2) = m ((c.tc : Thread Cert.DownFirstIdeal.nD Cert.DownFirstIdeal.τ).loc Cert.DownFirstIdeal.main_arg2)) →
    ∃ (v0 : (c : Dev Cert.DownFirstIdeal.nD) → Buf (Elt Ideal) ((c.tc : Thread Cert.DownFirstIdeal.nD Cert.DownFirstIdeal.τ).loc Cert.DownFirstIdeal.main_v4)),
      θ_run (Cert.DownFirstIdeal.defs (F := Ideal)) (onTc (τ := Cert.DownFirstIdeal.τ) (Cert.DownFirstIdeal.main (F := Ideal))) ⟨m, fun _ => 0, g⟩ (fun r => ∀ c : Dev Cert.DownFirstIdeal.nD,
          r.2.mem ((c.tc : Thread Cert.DownFirstIdeal.nD Cert.DownFirstIdeal.τ).loc Cert.DownFirstIdeal.main_v4) = v0 c
          ∧ r.2.mem ((c.tc : Thread Cert.DownFirstIdeal.nD Cert.DownFirstIdeal.τ).loc Cert.DownFirstIdeal.main_arg0) = m ((c.tc : Thread Cert.DownFirstIdeal.nD Cert.DownFirstIdeal.τ).loc Cert.DownFirstIdeal.main_arg0)
          ∧ r.2.mem ((c.tc : Thread Cert.DownFirstIdeal.nD Cert.DownFirstIdeal.τ).loc Cert.DownFirstIdeal.main_arg1) = m ((c.tc : Thread Cert.DownFirstIdeal.nD Cert.DownFirstIdeal.τ).loc Cert.DownFirstIdeal.main_arg1)
          ∧ r.2.mem ((c.tc : Thread Cert.DownFirstIdeal.nD Cert.DownFirstIdeal.τ).loc Cert.DownFirstIdeal.main_arg2) = m ((c.tc : Thread Cert.DownFirstIdeal.nD Cert.DownFirstIdeal.τ).loc Cert.DownFirstIdeal.main_arg2))
      ∧ θ_run (Cert.DownFirstReferenceIdeal.defs (F := Ideal)) (onTc (τ := Cert.DownFirstReferenceIdeal.τ) (Cert.DownFirstReferenceIdeal.main (F := Ideal))) ⟨m', fun _ => 0, g'⟩ (fun r => ∀ c : Dev Cert.DownFirstReferenceIdeal.nD,
          r.2.mem ((c.tc : Thread Cert.DownFirstReferenceIdeal.nD Cert.DownFirstReferenceIdeal.τ).loc Cert.DownFirstReferenceIdeal.main_v5) = v0 c
          ∧ r.2.mem ((c.tc : Thread Cert.DownFirstReferenceIdeal.nD Cert.DownFirstReferenceIdeal.τ).loc Cert.DownFirstReferenceIdeal.main_arg0) = m' ((c.tc : Thread Cert.DownFirstReferenceIdeal.nD Cert.DownFirstReferenceIdeal.τ).loc Cert.DownFirstReferenceIdeal.main_arg0)
          ∧ r.2.mem ((c.tc : Thread Cert.DownFirstReferenceIdeal.nD Cert.DownFirstReferenceIdeal.τ).loc Cert.DownFirstReferenceIdeal.main_arg1) = m' ((c.tc : Thread Cert.DownFirstReferenceIdeal.nD Cert.DownFirstReferenceIdeal.τ).loc Cert.DownFirstReferenceIdeal.main_arg1)
          ∧ r.2.mem ((c.tc : Thread Cert.DownFirstReferenceIdeal.nD Cert.DownFirstReferenceIdeal.τ).loc Cert.DownFirstReferenceIdeal.main_arg2) = m' ((c.tc : Thread Cert.DownFirstReferenceIdeal.nD Cert.DownFirstReferenceIdeal.τ).loc Cert.DownFirstReferenceIdeal.main_arg2))

def preserves_DownSecond_DownSecondIdeal : Prop :=
  True

def algebraic_DownSecondIdeal_DownSecondReferenceIdeal [hDownSecondIdeal : Cert.DownSecondIdeal.Facts] [hDownSecondReferenceIdeal : Cert.DownSecondReferenceIdeal.Facts] : Prop :=
  ∀ (m : (ℓ : Loc Cert.DownSecondIdeal.nD Cert.DownSecondIdeal.τ Cert.DownSecondIdeal.sig) → Buf (Elt Ideal) ℓ) (g : Dev Cert.DownSecondIdeal.nD → PrngReg)
    (m' : (ℓ : Loc Cert.DownSecondReferenceIdeal.nD Cert.DownSecondReferenceIdeal.τ Cert.DownSecondReferenceIdeal.sig) → Buf (Elt Ideal) ℓ) (g' : Dev Cert.DownSecondReferenceIdeal.nD → PrngReg), Pre_DownSecondIdeal m →
    (∀ c : Dev Cert.DownSecondIdeal.nD,
      m' ((c.tc : Thread Cert.DownSecondReferenceIdeal.nD Cert.DownSecondReferenceIdeal.τ).loc Cert.DownSecondReferenceIdeal.main_arg0) = m ((c.tc : Thread Cert.DownSecondIdeal.nD Cert.DownSecondIdeal.τ).loc Cert.DownSecondIdeal.main_arg0)
      ∧ m' ((c.tc : Thread Cert.DownSecondReferenceIdeal.nD Cert.DownSecondReferenceIdeal.τ).loc Cert.DownSecondReferenceIdeal.main_arg1) = m ((c.tc : Thread Cert.DownSecondIdeal.nD Cert.DownSecondIdeal.τ).loc Cert.DownSecondIdeal.main_arg1)
      ∧ m' ((c.tc : Thread Cert.DownSecondReferenceIdeal.nD Cert.DownSecondReferenceIdeal.τ).loc Cert.DownSecondReferenceIdeal.main_arg2) = m ((c.tc : Thread Cert.DownSecondIdeal.nD Cert.DownSecondIdeal.τ).loc Cert.DownSecondIdeal.main_arg2)) →
    ∃ (v0 : (c : Dev Cert.DownSecondIdeal.nD) → Buf (Elt Ideal) ((c.tc : Thread Cert.DownSecondIdeal.nD Cert.DownSecondIdeal.τ).loc Cert.DownSecondIdeal.main_v4_0)) (v1 : (c : Dev Cert.DownSecondIdeal.nD) → Buf (Elt Ideal) ((c.tc : Thread Cert.DownSecondIdeal.nD Cert.DownSecondIdeal.τ).loc Cert.DownSecondIdeal.main_v4_1)) (v2 : (c : Dev Cert.DownSecondIdeal.nD) → Buf (Elt Ideal) ((c.tc : Thread Cert.DownSecondIdeal.nD Cert.DownSecondIdeal.τ).loc Cert.DownSecondIdeal.main_v4_2)),
      θ_run (Cert.DownSecondIdeal.defs (F := Ideal)) (onTc (τ := Cert.DownSecondIdeal.τ) (Cert.DownSecondIdeal.main (F := Ideal))) ⟨m, fun _ => 0, g⟩ (fun r => ∀ c : Dev Cert.DownSecondIdeal.nD,
          r.2.mem ((c.tc : Thread Cert.DownSecondIdeal.nD Cert.DownSecondIdeal.τ).loc Cert.DownSecondIdeal.main_v4_0) = v0 c
          ∧ r.2.mem ((c.tc : Thread Cert.DownSecondIdeal.nD Cert.DownSecondIdeal.τ).loc Cert.DownSecondIdeal.main_v4_1) = v1 c
          ∧ r.2.mem ((c.tc : Thread Cert.DownSecondIdeal.nD Cert.DownSecondIdeal.τ).loc Cert.DownSecondIdeal.main_v4_2) = v2 c
          ∧ r.2.mem ((c.tc : Thread Cert.DownSecondIdeal.nD Cert.DownSecondIdeal.τ).loc Cert.DownSecondIdeal.main_arg0) = m ((c.tc : Thread Cert.DownSecondIdeal.nD Cert.DownSecondIdeal.τ).loc Cert.DownSecondIdeal.main_arg0)
          ∧ r.2.mem ((c.tc : Thread Cert.DownSecondIdeal.nD Cert.DownSecondIdeal.τ).loc Cert.DownSecondIdeal.main_arg1) = m ((c.tc : Thread Cert.DownSecondIdeal.nD Cert.DownSecondIdeal.τ).loc Cert.DownSecondIdeal.main_arg1)
          ∧ r.2.mem ((c.tc : Thread Cert.DownSecondIdeal.nD Cert.DownSecondIdeal.τ).loc Cert.DownSecondIdeal.main_arg2) = m ((c.tc : Thread Cert.DownSecondIdeal.nD Cert.DownSecondIdeal.τ).loc Cert.DownSecondIdeal.main_arg2))
      ∧ θ_run (Cert.DownSecondReferenceIdeal.defs (F := Ideal)) (onTc (τ := Cert.DownSecondReferenceIdeal.τ) (Cert.DownSecondReferenceIdeal.main (F := Ideal))) ⟨m', fun _ => 0, g'⟩ (fun r => ∀ c : Dev Cert.DownSecondReferenceIdeal.nD,
          r.2.mem ((c.tc : Thread Cert.DownSecondReferenceIdeal.nD Cert.DownSecondReferenceIdeal.τ).loc Cert.DownSecondReferenceIdeal.main_v5) = v0 c
          ∧ r.2.mem ((c.tc : Thread Cert.DownSecondReferenceIdeal.nD Cert.DownSecondReferenceIdeal.τ).loc Cert.DownSecondReferenceIdeal.main_v6) = v1 c
          ∧ r.2.mem ((c.tc : Thread Cert.DownSecondReferenceIdeal.nD Cert.DownSecondReferenceIdeal.τ).loc Cert.DownSecondReferenceIdeal.main_v10) = v2 c
          ∧ r.2.mem ((c.tc : Thread Cert.DownSecondReferenceIdeal.nD Cert.DownSecondReferenceIdeal.τ).loc Cert.DownSecondReferenceIdeal.main_arg0) = m' ((c.tc : Thread Cert.DownSecondReferenceIdeal.nD Cert.DownSecondReferenceIdeal.τ).loc Cert.DownSecondReferenceIdeal.main_arg0)
          ∧ r.2.mem ((c.tc : Thread Cert.DownSecondReferenceIdeal.nD Cert.DownSecondReferenceIdeal.τ).loc Cert.DownSecondReferenceIdeal.main_arg1) = m' ((c.tc : Thread Cert.DownSecondReferenceIdeal.nD Cert.DownSecondReferenceIdeal.τ).loc Cert.DownSecondReferenceIdeal.main_arg1)
          ∧ r.2.mem ((c.tc : Thread Cert.DownSecondReferenceIdeal.nD Cert.DownSecondReferenceIdeal.τ).loc Cert.DownSecondReferenceIdeal.main_arg2) = m' ((c.tc : Thread Cert.DownSecondReferenceIdeal.nD Cert.DownSecondReferenceIdeal.τ).loc Cert.DownSecondReferenceIdeal.main_arg2))

def preserves_InProj_InProjIdeal : Prop :=
  True

def algebraic_InProjIdeal_InProjReferenceIdeal [hInProjIdeal : Cert.InProjIdeal.Facts] [hInProjReferenceIdeal : Cert.InProjReferenceIdeal.Facts] : Prop :=
  ∀ (m : (ℓ : Loc Cert.InProjIdeal.nD Cert.InProjIdeal.τ Cert.InProjIdeal.sig) → Buf (Elt Ideal) ℓ) (g : Dev Cert.InProjIdeal.nD → PrngReg)
    (m' : (ℓ : Loc Cert.InProjReferenceIdeal.nD Cert.InProjReferenceIdeal.τ Cert.InProjReferenceIdeal.sig) → Buf (Elt Ideal) ℓ) (g' : Dev Cert.InProjReferenceIdeal.nD → PrngReg), Pre_InProjIdeal m →
    (∀ c : Dev Cert.InProjIdeal.nD,
      m' ((c.tc : Thread Cert.InProjReferenceIdeal.nD Cert.InProjReferenceIdeal.τ).loc Cert.InProjReferenceIdeal.main_arg0) = m ((c.tc : Thread Cert.InProjIdeal.nD Cert.InProjIdeal.τ).loc Cert.InProjIdeal.main_arg0)
      ∧ m' ((c.tc : Thread Cert.InProjReferenceIdeal.nD Cert.InProjReferenceIdeal.τ).loc Cert.InProjReferenceIdeal.main_arg1) = m ((c.tc : Thread Cert.InProjIdeal.nD Cert.InProjIdeal.τ).loc Cert.InProjIdeal.main_arg1)
      ∧ m' ((c.tc : Thread Cert.InProjReferenceIdeal.nD Cert.InProjReferenceIdeal.τ).loc Cert.InProjReferenceIdeal.main_arg2) = m ((c.tc : Thread Cert.InProjIdeal.nD Cert.InProjIdeal.τ).loc Cert.InProjIdeal.main_arg2)) →
    ∃ (v0 : (c : Dev Cert.InProjIdeal.nD) → Buf (Elt Ideal) ((c.tc : Thread Cert.InProjIdeal.nD Cert.InProjIdeal.τ).loc Cert.InProjIdeal.main_v20)),
      θ_run (Cert.InProjIdeal.defs (F := Ideal)) (onTc (τ := Cert.InProjIdeal.τ) (Cert.InProjIdeal.main (F := Ideal))) ⟨m, fun _ => 0, g⟩ (fun r => ∀ c : Dev Cert.InProjIdeal.nD,
          r.2.mem ((c.tc : Thread Cert.InProjIdeal.nD Cert.InProjIdeal.τ).loc Cert.InProjIdeal.main_v20) = v0 c
          ∧ r.2.mem ((c.tc : Thread Cert.InProjIdeal.nD Cert.InProjIdeal.τ).loc Cert.InProjIdeal.main_arg0) = m ((c.tc : Thread Cert.InProjIdeal.nD Cert.InProjIdeal.τ).loc Cert.InProjIdeal.main_arg0)
          ∧ r.2.mem ((c.tc : Thread Cert.InProjIdeal.nD Cert.InProjIdeal.τ).loc Cert.InProjIdeal.main_arg1) = m ((c.tc : Thread Cert.InProjIdeal.nD Cert.InProjIdeal.τ).loc Cert.InProjIdeal.main_arg1)
          ∧ r.2.mem ((c.tc : Thread Cert.InProjIdeal.nD Cert.InProjIdeal.τ).loc Cert.InProjIdeal.main_arg2) = m ((c.tc : Thread Cert.InProjIdeal.nD Cert.InProjIdeal.τ).loc Cert.InProjIdeal.main_arg2))
      ∧ θ_run (Cert.InProjReferenceIdeal.defs (F := Ideal)) (onTc (τ := Cert.InProjReferenceIdeal.τ) (Cert.InProjReferenceIdeal.main (F := Ideal))) ⟨m', fun _ => 0, g'⟩ (fun r => ∀ c : Dev Cert.InProjReferenceIdeal.nD,
          r.2.mem ((c.tc : Thread Cert.InProjReferenceIdeal.nD Cert.InProjReferenceIdeal.τ).loc Cert.InProjReferenceIdeal.main_v28) = v0 c
          ∧ r.2.mem ((c.tc : Thread Cert.InProjReferenceIdeal.nD Cert.InProjReferenceIdeal.τ).loc Cert.InProjReferenceIdeal.main_arg0) = m' ((c.tc : Thread Cert.InProjReferenceIdeal.nD Cert.InProjReferenceIdeal.τ).loc Cert.InProjReferenceIdeal.main_arg0)
          ∧ r.2.mem ((c.tc : Thread Cert.InProjReferenceIdeal.nD Cert.InProjReferenceIdeal.τ).loc Cert.InProjReferenceIdeal.main_arg1) = m' ((c.tc : Thread Cert.InProjReferenceIdeal.nD Cert.InProjReferenceIdeal.τ).loc Cert.InProjReferenceIdeal.main_arg1)
          ∧ r.2.mem ((c.tc : Thread Cert.InProjReferenceIdeal.nD Cert.InProjReferenceIdeal.τ).loc Cert.InProjReferenceIdeal.main_arg2) = m' ((c.tc : Thread Cert.InProjReferenceIdeal.nD Cert.InProjReferenceIdeal.τ).loc Cert.InProjReferenceIdeal.main_arg2))

def preserves_OutProj_OutProjIdeal : Prop :=
  True

def algebraic_OutProjIdeal_OutProjReferenceIdeal [hOutProjIdeal : Cert.OutProjIdeal.Facts] [hOutProjReferenceIdeal : Cert.OutProjReferenceIdeal.Facts] : Prop :=
  ∀ (m : (ℓ : Loc Cert.OutProjIdeal.nD Cert.OutProjIdeal.τ Cert.OutProjIdeal.sig) → Buf (Elt Ideal) ℓ) (g : Dev Cert.OutProjIdeal.nD → PrngReg)
    (m' : (ℓ : Loc Cert.OutProjReferenceIdeal.nD Cert.OutProjReferenceIdeal.τ Cert.OutProjReferenceIdeal.sig) → Buf (Elt Ideal) ℓ) (g' : Dev Cert.OutProjReferenceIdeal.nD → PrngReg), Pre_OutProjIdeal m →
    (∀ c : Dev Cert.OutProjIdeal.nD,
      m' ((c.tc : Thread Cert.OutProjReferenceIdeal.nD Cert.OutProjReferenceIdeal.τ).loc Cert.OutProjReferenceIdeal.main_arg0) = m ((c.tc : Thread Cert.OutProjIdeal.nD Cert.OutProjIdeal.τ).loc Cert.OutProjIdeal.main_arg0)
      ∧ m' ((c.tc : Thread Cert.OutProjReferenceIdeal.nD Cert.OutProjReferenceIdeal.τ).loc Cert.OutProjReferenceIdeal.main_arg1) = m ((c.tc : Thread Cert.OutProjIdeal.nD Cert.OutProjIdeal.τ).loc Cert.OutProjIdeal.main_arg1)
      ∧ m' ((c.tc : Thread Cert.OutProjReferenceIdeal.nD Cert.OutProjReferenceIdeal.τ).loc Cert.OutProjReferenceIdeal.main_arg2) = m ((c.tc : Thread Cert.OutProjIdeal.nD Cert.OutProjIdeal.τ).loc Cert.OutProjIdeal.main_arg2)
      ∧ m' ((c.tc : Thread Cert.OutProjReferenceIdeal.nD Cert.OutProjReferenceIdeal.τ).loc Cert.OutProjReferenceIdeal.main_arg3) = m ((c.tc : Thread Cert.OutProjIdeal.nD Cert.OutProjIdeal.τ).loc Cert.OutProjIdeal.main_arg3)
      ∧ m' ((c.tc : Thread Cert.OutProjReferenceIdeal.nD Cert.OutProjReferenceIdeal.τ).loc Cert.OutProjReferenceIdeal.main_arg4) = m ((c.tc : Thread Cert.OutProjIdeal.nD Cert.OutProjIdeal.τ).loc Cert.OutProjIdeal.main_arg4)
      ∧ m' ((c.tc : Thread Cert.OutProjReferenceIdeal.nD Cert.OutProjReferenceIdeal.τ).loc Cert.OutProjReferenceIdeal.main_arg5) = m ((c.tc : Thread Cert.OutProjIdeal.nD Cert.OutProjIdeal.τ).loc Cert.OutProjIdeal.main_arg5)) →
    ∃ (v0 : (c : Dev Cert.OutProjIdeal.nD) → Buf (Elt Ideal) ((c.tc : Thread Cert.OutProjIdeal.nD Cert.OutProjIdeal.τ).loc Cert.OutProjIdeal.main_v10)),
      θ_run (Cert.OutProjIdeal.defs (F := Ideal)) (onTc (τ := Cert.OutProjIdeal.τ) (Cert.OutProjIdeal.main (F := Ideal))) ⟨m, fun _ => 0, g⟩ (fun r => ∀ c : Dev Cert.OutProjIdeal.nD,
          r.2.mem ((c.tc : Thread Cert.OutProjIdeal.nD Cert.OutProjIdeal.τ).loc Cert.OutProjIdeal.main_v10) = v0 c
          ∧ r.2.mem ((c.tc : Thread Cert.OutProjIdeal.nD Cert.OutProjIdeal.τ).loc Cert.OutProjIdeal.main_arg0) = m ((c.tc : Thread Cert.OutProjIdeal.nD Cert.OutProjIdeal.τ).loc Cert.OutProjIdeal.main_arg0)
          ∧ r.2.mem ((c.tc : Thread Cert.OutProjIdeal.nD Cert.OutProjIdeal.τ).loc Cert.OutProjIdeal.main_arg1) = m ((c.tc : Thread Cert.OutProjIdeal.nD Cert.OutProjIdeal.τ).loc Cert.OutProjIdeal.main_arg1)
          ∧ r.2.mem ((c.tc : Thread Cert.OutProjIdeal.nD Cert.OutProjIdeal.τ).loc Cert.OutProjIdeal.main_arg2) = m ((c.tc : Thread Cert.OutProjIdeal.nD Cert.OutProjIdeal.τ).loc Cert.OutProjIdeal.main_arg2)
          ∧ r.2.mem ((c.tc : Thread Cert.OutProjIdeal.nD Cert.OutProjIdeal.τ).loc Cert.OutProjIdeal.main_arg3) = m ((c.tc : Thread Cert.OutProjIdeal.nD Cert.OutProjIdeal.τ).loc Cert.OutProjIdeal.main_arg3)
          ∧ r.2.mem ((c.tc : Thread Cert.OutProjIdeal.nD Cert.OutProjIdeal.τ).loc Cert.OutProjIdeal.main_arg4) = m ((c.tc : Thread Cert.OutProjIdeal.nD Cert.OutProjIdeal.τ).loc Cert.OutProjIdeal.main_arg4)
          ∧ r.2.mem ((c.tc : Thread Cert.OutProjIdeal.nD Cert.OutProjIdeal.τ).loc Cert.OutProjIdeal.main_arg5) = m ((c.tc : Thread Cert.OutProjIdeal.nD Cert.OutProjIdeal.τ).loc Cert.OutProjIdeal.main_arg5))
      ∧ θ_run (Cert.OutProjReferenceIdeal.defs (F := Ideal)) (onTc (τ := Cert.OutProjReferenceIdeal.τ) (Cert.OutProjReferenceIdeal.main (F := Ideal))) ⟨m', fun _ => 0, g'⟩ (fun r => ∀ c : Dev Cert.OutProjReferenceIdeal.nD,
          r.2.mem ((c.tc : Thread Cert.OutProjReferenceIdeal.nD Cert.OutProjReferenceIdeal.τ).loc Cert.OutProjReferenceIdeal.main_v5) = v0 c
          ∧ r.2.mem ((c.tc : Thread Cert.OutProjReferenceIdeal.nD Cert.OutProjReferenceIdeal.τ).loc Cert.OutProjReferenceIdeal.main_arg0) = m' ((c.tc : Thread Cert.OutProjReferenceIdeal.nD Cert.OutProjReferenceIdeal.τ).loc Cert.OutProjReferenceIdeal.main_arg0)
          ∧ r.2.mem ((c.tc : Thread Cert.OutProjReferenceIdeal.nD Cert.OutProjReferenceIdeal.τ).loc Cert.OutProjReferenceIdeal.main_arg1) = m' ((c.tc : Thread Cert.OutProjReferenceIdeal.nD Cert.OutProjReferenceIdeal.τ).loc Cert.OutProjReferenceIdeal.main_arg1)
          ∧ r.2.mem ((c.tc : Thread Cert.OutProjReferenceIdeal.nD Cert.OutProjReferenceIdeal.τ).loc Cert.OutProjReferenceIdeal.main_arg2) = m' ((c.tc : Thread Cert.OutProjReferenceIdeal.nD Cert.OutProjReferenceIdeal.τ).loc Cert.OutProjReferenceIdeal.main_arg2)
          ∧ r.2.mem ((c.tc : Thread Cert.OutProjReferenceIdeal.nD Cert.OutProjReferenceIdeal.τ).loc Cert.OutProjReferenceIdeal.main_arg3) = m' ((c.tc : Thread Cert.OutProjReferenceIdeal.nD Cert.OutProjReferenceIdeal.τ).loc Cert.OutProjReferenceIdeal.main_arg3)
          ∧ r.2.mem ((c.tc : Thread Cert.OutProjReferenceIdeal.nD Cert.OutProjReferenceIdeal.τ).loc Cert.OutProjReferenceIdeal.main_arg4) = m' ((c.tc : Thread Cert.OutProjReferenceIdeal.nD Cert.OutProjReferenceIdeal.τ).loc Cert.OutProjReferenceIdeal.main_arg4)
          ∧ r.2.mem ((c.tc : Thread Cert.OutProjReferenceIdeal.nD Cert.OutProjReferenceIdeal.τ).loc Cert.OutProjReferenceIdeal.main_arg5) = m' ((c.tc : Thread Cert.OutProjReferenceIdeal.nD Cert.OutProjReferenceIdeal.τ).loc Cert.OutProjReferenceIdeal.main_arg5))

def preserves_Final_FinalIdeal : Prop :=
  True

def algebraic_FinalIdeal_FinalReferenceIdeal [hFinalIdeal : Cert.FinalIdeal.Facts] [hFinalReferenceIdeal : Cert.FinalReferenceIdeal.Facts] : Prop :=
  ∀ (m : (ℓ : Loc Cert.FinalIdeal.nD Cert.FinalIdeal.τ Cert.FinalIdeal.sig) → Buf (Elt Ideal) ℓ) (g : Dev Cert.FinalIdeal.nD → PrngReg)
    (m' : (ℓ : Loc Cert.FinalReferenceIdeal.nD Cert.FinalReferenceIdeal.τ Cert.FinalReferenceIdeal.sig) → Buf (Elt Ideal) ℓ) (g' : Dev Cert.FinalReferenceIdeal.nD → PrngReg), Pre_FinalIdeal m →
    (∀ c : Dev Cert.FinalIdeal.nD,
      m' ((c.tc : Thread Cert.FinalReferenceIdeal.nD Cert.FinalReferenceIdeal.τ).loc Cert.FinalReferenceIdeal.main_arg0) = m ((c.tc : Thread Cert.FinalIdeal.nD Cert.FinalIdeal.τ).loc Cert.FinalIdeal.main_arg0)
      ∧ m' ((c.tc : Thread Cert.FinalReferenceIdeal.nD Cert.FinalReferenceIdeal.τ).loc Cert.FinalReferenceIdeal.main_arg1) = m ((c.tc : Thread Cert.FinalIdeal.nD Cert.FinalIdeal.τ).loc Cert.FinalIdeal.main_arg1)) →
    ∃ (v0 : (c : Dev Cert.FinalIdeal.nD) → Buf (Elt Ideal) ((c.tc : Thread Cert.FinalIdeal.nD Cert.FinalIdeal.τ).loc Cert.FinalIdeal.main_v2)),
      θ_run (Cert.FinalIdeal.defs (F := Ideal)) (onTc (τ := Cert.FinalIdeal.τ) (Cert.FinalIdeal.main (F := Ideal))) ⟨m, fun _ => 0, g⟩ (fun r => ∀ c : Dev Cert.FinalIdeal.nD,
          r.2.mem ((c.tc : Thread Cert.FinalIdeal.nD Cert.FinalIdeal.τ).loc Cert.FinalIdeal.main_v2) = v0 c
          ∧ r.2.mem ((c.tc : Thread Cert.FinalIdeal.nD Cert.FinalIdeal.τ).loc Cert.FinalIdeal.main_arg0) = m ((c.tc : Thread Cert.FinalIdeal.nD Cert.FinalIdeal.τ).loc Cert.FinalIdeal.main_arg0)
          ∧ r.2.mem ((c.tc : Thread Cert.FinalIdeal.nD Cert.FinalIdeal.τ).loc Cert.FinalIdeal.main_arg1) = m ((c.tc : Thread Cert.FinalIdeal.nD Cert.FinalIdeal.τ).loc Cert.FinalIdeal.main_arg1))
      ∧ θ_run (Cert.FinalReferenceIdeal.defs (F := Ideal)) (onTc (τ := Cert.FinalReferenceIdeal.τ) (Cert.FinalReferenceIdeal.main (F := Ideal))) ⟨m', fun _ => 0, g'⟩ (fun r => ∀ c : Dev Cert.FinalReferenceIdeal.nD,
          r.2.mem ((c.tc : Thread Cert.FinalReferenceIdeal.nD Cert.FinalReferenceIdeal.τ).loc Cert.FinalReferenceIdeal.main_v13) = v0 c
          ∧ r.2.mem ((c.tc : Thread Cert.FinalReferenceIdeal.nD Cert.FinalReferenceIdeal.τ).loc Cert.FinalReferenceIdeal.main_arg0) = m' ((c.tc : Thread Cert.FinalReferenceIdeal.nD Cert.FinalReferenceIdeal.τ).loc Cert.FinalReferenceIdeal.main_arg0)
          ∧ r.2.mem ((c.tc : Thread Cert.FinalReferenceIdeal.nD Cert.FinalReferenceIdeal.τ).loc Cert.FinalReferenceIdeal.main_arg1) = m' ((c.tc : Thread Cert.FinalReferenceIdeal.nD Cert.FinalReferenceIdeal.τ).loc Cert.FinalReferenceIdeal.main_arg1))

def preserves_Attention_AttentionIdeal : Prop :=
  True

def algebraic_AttentionIdeal_AttentionReferenceIdeal_pre_finite_scores [hAttentionIdeal : Cert.AttentionIdeal.Facts] [hAttentionReferenceIdeal : Cert.AttentionReferenceIdeal.Facts] [hPre_finite_scores : Cert.Pre_finite_scores.Facts] : Prop :=
  ∀ (m : (ℓ : Loc Cert.AttentionIdeal.nD Cert.AttentionIdeal.τ Cert.AttentionIdeal.sig) → Buf (Elt Ideal) ℓ) (g : Dev Cert.AttentionIdeal.nD → PrngReg)
    (m' : (ℓ : Loc Cert.AttentionReferenceIdeal.nD Cert.AttentionReferenceIdeal.τ Cert.AttentionReferenceIdeal.sig) → Buf (Elt Ideal) ℓ) (g' : Dev Cert.AttentionReferenceIdeal.nD → PrngReg), Pre_AttentionIdeal_finite_scores m →
    (∀ c : Dev Cert.AttentionIdeal.nD,
      m' ((c.tc : Thread Cert.AttentionReferenceIdeal.nD Cert.AttentionReferenceIdeal.τ).loc Cert.AttentionReferenceIdeal.main_arg0) = m ((c.tc : Thread Cert.AttentionIdeal.nD Cert.AttentionIdeal.τ).loc Cert.AttentionIdeal.main_arg0)
      ∧ m' ((c.tc : Thread Cert.AttentionReferenceIdeal.nD Cert.AttentionReferenceIdeal.τ).loc Cert.AttentionReferenceIdeal.main_arg1) = m ((c.tc : Thread Cert.AttentionIdeal.nD Cert.AttentionIdeal.τ).loc Cert.AttentionIdeal.main_arg1)
      ∧ m' ((c.tc : Thread Cert.AttentionReferenceIdeal.nD Cert.AttentionReferenceIdeal.τ).loc Cert.AttentionReferenceIdeal.main_arg2) = m ((c.tc : Thread Cert.AttentionIdeal.nD Cert.AttentionIdeal.τ).loc Cert.AttentionIdeal.main_arg2)
      ∧ m' ((c.tc : Thread Cert.AttentionReferenceIdeal.nD Cert.AttentionReferenceIdeal.τ).loc Cert.AttentionReferenceIdeal.main_arg3) = m ((c.tc : Thread Cert.AttentionIdeal.nD Cert.AttentionIdeal.τ).loc Cert.AttentionIdeal.main_arg3)) →
    ∃ (v0 : (c : Dev Cert.AttentionIdeal.nD) → Buf (Elt Ideal) ((c.tc : Thread Cert.AttentionIdeal.nD Cert.AttentionIdeal.τ).loc Cert.AttentionIdeal.main_v21)),
      θ_run (Cert.AttentionIdeal.defs (F := Ideal)) (onTc (τ := Cert.AttentionIdeal.τ) (Cert.AttentionIdeal.main (F := Ideal))) ⟨m, fun _ => 0, g⟩ (fun r => ∀ c : Dev Cert.AttentionIdeal.nD,
          r.2.mem ((c.tc : Thread Cert.AttentionIdeal.nD Cert.AttentionIdeal.τ).loc Cert.AttentionIdeal.main_v21) = v0 c
          ∧ r.2.mem ((c.tc : Thread Cert.AttentionIdeal.nD Cert.AttentionIdeal.τ).loc Cert.AttentionIdeal.main_arg0) = m ((c.tc : Thread Cert.AttentionIdeal.nD Cert.AttentionIdeal.τ).loc Cert.AttentionIdeal.main_arg0)
          ∧ r.2.mem ((c.tc : Thread Cert.AttentionIdeal.nD Cert.AttentionIdeal.τ).loc Cert.AttentionIdeal.main_arg1) = m ((c.tc : Thread Cert.AttentionIdeal.nD Cert.AttentionIdeal.τ).loc Cert.AttentionIdeal.main_arg1)
          ∧ r.2.mem ((c.tc : Thread Cert.AttentionIdeal.nD Cert.AttentionIdeal.τ).loc Cert.AttentionIdeal.main_arg2) = m ((c.tc : Thread Cert.AttentionIdeal.nD Cert.AttentionIdeal.τ).loc Cert.AttentionIdeal.main_arg2)
          ∧ r.2.mem ((c.tc : Thread Cert.AttentionIdeal.nD Cert.AttentionIdeal.τ).loc Cert.AttentionIdeal.main_arg3) = m ((c.tc : Thread Cert.AttentionIdeal.nD Cert.AttentionIdeal.τ).loc Cert.AttentionIdeal.main_arg3))
      ∧ θ_run (Cert.AttentionReferenceIdeal.defs (F := Ideal)) (onTc (τ := Cert.AttentionReferenceIdeal.τ) (Cert.AttentionReferenceIdeal.main (F := Ideal))) ⟨m', fun _ => 0, g'⟩ (fun r => ∀ c : Dev Cert.AttentionReferenceIdeal.nD,
          r.2.mem ((c.tc : Thread Cert.AttentionReferenceIdeal.nD Cert.AttentionReferenceIdeal.τ).loc Cert.AttentionReferenceIdeal.main_v28) = v0 c
          ∧ r.2.mem ((c.tc : Thread Cert.AttentionReferenceIdeal.nD Cert.AttentionReferenceIdeal.τ).loc Cert.AttentionReferenceIdeal.main_arg0) = m' ((c.tc : Thread Cert.AttentionReferenceIdeal.nD Cert.AttentionReferenceIdeal.τ).loc Cert.AttentionReferenceIdeal.main_arg0)
          ∧ r.2.mem ((c.tc : Thread Cert.AttentionReferenceIdeal.nD Cert.AttentionReferenceIdeal.τ).loc Cert.AttentionReferenceIdeal.main_arg1) = m' ((c.tc : Thread Cert.AttentionReferenceIdeal.nD Cert.AttentionReferenceIdeal.τ).loc Cert.AttentionReferenceIdeal.main_arg1)
          ∧ r.2.mem ((c.tc : Thread Cert.AttentionReferenceIdeal.nD Cert.AttentionReferenceIdeal.τ).loc Cert.AttentionReferenceIdeal.main_arg2) = m' ((c.tc : Thread Cert.AttentionReferenceIdeal.nD Cert.AttentionReferenceIdeal.τ).loc Cert.AttentionReferenceIdeal.main_arg2)
          ∧ r.2.mem ((c.tc : Thread Cert.AttentionReferenceIdeal.nD Cert.AttentionReferenceIdeal.τ).loc Cert.AttentionReferenceIdeal.main_arg3) = m' ((c.tc : Thread Cert.AttentionReferenceIdeal.nD Cert.AttentionReferenceIdeal.τ).loc Cert.AttentionReferenceIdeal.main_arg3))

def preserves_LatentUp_LatentUpIdeal : Prop :=
  True

def algebraic_LatentUpIdeal_LatentUpReferenceIdeal [hLatentUpIdeal : Cert.LatentUpIdeal.Facts] [hLatentUpReferenceIdeal : Cert.LatentUpReferenceIdeal.Facts] : Prop :=
  ∀ (m : (ℓ : Loc Cert.LatentUpIdeal.nD Cert.LatentUpIdeal.τ Cert.LatentUpIdeal.sig) → Buf (Elt Ideal) ℓ) (g : Dev Cert.LatentUpIdeal.nD → PrngReg)
    (m' : (ℓ : Loc Cert.LatentUpReferenceIdeal.nD Cert.LatentUpReferenceIdeal.τ Cert.LatentUpReferenceIdeal.sig) → Buf (Elt Ideal) ℓ) (g' : Dev Cert.LatentUpReferenceIdeal.nD → PrngReg), Pre_LatentUpIdeal m →
    (∀ c : Dev Cert.LatentUpIdeal.nD,
      m' ((c.tc : Thread Cert.LatentUpReferenceIdeal.nD Cert.LatentUpReferenceIdeal.τ).loc Cert.LatentUpReferenceIdeal.main_arg0) = m ((c.tc : Thread Cert.LatentUpIdeal.nD Cert.LatentUpIdeal.τ).loc Cert.LatentUpIdeal.main_arg0)
      ∧ m' ((c.tc : Thread Cert.LatentUpReferenceIdeal.nD Cert.LatentUpReferenceIdeal.τ).loc Cert.LatentUpReferenceIdeal.main_arg1) = m ((c.tc : Thread Cert.LatentUpIdeal.nD Cert.LatentUpIdeal.τ).loc Cert.LatentUpIdeal.main_arg1)
      ∧ m' ((c.tc : Thread Cert.LatentUpReferenceIdeal.nD Cert.LatentUpReferenceIdeal.τ).loc Cert.LatentUpReferenceIdeal.main_arg2) = m ((c.tc : Thread Cert.LatentUpIdeal.nD Cert.LatentUpIdeal.τ).loc Cert.LatentUpIdeal.main_arg2)
      ∧ m' ((c.tc : Thread Cert.LatentUpReferenceIdeal.nD Cert.LatentUpReferenceIdeal.τ).loc Cert.LatentUpReferenceIdeal.main_arg3) = m ((c.tc : Thread Cert.LatentUpIdeal.nD Cert.LatentUpIdeal.τ).loc Cert.LatentUpIdeal.main_arg3)
      ∧ m' ((c.tc : Thread Cert.LatentUpReferenceIdeal.nD Cert.LatentUpReferenceIdeal.τ).loc Cert.LatentUpReferenceIdeal.main_arg4) = m ((c.tc : Thread Cert.LatentUpIdeal.nD Cert.LatentUpIdeal.τ).loc Cert.LatentUpIdeal.main_arg4)
      ∧ m' ((c.tc : Thread Cert.LatentUpReferenceIdeal.nD Cert.LatentUpReferenceIdeal.τ).loc Cert.LatentUpReferenceIdeal.main_arg5) = m ((c.tc : Thread Cert.LatentUpIdeal.nD Cert.LatentUpIdeal.τ).loc Cert.LatentUpIdeal.main_arg5)) →
    ∃ (v0 : (c : Dev Cert.LatentUpIdeal.nD) → Buf (Elt Ideal) ((c.tc : Thread Cert.LatentUpIdeal.nD Cert.LatentUpIdeal.τ).loc Cert.LatentUpIdeal.main_v49_0)) (v1 : (c : Dev Cert.LatentUpIdeal.nD) → Buf (Elt Ideal) ((c.tc : Thread Cert.LatentUpIdeal.nD Cert.LatentUpIdeal.τ).loc Cert.LatentUpIdeal.main_v49_1)) (v2 : (c : Dev Cert.LatentUpIdeal.nD) → Buf (Elt Ideal) ((c.tc : Thread Cert.LatentUpIdeal.nD Cert.LatentUpIdeal.τ).loc Cert.LatentUpIdeal.main_v49_2)),
      θ_run (Cert.LatentUpIdeal.defs (F := Ideal)) (onTc (τ := Cert.LatentUpIdeal.τ) (Cert.LatentUpIdeal.main (F := Ideal))) ⟨m, fun _ => 0, g⟩ (fun r => ∀ c : Dev Cert.LatentUpIdeal.nD,
          r.2.mem ((c.tc : Thread Cert.LatentUpIdeal.nD Cert.LatentUpIdeal.τ).loc Cert.LatentUpIdeal.main_v49_0) = v0 c
          ∧ r.2.mem ((c.tc : Thread Cert.LatentUpIdeal.nD Cert.LatentUpIdeal.τ).loc Cert.LatentUpIdeal.main_v49_1) = v1 c
          ∧ r.2.mem ((c.tc : Thread Cert.LatentUpIdeal.nD Cert.LatentUpIdeal.τ).loc Cert.LatentUpIdeal.main_v49_2) = v2 c
          ∧ r.2.mem ((c.tc : Thread Cert.LatentUpIdeal.nD Cert.LatentUpIdeal.τ).loc Cert.LatentUpIdeal.main_arg0) = m ((c.tc : Thread Cert.LatentUpIdeal.nD Cert.LatentUpIdeal.τ).loc Cert.LatentUpIdeal.main_arg0)
          ∧ r.2.mem ((c.tc : Thread Cert.LatentUpIdeal.nD Cert.LatentUpIdeal.τ).loc Cert.LatentUpIdeal.main_arg1) = m ((c.tc : Thread Cert.LatentUpIdeal.nD Cert.LatentUpIdeal.τ).loc Cert.LatentUpIdeal.main_arg1)
          ∧ r.2.mem ((c.tc : Thread Cert.LatentUpIdeal.nD Cert.LatentUpIdeal.τ).loc Cert.LatentUpIdeal.main_arg2) = m ((c.tc : Thread Cert.LatentUpIdeal.nD Cert.LatentUpIdeal.τ).loc Cert.LatentUpIdeal.main_arg2)
          ∧ r.2.mem ((c.tc : Thread Cert.LatentUpIdeal.nD Cert.LatentUpIdeal.τ).loc Cert.LatentUpIdeal.main_arg3) = m ((c.tc : Thread Cert.LatentUpIdeal.nD Cert.LatentUpIdeal.τ).loc Cert.LatentUpIdeal.main_arg3)
          ∧ r.2.mem ((c.tc : Thread Cert.LatentUpIdeal.nD Cert.LatentUpIdeal.τ).loc Cert.LatentUpIdeal.main_arg4) = m ((c.tc : Thread Cert.LatentUpIdeal.nD Cert.LatentUpIdeal.τ).loc Cert.LatentUpIdeal.main_arg4)
          ∧ r.2.mem ((c.tc : Thread Cert.LatentUpIdeal.nD Cert.LatentUpIdeal.τ).loc Cert.LatentUpIdeal.main_arg5) = m ((c.tc : Thread Cert.LatentUpIdeal.nD Cert.LatentUpIdeal.τ).loc Cert.LatentUpIdeal.main_arg5))
      ∧ θ_run (Cert.LatentUpReferenceIdeal.defs (F := Ideal)) (onTc (τ := Cert.LatentUpReferenceIdeal.τ) (Cert.LatentUpReferenceIdeal.main (F := Ideal))) ⟨m', fun _ => 0, g'⟩ (fun r => ∀ c : Dev Cert.LatentUpReferenceIdeal.nD,
          r.2.mem ((c.tc : Thread Cert.LatentUpReferenceIdeal.nD Cert.LatentUpReferenceIdeal.τ).loc Cert.LatentUpReferenceIdeal.main_v110) = v0 c
          ∧ r.2.mem ((c.tc : Thread Cert.LatentUpReferenceIdeal.nD Cert.LatentUpReferenceIdeal.τ).loc Cert.LatentUpReferenceIdeal.main_v113) = v1 c
          ∧ r.2.mem ((c.tc : Thread Cert.LatentUpReferenceIdeal.nD Cert.LatentUpReferenceIdeal.τ).loc Cert.LatentUpReferenceIdeal.main_v116) = v2 c
          ∧ r.2.mem ((c.tc : Thread Cert.LatentUpReferenceIdeal.nD Cert.LatentUpReferenceIdeal.τ).loc Cert.LatentUpReferenceIdeal.main_arg0) = m' ((c.tc : Thread Cert.LatentUpReferenceIdeal.nD Cert.LatentUpReferenceIdeal.τ).loc Cert.LatentUpReferenceIdeal.main_arg0)
          ∧ r.2.mem ((c.tc : Thread Cert.LatentUpReferenceIdeal.nD Cert.LatentUpReferenceIdeal.τ).loc Cert.LatentUpReferenceIdeal.main_arg1) = m' ((c.tc : Thread Cert.LatentUpReferenceIdeal.nD Cert.LatentUpReferenceIdeal.τ).loc Cert.LatentUpReferenceIdeal.main_arg1)
          ∧ r.2.mem ((c.tc : Thread Cert.LatentUpReferenceIdeal.nD Cert.LatentUpReferenceIdeal.τ).loc Cert.LatentUpReferenceIdeal.main_arg2) = m' ((c.tc : Thread Cert.LatentUpReferenceIdeal.nD Cert.LatentUpReferenceIdeal.τ).loc Cert.LatentUpReferenceIdeal.main_arg2)
          ∧ r.2.mem ((c.tc : Thread Cert.LatentUpReferenceIdeal.nD Cert.LatentUpReferenceIdeal.τ).loc Cert.LatentUpReferenceIdeal.main_arg3) = m' ((c.tc : Thread Cert.LatentUpReferenceIdeal.nD Cert.LatentUpReferenceIdeal.τ).loc Cert.LatentUpReferenceIdeal.main_arg3)
          ∧ r.2.mem ((c.tc : Thread Cert.LatentUpReferenceIdeal.nD Cert.LatentUpReferenceIdeal.τ).loc Cert.LatentUpReferenceIdeal.main_arg4) = m' ((c.tc : Thread Cert.LatentUpReferenceIdeal.nD Cert.LatentUpReferenceIdeal.τ).loc Cert.LatentUpReferenceIdeal.main_arg4)
          ∧ r.2.mem ((c.tc : Thread Cert.LatentUpReferenceIdeal.nD Cert.LatentUpReferenceIdeal.τ).loc Cert.LatentUpReferenceIdeal.main_arg5) = m' ((c.tc : Thread Cert.LatentUpReferenceIdeal.nD Cert.LatentUpReferenceIdeal.τ).loc Cert.LatentUpReferenceIdeal.main_arg5))

def preserves_FfnNorm_FfnNormIdeal : Prop :=
  True

def algebraic_FfnNormIdeal_FfnNormReferenceIdeal [hFfnNormIdeal : Cert.FfnNormIdeal.Facts] [hFfnNormReferenceIdeal : Cert.FfnNormReferenceIdeal.Facts] : Prop :=
  ∀ (m : (ℓ : Loc Cert.FfnNormIdeal.nD Cert.FfnNormIdeal.τ Cert.FfnNormIdeal.sig) → Buf (Elt Ideal) ℓ) (g : Dev Cert.FfnNormIdeal.nD → PrngReg)
    (m' : (ℓ : Loc Cert.FfnNormReferenceIdeal.nD Cert.FfnNormReferenceIdeal.τ Cert.FfnNormReferenceIdeal.sig) → Buf (Elt Ideal) ℓ) (g' : Dev Cert.FfnNormReferenceIdeal.nD → PrngReg), Pre_FfnNormIdeal m →
    (∀ c : Dev Cert.FfnNormIdeal.nD,
      m' ((c.tc : Thread Cert.FfnNormReferenceIdeal.nD Cert.FfnNormReferenceIdeal.τ).loc Cert.FfnNormReferenceIdeal.main_arg0) = m ((c.tc : Thread Cert.FfnNormIdeal.nD Cert.FfnNormIdeal.τ).loc Cert.FfnNormIdeal.main_arg0)
      ∧ m' ((c.tc : Thread Cert.FfnNormReferenceIdeal.nD Cert.FfnNormReferenceIdeal.τ).loc Cert.FfnNormReferenceIdeal.main_arg1) = m ((c.tc : Thread Cert.FfnNormIdeal.nD Cert.FfnNormIdeal.τ).loc Cert.FfnNormIdeal.main_arg1)) →
    ∃ (v0 : (c : Dev Cert.FfnNormIdeal.nD) → Buf (Elt Ideal) ((c.tc : Thread Cert.FfnNormIdeal.nD Cert.FfnNormIdeal.τ).loc Cert.FfnNormIdeal.main_v4)),
      θ_run (Cert.FfnNormIdeal.defs (F := Ideal)) (onTc (τ := Cert.FfnNormIdeal.τ) (Cert.FfnNormIdeal.main (F := Ideal))) ⟨m, fun _ => 0, g⟩ (fun r => ∀ c : Dev Cert.FfnNormIdeal.nD,
          r.2.mem ((c.tc : Thread Cert.FfnNormIdeal.nD Cert.FfnNormIdeal.τ).loc Cert.FfnNormIdeal.main_v4) = v0 c
          ∧ r.2.mem ((c.tc : Thread Cert.FfnNormIdeal.nD Cert.FfnNormIdeal.τ).loc Cert.FfnNormIdeal.main_arg0) = m ((c.tc : Thread Cert.FfnNormIdeal.nD Cert.FfnNormIdeal.τ).loc Cert.FfnNormIdeal.main_arg0)
          ∧ r.2.mem ((c.tc : Thread Cert.FfnNormIdeal.nD Cert.FfnNormIdeal.τ).loc Cert.FfnNormIdeal.main_arg1) = m ((c.tc : Thread Cert.FfnNormIdeal.nD Cert.FfnNormIdeal.τ).loc Cert.FfnNormIdeal.main_arg1))
      ∧ θ_run (Cert.FfnNormReferenceIdeal.defs (F := Ideal)) (onTc (τ := Cert.FfnNormReferenceIdeal.τ) (Cert.FfnNormReferenceIdeal.main (F := Ideal))) ⟨m', fun _ => 0, g'⟩ (fun r => ∀ c : Dev Cert.FfnNormReferenceIdeal.nD,
          r.2.mem ((c.tc : Thread Cert.FfnNormReferenceIdeal.nD Cert.FfnNormReferenceIdeal.τ).loc Cert.FfnNormReferenceIdeal.main_v16) = v0 c
          ∧ r.2.mem ((c.tc : Thread Cert.FfnNormReferenceIdeal.nD Cert.FfnNormReferenceIdeal.τ).loc Cert.FfnNormReferenceIdeal.main_arg0) = m' ((c.tc : Thread Cert.FfnNormReferenceIdeal.nD Cert.FfnNormReferenceIdeal.τ).loc Cert.FfnNormReferenceIdeal.main_arg0)
          ∧ r.2.mem ((c.tc : Thread Cert.FfnNormReferenceIdeal.nD Cert.FfnNormReferenceIdeal.τ).loc Cert.FfnNormReferenceIdeal.main_arg1) = m' ((c.tc : Thread Cert.FfnNormReferenceIdeal.nD Cert.FfnNormReferenceIdeal.τ).loc Cert.FfnNormReferenceIdeal.main_arg1))

def Claim : Prop :=
  ∃ (hKernel : Cert.Kernel.Facts) (hKernelIdeal : Cert.KernelIdeal.Facts) (hReferenceIdeal : Cert.ReferenceIdeal.Facts) (hGateUp : Cert.GateUp.Facts) (hGateUpIdeal : Cert.GateUpIdeal.Facts) (hGateUpReferenceIdeal : Cert.GateUpReferenceIdeal.Facts) (hTail : Cert.Tail.Facts) (hTailIdeal : Cert.TailIdeal.Facts) (hTailReferenceIdeal : Cert.TailReferenceIdeal.Facts) (hDownFirst : Cert.DownFirst.Facts) (hDownFirstIdeal : Cert.DownFirstIdeal.Facts) (hDownFirstReferenceIdeal : Cert.DownFirstReferenceIdeal.Facts) (hDownSecond : Cert.DownSecond.Facts) (hDownSecondIdeal : Cert.DownSecondIdeal.Facts) (hDownSecondReferenceIdeal : Cert.DownSecondReferenceIdeal.Facts) (hInProj : Cert.InProj.Facts) (hInProjIdeal : Cert.InProjIdeal.Facts) (hInProjReferenceIdeal : Cert.InProjReferenceIdeal.Facts) (hOutProj : Cert.OutProj.Facts) (hOutProjIdeal : Cert.OutProjIdeal.Facts) (hOutProjReferenceIdeal : Cert.OutProjReferenceIdeal.Facts) (hFinal : Cert.Final.Facts) (hFinalIdeal : Cert.FinalIdeal.Facts) (hFinalReferenceIdeal : Cert.FinalReferenceIdeal.Facts) (hAttention : Cert.Attention.Facts) (hAttentionIdeal : Cert.AttentionIdeal.Facts) (hAttentionReferenceIdeal : Cert.AttentionReferenceIdeal.Facts) (hLatentUp : Cert.LatentUp.Facts) (hLatentUpIdeal : Cert.LatentUpIdeal.Facts) (hLatentUpReferenceIdeal : Cert.LatentUpReferenceIdeal.Facts) (hFfnNorm : Cert.FfnNorm.Facts) (hFfnNormIdeal : Cert.FfnNormIdeal.Facts) (hFfnNormReferenceIdeal : Cert.FfnNormReferenceIdeal.Facts) (hPre_finite_scores : Cert.Pre_finite_scores.Facts) (hOn_main_columns : Cert.On_main_columns.Facts),
    quiescent_Kernel (hKernel := hKernel)
    ∧ quiescent_KernelIdeal (hKernelIdeal := hKernelIdeal)
    ∧ quiescent_ReferenceIdeal (hReferenceIdeal := hReferenceIdeal)
    ∧ quiescent_GateUp (hGateUp := hGateUp)
    ∧ quiescent_GateUpIdeal (hGateUpIdeal := hGateUpIdeal)
    ∧ quiescent_GateUpReferenceIdeal (hGateUpReferenceIdeal := hGateUpReferenceIdeal)
    ∧ quiescent_Tail (hTail := hTail)
    ∧ quiescent_TailIdeal (hTailIdeal := hTailIdeal)
    ∧ quiescent_TailReferenceIdeal (hTailReferenceIdeal := hTailReferenceIdeal)
    ∧ quiescent_DownFirst (hDownFirst := hDownFirst)
    ∧ quiescent_DownFirstIdeal (hDownFirstIdeal := hDownFirstIdeal)
    ∧ quiescent_DownFirstReferenceIdeal (hDownFirstReferenceIdeal := hDownFirstReferenceIdeal)
    ∧ quiescent_DownSecond (hDownSecond := hDownSecond)
    ∧ quiescent_DownSecondIdeal (hDownSecondIdeal := hDownSecondIdeal)
    ∧ quiescent_DownSecondReferenceIdeal (hDownSecondReferenceIdeal := hDownSecondReferenceIdeal)
    ∧ quiescent_InProj (hInProj := hInProj)
    ∧ quiescent_InProjIdeal (hInProjIdeal := hInProjIdeal)
    ∧ quiescent_InProjReferenceIdeal (hInProjReferenceIdeal := hInProjReferenceIdeal)
    ∧ quiescent_OutProj (hOutProj := hOutProj)
    ∧ quiescent_OutProjIdeal (hOutProjIdeal := hOutProjIdeal)
    ∧ quiescent_OutProjReferenceIdeal (hOutProjReferenceIdeal := hOutProjReferenceIdeal)
    ∧ quiescent_Final (hFinal := hFinal)
    ∧ quiescent_FinalIdeal (hFinalIdeal := hFinalIdeal)
    ∧ quiescent_FinalReferenceIdeal (hFinalReferenceIdeal := hFinalReferenceIdeal)
    ∧ quiescent_Attention (hAttention := hAttention)
    ∧ quiescent_AttentionIdeal (hAttentionIdeal := hAttentionIdeal)
    ∧ quiescent_AttentionIdeal_pre_finite_scores (hAttentionIdeal := hAttentionIdeal) (hPre_finite_scores := hPre_finite_scores)
    ∧ quiescent_AttentionReferenceIdeal (hAttentionReferenceIdeal := hAttentionReferenceIdeal)
    ∧ quiescent_AttentionReferenceIdeal_pre_finite_scores (hAttentionReferenceIdeal := hAttentionReferenceIdeal) (hPre_finite_scores := hPre_finite_scores)
    ∧ quiescent_LatentUp (hLatentUp := hLatentUp)
    ∧ quiescent_LatentUpIdeal (hLatentUpIdeal := hLatentUpIdeal)
    ∧ quiescent_LatentUpReferenceIdeal (hLatentUpReferenceIdeal := hLatentUpReferenceIdeal)
    ∧ quiescent_FfnNorm (hFfnNorm := hFfnNorm)
    ∧ quiescent_FfnNormIdeal (hFfnNormIdeal := hFfnNormIdeal)
    ∧ quiescent_FfnNormReferenceIdeal (hFfnNormReferenceIdeal := hFfnNormReferenceIdeal)
    ∧ preserves_Kernel_KernelIdeal
    ∧ algebraic_KernelIdeal_ReferenceIdeal (hKernelIdeal := hKernelIdeal) (hReferenceIdeal := hReferenceIdeal)
    ∧ preserves_GateUp_GateUpIdeal
    ∧ algebraic_GateUpIdeal_GateUpReferenceIdeal_on_main_columns (hGateUpIdeal := hGateUpIdeal) (hGateUpReferenceIdeal := hGateUpReferenceIdeal) (hOn_main_columns := hOn_main_columns)
    ∧ preserves_Tail_TailIdeal
    ∧ algebraic_TailIdeal_TailReferenceIdeal (hTailIdeal := hTailIdeal) (hTailReferenceIdeal := hTailReferenceIdeal)
    ∧ preserves_DownFirst_DownFirstIdeal
    ∧ algebraic_DownFirstIdeal_DownFirstReferenceIdeal (hDownFirstIdeal := hDownFirstIdeal) (hDownFirstReferenceIdeal := hDownFirstReferenceIdeal)
    ∧ preserves_DownSecond_DownSecondIdeal
    ∧ algebraic_DownSecondIdeal_DownSecondReferenceIdeal (hDownSecondIdeal := hDownSecondIdeal) (hDownSecondReferenceIdeal := hDownSecondReferenceIdeal)
    ∧ preserves_InProj_InProjIdeal
    ∧ algebraic_InProjIdeal_InProjReferenceIdeal (hInProjIdeal := hInProjIdeal) (hInProjReferenceIdeal := hInProjReferenceIdeal)
    ∧ preserves_OutProj_OutProjIdeal
    ∧ algebraic_OutProjIdeal_OutProjReferenceIdeal (hOutProjIdeal := hOutProjIdeal) (hOutProjReferenceIdeal := hOutProjReferenceIdeal)
    ∧ preserves_Final_FinalIdeal
    ∧ algebraic_FinalIdeal_FinalReferenceIdeal (hFinalIdeal := hFinalIdeal) (hFinalReferenceIdeal := hFinalReferenceIdeal)
    ∧ preserves_Attention_AttentionIdeal
    ∧ algebraic_AttentionIdeal_AttentionReferenceIdeal_pre_finite_scores (hAttentionIdeal := hAttentionIdeal) (hAttentionReferenceIdeal := hAttentionReferenceIdeal) (hPre_finite_scores := hPre_finite_scores)
    ∧ preserves_LatentUp_LatentUpIdeal
    ∧ algebraic_LatentUpIdeal_LatentUpReferenceIdeal (hLatentUpIdeal := hLatentUpIdeal) (hLatentUpReferenceIdeal := hLatentUpReferenceIdeal)
    ∧ preserves_FfnNorm_FfnNormIdeal
    ∧ algebraic_FfnNormIdeal_FfnNormReferenceIdeal (hFfnNormIdeal := hFfnNormIdeal) (hFfnNormReferenceIdeal := hFfnNormReferenceIdeal)
-- ==== On_main_columns.lean ====
abbrev S4x4096x4096 : Shape := ⟨3, ![4, 4096, 4096]⟩
abbrev S4x4096x11008 : Shape := ⟨3, ![4, 4096, 11008]⟩
abbrev S16384x11008 : Shape := ⟨2, ![16384, 11008]⟩
abbrev S_ : Shape := ⟨0, ![]⟩

class Facts : Prop where
  bcast_S_S16384x11008 : S_.BroadcastsInDim S16384x11008 (![] : Fin 0 → Fin S16384x11008.rank)

variable [Facts]

def fn {F : FTy → Type} [FloatOps F] (main_arg0 : FVec F S4x4096x4096 .f32) (main_arg1 : FVec F S4x4096x11008 .f32) (main_arg2 : FVec F S4x4096x11008 .f32) : IVec S16384x11008 1 :=
  let main_v0 : IVec S16384x11008 32 := iotaInDim S16384x11008 32 1
  let main_c : IVec S_ 32 := constantI S_ 32 10752#32
  let main_v1 : IVec S16384x11008 32 := broadcastInDim S16384x11008 ![] bcast_S_S16384x11008 main_c
  let main_v2 : IVec S16384x11008 1 := cmpi .slt main_v0 main_v1
  main_v2
-- ==== Pre_finite_scores.lean ====
abbrev S4x8x4096x192 : Shape := ⟨4, ![4, 8, 4096, 192]⟩
abbrev S4x8x4096x128 : Shape := ⟨4, ![4, 8, 4096, 128]⟩
abbrev S1024 : Shape := ⟨1, ![1024]⟩
abbrev S_ : Shape := ⟨0, ![]⟩

class Facts : Prop where
  bcast_S_S4x8x4096x192 : S_.BroadcastsInDim S4x8x4096x192 (![] : Fin 0 → Fin S4x8x4096x192.rank)

variable [Facts]

def fn {F : FTy → Type} [FloatOps F] (main_arg0 : FVec F S4x8x4096x192 .f32) (main_arg1 : FVec F S4x8x4096x192 .f32) (main_arg2 : FVec F S4x8x4096x128 .f32) (main_arg3 : FVec F S1024 .f32) : IVec S4x8x4096x192 1 :=
  let main_v0 : FVec F S4x8x4096x192 .f32 := Host.absf main_arg0
  let main_cst : FVec F S_ .f32 := constant S_ .f32 0x7F800000#32
  let main_v1 : FVec F S4x8x4096x192 .f32 := broadcastInDim S4x8x4096x192 ![] bcast_S_S4x8x4096x192 main_cst
  let main_v2 : IVec S4x8x4096x192 1 := cmpf .olt main_v0 main_v1
  let main_v3 : FVec F S4x8x4096x192 .f32 := Host.absf main_arg1
  let main_cst_0 : FVec F S_ .f32 := constant S_ .f32 0x7F800000#32
  let main_v4 : FVec F S4x8x4096x192 .f32 := broadcastInDim S4x8x4096x192 ![] bcast_S_S4x8x4096x192 main_cst_0
  let main_v5 : IVec S4x8x4096x192 1 := cmpf .olt main_v3 main_v4
  let main_v6 : IVec S4x8x4096x192 1 := andi main_v2 main_v5
  main_v6
-- ==== Kernel.lean ====
abbrev S16384x10752 : Shape := ⟨2, ![16384, 10752]⟩
abbrev S4x4096 : Shape := ⟨2, ![4, 4096]⟩
abbrev S1024 : Shape := ⟨1, ![1024]⟩
abbrev S64 : Shape := ⟨1, ![64]⟩
abbrev S_ : Shape := ⟨0, ![]⟩
abbrev S16384x1 : Shape := ⟨2, ![16384, 1]⟩
abbrev S128 : Shape := ⟨1, ![128]⟩
abbrev S1x128 : Shape := ⟨2, ![1, 128]⟩
abbrev S16384x128 : Shape := ⟨2, ![16384, 128]⟩
abbrev S4 : Shape := ⟨1, ![4]⟩
abbrev S4x1x1 : Shape := ⟨3, ![4, 1, 1]⟩
abbrev S4x8x128 : Shape := ⟨3, ![4, 8, 128]⟩
abbrev S4x4096x10752 : Shape := ⟨3, ![4, 4096, 10752]⟩
abbrev S4x4096x128 : Shape := ⟨3, ![4, 4096, 128]⟩
abbrev S1x1024 : Shape := ⟨2, ![1, 1024]⟩
abbrev S4x4096x1024 : Shape := ⟨3, ![4, 4096, 1024]⟩
abbrev S2x128x512 : Shape := ⟨3, ![2, 128, 512]⟩
abbrev S2x128x1024 : Shape := ⟨3, ![2, 128, 1024]⟩
abbrev S2x128x128 : Shape := ⟨3, ![2, 128, 128]⟩
abbrev S8x128x256 : Shape := ⟨3, ![8, 128, 256]⟩
abbrev S128x128 : Shape := ⟨2, ![128, 128]⟩
abbrev S128x1 : Shape := ⟨2, ![128, 1]⟩
abbrev S1x128x128 : Shape := ⟨3, ![1, 128, 128]⟩
abbrev S1x1x1 : Shape := ⟨3, ![1, 1, 1]⟩
abbrev S1x1 : Shape := ⟨2, ![1, 1]⟩
abbrev S1x128x256 : Shape := ⟨3, ![1, 128, 256]⟩
abbrev S128x256 : Shape := ⟨2, ![128, 256]⟩
abbrev S1x256 : Shape := ⟨2, ![1, 256]⟩

abbrev nBuf : Space → Nat
  | .hbm => 52
  | .vmem => 17
  | .smem => 0
  | _ => 0

abbrev bufTy : (tb : Table) → Fin (tcTables nBuf tb) → BufTy
  | .hbm, ⟨0, _⟩ => ⟨S16384x10752, .f32⟩
  | .hbm, ⟨1, _⟩ => ⟨S4x4096, .i32⟩
  | .hbm, ⟨2, _⟩ => ⟨S1024, .f32⟩
  | .hbm, ⟨3, _⟩ => ⟨S64, .f32⟩
  | .hbm, ⟨4, _⟩ => ⟨S_, .f32⟩
  | .hbm, ⟨5, _⟩ => ⟨S64, .f32⟩
  | .hbm, ⟨6, _⟩ => ⟨S64, .f32⟩
  | .hbm, ⟨7, _⟩ => ⟨S_, .f32⟩
  | .hbm, ⟨8, _⟩ => ⟨S64, .f32⟩
  | .hbm, ⟨9, _⟩ => ⟨S64, .f32⟩
  | .hbm, ⟨10, _⟩ => ⟨S64, .f32⟩
  | .hbm, ⟨11, _⟩ => ⟨S_, .f32⟩
  | .hbm, ⟨12, _⟩ => ⟨S64, .f32⟩
  | .hbm, ⟨13, _⟩ => ⟨S64, .f32⟩
  | .hbm, ⟨14, _⟩ => ⟨S_, .f32⟩
  | .hbm, ⟨15, _⟩ => ⟨S64, .f32⟩
  | .hbm, ⟨16, _⟩ => ⟨S64, .f32⟩
  | .hbm, ⟨17, _⟩ => ⟨S16384x1, .i32⟩
  | .hbm, ⟨18, _⟩ => ⟨S16384x1, .f32⟩
  | .hbm, ⟨19, _⟩ => ⟨S128, .f32⟩
  | .hbm, ⟨20, _⟩ => ⟨S1x128, .f32⟩
  | .hbm, ⟨21, _⟩ => ⟨S16384x128, .f32⟩
  | .hbm, ⟨22, _⟩ => ⟨S16384x128, .f32⟩
  | .hbm, ⟨23, _⟩ => ⟨S16384x128, .f32⟩
  | .hbm, ⟨24, _⟩ => ⟨S_, .f32⟩
  | .hbm, ⟨25, _⟩ => ⟨S64, .f32⟩
  | .hbm, ⟨26, _⟩ => ⟨S64, .f32⟩
  | .hbm, ⟨27, _⟩ => ⟨S_, .f32⟩
  | .hbm, ⟨28, _⟩ => ⟨S64, .f32⟩
  | .hbm, ⟨29, _⟩ => ⟨S128, .f32⟩
  | .hbm, ⟨30, _⟩ => ⟨S16384x128, .f32⟩
  | .hbm, ⟨31, _⟩ => ⟨S16384x128, .f32⟩
  | .hbm, ⟨32, _⟩ => ⟨S1x128, .f32⟩
  | .hbm, ⟨33, _⟩ => ⟨S16384x128, .f32⟩
  | .hbm, ⟨34, _⟩ => ⟨S16384x128, .f32⟩
  | .hbm, ⟨35, _⟩ => ⟨S4, .f32⟩
  | .hbm, ⟨36, _⟩ => ⟨S_, .f32⟩
  | .hbm, ⟨37, _⟩ => ⟨S4, .f32⟩
  | .hbm, ⟨38, _⟩ => ⟨S4, .f32⟩
  | .hbm, ⟨39, _⟩ => ⟨S_, .f32⟩
  | .hbm, ⟨40, _⟩ => ⟨S4, .f32⟩
  | .hbm, ⟨41, _⟩ => ⟨S4, .f32⟩
  | .hbm, ⟨42, _⟩ => ⟨S4, .f32⟩
  | .hbm, ⟨43, _⟩ => ⟨S4, .f32⟩
  | .hbm, ⟨44, _⟩ => ⟨S4, .f32⟩
  | .hbm, ⟨45, _⟩ => ⟨S4x1x1, .f32⟩
  | .hbm, ⟨46, _⟩ => ⟨S4x8x128, .f32⟩
  | .hbm, ⟨47, _⟩ => ⟨S4x4096x10752, .f32⟩
  | .hbm, ⟨48, _⟩ => ⟨S4x4096x128, .f32⟩
  | .hbm, ⟨49, _⟩ => ⟨S4x4096x128, .f32⟩
  | .hbm, ⟨50, _⟩ => ⟨S1x1024, .f32⟩
  | .hbm, ⟨51, _⟩ => ⟨S4x4096x1024, .bf16⟩
  | .local _ .vmem, ⟨0, _⟩ => ⟨S2x128x512, .f32⟩
  | .local _ .vmem, ⟨1, _⟩ => ⟨S2x128x512, .f32⟩
  | .local _ .vmem, ⟨2, _⟩ => ⟨S2x128x512, .f32⟩
  | .local _ .vmem, ⟨3, _⟩ => ⟨S2x128x512, .f32⟩
  | .local _ .vmem, ⟨4, _⟩ => ⟨S2x128x1024, .f32⟩
  | .local _ .vmem, ⟨5, _⟩ => ⟨S2x128x1024, .f32⟩
  | .local _ .vmem, ⟨6, _⟩ => ⟨S2x128x1024, .f32⟩
  | .local _ .vmem, ⟨7, _⟩ => ⟨S2x128x1024, .f32⟩
  | .local _ .vmem, ⟨8, _⟩ => ⟨S2x128x128, .f32⟩
  | .local _ .vmem, ⟨9, _⟩ => ⟨S2x128x128, .f32⟩
  | .local _ .vmem, ⟨10, _⟩ => ⟨S2x128x128, .f32⟩
  | .local _ .vmem, ⟨11, _⟩ => ⟨S2x128x128, .f32⟩
  | .local _ .vmem, ⟨12, _⟩ => ⟨S4x8x128, .f32⟩
  | .local _ .vmem, ⟨13, _⟩ => ⟨S1x1024, .f32⟩
  | .local _ .vmem, ⟨14, _⟩ => ⟨S2x128x1024, .bf16⟩
  | .local _ .vmem, ⟨15, _⟩ => ⟨S2x128x1024, .bf16⟩
  | .local _ .vmem, ⟨16, _⟩ => ⟨S8x128x256, .f32⟩
  | _, _ => ⟨S16384x10752, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst_1 : Ref sig .tc := ⟨.hbm, 11, rfl⟩
abbrev main_v6 : Ref sig .tc := ⟨.hbm, 12, rfl⟩
abbrev main_v7 : Ref sig .tc := ⟨.hbm, 13, rfl⟩
abbrev main_cst_2 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_cst_3 : Ref sig .tc := ⟨.hbm, 24, rfl⟩
abbrev main_v17 : Ref sig .tc := ⟨.hbm, 25, rfl⟩
abbrev main_v18 : Ref sig .tc := ⟨.hbm, 26, rfl⟩
abbrev main_cst_4 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_cst_5 : Ref sig .tc := ⟨.hbm, 36, rfl⟩
abbrev main_v27 : Ref sig .tc := ⟨.hbm, 37, rfl⟩
abbrev main_v28 : Ref sig .tc := ⟨.hbm, 38, rfl⟩
abbrev main_cst_6 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg8_1 : Ref sig .tc := ⟨.vmem, 15, rfl⟩
abbrev cc0_scratch0 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem8_0 : DmaSem sig := 14
abbrev cc0_sem8_1 : DmaSem sig := 15

abbrev nD : Nat := 1
abbrev τ : Topo := Topo.v7x

variable {F : FTy → Type} [FloatOps F]

abbrev grid0 : Pipeline.Grid := ⟨2, ![2, 32], ![false, false]⟩

def cc0_transform_0 (i : grid0.Coords) : Fin 3 → Nat :=
  let arg0 : BitVec 32 := BitVec.ofNat 32 (i 0).val
  let arg1 : BitVec 32 := BitVec.ofNat 32 (i 1).val
  let c6_i32 : BitVec 32 := 6#32
  let c0_i32 : BitVec 32 := 0#32
  ![arg0.toNat, arg1.toNat, c6_i32.toNat]

def cc0_transform_1 (i : grid0.Coords) : Fin 3 → Nat :=
  let arg0 : BitVec 32 := BitVec.ofNat 32 (i 0).val
  let arg1 : BitVec 32 := BitVec.ofNat 32 (i 1).val
  let c7_i32 : BitVec 32 := 7#32
  let c0_i32 : BitVec 32 := 0#32
  ![arg0.toNat, arg1.toNat, c7_i32.toNat]

def cc0_transform_2 (i : grid0.Coords) : Fin 3 → Nat :=
  let arg0 : BitVec 32 := BitVec.ofNat 32 (i 0).val
  let arg1 : BitVec 32 := BitVec.ofNat 32 (i 1).val
  let c4_i32 : BitVec 32 := 4#32
  let c0_i32 : BitVec 32 := 0#32
  ![arg0.toNat, arg1.toNat, c4_i32.toNat]

def cc0_transform_3 (i : grid0.Coords) : Fin 3 → Nat :=
  let arg0 : BitVec 32 := BitVec.ofNat 32 (i 0).val
  let arg1 : BitVec 32 := BitVec.ofNat 32 (i 1).val
  let c5_i32 : BitVec 32 := 5#32
  let c0_i32 : BitVec 32 := 0#32
  ![arg0.toNat, arg1.toNat, c5_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S2x128x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2x128x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S2x128x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S2x128x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S2x128x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S2x128x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 1 → Memref sig .tc .vmem S4x8x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 2 → Memref sig .tc .vmem S2x128x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== ReferenceIdeal.lean ====
abbrev S16384x10752 : Shape := ⟨2, ![16384, 10752]⟩
abbrev S4x4096 : Shape := ⟨2, ![4, 4096]⟩
abbrev S1024 : Shape := ⟨1, ![1024]⟩
abbrev S4x4096x10752 : Shape := ⟨3, ![4, 4096, 10752]⟩
abbrev S4x4096x512 : Shape := ⟨3, ![4, 4096, 512]⟩
abbrev S4x4096x4x128 : Shape := ⟨4, ![4, 4096, 4, 128]⟩
abbrev S4x4096x1024 : Shape := ⟨3, ![4, 4096, 1024]⟩
abbrev S4x4096x4x256 : Shape := ⟨4, ![4, 4096, 4, 256]⟩
abbrev S4x4x4096x256 : Shape := ⟨4, ![4, 4, 4096, 256]⟩
abbrev S64 : Shape := ⟨1, ![64]⟩
abbrev S_ : Shape := ⟨0, ![]⟩
abbrev S4x4096x1 : Shape := ⟨3, ![4, 4096, 1]⟩
abbrev S1x1x64 : Shape := ⟨3, ![1, 1, 64]⟩
abbrev S4x4096x64 : Shape := ⟨3, ![4, 4096, 64]⟩
abbrev S4x4096x1x64 : Shape := ⟨4, ![4, 4096, 1, 64]⟩
abbrev S4x4096x4x64 : Shape := ⟨4, ![4, 4096, 4, 64]⟩
abbrev S4x4x4096x128 : Shape := ⟨4, ![4, 4, 4096, 128]⟩
abbrev S4 : Shape := ⟨1, ![4]⟩
abbrev S128 : Shape := ⟨1, ![128]⟩
abbrev S128x1 : Shape := ⟨2, ![128, 1]⟩
abbrev S1x128 : Shape := ⟨2, ![1, 128]⟩
abbrev S128x128 : Shape := ⟨2, ![128, 128]⟩
abbrev S4x1x1 : Shape := ⟨3, ![4, 1, 1]⟩
abbrev S1x128x128 : Shape := ⟨3, ![1, 128, 128]⟩
abbrev S4x128x128 : Shape := ⟨3, ![4, 128, 128]⟩
abbrev S4x1 : Shape := ⟨2, ![4, 1]⟩
abbrev S4x128 : Shape := ⟨2, ![4, 128]⟩
abbrev S4x128x1 : Shape := ⟨3, ![4, 128, 1]⟩
abbrev S4x4x128x256 : Shape := ⟨4, ![4, 4, 128, 256]⟩
abbrev S4x4x32x128x128 : Shape := ⟨5, ![4, 4, 32, 128, 128]⟩
abbrev S32x4x4x128x128 : Shape := ⟨5, ![32, 4, 4, 128, 128]⟩
abbrev S4x4x32x128x256 : Shape := ⟨5, ![4, 4, 32, 128, 256]⟩
abbrev S32x4x4x128x256 : Shape := ⟨5, ![32, 4, 4, 128, 256]⟩
abbrev S1x4x4x128x128 : Shape := ⟨5, ![1, 4, 4, 128, 128]⟩
abbrev S4x4x128x128 : Shape := ⟨4, ![4, 4, 128, 128]⟩
abbrev S1x4x4x128x256 : Shape := ⟨5, ![1, 4, 4, 128, 256]⟩
abbrev S1x4x128x128 : Shape := ⟨4, ![1, 4, 128, 128]⟩
abbrev S1x4x128x1 : Shape := ⟨4, ![1, 4, 128, 1]⟩
abbrev S1x4x1x1 : Shape := ⟨4, ![1, 4, 1, 1]⟩
abbrev S4x4x4096 : Shape := ⟨3, ![4, 4, 4096]⟩
abbrev S4x4x4096x1 : Shape := ⟨4, ![4, 4, 4096, 1]⟩
abbrev S1x1x1024 : Shape := ⟨3, ![1, 1, 1024]⟩

abbrev nBuf : Space → Nat
  | .hbm => 256
  | .vmem => 0
  | .smem => 0
  | _ => 0

abbrev hbmTy0_0 (i : Nat) : BufTy := match i % 128 with
  | 0 => ⟨S16384x10752, .f32⟩
  | 1 => ⟨S4x4096, .i32⟩
  | 2 => ⟨S1024, .f32⟩
  | 3 => ⟨S4x4096x10752, .f32⟩
  | 4 => ⟨S4x4096x512, .f32⟩
  | 5 => ⟨S4x4096x4x128, .f32⟩
  | 6 => ⟨S4x4096x512, .f32⟩
  | 7 => ⟨S4x4096x4x128, .f32⟩
  | 8 => ⟨S4x4096x1024, .f32⟩
  | 9 => ⟨S4x4096x4x256, .f32⟩
  | 10 => ⟨S4x4x4096x256, .f32⟩
  | 11 => ⟨S64, .f32⟩
  | 12 => ⟨S_, .f32⟩
  | 13 => ⟨S64, .f32⟩
  | 14 => ⟨S64, .f32⟩
  | 15 => ⟨S_, .f32⟩
  | 16 => ⟨S64, .f32⟩
  | 17 => ⟨S64, .f32⟩
  | 18 => ⟨S64, .f32⟩
  | 19 => ⟨S_, .f32⟩
  | 20 => ⟨S64, .f32⟩
  | 21 => ⟨S64, .f32⟩
  | 22 => ⟨S_, .f32⟩
  | 23 => ⟨S64, .f32⟩
  | 24 => ⟨S64, .f32⟩
  | 25 => ⟨S4x4096, .f32⟩
  | 26 => ⟨S4x4096x1, .f32⟩
  | 27 => ⟨S1x1x64, .f32⟩
  | 28 => ⟨S4x4096x64, .f32⟩
  | 29 => ⟨S4x4096x64, .f32⟩
  | 30 => ⟨S4x4096x64, .f32⟩
  | 31 => ⟨S4x4096x64, .f32⟩
  | 32 => ⟨S4x4096x1x64, .f32⟩
  | 33 => ⟨S4x4096x64, .f32⟩
  | 34 => ⟨S4x4096x1x64, .f32⟩
  | 35 => ⟨S4x4096x4x64, .f32⟩
  | 36 => ⟨S4x4096x4x64, .f32⟩
  | 37 => ⟨S4x4096x4x64, .f32⟩
  | 38 => ⟨S4x4096x4x64, .f32⟩
  | 39 => ⟨S4x4096x4x64, .f32⟩
  | 40 => ⟨S4x4096x4x64, .f32⟩
  | 41 => ⟨S4x4096x4x64, .f32⟩
  | 42 => ⟨S4x4096x4x64, .f32⟩
  | 43 => ⟨S4x4096x4x64, .f32⟩
  | 44 => ⟨S4x4096x4x64, .f32⟩
  | 45 => ⟨S4x4096x4x64, .f32⟩
  | 46 => ⟨S4x4096x4x64, .f32⟩
  | 47 => ⟨S4x4096x4x128, .f32⟩
  | 48 => ⟨S4x4x4096x128, .f32⟩
  | 49 => ⟨S64, .f32⟩
  | 50 => ⟨S_, .f32⟩
  | 51 => ⟨S64, .f32⟩
  | 52 => ⟨S64, .f32⟩
  | 53 => ⟨S_, .f32⟩
  | 54 => ⟨S64, .f32⟩
  | 55 => ⟨S64, .f32⟩
  | 56 => ⟨S64, .f32⟩
  | 57 => ⟨S_, .f32⟩
  | 58 => ⟨S64, .f32⟩
  | 59 => ⟨S64, .f32⟩
  | 60 => ⟨S_, .f32⟩
  | 61 => ⟨S64, .f32⟩
  | 62 => ⟨S64, .f32⟩
  | 63 => ⟨S4x4096, .f32⟩
  | 64 => ⟨S4x4096x1, .f32⟩
  | 65 => ⟨S1x1x64, .f32⟩
  | 66 => ⟨S4x4096x64, .f32⟩
  | 67 => ⟨S4x4096x64, .f32⟩
  | 68 => ⟨S4x4096x64, .f32⟩
  | 69 => ⟨S4x4096x64, .f32⟩
  | 70 => ⟨S4x4096x1x64, .f32⟩
  | 71 => ⟨S4x4096x64, .f32⟩
  | 72 => ⟨S4x4096x1x64, .f32⟩
  | 73 => ⟨S4x4096x4x64, .f32⟩
  | 74 => ⟨S4x4096x4x64, .f32⟩
  | 75 => ⟨S4x4096x4x64, .f32⟩
  | 76 => ⟨S4x4096x4x64, .f32⟩
  | 77 => ⟨S4x4096x4x64, .f32⟩
  | 78 => ⟨S4x4096x4x64, .f32⟩
  | 79 => ⟨S4x4096x4x64, .f32⟩
  | 80 => ⟨S4x4096x4x64, .f32⟩
  | 81 => ⟨S4x4096x4x64, .f32⟩
  | 82 => ⟨S4x4096x4x64, .f32⟩
  | 83 => ⟨S4x4096x4x64, .f32⟩
  | 84 => ⟨S4x4096x4x64, .f32⟩
  | 85 => ⟨S4x4096x4x128, .f32⟩
  | 86 => ⟨S_, .f32⟩
  | 87 => ⟨S4x4096x4x128, .f32⟩
  | 88 => ⟨S4x4096x4x128, .f32⟩
  | 89 => ⟨S4x4x4096x128, .f32⟩
  | 90 => ⟨S4, .f32⟩
  | 91 => ⟨S_, .f32⟩
  | 92 => ⟨S4, .f32⟩
  | 93 => ⟨S4, .f32⟩
  | 94 => ⟨S_, .f32⟩
  | 95 => ⟨S4, .f32⟩
  | 96 => ⟨S4, .f32⟩
  | 97 => ⟨S4, .f32⟩
  | 98 => ⟨S4, .f32⟩
  | 99 => ⟨S4, .f32⟩
  | 100 => ⟨S128, .f32⟩
  | 101 => ⟨S128x1, .f32⟩
  | 102 => ⟨S1x128, .f32⟩
  | 103 => ⟨S128x128, .f32⟩
  | 104 => ⟨S128x128, .f32⟩
  | 105 => ⟨S128x128, .f32⟩
  | 106 => ⟨S_, .f32⟩
  | 107 => ⟨S128x128, .f32⟩
  | 108 => ⟨S128x128, .i1⟩
  | 109 => ⟨S4x1x1, .f32⟩
  | 110 => ⟨S_, .f32⟩
  | 111 => ⟨S128x128, .f32⟩
  | 112 => ⟨S128x128, .f32⟩
  | 113 => ⟨S1x128x128, .f32⟩
  | 114 => ⟨S4x128x128, .f32⟩
  | 115 => ⟨S4x128x128, .f32⟩
  | 116 => ⟨S4x128x128, .f32⟩
  | 117 => ⟨S4x128x128, .f32⟩
  | 118 => ⟨S_, .f32⟩
  | 119 => ⟨S_, .f32⟩
  | 120 => ⟨S4x128x128, .i1⟩
  | 121 => ⟨S4x128x128, .f32⟩
  | 122 => ⟨S4x128x128, .f32⟩
  | 123 => ⟨S4x1, .f32⟩
  | 124 => ⟨S_, .f32⟩
  | 125 => ⟨S128, .f32⟩
  | 126 => ⟨S128, .f32⟩
  | 127 => ⟨S1x128, .f32⟩
  | _ => ⟨S16384x10752, .f32⟩

abbrev hbmTy0_1 (i : Nat) : BufTy := match i % 128 with
  | 0 => ⟨S4x128, .f32⟩
  | 1 => ⟨S4x128, .f32⟩
  | 2 => ⟨S4x128, .f32⟩
  | 3 => ⟨S4x128, .f32⟩
  | 4 => ⟨S4x128x1, .f32⟩
  | 5 => ⟨S4x1, .f32⟩
  | 6 => ⟨S_, .f32⟩
  | 7 => ⟨S128, .f32⟩
  | 8 => ⟨S128, .f32⟩
  | 9 => ⟨S1x128, .f32⟩
  | 10 => ⟨S4x128, .f32⟩
  | 11 => ⟨S4x128, .f32⟩
  | 12 => ⟨S4x128, .f32⟩
  | 13 => ⟨S4x128, .f32⟩
  | 14 => ⟨S4x128x1, .f32⟩
  | 15 => ⟨S_, .f32⟩
  | 16 => ⟨S4, .f32⟩
  | 17 => ⟨S4, .f32⟩
  | 18 => ⟨S4, .f32⟩
  | 19 => ⟨S4x1x1, .f32⟩
  | 20 => ⟨S_, .f32⟩
  | 21 => ⟨S4x4x128x256, .f32⟩
  | 22 => ⟨S4x4x32x128x128, .f32⟩
  | 23 => ⟨S32x4x4x128x128, .f32⟩
  | 24 => ⟨S4x4x32x128x128, .f32⟩
  | 25 => ⟨S32x4x4x128x128, .f32⟩
  | 26 => ⟨S4x4x32x128x256, .f32⟩
  | 27 => ⟨S32x4x4x128x256, .f32⟩
  | 28 => ⟨S_, .f32⟩
  | 29 => ⟨S32x4x4x128x256, .f32⟩
  | 30 => ⟨S_, .i32⟩
  | 31 => ⟨S32x4x4x128x128, .f32⟩
  | 32 => ⟨S32x4x4x128x128, .f32⟩
  | 33 => ⟨S32x4x4x128x256, .f32⟩
  | 34 => ⟨S4x128x128, .f32⟩
  | 35 => ⟨S4x128x1, .f32⟩
  | 36 => ⟨S4x1x1, .f32⟩
  | 37 => ⟨S4x128x1, .f32⟩
  | 38 => ⟨S_, .i32⟩
  | 39 => ⟨S4x4x128x256, .f32⟩
  | 40 => ⟨S32x4x4x128x256, .f32⟩
  | 41 => ⟨S_, .i32⟩
  | 42 => ⟨S_, .i1⟩
  | 43 => ⟨S_, .i32⟩
  | 44 => ⟨S_, .i32⟩
  | 45 => ⟨S_, .i32⟩
  | 46 => ⟨S_, .i32⟩
  | 47 => ⟨S1x4x4x128x128, .f32⟩
  | 48 => ⟨S4x4x128x128, .f32⟩
  | 49 => ⟨S_, .i32⟩
  | 50 => ⟨S_, .i32⟩
  | 51 => ⟨S_, .i32⟩
  | 52 => ⟨S_, .i32⟩
  | 53 => ⟨S1x4x4x128x128, .f32⟩
  | 54 => ⟨S4x4x128x128, .f32⟩
  | 55 => ⟨S_, .i32⟩
  | 56 => ⟨S_, .i32⟩
  | 57 => ⟨S_, .i32⟩
  | 58 => ⟨S_, .i32⟩
  | 59 => ⟨S1x4x4x128x256, .f32⟩
  | 60 => ⟨S4x4x128x256, .f32⟩
  | 61 => ⟨S4x4x128x128, .f32⟩
  | 62 => ⟨S1x4x128x128, .f32⟩
  | 63 => ⟨S4x4x128x128, .f32⟩
  | 64 => ⟨S4x4x128x128, .f32⟩
  | 65 => ⟨S4x4x128x256, .f32⟩
  | 66 => ⟨S1x4x128x1, .f32⟩
  | 67 => ⟨S4x4x128x128, .f32⟩
  | 68 => ⟨S4x4x128x128, .f32⟩
  | 69 => ⟨S4x4x128x256, .f32⟩
  | 70 => ⟨S4x4x128x256, .f32⟩
  | 71 => ⟨S1x4x1x1, .f32⟩
  | 72 => ⟨S4x4x128x256, .f32⟩
  | 73 => ⟨S4x4x128x256, .f32⟩
  | 74 => ⟨S1x4x128x1, .f32⟩
  | 75 => ⟨S4x4x128x128, .f32⟩
  | 76 => ⟨S4x4x128x128, .f32⟩
  | 77 => ⟨S4x4x128x256, .f32⟩
  | 78 => ⟨S4x4x128x256, .f32⟩
  | 79 => ⟨S1x4x4x128x256, .f32⟩
  | 80 => ⟨S_, .i32⟩
  | 81 => ⟨S_, .i32⟩
  | 82 => ⟨S_, .i32⟩
  | 83 => ⟨S_, .i32⟩
  | 84 => ⟨S32x4x4x128x256, .f32⟩
  | 85 => ⟨S_, .i32⟩
  | 86 => ⟨S_, .i32⟩
  | 87 => ⟨S4x4x32x128x256, .f32⟩
  | 88 => ⟨S4x4x4096x256, .f32⟩
  | 89 => ⟨S_, .f32⟩
  | 90 => ⟨S4x4x4096, .f32⟩
  | 91 => ⟨S4x4x4096x1, .f32⟩
  | 92 => ⟨S_, .f32⟩
  | 93 => ⟨S4x4x4096x1, .f32⟩
  | 94 => ⟨S4x4x4096x1, .f32⟩
  | 95 => ⟨S4x4x4096x256, .f32⟩
  | 96 => ⟨S4x4x4096x256, .f32⟩
  | 97 => ⟨S4x4x4096x256, .f32⟩
  | 98 => ⟨S_, .f32⟩
  | 99 => ⟨S4x4x4096, .f32⟩
  | 100 => ⟨S4x4x4096x1, .f32⟩
  | 101 => ⟨S_, .f32⟩
  | 102 => ⟨S4x4x4096x1, .f32⟩
  | 103 => ⟨S4x4x4096x1, .f32⟩
  | 104 => ⟨S_, .f32⟩
  | 105 => ⟨S4x4x4096x1, .f32⟩
  | 106 => ⟨S4x4x4096x1, .f32⟩
  | 107 => ⟨S4x4x4096x1, .f32⟩
  | 108 => ⟨S4x4x4096x256, .f32⟩
  | 109 => ⟨S4x4x4096x256, .f32⟩
  | 110 => ⟨S4x4096x4x256, .f32⟩
  | 111 => ⟨S4x4096x1024, .f32⟩
  | 112 => ⟨S4x4096x10752, .f32⟩
  | 113 => ⟨S4x4096x1024, .f32⟩
  | 114 => ⟨S4x4096x1024, .f32⟩
  | 115 => ⟨S4x4096x1024, .f32⟩
  | 116 => ⟨S_, .f32⟩
  | 117 => ⟨S4x4096x1024, .f32⟩
  | 118 => ⟨S4x4096x1024, .f32⟩
  | 119 => ⟨S_, .f32⟩
  | 120 => ⟨S4x4096x1024, .f32⟩
  | 121 => ⟨S4x4096x1024, .f32⟩
  | 122 => ⟨S4x4096x1024, .f32⟩
  | 123 => ⟨S4x4096x1024, .f32⟩
  | 124 => ⟨S1x1x1024, .f32⟩
  | 125 => ⟨S4x4096x1024, .f32⟩
  | 126 => ⟨S4x4096x1024, .f32⟩
  | 127 => ⟨S4x4096x1024, .bf16⟩
  | _ => ⟨S16384x10752, .f32⟩

abbrev hbmTy (i : Nat) : BufTy := match i / 128 with
  | 0 => hbmTy0_0 i
  | 1 => hbmTy0_1 i
  | _ => ⟨S16384x10752, .f32⟩

abbrev bufTy : (tb : Table) → Fin (tcTables nBuf tb) → BufTy
  | .hbm, ⟨i, _⟩ => hbmTy i
  | _, _ => ⟨S16384x10752, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_cst : Ref sig .tc := ⟨.hbm, 12, rfl⟩
abbrev main_v9 : Ref sig .tc := ⟨.hbm, 13, rfl⟩
abbrev main_v10 : Ref sig .tc := ⟨.hbm, 14, rfl⟩
abbrev main_cst_0 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_cst_1 : Ref sig .tc := ⟨.hbm, 19, rfl⟩
abbrev main_v14 : Ref sig .tc := ⟨.hbm, 20, rfl⟩
abbrev main_v15 : Ref sig .tc := ⟨.hbm, 21, rfl⟩
abbrev main_cst_2 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_v33 : Ref sig .tc := ⟨.hbm, 40, rfl⟩
abbrev main_v34 : Ref sig .tc := ⟨.hbm, 41, rfl⟩
abbrev main_v35 : Ref sig .tc := ⟨.hbm, 42, rfl⟩
abbrev main_v36 : Ref sig .tc := ⟨.hbm, 43, rfl⟩
abbrev main_v37 : Ref sig .tc := ⟨.hbm, 44, rfl⟩
abbrev main_v38 : Ref sig .tc := ⟨.hbm, 45, rfl⟩
abbrev main_v39 : Ref sig .tc := ⟨.hbm, 46, rfl⟩
abbrev main_v40 : Ref sig .tc := ⟨.hbm, 47, rfl⟩
abbrev main_v41 : Ref sig .tc := ⟨.hbm, 48, rfl⟩
abbrev main_v42 : Ref sig .tc := ⟨.hbm, 49, rfl⟩
abbrev main_cst_3 : Ref sig .tc := ⟨.hbm, 50, rfl⟩
abbrev main_v43 : Ref sig .tc := ⟨.hbm, 51, rfl⟩
abbrev main_v44 : Ref sig .tc := ⟨.hbm, 52, rfl⟩
abbrev main_cst_4 : Ref sig .tc := ⟨.hbm, 53, rfl⟩
abbrev main_v45 : Ref sig .tc := ⟨.hbm, 54, rfl⟩
abbrev main_v46 : Ref sig .tc := ⟨.hbm, 55, rfl⟩
abbrev main_v47 : Ref sig .tc := ⟨.hbm, 56, rfl⟩
abbrev main_cst_5 : Ref sig .tc := ⟨.hbm, 57, rfl⟩
abbrev main_v48 : Ref sig .tc := ⟨.hbm, 58, rfl⟩
abbrev main_v49 : Ref sig .tc := ⟨.hbm, 59, rfl⟩
abbrev main_cst_6 : Ref sig .tc := ⟨.hbm, 60, rfl⟩
abbrev main_v50 : Ref sig .tc := ⟨.hbm, 61, rfl⟩
abbrev main_v51 : Ref sig .tc := ⟨.hbm, 62, rfl⟩
abbrev main_v52 : Ref sig .tc := ⟨.hbm, 63, rfl⟩
abbrev main_v53 : Ref sig .tc := ⟨.hbm, 64, rfl⟩
abbrev main_v54 : Ref sig .tc := ⟨.hbm, 65, rfl⟩
abbrev main_v55 : Ref sig .tc := ⟨.hbm, 66, rfl⟩
abbrev main_v56 : Ref sig .tc := ⟨.hbm, 67, rfl⟩
abbrev main_v57 : Ref sig .tc := ⟨.hbm, 68, rfl⟩
abbrev main_v58 : Ref sig .tc := ⟨.hbm, 69, rfl⟩
abbrev main_v59 : Ref sig .tc := ⟨.hbm, 70, rfl⟩
abbrev main_v60 : Ref sig .tc := ⟨.hbm, 71, rfl⟩
abbrev main_v61 : Ref sig .tc := ⟨.hbm, 72, rfl⟩
abbrev main_v62 : Ref sig .tc := ⟨.hbm, 73, rfl⟩
abbrev main_v63 : Ref sig .tc := ⟨.hbm, 74, rfl⟩
abbrev main_v64 : Ref sig .tc := ⟨.hbm, 75, rfl⟩
abbrev main_v65 : Ref sig .tc := ⟨.hbm, 76, rfl⟩
abbrev main_v66 : Ref sig .tc := ⟨.hbm, 77, rfl⟩
abbrev main_v67 : Ref sig .tc := ⟨.hbm, 78, rfl⟩
abbrev main_v68 : Ref sig .tc := ⟨.hbm, 79, rfl⟩
abbrev main_v69 : Ref sig .tc := ⟨.hbm, 80, rfl⟩
abbrev main_v70 : Ref sig .tc := ⟨.hbm, 81, rfl⟩
abbrev main_v71 : Ref sig .tc := ⟨.hbm, 82, rfl⟩
abbrev main_v72 : Ref sig .tc := ⟨.hbm, 83, rfl⟩
abbrev main_v73 : Ref sig .tc := ⟨.hbm, 84, rfl⟩
abbrev main_v74 : Ref sig .tc := ⟨.hbm, 85, rfl⟩
abbrev main_cst_7 : Ref sig .tc := ⟨.hbm, 86, rfl⟩
abbrev main_v75 : Ref sig .tc := ⟨.hbm, 87, rfl⟩
abbrev main_v76 : Ref sig .tc := ⟨.hbm, 88, rfl⟩
abbrev main_v77 : Ref sig .tc := ⟨.hbm, 89, rfl⟩
abbrev main_v78 : Ref sig .tc := ⟨.hbm, 90, rfl⟩
abbrev main_cst_8 : Ref sig .tc := ⟨.hbm, 91, rfl⟩
abbrev main_v79 : Ref sig .tc := ⟨.hbm, 92, rfl⟩
abbrev main_v80 : Ref sig .tc := ⟨.hbm, 93, rfl⟩
abbrev main_cst_9 : Ref sig .tc := ⟨.hbm, 94, rfl⟩
abbrev main_v81 : Ref sig .tc := ⟨.hbm, 95, rfl⟩
abbrev main_v82 : Ref sig .tc := ⟨.hbm, 96, rfl⟩
abbrev main_v83 : Ref sig .tc := ⟨.hbm, 97, rfl⟩
abbrev main_v84 : Ref sig .tc := ⟨.hbm, 98, rfl⟩
abbrev main_v85 : Ref sig .tc := ⟨.hbm, 99, rfl⟩
abbrev main_v86 : Ref sig .tc := ⟨.hbm, 100, rfl⟩
abbrev main_v87 : Ref sig .tc := ⟨.hbm, 101, rfl⟩
abbrev main_v88 : Ref sig .tc := ⟨.hbm, 102, rfl⟩
abbrev main_v89 : Ref sig .tc := ⟨.hbm, 103, rfl⟩
abbrev main_v90 : Ref sig .tc := ⟨.hbm, 104, rfl⟩
abbrev main_v91 : Ref sig .tc := ⟨.hbm, 105, rfl⟩
abbrev main_cst_10 : Ref sig .tc := ⟨.hbm, 106, rfl⟩
abbrev main_v92 : Ref sig .tc := ⟨.hbm, 107, rfl⟩
abbrev main_v93 : Ref sig .tc := ⟨.hbm, 108, rfl⟩
abbrev main_v94 : Ref sig .tc := ⟨.hbm, 109, rfl⟩
abbrev main_cst_11 : Ref sig .tc := ⟨.hbm, 110, rfl⟩
abbrev main_v95 : Ref sig .tc := ⟨.hbm, 111, rfl⟩
abbrev main_v96 : Ref sig .tc := ⟨.hbm, 112, rfl⟩
abbrev main_v97 : Ref sig .tc := ⟨.hbm, 113, rfl⟩
abbrev main_v98 : Ref sig .tc := ⟨.hbm, 114, rfl⟩
abbrev main_v99 : Ref sig .tc := ⟨.hbm, 115, rfl⟩
abbrev main_v100 : Ref sig .tc := ⟨.hbm, 116, rfl⟩
abbrev main_v101 : Ref sig .tc := ⟨.hbm, 117, rfl⟩
abbrev main_cst_12 : Ref sig .tc := ⟨.hbm, 118, rfl⟩
abbrev main_call0_v0 : Ref sig .tc := ⟨.hbm, 119, rfl⟩
abbrev main_call0_v1 : Ref sig .tc := ⟨.hbm, 120, rfl⟩
abbrev main_call0_v2 : Ref sig .tc := ⟨.hbm, 121, rfl⟩
abbrev main_v102 : Ref sig .tc := ⟨.hbm, 122, rfl⟩
abbrev main_v103 : Ref sig .tc := ⟨.hbm, 123, rfl⟩
abbrev main_cst_13 : Ref sig .tc := ⟨.hbm, 124, rfl⟩
abbrev main_v104 : Ref sig .tc := ⟨.hbm, 125, rfl⟩
abbrev main_v105 : Ref sig .tc := ⟨.hbm, 126, rfl⟩
abbrev main_v106 : Ref sig .tc := ⟨.hbm, 127, rfl⟩
abbrev main_v107 : Ref sig .tc := ⟨.hbm, 128, rfl⟩
abbrev main_v108 : Ref sig .tc := ⟨.hbm, 129, rfl⟩
abbrev main_v109 : Ref sig .tc := ⟨.hbm, 130, rfl⟩
abbrev main_v110 : Ref sig .tc := ⟨.hbm, 131, rfl⟩
abbrev main_v111 : Ref sig .tc := ⟨.hbm, 132, rfl⟩
abbrev main_v112 : Ref sig .tc := ⟨.hbm, 133, rfl⟩
abbrev main_cst_14 : Ref sig .tc := ⟨.hbm, 134, rfl⟩
abbrev main_v113 : Ref sig .tc := ⟨.hbm, 135, rfl⟩
abbrev main_v114 : Ref sig .tc := ⟨.hbm, 136, rfl⟩
abbrev main_v115 : Ref sig .tc := ⟨.hbm, 137, rfl⟩
abbrev main_v116 : Ref sig .tc := ⟨.hbm, 138, rfl⟩
abbrev main_v117 : Ref sig .tc := ⟨.hbm, 139, rfl⟩
abbrev main_v118 : Ref sig .tc := ⟨.hbm, 140, rfl⟩
abbrev main_v119 : Ref sig .tc := ⟨.hbm, 141, rfl⟩
abbrev main_v120 : Ref sig .tc := ⟨.hbm, 142, rfl⟩
abbrev main_cst_15 : Ref sig .tc := ⟨.hbm, 143, rfl⟩
abbrev main_v121 : Ref sig .tc := ⟨.hbm, 144, rfl⟩
abbrev main_v122 : Ref sig .tc := ⟨.hbm, 145, rfl⟩
abbrev main_v123 : Ref sig .tc := ⟨.hbm, 146, rfl⟩
abbrev main_v124 : Ref sig .tc := ⟨.hbm, 147, rfl⟩
abbrev main_cst_16 : Ref sig .tc := ⟨.hbm, 148, rfl⟩
abbrev main_v125 : Ref sig .tc := ⟨.hbm, 149, rfl⟩
abbrev main_v126 : Ref sig .tc := ⟨.hbm, 150, rfl⟩
abbrev main_v127 : Ref sig .tc := ⟨.hbm, 151, rfl⟩
abbrev main_v128 : Ref sig .tc := ⟨.hbm, 152, rfl⟩
abbrev main_v129 : Ref sig .tc := ⟨.hbm, 153, rfl⟩
abbrev main_v130 : Ref sig .tc := ⟨.hbm, 154, rfl⟩
abbrev main_v131 : Ref sig .tc := ⟨.hbm, 155, rfl⟩
abbrev main_cst_17 : Ref sig .tc := ⟨.hbm, 156, rfl⟩
abbrev main_v132 : Ref sig .tc := ⟨.hbm, 157, rfl⟩
abbrev main_c : Ref sig .tc := ⟨.hbm, 158, rfl⟩
abbrev main_v133_0 : Ref sig .tc := ⟨.hbm, 159, rfl⟩
abbrev main_v133_1 : Ref sig .tc := ⟨.hbm, 160, rfl⟩
abbrev main_v133_2 : Ref sig .tc := ⟨.hbm, 161, rfl⟩
abbrev main_v133_3 : Ref sig .tc := ⟨.hbm, 162, rfl⟩
abbrev main_v133_4 : Ref sig .tc := ⟨.hbm, 163, rfl⟩
abbrev main_v133_5 : Ref sig .tc := ⟨.hbm, 164, rfl⟩
abbrev main_v133_6 : Ref sig .tc := ⟨.hbm, 165, rfl⟩
abbrev main_v133_7 : Ref sig .tc := ⟨.hbm, 166, rfl⟩
abbrev main_v133_8 : Ref sig .tc := ⟨.hbm, 167, rfl⟩
abbrev main_v133_9 : Ref sig .tc := ⟨.hbm, 168, rfl⟩
abbrev main_while0c_c_32 : Ref sig .tc := ⟨.hbm, 169, rfl⟩
abbrev main_while0c_v162 : Ref sig .tc := ⟨.hbm, 170, rfl⟩
abbrev main_while0b_call1_c : Ref sig .tc := ⟨.hbm, 171, rfl⟩
abbrev main_while0b_call1_c_0 : Ref sig .tc := ⟨.hbm, 172, rfl⟩
abbrev main_while0b_call1_c_1 : Ref sig .tc := ⟨.hbm, 173, rfl⟩
abbrev main_while0b_call1_c_2 : Ref sig .tc := ⟨.hbm, 174, rfl⟩
abbrev main_while0b_call1_v0 : Ref sig .tc := ⟨.hbm, 175, rfl⟩
abbrev main_while0b_v162 : Ref sig .tc := ⟨.hbm, 176, rfl⟩
abbrev main_while0b_call2_c : Ref sig .tc := ⟨.hbm, 177, rfl⟩
abbrev main_while0b_call2_c_0 : Ref sig .tc := ⟨.hbm, 178, rfl⟩
abbrev main_while0b_call2_c_1 : Ref sig .tc := ⟨.hbm, 179, rfl⟩
abbrev main_while0b_call2_c_2 : Ref sig .tc := ⟨.hbm, 180, rfl⟩
abbrev main_while0b_call2_v0 : Ref sig .tc := ⟨.hbm, 181, rfl⟩
abbrev main_while0b_v163 : Ref sig .tc := ⟨.hbm, 182, rfl⟩
abbrev main_while0b_call3_c : Ref sig .tc := ⟨.hbm, 183, rfl⟩
abbrev main_while0b_call3_c_0 : Ref sig .tc := ⟨.hbm, 184, rfl⟩
abbrev main_while0b_call3_c_1 : Ref sig .tc := ⟨.hbm, 185, rfl⟩
abbrev main_while0b_call3_c_2 : Ref sig .tc := ⟨.hbm, 186, rfl⟩
abbrev main_while0b_call3_v0 : Ref sig .tc := ⟨.hbm, 187, rfl⟩
abbrev main_while0b_v164 : Ref sig .tc := ⟨.hbm, 188, rfl⟩
abbrev main_while0b_v165 : Ref sig .tc := ⟨.hbm, 189, rfl⟩
abbrev main_while0b_v166 : Ref sig .tc := ⟨.hbm, 190, rfl⟩
abbrev main_while0b_v167 : Ref sig .tc := ⟨.hbm, 191, rfl⟩
abbrev main_while0b_v168 : Ref sig .tc := ⟨.hbm, 192, rfl⟩
abbrev main_while0b_v169 : Ref sig .tc := ⟨.hbm, 193, rfl⟩
abbrev main_while0b_v170 : Ref sig .tc := ⟨.hbm, 194, rfl⟩
abbrev main_while0b_v171 : Ref sig .tc := ⟨.hbm, 195, rfl⟩
abbrev main_while0b_v172 : Ref sig .tc := ⟨.hbm, 196, rfl⟩
abbrev main_while0b_v173 : Ref sig .tc := ⟨.hbm, 197, rfl⟩
abbrev main_while0b_v174 : Ref sig .tc := ⟨.hbm, 198, rfl⟩
abbrev main_while0b_v175 : Ref sig .tc := ⟨.hbm, 199, rfl⟩
abbrev main_while0b_v176 : Ref sig .tc := ⟨.hbm, 200, rfl⟩
abbrev main_while0b_v177 : Ref sig .tc := ⟨.hbm, 201, rfl⟩
abbrev main_while0b_v178 : Ref sig .tc := ⟨.hbm, 202, rfl⟩
abbrev main_while0b_v179 : Ref sig .tc := ⟨.hbm, 203, rfl⟩
abbrev main_while0b_v180 : Ref sig .tc := ⟨.hbm, 204, rfl⟩
abbrev main_while0b_v181 : Ref sig .tc := ⟨.hbm, 205, rfl⟩
abbrev main_while0b_v182 : Ref sig .tc := ⟨.hbm, 206, rfl⟩
abbrev main_while0b_call4_v0 : Ref sig .tc := ⟨.hbm, 207, rfl⟩
abbrev main_while0b_call4_c : Ref sig .tc := ⟨.hbm, 208, rfl⟩
abbrev main_while0b_call4_c_0 : Ref sig .tc := ⟨.hbm, 209, rfl⟩
abbrev main_while0b_call4_c_1 : Ref sig .tc := ⟨.hbm, 210, rfl⟩
abbrev main_while0b_call4_c_2 : Ref sig .tc := ⟨.hbm, 211, rfl⟩
abbrev main_while0b_v183 : Ref sig .tc := ⟨.hbm, 212, rfl⟩
abbrev main_while0b_c_32 : Ref sig .tc := ⟨.hbm, 213, rfl⟩
abbrev main_while0b_v184 : Ref sig .tc := ⟨.hbm, 214, rfl⟩
abbrev main_v134 : Ref sig .tc := ⟨.hbm, 215, rfl⟩
abbrev main_v135 : Ref sig .tc := ⟨.hbm, 216, rfl⟩
abbrev main_cst_18 : Ref sig .tc := ⟨.hbm, 217, rfl⟩
abbrev main_v136 : Ref sig .tc := ⟨.hbm, 218, rfl⟩
abbrev main_v137 : Ref sig .tc := ⟨.hbm, 219, rfl⟩
abbrev main_cst_19 : Ref sig .tc := ⟨.hbm, 220, rfl⟩
abbrev main_v138 : Ref sig .tc := ⟨.hbm, 221, rfl⟩
abbrev main_v139 : Ref sig .tc := ⟨.hbm, 222, rfl⟩
abbrev main_v140 : Ref sig .tc := ⟨.hbm, 223, rfl⟩
abbrev main_v141 : Ref sig .tc := ⟨.hbm, 224, rfl⟩
abbrev main_v142 : Ref sig .tc := ⟨.hbm, 225, rfl⟩
abbrev main_cst_20 : Ref sig .tc := ⟨.hbm, 226, rfl⟩
abbrev main_v143 : Ref sig .tc := ⟨.hbm, 227, rfl⟩
abbrev main_v144 : Ref sig .tc := ⟨.hbm, 228, rfl⟩
abbrev main_cst_21 : Ref sig .tc := ⟨.hbm, 229, rfl⟩
abbrev main_v145 : Ref sig .tc := ⟨.hbm, 230, rfl⟩
abbrev main_v146 : Ref sig .tc := ⟨.hbm, 231, rfl⟩
abbrev main_cst_22 : Ref sig .tc := ⟨.hbm, 232, rfl⟩
abbrev main_v147 : Ref sig .tc := ⟨.hbm, 233, rfl⟩
abbrev main_v148 : Ref sig .tc := ⟨.hbm, 234, rfl⟩
abbrev main_v149 : Ref sig .tc := ⟨.hbm, 235, rfl⟩
abbrev main_v150 : Ref sig .tc := ⟨.hbm, 236, rfl⟩
abbrev main_v151 : Ref sig .tc := ⟨.hbm, 237, rfl⟩
abbrev main_v152 : Ref sig .tc := ⟨.hbm, 238, rfl⟩
abbrev main_v153 : Ref sig .tc := ⟨.hbm, 239, rfl⟩
abbrev main_v154 : Ref sig .tc := ⟨.hbm, 240, rfl⟩
abbrev main_v155 : Ref sig .tc := ⟨.hbm, 241, rfl⟩
abbrev main_call5_v0 : Ref sig .tc := ⟨.hbm, 242, rfl⟩
abbrev main_call5_v1 : Ref sig .tc := ⟨.hbm, 243, rfl⟩
abbrev main_call5_cst : Ref sig .tc := ⟨.hbm, 244, rfl⟩
abbrev main_call5_v2 : Ref sig .tc := ⟨.hbm, 245, rfl⟩
abbrev main_call5_v3 : Ref sig .tc := ⟨.hbm, 246, rfl⟩
abbrev main_call5_cst_0 : Ref sig .tc := ⟨.hbm, 247, rfl⟩
abbrev main_call5_v4 : Ref sig .tc := ⟨.hbm, 248, rfl⟩
abbrev main_call5_v5 : Ref sig .tc := ⟨.hbm, 249, rfl⟩
abbrev main_v156 : Ref sig .tc := ⟨.hbm, 250, rfl⟩
abbrev main_v157 : Ref sig .tc := ⟨.hbm, 251, rfl⟩
abbrev main_v158 : Ref sig .tc := ⟨.hbm, 252, rfl⟩
abbrev main_v159 : Ref sig .tc := ⟨.hbm, 253, rfl⟩
abbrev main_v160 : Ref sig .tc := ⟨.hbm, 254, rfl⟩
abbrev main_v161 : Ref sig .tc := ⟨.hbm, 255, rfl⟩

abbrev nD : Nat := 1
abbrev τ : Topo := Topo.v7x

variable {F : FTy → Type} [FloatOps F]

abbrev main_while0_count : Scf.Loop 32 := ⟨0#32, 32#32, 1#32⟩
-- ==== GateUp.lean ====
abbrev S4x4096x4096 : Shape := ⟨3, ![4, 4096, 4096]⟩
abbrev S4x4096x11008 : Shape := ⟨3, ![4, 4096, 11008]⟩
abbrev S16384x4096 : Shape := ⟨2, ![16384, 4096]⟩
abbrev S16384x11008 : Shape := ⟨2, ![16384, 11008]⟩
abbrev S1024x4096 : Shape := ⟨2, ![1024, 4096]⟩
abbrev S1x4096x512 : Shape := ⟨3, ![1, 4096, 512]⟩
abbrev S1024x512 : Shape := ⟨2, ![1024, 512]⟩
abbrev S4096x512 : Shape := ⟨2, ![4096, 512]⟩

abbrev nBuf : Space → Nat
  | .hbm => 8
  | .vmem => 8
  | .smem => 0
  | _ => 0

abbrev bufTy : (tb : Table) → Fin (tcTables nBuf tb) → BufTy
  | .hbm, ⟨0, _⟩ => ⟨S4x4096x4096, .f32⟩
  | .hbm, ⟨1, _⟩ => ⟨S4x4096x11008, .f32⟩
  | .hbm, ⟨2, _⟩ => ⟨S4x4096x11008, .f32⟩
  | .hbm, ⟨3, _⟩ => ⟨S16384x4096, .f32⟩
  | .hbm, ⟨4, _⟩ => ⟨S16384x4096, .bf16⟩
  | .hbm, ⟨5, _⟩ => ⟨S4x4096x11008, .bf16⟩
  | .hbm, ⟨6, _⟩ => ⟨S4x4096x11008, .bf16⟩
  | .hbm, ⟨7, _⟩ => ⟨S16384x11008, .bf16⟩
  | .local _ .vmem, ⟨0, _⟩ => ⟨S1024x4096, .bf16⟩
  | .local _ .vmem, ⟨1, _⟩ => ⟨S1024x4096, .bf16⟩
  | .local _ .vmem, ⟨2, _⟩ => ⟨S1x4096x512, .bf16⟩
  | .local _ .vmem, ⟨3, _⟩ => ⟨S1x4096x512, .bf16⟩
  | .local _ .vmem, ⟨4, _⟩ => ⟨S1x4096x512, .bf16⟩
  | .local _ .vmem, ⟨5, _⟩ => ⟨S1x4096x512, .bf16⟩
  | .local _ .vmem, ⟨6, _⟩ => ⟨S1024x512, .bf16⟩
  | .local _ .vmem, ⟨7, _⟩ => ⟨S1024x512, .bf16⟩
  | _, _ => ⟨S4x4096x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![16, 21], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x4096x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x4096x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== GateUpReferenceIdeal.lean ====
abbrev S4x4096x4096 : Shape := ⟨3, ![4, 4096, 4096]⟩
abbrev S4x4096x11008 : Shape := ⟨3, ![4, 4096, 11008]⟩
abbrev S1x4096x11008 : Shape := ⟨3, ![1, 4096, 11008]⟩
abbrev S4096x11008 : Shape := ⟨2, ![4096, 11008]⟩
abbrev S_ : Shape := ⟨0, ![]⟩
abbrev S16384x11008 : Shape := ⟨2, ![16384, 11008]⟩

abbrev nBuf : Space → Nat
  | .hbm => 21
  | .vmem => 0
  | .smem => 0
  | _ => 0

abbrev bufTy : (tb : Table) → Fin (tcTables nBuf tb) → BufTy
  | .hbm, ⟨0, _⟩ => ⟨S4x4096x4096, .f32⟩
  | .hbm, ⟨1, _⟩ => ⟨S4x4096x11008, .f32⟩
  | .hbm, ⟨2, _⟩ => ⟨S4x4096x11008, .f32⟩
  | .hbm, ⟨3, _⟩ => ⟨S1x4096x11008, .f32⟩
  | .hbm, ⟨4, _⟩ => ⟨S4096x11008, .f32⟩
  | .hbm, ⟨5, _⟩ => ⟨S4x4096x11008, .f32⟩
  | .hbm, ⟨6, _⟩ => ⟨S4x4096x11008, .f32⟩
  | .hbm, ⟨7, _⟩ => ⟨S4x4096x11008, .f32⟩
  | .hbm, ⟨8, _⟩ => ⟨S_, .f32⟩
  | .hbm, ⟨9, _⟩ => ⟨S4x4096x11008, .f32⟩
  | .hbm, ⟨10, _⟩ => ⟨S4x4096x11008, .f32⟩
  | .hbm, ⟨11, _⟩ => ⟨S_, .f32⟩
  | .hbm, ⟨12, _⟩ => ⟨S4x4096x11008, .f32⟩
  | .hbm, ⟨13, _⟩ => ⟨S4x4096x11008, .f32⟩
  | .hbm, ⟨14, _⟩ => ⟨S4x4096x11008, .f32⟩
  | .hbm, ⟨15, _⟩ => ⟨S1x4096x11008, .f32⟩
  | .hbm, ⟨16, _⟩ => ⟨S4096x11008, .f32⟩
  | .hbm, ⟨17, _⟩ => ⟨S4x4096x11008, .f32⟩
  | .hbm, ⟨18, _⟩ => ⟨S4x4096x11008, .f32⟩
  | .hbm, ⟨19, _⟩ => ⟨S16384x11008, .f32⟩
  | .hbm, ⟨20, _⟩ => ⟨S16384x11008, .bf16⟩
  | _, _ => ⟨S4x4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_call0_v0 : Ref sig .tc := ⟨.hbm, 6, rfl⟩
abbrev main_call0_v1 : Ref sig .tc := ⟨.hbm, 7, rfl⟩
abbrev main_call0_cst : Ref sig .tc := ⟨.hbm, 8, rfl⟩
abbrev main_call0_v2 : Ref sig .tc := ⟨.hbm, 9, rfl⟩
abbrev main_call0_v3 : Ref sig .tc := ⟨.hbm, 10, rfl⟩
abbrev main_call0_cst_0 : Ref sig .tc := ⟨.hbm, 11, rfl⟩
abbrev main_call0_v4 : Ref sig .tc := ⟨.hbm, 12, rfl⟩
abbrev main_call0_v5 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩

abbrev nD : Nat := 1
abbrev τ : Topo := Topo.v7x

variable {F : FTy → Type} [FloatOps F]
-- ==== Tail.lean ====
abbrev S4x4096x4096 : Shape := ⟨3, ![4, 4096, 4096]⟩
abbrev S4x4096x11008 : Shape := ⟨3, ![4, 4096, 11008]⟩
abbrev S16384x11008 : Shape := ⟨2, ![16384, 11008]⟩
abbrev S16384x4096 : Shape := ⟨2, ![16384, 4096]⟩
abbrev S2048x4096 : Shape := ⟨2, ![2048, 4096]⟩
abbrev S1x4096x256 : Shape := ⟨3, ![1, 4096, 256]⟩
abbrev S2048x256 : Shape := ⟨2, ![2048, 256]⟩
abbrev S4096x256 : Shape := ⟨2, ![4096, 256]⟩

abbrev nBuf : Space → Nat
  | .hbm => 10
  | .vmem => 6
  | .smem => 0
  | _ => 0

abbrev bufTy : (tb : Table) → Fin (tcTables nBuf tb) → BufTy
  | .hbm, ⟨0, _⟩ => ⟨S4x4096x4096, .f32⟩
  | .hbm, ⟨1, _⟩ => ⟨S4x4096x11008, .f32⟩
  | .hbm, ⟨2, _⟩ => ⟨S4x4096x11008, .f32⟩
  | .hbm, ⟨3, _⟩ => ⟨S16384x11008, .f32⟩
  | .hbm, ⟨4, _⟩ => ⟨S16384x4096, .f32⟩
  | .hbm, ⟨5, _⟩ => ⟨S16384x4096, .bf16⟩
  | .hbm, ⟨6, _⟩ => ⟨S4x4096x11008, .bf16⟩
  | .hbm, ⟨7, _⟩ => ⟨S4x4096x11008, .bf16⟩
  | .hbm, ⟨8, _⟩ => ⟨S16384x11008, .bf16⟩
  | .hbm, ⟨9, _⟩ => ⟨S16384x11008, .bf16⟩
  | .local _ .vmem, ⟨0, _⟩ => ⟨S2048x4096, .bf16⟩
  | .local _ .vmem, ⟨1, _⟩ => ⟨S2048x4096, .bf16⟩
  | .local _ .vmem, ⟨2, _⟩ => ⟨S1x4096x256, .bf16⟩
  | .local _ .vmem, ⟨3, _⟩ => ⟨S1x4096x256, .bf16⟩
  | .local _ .vmem, ⟨4, _⟩ => ⟨S2048x256, .bf16⟩
  | .local _ .vmem, ⟨5, _⟩ => ⟨S2048x256, .bf16⟩
  | _, _ => ⟨S4x4096x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c42_i32 : BitVec 32 := 42#32
  let c0_i32_1 : BitVec 32 := 0#32
  ![c0_i32.toNat, c0_i32_0.toNat, c42_i32.toNat]

def cc0_transform_2 (i : grid0.Coords) : Fin 3 → Nat :=
  let arg0 : BitVec 32 := BitVec.ofNat 32 (i 0).val
  let c0_i32 : BitVec 32 := 0#32
  let c0_i32_0 : BitVec 32 := 0#32
  let c42_i32 : BitVec 32 := 42#32
  let c0_i32_1 : BitVec 32 := 0#32
  ![c0_i32.toNat, c0_i32_0.toNat, c42_i32.toNat]

def cc0_transform_4 (i : grid0.Coords) : Fin 2 → Nat :=
  let arg0 : BitVec 32 := BitVec.ofNat 32 (i 0).val
  let c42_i32 : BitVec 32 := 42#32
  let c0_i32 : BitVec 32 := 0#32
  ![arg0.toNat, c42_i32.toNat]

abbrev stage0_0 : Fin 2 → Memref sig .tc .vmem S2048x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x4096x256 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x4096x256 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S2048x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== TailReferenceIdeal.lean ====
abbrev S4x4096x4096 : Shape := ⟨3, ![4, 4096, 4096]⟩
abbrev S4x4096x11008 : Shape := ⟨3, ![4, 4096, 11008]⟩
abbrev S16384x11008 : Shape := ⟨2, ![16384, 11008]⟩
abbrev S1x4096x11008 : Shape := ⟨3, ![1, 4096, 11008]⟩
abbrev S4096x11008 : Shape := ⟨2, ![4096, 11008]⟩
abbrev S_ : Shape := ⟨0, ![]⟩
abbrev S16384x256 : Shape := ⟨2, ![16384, 256]⟩
abbrev S16384x10752 : Shape := ⟨2, ![16384, 10752]⟩

abbrev nBuf : Space → Nat
  | .hbm => 25
  | .vmem => 0
  | .smem => 0
  | _ => 0

abbrev bufTy : (tb : Table) → Fin (tcTables nBuf tb) → BufTy
  | .hbm, ⟨0, _⟩ => ⟨S4x4096x4096, .f32⟩
  | .hbm, ⟨1, _⟩ => ⟨S4x4096x11008, .f32⟩
  | .hbm, ⟨2, _⟩ => ⟨S4x4096x11008, .f32⟩
  | .hbm, ⟨3, _⟩ => ⟨S16384x11008, .f32⟩
  | .hbm, ⟨4, _⟩ => ⟨S1x4096x11008, .f32⟩
  | .hbm, ⟨5, _⟩ => ⟨S4096x11008, .f32⟩
  | .hbm, ⟨6, _⟩ => ⟨S4x4096x11008, .f32⟩
  | .hbm, ⟨7, _⟩ => ⟨S4x4096x11008, .f32⟩
  | .hbm, ⟨8, _⟩ => ⟨S4x4096x11008, .f32⟩
  | .hbm, ⟨9, _⟩ => ⟨S_, .f32⟩
  | .hbm, ⟨10, _⟩ => ⟨S4x4096x11008, .f32⟩
  | .hbm, ⟨11, _⟩ => ⟨S4x4096x11008, .f32⟩
  | .hbm, ⟨12, _⟩ => ⟨S_, .f32⟩
  | .hbm, ⟨13, _⟩ => ⟨S4x4096x11008, .f32⟩
  | .hbm, ⟨14, _⟩ => ⟨S4x4096x11008, .f32⟩
  | .hbm, ⟨15, _⟩ => ⟨S4x4096x11008, .f32⟩
  | .hbm, ⟨16, _⟩ => ⟨S1x4096x11008, .f32⟩
  | .hbm, ⟨17, _⟩ => ⟨S4096x11008, .f32⟩
  | .hbm, ⟨18, _⟩ => ⟨S4x4096x11008, .f32⟩
  | .hbm, ⟨19, _⟩ => ⟨S4x4096x11008, .f32⟩
  | .hbm, ⟨20, _⟩ => ⟨S16384x11008, .f32⟩
  | .hbm, ⟨21, _⟩ => ⟨S16384x256, .f32⟩
  | .hbm, ⟨22, _⟩ => ⟨S16384x10752, .f32⟩
  | .hbm, ⟨23, _⟩ => ⟨S16384x11008, .f32⟩
  | .hbm, ⟨24, _⟩ => ⟨S16384x11008, .bf16⟩
  | _, _ => ⟨S4x4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_call0_v0 : Ref sig .tc := ⟨.hbm, 7, rfl⟩
abbrev main_call0_v1 : Ref sig .tc := ⟨.hbm, 8, rfl⟩
abbrev main_call0_cst : Ref sig .tc := ⟨.hbm, 9, rfl⟩
abbrev main_call0_v2 : Ref sig .tc := ⟨.hbm, 10, rfl⟩
abbrev main_call0_v3 : Ref sig .tc := ⟨.hbm, 11, rfl⟩
abbrev main_call0_cst_0 : Ref sig .tc := ⟨.hbm, 12, rfl⟩
abbrev main_call0_v4 : Ref sig .tc := ⟨.hbm, 13, rfl⟩
abbrev main_call0_v5 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩

abbrev nD : Nat := 1
abbrev τ : Topo := Topo.v7x

variable {F : FTy → Type} [FloatOps F]
-- ==== DownFirst.lean ====
abbrev S4x4096x11008 : Shape := ⟨3, ![4, 4096, 11008]⟩
abbrev S4x11008x4096 : Shape := ⟨3, ![4, 11008, 4096]⟩
abbrev S4x4096x4096 : Shape := ⟨3, ![4, 4096, 4096]⟩
abbrev S16384x11008 : Shape := ⟨2, ![16384, 11008]⟩
abbrev S16384x4096 : Shape := ⟨2, ![16384, 4096]⟩
abbrev S1024x5504 : Shape := ⟨2, ![1024, 5504]⟩
abbrev S1x5504x512 : Shape := ⟨3, ![1, 5504, 512]⟩
abbrev S1024x512 : Shape := ⟨2, ![1024, 512]⟩
abbrev S5504x512 : Shape := ⟨2, ![5504, 512]⟩

abbrev nBuf : Space → Nat
  | .hbm => 8
  | .vmem => 8
  | .smem => 0
  | _ => 0

abbrev bufTy : (tb : Table) → Fin (tcTables nBuf tb) → BufTy
  | .hbm, ⟨0, _⟩ => ⟨S4x4096x11008, .f32⟩
  | .hbm, ⟨1, _⟩ => ⟨S4x11008x4096, .f32⟩
  | .hbm, ⟨2, _⟩ => ⟨S4x4096x4096, .f32⟩
  | .hbm, ⟨3, _⟩ => ⟨S16384x11008, .f32⟩
  | .hbm, ⟨4, _⟩ => ⟨S16384x11008, .bf16⟩
  | .hbm, ⟨5, _⟩ => ⟨S4x11008x4096, .bf16⟩
  | .hbm, ⟨6, _⟩ => ⟨S16384x4096, .f32⟩
  | .hbm, ⟨7, _⟩ => ⟨S16384x4096, .f32⟩
  | .local _ .vmem, ⟨0, _⟩ => ⟨S1024x5504, .bf16⟩
  | .local _ .vmem, ⟨1, _⟩ => ⟨S1024x5504, .bf16⟩
  | .local _ .vmem, ⟨2, _⟩ => ⟨S1x5504x512, .bf16⟩
  | .local _ .vmem, ⟨3, _⟩ => ⟨S1x5504x512, .bf16⟩
  | .local _ .vmem, ⟨4, _⟩ => ⟨S1024x512, .f32⟩
  | .local _ .vmem, ⟨5, _⟩ => ⟨S1024x512, .f32⟩
  | .local _ .vmem, ⟨6, _⟩ => ⟨S1024x512, .f32⟩
  | .local _ .vmem, ⟨7, _⟩ => ⟨S1024x512, .f32⟩
  | _, _ => ⟨S4x4096x11008, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![16, 8, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg2
  let c0_i32_0 : BitVec 32 := 0#32
  ![arg0.toNat, v0.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg2
  let c0_i32_0 : BitVec 32 := 0#32
  let v1 : BitVec 32 := Scalar.addi c0_i32_0 arg1
  let c0_i32_1 : BitVec 32 := 0#32
  let c0_i32_2 : BitVec 32 := 0#32
  ![c0_i32_1.toNat, v0.toNat, v1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg1
  let c0_i32_0 : BitVec 32 := 0#32
  ![arg0.toNat, v0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg1
  let c0_i32_0 : BitVec 32 := 0#32
  ![arg0.toNat, v0.toNat]

abbrev stage0_0 : Fin 2 → Memref sig .tc .vmem S1024x5504 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x5504x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== DownFirstReferenceIdeal.lean ====
abbrev S4x4096x11008 : Shape := ⟨3, ![4, 4096, 11008]⟩
abbrev S4x11008x4096 : Shape := ⟨3, ![4, 11008, 4096]⟩
abbrev S4x4096x4096 : Shape := ⟨3, ![4, 4096, 4096]⟩
abbrev S4x4096x5504 : Shape := ⟨3, ![4, 4096, 5504]⟩
abbrev S1x5504x4096 : Shape := ⟨3, ![1, 5504, 4096]⟩
abbrev S5504x4096 : Shape := ⟨2, ![5504, 4096]⟩
abbrev S16384x4096 : Shape := ⟨2, ![16384, 4096]⟩

abbrev nBuf : Space → Nat
  | .hbm => 9
  | .vmem => 0
  | .smem => 0
  | _ => 0

abbrev bufTy : (tb : Table) → Fin (tcTables nBuf tb) → BufTy
  | .hbm, ⟨0, _⟩ => ⟨S4x4096x11008, .f32⟩
  | .hbm, ⟨1, _⟩ => ⟨S4x11008x4096, .f32⟩
  | .hbm, ⟨2, _⟩ => ⟨S4x4096x4096, .f32⟩
  | .hbm, ⟨3, _⟩ => ⟨S4x4096x5504, .f32⟩
  | .hbm, ⟨4, _⟩ => ⟨S1x5504x4096, .f32⟩
  | .hbm, ⟨5, _⟩ => ⟨S5504x4096, .f32⟩
  | .hbm, ⟨6, _⟩ => ⟨S4x4096x4096, .f32⟩
  | .hbm, ⟨7, _⟩ => ⟨S4x4096x4096, .f32⟩
  | .hbm, ⟨8, _⟩ => ⟨S16384x4096, .f32⟩
  | _, _ => ⟨S4x4096x11008, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== DownSecond.lean ====
abbrev S4x4096x11008 : Shape := ⟨3, ![4, 4096, 11008]⟩
abbrev S4x11008x4096 : Shape := ⟨3, ![4, 11008, 4096]⟩
abbrev S4x4096x4096 : Shape := ⟨3, ![4, 4096, 4096]⟩
abbrev S16384x11008 : Shape := ⟨2, ![16384, 11008]⟩
abbrev S16384x4096 : Shape := ⟨2, ![16384, 4096]⟩
abbrev S16384x128 : Shape := ⟨2, ![16384, 128]⟩
abbrev S1024x5504 : Shape := ⟨2, ![1024, 5504]⟩
abbrev S1x5504x512 : Shape := ⟨3, ![1, 5504, 512]⟩
abbrev S1024x512 : Shape := ⟨2, ![1024, 512]⟩
abbrev S1024x128 : Shape := ⟨2, ![1024, 128]⟩
abbrev S5504x512 : Shape := ⟨2, ![5504, 512]⟩
abbrev S1024 : Shape := ⟨1, ![1024]⟩
abbrev S1024x1 : Shape := ⟨2, ![1024, 1]⟩

abbrev nBuf : Space → Nat
  | .hbm => 10
  | .vmem => 12
  | .smem => 0
  | _ => 0

abbrev bufTy : (tb : Table) → Fin (tcTables nBuf tb) → BufTy
  | .hbm, ⟨0, _⟩ => ⟨S4x4096x11008, .f32⟩
  | .hbm, ⟨1, _⟩ => ⟨S4x11008x4096, .f32⟩
  | .hbm, ⟨2, _⟩ => ⟨S4x4096x4096, .f32⟩
  | .hbm, ⟨3, _⟩ => ⟨S16384x11008, .f32⟩
  | .hbm, ⟨4, _⟩ => ⟨S16384x11008, .bf16⟩
  | .hbm, ⟨5, _⟩ => ⟨S4x11008x4096, .bf16⟩
  | .hbm, ⟨6, _⟩ => ⟨S16384x4096, .f32⟩
  | .hbm, ⟨7, _⟩ => ⟨S16384x4096, .f32⟩
  | .hbm, ⟨8, _⟩ => ⟨S16384x4096, .bf16⟩
  | .hbm, ⟨9, _⟩ => ⟨S16384x128, .f32⟩
  | .local _ .vmem, ⟨0, _⟩ => ⟨S1024x5504, .bf16⟩
  | .local _ .vmem, ⟨1, _⟩ => ⟨S1024x5504, .bf16⟩
  | .local _ .vmem, ⟨2, _⟩ => ⟨S1x5504x512, .bf16⟩
  | .local _ .vmem, ⟨3, _⟩ => ⟨S1x5504x512, .bf16⟩
  | .local _ .vmem, ⟨4, _⟩ => ⟨S1024x512, .f32⟩
  | .local _ .vmem, ⟨5, _⟩ => ⟨S1024x512, .f32⟩
  | .local _ .vmem, ⟨6, _⟩ => ⟨S1024x512, .f32⟩
  | .local _ .vmem, ⟨7, _⟩ => ⟨S1024x512, .f32⟩
  | .local _ .vmem, ⟨8, _⟩ => ⟨S1024x512, .bf16⟩
  | .local _ .vmem, ⟨9, _⟩ => ⟨S1024x512, .bf16⟩
  | .local _ .vmem, ⟨10, _⟩ => ⟨S1024x128, .f32⟩
  | .local _ .vmem, ⟨11, _⟩ => ⟨S1024x128, .f32⟩
  | _, _ => ⟨S4x4096x11008, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4_0 : Ref sig .tc := ⟨.hbm, 7, rfl⟩
abbrev main_v4_1 : Ref sig .tc := ⟨.hbm, 8, rfl⟩
abbrev main_v4_2 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨3, ![16, 8, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.addi c1_i32 arg2
  let c0_i32 : BitVec 32 := 0#32
  ![arg0.toNat, v0.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.addi c1_i32 arg2
  let c0_i32 : BitVec 32 := 0#32
  let v1 : BitVec 32 := Scalar.addi c0_i32 arg1
  let c0_i32_0 : BitVec 32 := 0#32
  let c0_i32_1 : BitVec 32 := 0#32
  ![c0_i32_0.toNat, v0.toNat, v1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg1
  let c0_i32_0 : BitVec 32 := 0#32
  ![arg0.toNat, v0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

abbrev stage0_0 : Fin 2 → Memref sig .tc .vmem S1024x5504 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x5504x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S1024x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S1024x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false, false]
-- ==== DownSecondReferenceIdeal.lean ====
abbrev S4x4096x11008 : Shape := ⟨3, ![4, 4096, 11008]⟩
abbrev S4x11008x4096 : Shape := ⟨3, ![4, 11008, 4096]⟩
abbrev S4x4096x4096 : Shape := ⟨3, ![4, 4096, 4096]⟩
abbrev S4x4096x5504 : Shape := ⟨3, ![4, 4096, 5504]⟩
abbrev S1x5504x4096 : Shape := ⟨3, ![1, 5504, 4096]⟩
abbrev S5504x4096 : Shape := ⟨2, ![5504, 4096]⟩
abbrev S16384x4096 : Shape := ⟨2, ![16384, 4096]⟩
abbrev S_ : Shape := ⟨0, ![]⟩
abbrev S16384 : Shape := ⟨1, ![16384]⟩
abbrev S16384x1 : Shape := ⟨2, ![16384, 1]⟩
abbrev S16384x128 : Shape := ⟨2, ![16384, 128]⟩

abbrev nBuf : Space → Nat
  | .hbm => 15
  | .vmem => 0
  | .smem => 0
  | _ => 0

abbrev bufTy : (tb : Table) → Fin (tcTables nBuf tb) → BufTy
  | .hbm, ⟨0, _⟩ => ⟨S4x4096x11008, .f32⟩
  | .hbm, ⟨1, _⟩ => ⟨S4x11008x4096, .f32⟩
  | .hbm, ⟨2, _⟩ => ⟨S4x4096x4096, .f32⟩
  | .hbm, ⟨3, _⟩ => ⟨S4x4096x5504, .f32⟩
  | .hbm, ⟨4, _⟩ => ⟨S1x5504x4096, .f32⟩
  | .hbm, ⟨5, _⟩ => ⟨S5504x4096, .f32⟩
  | .hbm, ⟨6, _⟩ => ⟨S4x4096x4096, .f32⟩
  | .hbm, ⟨7, _⟩ => ⟨S4x4096x4096, .f32⟩
  | .hbm, ⟨8, _⟩ => ⟨S16384x4096, .f32⟩
  | .hbm, ⟨9, _⟩ => ⟨S16384x4096, .bf16⟩
  | .hbm, ⟨10, _⟩ => ⟨S16384x4096, .f32⟩
  | .hbm, ⟨11, _⟩ => ⟨S_, .f32⟩
  | .hbm, ⟨12, _⟩ => ⟨S16384, .f32⟩
  | .hbm, ⟨13, _⟩ => ⟨S16384x1, .f32⟩
  | .hbm, ⟨14, _⟩ => ⟨S16384x128, .f32⟩
  | _, _ => ⟨S4x4096x11008, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_cst : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩

abbrev nD : Nat := 1
abbrev τ : Topo := Topo.v7x

variable {F : FTy → Type} [FloatOps F]
-- ==== InProj.lean ====
abbrev S4x4096x4096 : Shape := ⟨3, ![4, 4096, 4096]⟩
abbrev S4x4096 : Shape := ⟨2, ![4, 4096]⟩
abbrev S4x4096x10600 : Shape := ⟨3, ![4, 4096, 10600]⟩
abbrev S16384x4096 : Shape := ⟨2, ![16384, 4096]⟩
abbrev S4x4096x1 : Shape := ⟨3, ![4, 4096, 1]⟩
abbrev S4x4096x3072 : Shape := ⟨3, ![4, 4096, 3072]⟩
abbrev S4x4096x1024 : Shape := ⟨3, ![4, 4096, 1024]⟩
abbrev S4x4096x288 : Shape := ⟨3, ![4, 4096, 288]⟩
abbrev S_ : Shape := ⟨0, ![]⟩
abbrev S4x4096x96 : Shape := ⟨3, ![4, 4096, 96]⟩
abbrev S4x4096x64 : Shape := ⟨3, ![4, 4096, 64]⟩
abbrev S4x4096x8 : Shape := ⟨3, ![4, 4096, 8]⟩
abbrev S4x4096x56 : Shape := ⟨3, ![4, 4096, 56]⟩
abbrev S4x4096x10752 : Shape := ⟨3, ![4, 4096, 10752]⟩
abbrev S16384 : Shape := ⟨1, ![16384]⟩
abbrev S16384x1 : Shape := ⟨2, ![16384, 1]⟩
abbrev S16384x128 : Shape := ⟨2, ![16384, 128]⟩
abbrev S16384x10752 : Shape := ⟨2, ![16384, 10752]⟩
abbrev S1024x4096 : Shape := ⟨2, ![1024, 4096]⟩
abbrev S1x4096x768 : Shape := ⟨3, ![1, 4096, 768]⟩
abbrev S1024x128 : Shape := ⟨2, ![1024, 128]⟩
abbrev S1024x768 : Shape := ⟨2, ![1024, 768]⟩
abbrev S4096x768 : Shape := ⟨2, ![4096, 768]⟩

abbrev nBuf : Space → Nat
  | .hbm => 27
  | .vmem => 8
  | .smem => 0
  | _ => 0

abbrev bufTy : (tb : Table) → Fin (tcTables nBuf tb) → BufTy
  | .hbm, ⟨0, _⟩ => ⟨S4x4096x4096, .f32⟩
  | .hbm, ⟨1, _⟩ => ⟨S4x4096, .f32⟩
  | .hbm, ⟨2, _⟩ => ⟨S4x4096x10600, .f32⟩
  | .hbm, ⟨3, _⟩ => ⟨S16384x4096, .f32⟩
  | .hbm, ⟨4, _⟩ => ⟨S4x4096x1, .f32⟩
  | .hbm, ⟨5, _⟩ => ⟨S4x4096x10600, .f32⟩
  | .hbm, ⟨6, _⟩ => ⟨S4x4096x10600, .f32⟩
  | .hbm, ⟨7, _⟩ => ⟨S4x4096x3072, .f32⟩
  | .hbm, ⟨8, _⟩ => ⟨S4x4096x3072, .f32⟩
  | .hbm, ⟨9, _⟩ => ⟨S4x4096x3072, .f32⟩
  | .hbm, ⟨10, _⟩ => ⟨S4x4096x1024, .f32⟩
  | .hbm, ⟨11, _⟩ => ⟨S4x4096x288, .f32⟩
  | .hbm, ⟨12, _⟩ => ⟨S_, .f32⟩
  | .hbm, ⟨13, _⟩ => ⟨S4x4096x96, .f32⟩
  | .hbm, ⟨14, _⟩ => ⟨S4x4096x64, .f32⟩
  | .hbm, ⟨15, _⟩ => ⟨S4x4096x8, .f32⟩
  | .hbm, ⟨16, _⟩ => ⟨S_, .f32⟩
  | .hbm, ⟨17, _⟩ => ⟨S4x4096x56, .f32⟩
  | .hbm, ⟨18, _⟩ => ⟨S4x4096x10752, .f32⟩
  | .hbm, ⟨19, _⟩ => ⟨S4x4096x10752, .bf16⟩
  | .hbm, ⟨20, _⟩ => ⟨S16384x4096, .f32⟩
  | .hbm, ⟨21, _⟩ => ⟨S_, .f32⟩
  | .hbm, ⟨22, _⟩ => ⟨S16384, .f32⟩
  | .hbm, ⟨23, _⟩ => ⟨S16384x1, .f32⟩
  | .hbm, ⟨24, _⟩ => ⟨S16384x128, .f32⟩
  | .hbm, ⟨25, _⟩ => ⟨S16384x4096, .bf16⟩
  | .hbm, ⟨26, _⟩ => ⟨S16384x10752, .f32⟩
  | .local _ .vmem, ⟨0, _⟩ => ⟨S1024x4096, .bf16⟩
  | .local _ .vmem, ⟨1, _⟩ => ⟨S1024x4096, .bf16⟩
  | .local _ .vmem, ⟨2, _⟩ => ⟨S1x4096x768, .bf16⟩
  | .local _ .vmem, ⟨3, _⟩ => ⟨S1x4096x768, .bf16⟩
  | .local _ .vmem, ⟨4, _⟩ => ⟨S1024x128, .f32⟩
  | .local _ .vmem, ⟨5, _⟩ => ⟨S1024x128, .f32⟩
  | .local _ .vmem, ⟨6, _⟩ => ⟨S1024x768, .f32⟩
  | .local _ .vmem, ⟨7, _⟩ => ⟨S1024x768, .f32⟩
  | _, _ => ⟨S4x4096x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_cst : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_cst_0 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_cst_1 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![16, 14, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg2
  let c0_i32_0 : BitVec 32 := 0#32
  ![arg0.toNat, v0.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg2
  let c0_i32_0 : BitVec 32 := 0#32
  let v1 : BitVec 32 := Scalar.addi c0_i32_0 arg1
  let c0_i32_1 : BitVec 32 := 0#32
  let c0_i32_2 : BitVec 32 := 0#32
  ![c0_i32_1.toNat, v0.toNat, v1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg1
  let c0_i32_0 : BitVec 32 := 0#32
  ![arg0.toNat, v0.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x4096x768 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, false]

abbrev stage0_3 : Fin 2 → Memref sig .tc .vmem S1024x768 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== InProjReferenceIdeal.lean ====
abbrev S4x4096x4096 : Shape := ⟨3, ![4, 4096, 4096]⟩
abbrev S4x4096 : Shape := ⟨2, ![4, 4096]⟩
abbrev S4x4096x10600 : Shape := ⟨3, ![4, 4096, 10600]⟩
abbrev S1x4096 : Shape := ⟨2, ![1, 4096]⟩
abbrev S4096 : Shape := ⟨1, ![4096]⟩
abbrev S_ : Shape := ⟨0, ![]⟩
abbrev S4x4096x1 : Shape := ⟨3, ![4, 4096, 1]⟩
abbrev S1x1x4096 : Shape := ⟨3, ![1, 1, 4096]⟩
abbrev S1x4096x10600 : Shape := ⟨3, ![1, 4096, 10600]⟩
abbrev S4096x10600 : Shape := ⟨2, ![4096, 10600]⟩
abbrev S16384x10600 : Shape := ⟨2, ![16384, 10600]⟩
abbrev S16384x3072 : Shape := ⟨2, ![16384, 3072]⟩
abbrev S16384x1024 : Shape := ⟨2, ![16384, 1024]⟩
abbrev S16384x288 : Shape := ⟨2, ![16384, 288]⟩
abbrev S16384x96 : Shape := ⟨2, ![16384, 96]⟩
abbrev S16384x64 : Shape := ⟨2, ![16384, 64]⟩
abbrev S16384x8 : Shape := ⟨2, ![16384, 8]⟩
abbrev S16384x56 : Shape := ⟨2, ![16384, 56]⟩
abbrev S16384x10752 : Shape := ⟨2, ![16384, 10752]⟩

abbrev nBuf : Space → Nat
  | .hbm => 37
  | .vmem => 0
  | .smem => 0
  | _ => 0

abbrev bufTy : (tb : Table) → Fin (tcTables nBuf tb) → BufTy
  | .hbm, ⟨0, _⟩ => ⟨S4x4096x4096, .f32⟩
  | .hbm, ⟨1, _⟩ => ⟨S4x4096, .f32⟩
  | .hbm, ⟨2, _⟩ => ⟨S4x4096x10600, .f32⟩
  | .hbm, ⟨3, _⟩ => ⟨S1x4096, .f32⟩
  | .hbm, ⟨4, _⟩ => ⟨S4096, .f32⟩
  | .hbm, ⟨5, _⟩ => ⟨S4x4096x4096, .f32⟩
  | .hbm, ⟨6, _⟩ => ⟨S_, .f32⟩
  | .hbm, ⟨7, _⟩ => ⟨S4x4096, .f32⟩
  | .hbm, ⟨8, _⟩ => ⟨S4x4096x1, .f32⟩
  | .hbm, ⟨9, _⟩ => ⟨S_, .f32⟩
  | .hbm, ⟨10, _⟩ => ⟨S4x4096x1, .f32⟩
  | .hbm, ⟨11, _⟩ => ⟨S4x4096x1, .f32⟩
  | .hbm, ⟨12, _⟩ => ⟨S_, .f32⟩
  | .hbm, ⟨13, _⟩ => ⟨S4x4096x1, .f32⟩
  | .hbm, ⟨14, _⟩ => ⟨S4x4096x1, .f32⟩
  | .hbm, ⟨15, _⟩ => ⟨S4x4096x1, .f32⟩
  | .hbm, ⟨16, _⟩ => ⟨S4x4096x4096, .f32⟩
  | .hbm, ⟨17, _⟩ => ⟨S4x4096x4096, .f32⟩
  | .hbm, ⟨18, _⟩ => ⟨S1x1x4096, .f32⟩
  | .hbm, ⟨19, _⟩ => ⟨S4x4096x4096, .f32⟩
  | .hbm, ⟨20, _⟩ => ⟨S4x4096x4096, .f32⟩
  | .hbm, ⟨21, _⟩ => ⟨S1x4096x10600, .f32⟩
  | .hbm, ⟨22, _⟩ => ⟨S4096x10600, .f32⟩
  | .hbm, ⟨23, _⟩ => ⟨S4x4096x10600, .f32⟩
  | .hbm, ⟨24, _⟩ => ⟨S16384x10600, .f32⟩
  | .hbm, ⟨25, _⟩ => ⟨S16384x3072, .f32⟩
  | .hbm, ⟨26, _⟩ => ⟨S16384x3072, .f32⟩
  | .hbm, ⟨27, _⟩ => ⟨S16384x3072, .f32⟩
  | .hbm, ⟨28, _⟩ => ⟨S16384x1024, .f32⟩
  | .hbm, ⟨29, _⟩ => ⟨S16384x288, .f32⟩
  | .hbm, ⟨30, _⟩ => ⟨S_, .f32⟩
  | .hbm, ⟨31, _⟩ => ⟨S16384x96, .f32⟩
  | .hbm, ⟨32, _⟩ => ⟨S16384x64, .f32⟩
  | .hbm, ⟨33, _⟩ => ⟨S16384x8, .f32⟩
  | .hbm, ⟨34, _⟩ => ⟨S_, .f32⟩
  | .hbm, ⟨35, _⟩ => ⟨S16384x56, .f32⟩
  | .hbm, ⟨36, _⟩ => ⟨S16384x10752, .f32⟩
  | _, _ => ⟨S4x4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_cst_0 : Ref sig .tc := ⟨.hbm, 9, rfl⟩
abbrev main_v5 : Ref sig .tc := ⟨.hbm, 10, rfl⟩
abbrev main_v6 : Ref sig .tc := ⟨.hbm, 11, rfl⟩
abbrev main_cst_1 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_cst_2 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_cst_3 : Ref sig .tc := ⟨.hbm, 34, rfl⟩
abbrev main_v27 : Ref sig .tc := ⟨.hbm, 35, rfl⟩
abbrev main_v28 : Ref sig .tc := ⟨.hbm, 36, rfl⟩

abbrev nD : Nat := 1
abbrev τ : Topo := Topo.v7x

variable {F : FTy → Type} [FloatOps F]
-- ==== OutProj.lean ====
abbrev S4x4096x1024 : Shape := ⟨3, ![4, 4096, 1024]⟩
abbrev S4x4096x4096 : Shape := ⟨3, ![4, 4096, 4096]⟩
abbrev S16384x1024 : Shape := ⟨2, ![16384, 1024]⟩
abbrev S16384x4096 : Shape := ⟨2, ![16384, 4096]⟩
abbrev S1024x1024 : Shape := ⟨2, ![1024, 1024]⟩
abbrev S1x4096x512 : Shape := ⟨3, ![1, 4096, 512]⟩
abbrev S1024x512 : Shape := ⟨2, ![1024, 512]⟩
abbrev S1x1024x512 : Shape := ⟨3, ![1, 1024, 512]⟩

abbrev nBuf : Space → Nat
  | .hbm => 17
  | .vmem => 14
  | .smem => 0
  | _ => 0

abbrev bufTy : (tb : Table) → Fin (tcTables nBuf tb) → BufTy
  | .hbm, ⟨0, _⟩ => ⟨S4x4096x1024, .f32⟩
  | .hbm, ⟨1, _⟩ => ⟨S4x4096x1024, .f32⟩
  | .hbm, ⟨2, _⟩ => ⟨S4x4096x1024, .f32⟩
  | .hbm, ⟨3, _⟩ => ⟨S4x4096x1024, .f32⟩
  | .hbm, ⟨4, _⟩ => ⟨S4x4096x4096, .f32⟩
  | .hbm, ⟨5, _⟩ => ⟨S4x4096x4096, .f32⟩
  | .hbm, ⟨6, _⟩ => ⟨S16384x1024, .f32⟩
  | .hbm, ⟨7, _⟩ => ⟨S16384x1024, .bf16⟩
  | .hbm, ⟨8, _⟩ => ⟨S16384x1024, .f32⟩
  | .hbm, ⟨9, _⟩ => ⟨S16384x1024, .bf16⟩
  | .hbm, ⟨10, _⟩ => ⟨S16384x1024, .f32⟩
  | .hbm, ⟨11, _⟩ => ⟨S16384x1024, .bf16⟩
  | .hbm, ⟨12, _⟩ => ⟨S16384x1024, .f32⟩
  | .hbm, ⟨13, _⟩ => ⟨S16384x1024, .bf16⟩
  | .hbm, ⟨14, _⟩ => ⟨S4x4096x4096, .bf16⟩
  | .hbm, ⟨15, _⟩ => ⟨S16384x4096, .f32⟩
  | .hbm, ⟨16, _⟩ => ⟨S16384x4096, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .bf16⟩
  | .local _ .vmem, ⟨7, _⟩ => ⟨S1024x1024, .bf16⟩
  | .local _ .vmem, ⟨8, _⟩ => ⟨S1x4096x512, .bf16⟩
  | .local _ .vmem, ⟨9, _⟩ => ⟨S1x4096x512, .bf16⟩
  | .local _ .vmem, ⟨10, _⟩ => ⟨S1024x512, .f32⟩
  | .local _ .vmem, ⟨11, _⟩ => ⟨S1024x512, .f32⟩
  | .local _ .vmem, ⟨12, _⟩ => ⟨S1024x512, .f32⟩
  | .local _ .vmem, ⟨13, _⟩ => ⟨S1024x512, .f32⟩
  | _, _ => ⟨S4x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![16, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x4096x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1024x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1024x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== OutProjReferenceIdeal.lean ====
abbrev S4x4096x1024 : Shape := ⟨3, ![4, 4096, 1024]⟩
abbrev S4x4096x4096 : Shape := ⟨3, ![4, 4096, 4096]⟩
abbrev S1x4096x4096 : Shape := ⟨3, ![1, 4096, 4096]⟩
abbrev S4096x4096 : Shape := ⟨2, ![4096, 4096]⟩
abbrev S16384x4096 : Shape := ⟨2, ![16384, 4096]⟩

abbrev nBuf : Space → Nat
  | .hbm => 12
  | .vmem => 0
  | .smem => 0
  | _ => 0

abbrev bufTy : (tb : Table) → Fin (tcTables nBuf tb) → BufTy
  | .hbm, ⟨0, _⟩ => ⟨S4x4096x1024, .f32⟩
  | .hbm, ⟨1, _⟩ => ⟨S4x4096x1024, .f32⟩
  | .hbm, ⟨2, _⟩ => ⟨S4x4096x1024, .f32⟩
  | .hbm, ⟨3, _⟩ => ⟨S4x4096x1024, .f32⟩
  | .hbm, ⟨4, _⟩ => ⟨S4x4096x4096, .f32⟩
  | .hbm, ⟨5, _⟩ => ⟨S4x4096x4096, .f32⟩
  | .hbm, ⟨6, _⟩ => ⟨S4x4096x4096, .f32⟩
  | .hbm, ⟨7, _⟩ => ⟨S1x4096x4096, .f32⟩
  | .hbm, ⟨8, _⟩ => ⟨S4096x4096, .f32⟩
  | .hbm, ⟨9, _⟩ => ⟨S4x4096x4096, .f32⟩
  | .hbm, ⟨10, _⟩ => ⟨S4x4096x4096, .f32⟩
  | .hbm, ⟨11, _⟩ => ⟨S16384x4096, .f32⟩
  | _, _ => ⟨S4x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩

abbrev nD : Nat := 1
abbrev τ : Topo := Topo.v7x

variable {F : FTy → Type} [FloatOps F]
-- ==== Final.lean ====
abbrev S4x4096x4096 : Shape := ⟨3, ![4, 4096, 4096]⟩
abbrev S4096 : Shape := ⟨1, ![4096]⟩
abbrev S16384x4096 : Shape := ⟨2, ![16384, 4096]⟩
abbrev S1x4096 : Shape := ⟨2, ![1, 4096]⟩
abbrev S512x4096 : Shape := ⟨2, ![512, 4096]⟩
abbrev S512 : Shape := ⟨1, ![512]⟩
abbrev S512x1 : Shape := ⟨2, ![512, 1]⟩

abbrev nBuf : Space → Nat
  | .hbm => 5
  | .vmem => 5
  | .smem => 0
  | _ => 0

abbrev bufTy : (tb : Table) → Fin (tcTables nBuf tb) → BufTy
  | .hbm, ⟨0, _⟩ => ⟨S4x4096x4096, .f32⟩
  | .hbm, ⟨1, _⟩ => ⟨S4096, .f32⟩
  | .hbm, ⟨2, _⟩ => ⟨S16384x4096, .f32⟩
  | .hbm, ⟨3, _⟩ => ⟨S1x4096, .f32⟩
  | .hbm, ⟨4, _⟩ => ⟨S16384x4096, .f32⟩
  | .local _ .vmem, ⟨0, _⟩ => ⟨S512x4096, .f32⟩
  | .local _ .vmem, ⟨1, _⟩ => ⟨S512x4096, .f32⟩
  | .local _ .vmem, ⟨2, _⟩ => ⟨S1x4096, .f32⟩
  | .local _ .vmem, ⟨3, _⟩ => ⟨S512x4096, .f32⟩
  | .local _ .vmem, ⟨4, _⟩ => ⟨S512x4096, .f32⟩
  | _, _ => ⟨S4x4096x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x4096 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== FinalReferenceIdeal.lean ====
abbrev S4x4096x4096 : Shape := ⟨3, ![4, 4096, 4096]⟩
abbrev S4096 : Shape := ⟨1, ![4096]⟩
abbrev S_ : Shape := ⟨0, ![]⟩
abbrev S4x4096 : Shape := ⟨2, ![4, 4096]⟩
abbrev S4x4096x1 : Shape := ⟨3, ![4, 4096, 1]⟩
abbrev S1x1x4096 : Shape := ⟨3, ![1, 1, 4096]⟩
abbrev S16384x4096 : Shape := ⟨2, ![16384, 4096]⟩

abbrev nBuf : Space → Nat
  | .hbm => 19
  | .vmem => 0
  | .smem => 0
  | _ => 0

abbrev bufTy : (tb : Table) → Fin (tcTables nBuf tb) → BufTy
  | .hbm, ⟨0, _⟩ => ⟨S4x4096x4096, .f32⟩
  | .hbm, ⟨1, _⟩ => ⟨S4096, .f32⟩
  | .hbm, ⟨2, _⟩ => ⟨S4x4096x4096, .f32⟩
  | .hbm, ⟨3, _⟩ => ⟨S_, .f32⟩
  | .hbm, ⟨4, _⟩ => ⟨S4x4096, .f32⟩
  | .hbm, ⟨5, _⟩ => ⟨S4x4096x1, .f32⟩
  | .hbm, ⟨6, _⟩ => ⟨S_, .f32⟩
  | .hbm, ⟨7, _⟩ => ⟨S4x4096x1, .f32⟩
  | .hbm, ⟨8, _⟩ => ⟨S4x4096x1, .f32⟩
  | .hbm, ⟨9, _⟩ => ⟨S_, .f32⟩
  | .hbm, ⟨10, _⟩ => ⟨S4x4096x1, .f32⟩
  | .hbm, ⟨11, _⟩ => ⟨S4x4096x1, .f32⟩
  | .hbm, ⟨12, _⟩ => ⟨S4x4096x1, .f32⟩
  | .hbm, ⟨13, _⟩ => ⟨S4x4096x4096, .f32⟩
  | .hbm, ⟨14, _⟩ => ⟨S4x4096x4096, .f32⟩
  | .hbm, ⟨15, _⟩ => ⟨S1x1x4096, .f32⟩
  | .hbm, ⟨16, _⟩ => ⟨S4x4096x4096, .f32⟩
  | .hbm, ⟨17, _⟩ => ⟨S4x4096x4096, .f32⟩
  | .hbm, ⟨18, _⟩ => ⟨S16384x4096, .f32⟩
  | _, _ => ⟨S4x4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩

abbrev nD : Nat := 1
abbrev τ : Topo := Topo.v7x

variable {F : FTy → Type} [FloatOps F]
-- ==== Attention.lean ====
abbrev S4x8x4096x192 : Shape := ⟨4, ![4, 8, 4096, 192]⟩
abbrev S4x8x4096x128 : Shape := ⟨4, ![4, 8, 4096, 128]⟩
abbrev S1024 : Shape := ⟨1, ![1024]⟩
abbrev S_ : Shape := ⟨0, ![]⟩
abbrev S4x8x4096x64 : Shape := ⟨4, ![4, 8, 4096, 64]⟩
abbrev S4x8x4096x256 : Shape := ⟨4, ![4, 8, 4096, 256]⟩
abbrev S4x4096x8x256 : Shape := ⟨4, ![4, 4096, 8, 256]⟩
abbrev S16384x2048 : Shape := ⟨2, ![16384, 2048]⟩
abbrev S1x1024 : Shape := ⟨2, ![1, 1024]⟩
abbrev S16384x1024 : Shape := ⟨2, ![16384, 1024]⟩
abbrev S512x256 : Shape := ⟨2, ![512, 256]⟩
abbrev S4096x256 : Shape := ⟨2, ![4096, 256]⟩
abbrev S1x128 : Shape := ⟨2, ![1, 128]⟩
abbrev S512x128 : Shape := ⟨2, ![512, 128]⟩
abbrev S256x256 : Shape := ⟨2, ![256, 256]⟩
abbrev S512 : Shape := ⟨1, ![512]⟩
abbrev S512x1 : Shape := ⟨2, ![512, 1]⟩

abbrev nBuf : Space → Nat
  | .hbm => 31
  | .vmem => 12
  | .smem => 0
  | _ => 0

abbrev bufTy : (tb : Table) → Fin (tcTables nBuf tb) → BufTy
  | .hbm, ⟨0, _⟩ => ⟨S4x8x4096x192, .f32⟩
  | .hbm, ⟨1, _⟩ => ⟨S4x8x4096x192, .f32⟩
  | .hbm, ⟨2, _⟩ => ⟨S4x8x4096x128, .f32⟩
  | .hbm, ⟨3, _⟩ => ⟨S1024, .f32⟩
  | .hbm, ⟨4, _⟩ => ⟨S_, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S_, .f32⟩
  | .hbm, ⟨11, _⟩ => ⟨S4x8x4096x192, .f32⟩
  | .hbm, ⟨12, _⟩ => ⟨S4x8x4096x192, .f32⟩
  | .hbm, ⟨13, _⟩ => ⟨S_, .f32⟩
  | .hbm, ⟨14, _⟩ => ⟨S4x8x4096x64, .f32⟩
  | .hbm, ⟨15, _⟩ => ⟨S_, .f32⟩
  | .hbm, ⟨16, _⟩ => ⟨S4x8x4096x128, .f32⟩
  | .hbm, ⟨17, _⟩ => ⟨S4x8x4096x256, .f32⟩
  | .hbm, ⟨18, _⟩ => ⟨S4x4096x8x256, .f32⟩
  | .hbm, ⟨19, _⟩ => ⟨S16384x2048, .f32⟩
  | .hbm, ⟨20, _⟩ => ⟨S16384x2048, .bf16⟩
  | .hbm, ⟨21, _⟩ => ⟨S4x8x4096x256, .f32⟩
  | .hbm, ⟨22, _⟩ => ⟨S4x4096x8x256, .f32⟩
  | .hbm, ⟨23, _⟩ => ⟨S16384x2048, .f32⟩
  | .hbm, ⟨24, _⟩ => ⟨S16384x2048, .bf16⟩
  | .hbm, ⟨25, _⟩ => ⟨S4x8x4096x256, .f32⟩
  | .hbm, ⟨26, _⟩ => ⟨S4x4096x8x256, .f32⟩
  | .hbm, ⟨27, _⟩ => ⟨S16384x2048, .f32⟩
  | .hbm, ⟨28, _⟩ => ⟨S16384x2048, .bf16⟩
  | .hbm, ⟨29, _⟩ => ⟨S1x1024, .f32⟩
  | .hbm, ⟨30, _⟩ => ⟨S16384x1024, .bf16⟩
  | .local _ .vmem, ⟨0, _⟩ => ⟨S512x256, .bf16⟩
  | .local _ .vmem, ⟨1, _⟩ => ⟨S512x256, .bf16⟩
  | .local _ .vmem, ⟨2, _⟩ => ⟨S4096x256, .bf16⟩
  | .local _ .vmem, ⟨3, _⟩ => ⟨S4096x256, .bf16⟩
  | .local _ .vmem, ⟨4, _⟩ => ⟨S4096x256, .bf16⟩
  | .local _ .vmem, ⟨5, _⟩ => ⟨S4096x256, .bf16⟩
  | .local _ .vmem, ⟨6, _⟩ => ⟨S1x128, .f32⟩
  | .local _ .vmem, ⟨7, _⟩ => ⟨S1x128, .f32⟩
  | .local _ .vmem, ⟨8, _⟩ => ⟨S512x128, .bf16⟩
  | .local _ .vmem, ⟨9, _⟩ => ⟨S512x128, .bf16⟩
  | .local _ .vmem, ⟨10, _⟩ => ⟨S512x128, .f32⟩
  | .local _ .vmem, ⟨11, _⟩ => ⟨S512x256, .f32⟩
  | _, _ => ⟨S4x8x4096x192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_cst_0 : Ref sig .tc := ⟨.hbm, 6, rfl⟩
abbrev main_v1 : Ref sig .tc := ⟨.hbm, 7, rfl⟩
abbrev main_v2 : Ref sig .tc := ⟨.hbm, 8, rfl⟩
abbrev main_cst_1 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst_2 : Ref sig .tc := ⟨.hbm, 13, rfl⟩
abbrev main_v6 : Ref sig .tc := ⟨.hbm, 14, rfl⟩
abbrev main_cst_3 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_scratch1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨3, ![4, 8, 8], ![false, false, false]⟩

@[reducible] def k0_t1_loop (i : grid0.Coords) : Scf.Loop 32 :=
  let c0_i32_11 : BitVec 32 := 0#32
  let arg2 : BitVec 32 := BitVec.ofNat 32 (i 2).val
  let c0_i32 : BitVec 32 := 0#32
  let v13 : BitVec 1 := Scalar.cmpi .sgt arg2 c0_i32
  let v14 : BitVec 32 := Scalar.extui v13
  let c0_i32_6 : BitVec 32 := 0#32
  let v15 : BitVec 1 := Scalar.cmpi .slt arg2 c0_i32_6
  let v16 : BitVec 32 := Scalar.extui v15
  let v17 : BitVec 32 := Scalar.subi v14 v16
  let c2_i32 : BitVec 32 := 2#32
  let c0_i32_7 : BitVec 32 := 0#32
  let v18 : BitVec 1 := Scalar.cmpi .sgt c2_i32 c0_i32_7
  let v19 : BitVec 32 := Scalar.extui v18
  let c0_i32_8 : BitVec 32 := 0#32
  let v20 : BitVec 1 := Scalar.cmpi .slt c2_i32 c0_i32_8
  let v21 : BitVec 32 := Scalar.extui v20
  let v22 : BitVec 32 := Scalar.subi v19 v21
  let v23 : BitVec 1 := Scalar.cmpi .ne v17 v22
  let v24 : BitVec 32 := Scalar.remsi arg2 c2_i32
  let c0_i32_9 : BitVec 32 := 0#32
  let v25 : BitVec 1 := Scalar.cmpi .ne v24 c0_i32_9
  let v26 : BitVec 1 := Scalar.andi v23 v25
  let v12 : BitVec 32 := Scalar.divsi arg2 c2_i32
  let c1_i32 : BitVec 32 := 1#32
  let v27 : BitVec 32 := Scalar.subi v12 c1_i32
  let v28 : BitVec 32 := Scalar.select v26 v27 v12
  let v29 : BitVec 32 := Scalar.subi v28 c0_i32_11
  let c1_i32_12 : BitVec 32 := 1#32
  let v31 : BitVec 32 := Scalar.divsi v29 c1_i32_12
  let v32 : BitVec 32 := Scalar.muli v31 c1_i32_12
  let v33 : BitVec 32 := Scalar.addi c0_i32_11 v32
  let c1_i32_13 : BitVec 32 := 1#32
  ⟨c0_i32_11, v33, c1_i32_13⟩
def k0_mult1 (i : grid0.Coords) (k0_t1 : Fin (k0_t1_loop i).trips) : BitVec 32 :=
  let c0_i32_11 : BitVec 32 := 0#32
  let c1_i32_13 : BitVec 32 := 1#32
  let arg10 : BitVec 32 := Scf.iv c0_i32_11 c1_i32_13 k0_t1
  let c1024_i32 : BitVec 32 := 1024#32
  let v70 : BitVec 32 := Scalar.muli arg10 c1024_i32
  v70
def k0_off1 (i : grid0.Coords) (k0_t1 : Fin (k0_t1_loop i).trips) (c0_i32_37 : BitVec 32) : Fin 2 → Nat :=
  let c0_i32_11 : BitVec 32 := 0#32
  let c1_i32_13 : BitVec 32 := 1#32
  let arg10 : BitVec 32 := Scf.iv c0_i32_11 c1_i32_13 k0_t1
  let c1024_i32 : BitVec 32 := 1024#32
  let v70 : BitVec 32 := Scalar.muli arg10 c1024_i32
  let v71 : BitVec 32 := v70
  let v72 : BitVec 32 := Scalar.addi v71 c0_i32_37
  let v73 : Index := Scalar.indexCast v72
  let c0_38 : Index := 0#32
  ![v73.toNat, 0]
@[reducible] def k0_t2_loop (i : grid0.Coords) : Scf.Loop 32 :=
  let c0_i32_11 : BitVec 32 := 0#32
  let arg2 : BitVec 32 := BitVec.ofNat 32 (i 2).val
  let c0_i32 : BitVec 32 := 0#32
  let v13 : BitVec 1 := Scalar.cmpi .sgt arg2 c0_i32
  let v14 : BitVec 32 := Scalar.extui v13
  let c0_i32_6 : BitVec 32 := 0#32
  let v15 : BitVec 1 := Scalar.cmpi .slt arg2 c0_i32_6
  let v16 : BitVec 32 := Scalar.extui v15
  let v17 : BitVec 32 := Scalar.subi v14 v16
  let c2_i32 : BitVec 32 := 2#32
  let c0_i32_7 : BitVec 32 := 0#32
  let v18 : BitVec 1 := Scalar.cmpi .sgt c2_i32 c0_i32_7
  let v19 : BitVec 32 := Scalar.extui v18
  let c0_i32_8 : BitVec 32 := 0#32
  let v20 : BitVec 1 := Scalar.cmpi .slt c2_i32 c0_i32_8
  let v21 : BitVec 32 := Scalar.extui v20
  let v22 : BitVec 32 := Scalar.subi v19 v21
  let v23 : BitVec 1 := Scalar.cmpi .ne v17 v22
  let v24 : BitVec 32 := Scalar.remsi arg2 c2_i32
  let c0_i32_9 : BitVec 32 := 0#32
  let v25 : BitVec 1 := Scalar.cmpi .ne v24 c0_i32_9
  let v26 : BitVec 1 := Scalar.andi v23 v25
  let v12 : BitVec 32 := Scalar.divsi arg2 c2_i32
  let c1_i32 : BitVec 32 := 1#32
  let v27 : BitVec 32 := Scalar.subi v12 c1_i32
  let v28 : BitVec 32 := Scalar.select v26 v27 v12
  let v29 : BitVec 32 := Scalar.subi v28 c0_i32_11
  let c1_i32_12 : BitVec 32 := 1#32
  let v31 : BitVec 32 := Scalar.divsi v29 c1_i32_12
  let v32 : BitVec 32 := Scalar.muli v31 c1_i32_12
  let v33 : BitVec 32 := Scalar.addi c0_i32_11 v32
  let v30 : BitVec 32 := Scalar.addi c0_i32_11 v29
  let c1_i32_14 : BitVec 32 := 1#32
  ⟨v33, v30, c1_i32_14⟩
def k0_mult2 (i : grid0.Coords) (k0_t2 : Fin (k0_t2_loop i).trips) : BitVec 32 :=
  let c0_i32_11 : BitVec 32 := 0#32
  let arg2 : BitVec 32 := BitVec.ofNat 32 (i 2).val
  let c0_i32 : BitVec 32 := 0#32
  let v13 : BitVec 1 := Scalar.cmpi .sgt arg2 c0_i32
  let v14 : BitVec 32 := Scalar.extui v13
  let c0_i32_6 : BitVec 32 := 0#32
  let v15 : BitVec 1 := Scalar.cmpi .slt arg2 c0_i32_6
  let v16 : BitVec 32 := Scalar.extui v15
  let v17 : BitVec 32 := Scalar.subi v14 v16
  let c2_i32 : BitVec 32 := 2#32
  let c0_i32_7 : BitVec 32 := 0#32
  let v18 : BitVec 1 := Scalar.cmpi .sgt c2_i32 c0_i32_7
  let v19 : BitVec 32 := Scalar.extui v18
  let c0_i32_8 : BitVec 32 := 0#32
  let v20 : BitVec 1 := Scalar.cmpi .slt c2_i32 c0_i32_8
  let v21 : BitVec 32 := Scalar.extui v20
  let v22 : BitVec 32 := Scalar.subi v19 v21
  let v23 : BitVec 1 := Scalar.cmpi .ne v17 v22
  let v24 : BitVec 32 := Scalar.remsi arg2 c2_i32
  let c0_i32_9 : BitVec 32 := 0#32
  let v25 : BitVec 1 := Scalar.cmpi .ne v24 c0_i32_9
  let v26 : BitVec 1 := Scalar.andi v23 v25
  let v12 : BitVec 32 := Scalar.divsi arg2 c2_i32
  let c1_i32 : BitVec 32 := 1#32
  let v27 : BitVec 32 := Scalar.subi v12 c1_i32
  let v28 : BitVec 32 := Scalar.select v26 v27 v12
  let v29 : BitVec 32 := Scalar.subi v28 c0_i32_11
  let c1_i32_12 : BitVec 32 := 1#32
  let v31 : BitVec 32 := Scalar.divsi v29 c1_i32_12
  let v32 : BitVec 32 := Scalar.muli v31 c1_i32_12
  let v33 : BitVec 32 := Scalar.addi c0_i32_11 v32
  let c1_i32_14 : BitVec 32 := 1#32
  let arg10 : BitVec 32 := Scf.iv v33 c1_i32_14 k0_t2
  let c1024_i32 : BitVec 32 := 1024#32
  let v70 : BitVec 32 := Scalar.muli arg10 c1024_i32
  v70
def k0_off2 (i : grid0.Coords) (k0_t2 : Fin (k0_t2_loop i).trips) (c0_i32_37 : BitVec 32) : Fin 2 → Nat :=
  let c0_i32_11 : BitVec 32 := 0#32
  let arg2 : BitVec 32 := BitVec.ofNat 32 (i 2).val
  let c0_i32 : BitVec 32 := 0#32
  let v13 : BitVec 1 := Scalar.cmpi .sgt arg2 c0_i32
  let v14 : BitVec 32 := Scalar.extui v13
  let c0_i32_6 : BitVec 32 := 0#32
  let v15 : BitVec 1 := Scalar.cmpi .slt arg2 c0_i32_6
  let v16 : BitVec 32 := Scalar.extui v15
  let v17 : BitVec 32 := Scalar.subi v14 v16
  let c2_i32 : BitVec 32 := 2#32
  let c0_i32_7 : BitVec 32 := 0#32
  let v18 : BitVec 1 := Scalar.cmpi .sgt c2_i32 c0_i32_7
  let v19 : BitVec 32 := Scalar.extui v18
  let c0_i32_8 : BitVec 32 := 0#32
  let v20 : BitVec 1 := Scalar.cmpi .slt c2_i32 c0_i32_8
  let v21 : BitVec 32 := Scalar.extui v20
  let v22 : BitVec 32 := Scalar.subi v19 v21
  let v23 : BitVec 1 := Scalar.cmpi .ne v17 v22
  let v24 : BitVec 32 := Scalar.remsi arg2 c2_i32
  let c0_i32_9 : BitVec 32 := 0#32
  let v25 : BitVec 1 := Scalar.cmpi .ne v24 c0_i32_9
  let v26 : BitVec 1 := Scalar.andi v23 v25
  let v12 : BitVec 32 := Scalar.divsi arg2 c2_i32
  let c1_i32 : BitVec 32 := 1#32
  let v27 : BitVec 32 := Scalar.subi v12 c1_i32
  let v28 : BitVec 32 := Scalar.select v26 v27 v12
  let v29 : BitVec 32 := Scalar.subi v28 c0_i32_11
  let c1_i32_12 : BitVec 32 := 1#32
  let v31 : BitVec 32 := Scalar.divsi v29 c1_i32_12
  let v32 : BitVec 32 := Scalar.muli v31 c1_i32_12
  let v33 : BitVec 32 := Scalar.addi c0_i32_11 v32
  let c1_i32_14 : BitVec 32 := 1#32
  let arg10 : BitVec 32 := Scf.iv v33 c1_i32_14 k0_t2
  let c1024_i32 : BitVec 32 := 1024#32
  let v70 : BitVec 32 := Scalar.muli arg10 c1024_i32
  let v71 : BitVec 32 := v70
  let v72 : BitVec 32 := Scalar.addi v71 c0_i32_37
  let v73 : Index := Scalar.indexCast v72
  let c0_38 : Index := 0#32
  ![v73.toNat, 0]
def k0_cond1 (i : grid0.Coords) : BitVec 1 :=
  let arg2 : BitVec 32 := BitVec.ofNat 32 (i 2).val
  let c2_i32_15 : BitVec 32 := 2#32
  let c0_i32_16 : BitVec 32 := 0#32
  let v34 : BitVec 1 := Scalar.cmpi .eq c2_i32_15 c0_i32_16
  let c1_i32_17 : BitVec 32 := 1#32
  let v35 : BitVec 32 := Scalar.select v34 c1_i32_17 c2_i32_15
  let v36 : BitVec 32 := Scalar.remsi arg2 v35
  let c0_i32_19 : BitVec 32 := 0#32
  let v38 : BitVec 1 := Scalar.cmpi .slt v36 c0_i32_19
  let c0_i32_20 : BitVec 32 := 0#32
  let v39 : BitVec 1 := Scalar.cmpi .slt v35 c0_i32_20
  let v40 : BitVec 1 := Scalar.xori v38 v39
  let c0_i32_18 : BitVec 32 := 0#32
  let v37 : BitVec 1 := Scalar.cmpi .ne v36 c0_i32_18
  let v41 : BitVec 1 := Scalar.andi v40 v37
  let v42 : BitVec 32 := Scalar.addi v36 v35
  let v43 : BitVec 32 := Scalar.select v41 v42 v36
  let c0_i32_21 : BitVec 32 := 0#32
  let v44 : BitVec 1 := Scalar.cmpi .eq v43 c0_i32_21
  let v45 : BitVec 32 := Scalar.extui v44
  let c0_i32_22 : BitVec 32 := 0#32
  let v46 : BitVec 1 := Scalar.cmpi .ne v45 c0_i32_22
  v46

def k0_mult3 (i : grid0.Coords) : BitVec 32 :=
  let arg2 : BitVec 32 := BitVec.ofNat 32 (i 2).val
  let c0_i32_37 : BitVec 32 := 0#32
  let v70 : BitVec 32 := Scalar.subi arg2 c0_i32_37
  let c512_i32 : BitVec 32 := 512#32
  let v71 : BitVec 32 := Scalar.muli v70 c512_i32
  v71
def k0_off3 (i : grid0.Coords) (c0_i32_38 : BitVec 32) : Fin 2 → Nat :=
  let arg2 : BitVec 32 := BitVec.ofNat 32 (i 2).val
  let c0_i32_37 : BitVec 32 := 0#32
  let v70 : BitVec 32 := Scalar.subi arg2 c0_i32_37
  let c512_i32 : BitVec 32 := 512#32
  let v71 : BitVec 32 := Scalar.muli v70 c512_i32
  let v72 : BitVec 32 := v71
  let v73 : BitVec 32 := Scalar.addi v72 c0_i32_38
  let v74 : Index := Scalar.indexCast v73
  let c0_39 : Index := 0#32
  ![v74.toNat, 0]
def k0_cond2 (i : grid0.Coords) : BitVec 1 :=
  let arg2 : BitVec 32 := BitVec.ofNat 32 (i 2).val
  let c2_i32_23 : BitVec 32 := 2#32
  let c0_i32_24 : BitVec 32 := 0#32
  let v47 : BitVec 1 := Scalar.cmpi .eq c2_i32_23 c0_i32_24
  let c1_i32_25 : BitVec 32 := 1#32
  let v48 : BitVec 32 := Scalar.select v47 c1_i32_25 c2_i32_23
  let v49 : BitVec 32 := Scalar.remsi arg2 v48
  let c0_i32_27 : BitVec 32 := 0#32
  let v51 : BitVec 1 := Scalar.cmpi .slt v49 c0_i32_27
  let c0_i32_28 : BitVec 32 := 0#32
  let v52 : BitVec 1 := Scalar.cmpi .slt v48 c0_i32_28
  let v53 : BitVec 1 := Scalar.xori v51 v52
  let c0_i32_26 : BitVec 32 := 0#32
  let v50 : BitVec 1 := Scalar.cmpi .ne v49 c0_i32_26
  let v54 : BitVec 1 := Scalar.andi v53 v50
  let v55 : BitVec 32 := Scalar.addi v49 v48
  let v56 : BitVec 32 := Scalar.select v54 v55 v49
  let c1_i32_29 : BitVec 32 := 1#32
  let v57 : BitVec 1 := Scalar.cmpi .eq v56 c1_i32_29
  let v58 : BitVec 32 := Scalar.extui v57
  let c0_i32_30 : BitVec 32 := 0#32
  let v59 : BitVec 1 := Scalar.cmpi .ne v58 c0_i32_30
  v59

def k0_mult4 (i : grid0.Coords) : BitVec 32 :=
  let arg2 : BitVec 32 := BitVec.ofNat 32 (i 2).val
  let c1_i32_37 : BitVec 32 := 1#32
  let v70 : BitVec 32 := Scalar.subi arg2 c1_i32_37
  let c512_i32 : BitVec 32 := 512#32
  let v71 : BitVec 32 := Scalar.muli v70 c512_i32
  v71
def k0_off4 (i : grid0.Coords) (c0_i32_38 : BitVec 32) : Fin 2 → Nat :=
  let arg2 : BitVec 32 := BitVec.ofNat 32 (i 2).val
  let c1_i32_37 : BitVec 32 := 1#32
  let v70 : BitVec 32 := Scalar.subi arg2 c1_i32_37
  let c512_i32 : BitVec 32 := 512#32
  let v71 : BitVec 32 := Scalar.muli v70 c512_i32
  let v72 : BitVec 32 := v71
  let v73 : BitVec 32 := Scalar.addi v72 c0_i32_38
  let v74 : Index := Scalar.indexCast v73
  let c0_39 : Index := 0#32
  ![v74.toNat, 0]
def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg0 c8_i32
  let v1 : BitVec 32 := Scalar.addi v0 arg2
  let c0_i32 : BitVec 32 := 0#32
  ![v1.toNat, arg1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg0 c8_i32
  let v1 : BitVec 32 := Scalar.addi v0 arg2
  let c0_i32 : BitVec 32 := 0#32
  ![v1.toNat, arg1.toNat]

abbrev stage0_0 : Fin 2 → Memref sig .tc .vmem S512x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S4096x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S4096x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true, false]

abbrev stage0_4 : Fin 2 → Memref sig .tc .vmem S512x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]
-- ==== AttentionReferenceIdeal.lean ====
abbrev S4x8x4096x192 : Shape := ⟨4, ![4, 8, 4096, 192]⟩
abbrev S4x8x4096x128 : Shape := ⟨4, ![4, 8, 4096, 128]⟩
abbrev S1024 : Shape := ⟨1, ![1024]⟩
abbrev S4x8x4096x4096 : Shape := ⟨4, ![4, 8, 4096, 4096]⟩
abbrev S_ : Shape := ⟨0, ![]⟩
abbrev S4096 : Shape := ⟨1, ![4096]⟩
abbrev S1x4096 : Shape := ⟨2, ![1, 4096]⟩
abbrev S4096x1 : Shape := ⟨2, ![4096, 1]⟩
abbrev S4096x4096 : Shape := ⟨2, ![4096, 4096]⟩
abbrev S4x8x4096 : Shape := ⟨3, ![4, 8, 4096]⟩
abbrev S4x8x4096x1 : Shape := ⟨4, ![4, 8, 4096, 1]⟩
abbrev S4x4096x8x128 : Shape := ⟨4, ![4, 4096, 8, 128]⟩
abbrev S16384x1024 : Shape := ⟨2, ![16384, 1024]⟩
abbrev S1x1024 : Shape := ⟨2, ![1, 1024]⟩

abbrev nBuf : Space → Nat
  | .hbm => 41
  | .vmem => 0
  | .smem => 0
  | _ => 0

abbrev bufTy : (tb : Table) → Fin (tcTables nBuf tb) → BufTy
  | .hbm, ⟨0, _⟩ => ⟨S4x8x4096x192, .f32⟩
  | .hbm, ⟨1, _⟩ => ⟨S4x8x4096x192, .f32⟩
  | .hbm, ⟨2, _⟩ => ⟨S4x8x4096x128, .f32⟩
  | .hbm, ⟨3, _⟩ => ⟨S1024, .f32⟩
  | .hbm, ⟨4, _⟩ => ⟨S4x8x4096x4096, .f32⟩
  | .hbm, ⟨5, _⟩ => ⟨S_, .f32⟩
  | .hbm, ⟨6, _⟩ => ⟨S_, .f32⟩
  | .hbm, ⟨7, _⟩ => ⟨S4x8x4096x4096, .f32⟩
  | .hbm, ⟨8, _⟩ => ⟨S4x8x4096x4096, .f32⟩
  | .hbm, ⟨9, _⟩ => ⟨S4096, .i32⟩
  | .hbm, ⟨10, _⟩ => ⟨S1x4096, .i32⟩
  | .hbm, ⟨11, _⟩ => ⟨S4096x1, .i32⟩
  | .hbm, ⟨12, _⟩ => ⟨S4096x4096, .i32⟩
  | .hbm, ⟨13, _⟩ => ⟨S4096x4096, .i32⟩
  | .hbm, ⟨14, _⟩ => ⟨S4096x4096, .i1⟩
  | .hbm, ⟨15, _⟩ => ⟨S_, .f32⟩
  | .hbm, ⟨16, _⟩ => ⟨S_, .f32⟩
  | .hbm, ⟨17, _⟩ => ⟨S4x8x4096x4096, .i1⟩
  | .hbm, ⟨18, _⟩ => ⟨S4x8x4096x4096, .f32⟩
  | .hbm, ⟨19, _⟩ => ⟨S4x8x4096x4096, .f32⟩
  | .hbm, ⟨20, _⟩ => ⟨S_, .f32⟩
  | .hbm, ⟨21, _⟩ => ⟨S4x8x4096, .f32⟩
  | .hbm, ⟨22, _⟩ => ⟨S_, .f32⟩
  | .hbm, ⟨23, _⟩ => ⟨S4x8x4096, .f32⟩
  | .hbm, ⟨24, _⟩ => ⟨S4x8x4096, .f32⟩
  | .hbm, ⟨25, _⟩ => ⟨S4x8x4096x1, .f32⟩
  | .hbm, ⟨26, _⟩ => ⟨S4x8x4096x4096, .f32⟩
  | .hbm, ⟨27, _⟩ => ⟨S4x8x4096x4096, .f32⟩
  | .hbm, ⟨28, _⟩ => ⟨S4x8x4096x4096, .f32⟩
  | .hbm, ⟨29, _⟩ => ⟨S_, .f32⟩
  | .hbm, ⟨30, _⟩ => ⟨S4x8x4096, .f32⟩
  | .hbm, ⟨31, _⟩ => ⟨S4x8x4096x1, .f32⟩
  | .hbm, ⟨32, _⟩ => ⟨S4x8x4096x4096, .f32⟩
  | .hbm, ⟨33, _⟩ => ⟨S4x8x4096x4096, .f32⟩
  | .hbm, ⟨34, _⟩ => ⟨S4x8x4096x128, .f32⟩
  | .hbm, ⟨35, _⟩ => ⟨S4x4096x8x128, .f32⟩
  | .hbm, ⟨36, _⟩ => ⟨S16384x1024, .f32⟩
  | .hbm, ⟨37, _⟩ => ⟨S1x1024, .f32⟩
  | .hbm, ⟨38, _⟩ => ⟨S16384x1024, .f32⟩
  | .hbm, ⟨39, _⟩ => ⟨S16384x1024, .f32⟩
  | .hbm, ⟨40, _⟩ => ⟨S16384x1024, .bf16⟩
  | _, _ => ⟨S4x8x4096x192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_cst_0 : Ref sig .tc := ⟨.hbm, 15, rfl⟩
abbrev main_call0_v0 : Ref sig .tc := ⟨.hbm, 16, rfl⟩
abbrev main_call0_v1 : Ref sig .tc := ⟨.hbm, 17, rfl⟩
abbrev main_call0_v2 : Ref sig .tc := ⟨.hbm, 18, rfl⟩
abbrev main_v10 : Ref sig .tc := ⟨.hbm, 19, rfl⟩
abbrev main_cst_1 : Ref sig .tc := ⟨.hbm, 20, rfl⟩
abbrev main_v11 : Ref sig .tc := ⟨.hbm, 21, rfl⟩
abbrev main_cst_2 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_3 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩

abbrev nD : Nat := 1
abbrev τ : Topo := Topo.v7x

variable {F : FTy → Type} [FloatOps F]
-- ==== LatentUp.lean ====
abbrev S16384x10752 : Shape := ⟨2, ![16384, 10752]⟩
abbrev S4x4096 : Shape := ⟨2, ![4, 4096]⟩
abbrev S512 : Shape := ⟨1, ![512]⟩
abbrev S512x1536 : Shape := ⟨2, ![512, 1536]⟩
abbrev S512x2048 : Shape := ⟨2, ![512, 2048]⟩
abbrev S32 : Shape := ⟨1, ![32]⟩
abbrev S_ : Shape := ⟨0, ![]⟩
abbrev S16384x1 : Shape := ⟨2, ![16384, 1]⟩
abbrev S128 : Shape := ⟨1, ![128]⟩
abbrev S1x128 : Shape := ⟨2, ![1, 128]⟩
abbrev S16384x128 : Shape := ⟨2, ![16384, 128]⟩
abbrev S512x8x192 : Shape := ⟨3, ![512, 8, 192]⟩
abbrev S512x8x64 : Shape := ⟨3, ![512, 8, 64]⟩
abbrev S512x8x256 : Shape := ⟨3, ![512, 8, 256]⟩
abbrev S512x8x128 : Shape := ⟨3, ![512, 8, 128]⟩
abbrev S512x1024 : Shape := ⟨2, ![512, 1024]⟩
abbrev S1x512 : Shape := ⟨2, ![1, 512]⟩
abbrev S16384x2048 : Shape := ⟨2, ![16384, 2048]⟩
abbrev S512x512 : Shape := ⟨2, ![512, 512]⟩
abbrev S512x128 : Shape := ⟨2, ![512, 128]⟩
abbrev S512x1 : Shape := ⟨2, ![512, 1]⟩

abbrev nBuf : Space → Nat
  | .hbm => 65
  | .vmem => 22
  | .smem => 0
  | _ => 0

abbrev bufTy : (tb : Table) → Fin (tcTables nBuf tb) → BufTy
  | .hbm, ⟨0, _⟩ => ⟨S16384x10752, .f32⟩
  | .hbm, ⟨1, _⟩ => ⟨S4x4096, .i32⟩
  | .hbm, ⟨2, _⟩ => ⟨S512, .f32⟩
  | .hbm, ⟨3, _⟩ => ⟨S512, .f32⟩
  | .hbm, ⟨4, _⟩ => ⟨S512x1536, .f32⟩
  | .hbm, ⟨5, _⟩ => ⟨S512x2048, .f32⟩
  | .hbm, ⟨6, _⟩ => ⟨S32, .f32⟩
  | .hbm, ⟨7, _⟩ => ⟨S_, .f32⟩
  | .hbm, ⟨8, _⟩ => ⟨S32, .f32⟩
  | .hbm, ⟨9, _⟩ => ⟨S32, .f32⟩
  | .hbm, ⟨10, _⟩ => ⟨S_, .f32⟩
  | .hbm, ⟨11, _⟩ => ⟨S32, .f32⟩
  | .hbm, ⟨12, _⟩ => ⟨S32, .f32⟩
  | .hbm, ⟨13, _⟩ => ⟨S32, .f32⟩
  | .hbm, ⟨14, _⟩ => ⟨S_, .f32⟩
  | .hbm, ⟨15, _⟩ => ⟨S32, .f32⟩
  | .hbm, ⟨16, _⟩ => ⟨S32, .f32⟩
  | .hbm, ⟨17, _⟩ => ⟨S_, .f32⟩
  | .hbm, ⟨18, _⟩ => ⟨S32, .f32⟩
  | .hbm, ⟨19, _⟩ => ⟨S32, .f32⟩
  | .hbm, ⟨20, _⟩ => ⟨S_, .f32⟩
  | .hbm, ⟨21, _⟩ => ⟨S32, .f32⟩
  | .hbm, ⟨22, _⟩ => ⟨S_, .f32⟩
  | .hbm, ⟨23, _⟩ => ⟨S32, .f32⟩
  | .hbm, ⟨24, _⟩ => ⟨S16384x1, .i32⟩
  | .hbm, ⟨25, _⟩ => ⟨S16384x1, .f32⟩
  | .hbm, ⟨26, _⟩ => ⟨S128, .f32⟩
  | .hbm, ⟨27, _⟩ => ⟨S1x128, .f32⟩
  | .hbm, ⟨28, _⟩ => ⟨S16384x128, .f32⟩
  | .hbm, ⟨29, _⟩ => ⟨S16384x128, .f32⟩
  | .hbm, ⟨30, _⟩ => ⟨S16384x128, .f32⟩
  | .hbm, ⟨31, _⟩ => ⟨S16384x128, .f32⟩
  | .hbm, ⟨32, _⟩ => ⟨S128, .f32⟩
  | .hbm, ⟨33, _⟩ => ⟨S1x128, .f32⟩
  | .hbm, ⟨34, _⟩ => ⟨S16384x128, .f32⟩
  | .hbm, ⟨35, _⟩ => ⟨S16384x128, .f32⟩
  | .hbm, ⟨36, _⟩ => ⟨S16384x128, .f32⟩
  | .hbm, ⟨37, _⟩ => ⟨S32, .f32⟩
  | .hbm, ⟨38, _⟩ => ⟨S128, .f32⟩
  | .hbm, ⟨39, _⟩ => ⟨S1x128, .f32⟩
  | .hbm, ⟨40, _⟩ => ⟨S16384x128, .f32⟩
  | .hbm, ⟨41, _⟩ => ⟨S16384x128, .f32⟩
  | .hbm, ⟨42, _⟩ => ⟨S16384x128, .f32⟩
  | .hbm, ⟨43, _⟩ => ⟨S128, .f32⟩
  | .hbm, ⟨44, _⟩ => ⟨S1x128, .f32⟩
  | .hbm, ⟨45, _⟩ => ⟨S16384x128, .f32⟩
  | .hbm, ⟨46, _⟩ => ⟨S16384x128, .f32⟩
  | .hbm, ⟨47, _⟩ => ⟨S512x1536, .bf16⟩
  | .hbm, ⟨48, _⟩ => ⟨S512x8x192, .bf16⟩
  | .hbm, ⟨49, _⟩ => ⟨S_, .bf16⟩
  | .hbm, ⟨50, _⟩ => ⟨S512x8x64, .bf16⟩
  | .hbm, ⟨51, _⟩ => ⟨S512x8x256, .bf16⟩
  | .hbm, ⟨52, _⟩ => ⟨S512x2048, .bf16⟩
  | .hbm, ⟨53, _⟩ => ⟨S512x2048, .bf16⟩
  | .hbm, ⟨54, _⟩ => ⟨S512x8x256, .bf16⟩
  | .hbm, ⟨55, _⟩ => ⟨S512x8x128, .bf16⟩
  | .hbm, ⟨56, _⟩ => ⟨S512x1024, .bf16⟩
  | .hbm, ⟨57, _⟩ => ⟨S512x8x128, .bf16⟩
  | .hbm, ⟨58, _⟩ => ⟨S512x1024, .bf16⟩
  | .hbm, ⟨59, _⟩ => ⟨S512x2048, .bf16⟩
  | .hbm, ⟨60, _⟩ => ⟨S1x512, .f32⟩
  | .hbm, ⟨61, _⟩ => ⟨S1x512, .f32⟩
  | .hbm, ⟨62, _⟩ => ⟨S16384x2048, .bf16⟩
  | .hbm, ⟨63, _⟩ => ⟨S16384x2048, .bf16⟩
  | .hbm, ⟨64, _⟩ => ⟨S16384x2048, .bf16⟩
  | .local _ .vmem, ⟨0, _⟩ => ⟨S512x512, .f32⟩
  | .local _ .vmem, ⟨1, _⟩ => ⟨S512x512, .f32⟩
  | .local _ .vmem, ⟨2, _⟩ => ⟨S512x512, .f32⟩
  | .local _ .vmem, ⟨3, _⟩ => ⟨S512x512, .f32⟩
  | .local _ .vmem, ⟨4, _⟩ => ⟨S512x128, .f32⟩
  | .local _ .vmem, ⟨5, _⟩ => ⟨S512x128, .f32⟩
  | .local _ .vmem, ⟨6, _⟩ => ⟨S1x512, .f32⟩
  | .local _ .vmem, ⟨7, _⟩ => ⟨S1x512, .f32⟩
  | .local _ .vmem, ⟨8, _⟩ => ⟨S512x2048, .bf16⟩
  | .local _ .vmem, ⟨9, _⟩ => ⟨S512x2048, .bf16⟩
  | .local _ .vmem, ⟨10, _⟩ => ⟨S512x128, .f32⟩
  | .local _ .vmem, ⟨11, _⟩ => ⟨S512x128, .f32⟩
  | .local _ .vmem, ⟨12, _⟩ => ⟨S512x128, .f32⟩
  | .local _ .vmem, ⟨13, _⟩ => ⟨S512x128, .f32⟩
  | .local _ .vmem, ⟨14, _⟩ => ⟨S512x128, .f32⟩
  | .local _ .vmem, ⟨15, _⟩ => ⟨S512x128, .f32⟩
  | .local _ .vmem, ⟨16, _⟩ => ⟨S512x2048, .bf16⟩
  | .local _ .vmem, ⟨17, _⟩ => ⟨S512x2048, .bf16⟩
  | .local _ .vmem, ⟨18, _⟩ => ⟨S512x2048, .bf16⟩
  | .local _ .vmem, ⟨19, _⟩ => ⟨S512x2048, .bf16⟩
  | .local _ .vmem, ⟨20, _⟩ => ⟨S512x2048, .bf16⟩
  | .local _ .vmem, ⟨21, _⟩ => ⟨S512x2048, .bf16⟩
  | _, _ => ⟨S16384x10752, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_cst_1 : Ref sig .tc := ⟨.hbm, 14, rfl⟩
abbrev main_v6 : Ref sig .tc := ⟨.hbm, 15, rfl⟩
abbrev main_v7 : Ref sig .tc := ⟨.hbm, 16, rfl⟩
abbrev main_cst_2 : Ref sig .tc := ⟨.hbm, 17, rfl⟩
abbrev main_v8 : Ref sig .tc := ⟨.hbm, 18, rfl⟩
abbrev main_v9 : Ref sig .tc := ⟨.hbm, 19, rfl⟩
abbrev main_cst_3 : Ref sig .tc := ⟨.hbm, 20, rfl⟩
abbrev main_v10 : Ref sig .tc := ⟨.hbm, 21, rfl⟩
abbrev main_cst_4 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_cst_5 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_v48 : Ref sig .tc := ⟨.hbm, 61, rfl⟩
abbrev main_v49_0 : Ref sig .tc := ⟨.hbm, 62, rfl⟩
abbrev main_v49_1 : Ref sig .tc := ⟨.hbm, 63, rfl⟩
abbrev main_v49_2 : Ref sig .tc := ⟨.hbm, 64, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg10_1 : Ref sig .tc := ⟨.vmem, 17, rfl⟩
abbrev cc0_stg11_0 : Ref sig .tc := ⟨.vmem, 18, rfl⟩
abbrev cc0_stg11_1 : Ref sig .tc := ⟨.vmem, 19, rfl⟩
abbrev cc0_stg12_0 : Ref sig .tc := ⟨.vmem, 20, rfl⟩
abbrev cc0_stg12_1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem7_1 : DmaSem sig := 11
abbrev cc0_sem8_0 : DmaSem sig := 12
abbrev cc0_sem8_1 : DmaSem sig := 13
abbrev cc0_sem9_0 : DmaSem sig := 14
abbrev cc0_sem9_1 : DmaSem sig := 15
abbrev cc0_sem10_0 : DmaSem sig := 16
abbrev cc0_sem10_1 : DmaSem sig := 17
abbrev cc0_sem11_0 : DmaSem sig := 18
abbrev cc0_sem11_1 : DmaSem sig := 19
abbrev cc0_sem12_0 : DmaSem sig := 20
abbrev cc0_sem12_1 : DmaSem sig := 21

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c18_i32 : BitVec 32 := 18#32
  let c0_i32 : BitVec 32 := 0#32
  ![arg0.toNat, c18_i32.toNat]

def cc0_transform_1 (i : grid0.Coords) : Fin 2 → Nat :=
  let arg0 : BitVec 32 := BitVec.ofNat 32 (i 0).val
  let c19_i32 : BitVec 32 := 19#32
  let c0_i32 : BitVec 32 := 0#32
  ![arg0.toNat, c19_i32.toNat]

def cc0_transform_2 (i : grid0.Coords) : Fin 2 → Nat :=
  let arg0 : BitVec 32 := BitVec.ofNat 32 (i 0).val
  let c83_i32 : BitVec 32 := 83#32
  let c0_i32 : BitVec 32 := 0#32
  ![arg0.toNat, c83_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S512x2048 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S512x2048 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x2048 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x2048 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S512x2048 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]
-- ==== LatentUpReferenceIdeal.lean ====
abbrev S16384x10752 : Shape := ⟨2, ![16384, 10752]⟩
abbrev S4x4096 : Shape := ⟨2, ![4, 4096]⟩
abbrev S512 : Shape := ⟨1, ![512]⟩
abbrev S512x1536 : Shape := ⟨2, ![512, 1536]⟩
abbrev S512x2048 : Shape := ⟨2, ![512, 2048]⟩
abbrev S4x4096x10752 : Shape := ⟨3, ![4, 4096, 10752]⟩
abbrev S4x4096x512 : Shape := ⟨3, ![4, 4096, 512]⟩
abbrev S4x4096x64 : Shape := ⟨3, ![4, 4096, 64]⟩
abbrev S_ : Shape := ⟨0, ![]⟩
abbrev S4x4096x1 : Shape := ⟨3, ![4, 4096, 1]⟩
abbrev S1x1x512 : Shape := ⟨3, ![1, 1, 512]⟩
abbrev S4x4096x1536 : Shape := ⟨3, ![4, 4096, 1536]⟩
abbrev S4x4096x8x192 : Shape := ⟨4, ![4, 4096, 8, 192]⟩
abbrev S4x4096x2048 : Shape := ⟨3, ![4, 4096, 2048]⟩
abbrev S4x4096x8x256 : Shape := ⟨4, ![4, 4096, 8, 256]⟩
abbrev S4x4096x8x128 : Shape := ⟨4, ![4, 4096, 8, 128]⟩
abbrev S4x4096x8x64 : Shape := ⟨4, ![4, 4096, 8, 64]⟩
abbrev S32 : Shape := ⟨1, ![32]⟩
abbrev S1x1x32 : Shape := ⟨3, ![1, 1, 32]⟩
abbrev S4x4096x32 : Shape := ⟨3, ![4, 4096, 32]⟩
abbrev S4x4096x1x32 : Shape := ⟨4, ![4, 4096, 1, 32]⟩
abbrev S4x4096x8x32 : Shape := ⟨4, ![4, 4096, 8, 32]⟩
abbrev S4x4096x1x64 : Shape := ⟨4, ![4, 4096, 1, 64]⟩
abbrev S16384x2048 : Shape := ⟨2, ![16384, 2048]⟩

abbrev nBuf : Space → Nat
  | .hbm => 141
  | .vmem => 0
  | .smem => 0
  | _ => 0

abbrev hbmTy0_0 (i : Nat) : BufTy := match i % 128 with
  | 0 => ⟨S16384x10752, .f32⟩
  | 1 => ⟨S4x4096, .i32⟩
  | 2 => ⟨S512, .f32⟩
  | 3 => ⟨S512, .f32⟩
  | 4 => ⟨S512x1536, .f32⟩
  | 5 => ⟨S512x2048, .f32⟩
  | 6 => ⟨S4x4096x10752, .f32⟩
  | 7 => ⟨S4x4096x512, .f32⟩
  | 8 => ⟨S4x4096x512, .f32⟩
  | 9 => ⟨S4x4096x64, .f32⟩
  | 10 => ⟨S4x4096x512, .f32⟩
  | 11 => ⟨S_, .f32⟩
  | 12 => ⟨S4x4096, .f32⟩
  | 13 => ⟨S4x4096x1, .f32⟩
  | 14 => ⟨S_, .f32⟩
  | 15 => ⟨S4x4096x1, .f32⟩
  | 16 => ⟨S4x4096x1, .f32⟩
  | 17 => ⟨S_, .f32⟩
  | 18 => ⟨S4x4096x1, .f32⟩
  | 19 => ⟨S4x4096x1, .f32⟩
  | 20 => ⟨S4x4096x1, .f32⟩
  | 21 => ⟨S4x4096x512, .f32⟩
  | 22 => ⟨S4x4096x512, .f32⟩
  | 23 => ⟨S1x1x512, .f32⟩
  | 24 => ⟨S4x4096x512, .f32⟩
  | 25 => ⟨S4x4096x512, .f32⟩
  | 26 => ⟨S4x4096x1536, .f32⟩
  | 27 => ⟨S4x4096x8x192, .f32⟩
  | 28 => ⟨S4x4096x512, .f32⟩
  | 29 => ⟨S_, .f32⟩
  | 30 => ⟨S4x4096, .f32⟩
  | 31 => ⟨S4x4096x1, .f32⟩
  | 32 => ⟨S_, .f32⟩
  | 33 => ⟨S4x4096x1, .f32⟩
  | 34 => ⟨S4x4096x1, .f32⟩
  | 35 => ⟨S_, .f32⟩
  | 36 => ⟨S4x4096x1, .f32⟩
  | 37 => ⟨S4x4096x1, .f32⟩
  | 38 => ⟨S4x4096x1, .f32⟩
  | 39 => ⟨S4x4096x512, .f32⟩
  | 40 => ⟨S4x4096x512, .f32⟩
  | 41 => ⟨S1x1x512, .f32⟩
  | 42 => ⟨S4x4096x512, .f32⟩
  | 43 => ⟨S4x4096x512, .f32⟩
  | 44 => ⟨S4x4096x2048, .f32⟩
  | 45 => ⟨S4x4096x8x256, .f32⟩
  | 46 => ⟨S4x4096x8x128, .f32⟩
  | 47 => ⟨S4x4096x8x64, .f32⟩
  | 48 => ⟨S32, .f32⟩
  | 49 => ⟨S_, .f32⟩
  | 50 => ⟨S32, .f32⟩
  | 51 => ⟨S32, .f32⟩
  | 52 => ⟨S_, .f32⟩
  | 53 => ⟨S32, .f32⟩
  | 54 => ⟨S32, .f32⟩
  | 55 => ⟨S32, .f32⟩
  | 56 => ⟨S_, .f32⟩
  | 57 => ⟨S32, .f32⟩
  | 58 => ⟨S32, .f32⟩
  | 59 => ⟨S_, .f32⟩
  | 60 => ⟨S32, .f32⟩
  | 61 => ⟨S32, .f32⟩
  | 62 => ⟨S4x4096, .f32⟩
  | 63 => ⟨S4x4096x1, .f32⟩
  | 64 => ⟨S1x1x32, .f32⟩
  | 65 => ⟨S4x4096x32, .f32⟩
  | 66 => ⟨S4x4096x32, .f32⟩
  | 67 => ⟨S4x4096x32, .f32⟩
  | 68 => ⟨S4x4096x32, .f32⟩
  | 69 => ⟨S4x4096x1x32, .f32⟩
  | 70 => ⟨S4x4096x32, .f32⟩
  | 71 => ⟨S4x4096x1x32, .f32⟩
  | 72 => ⟨S4x4096x8x32, .f32⟩
  | 73 => ⟨S4x4096x8x32, .f32⟩
  | 74 => ⟨S4x4096x8x32, .f32⟩
  | 75 => ⟨S4x4096x8x32, .f32⟩
  | 76 => ⟨S4x4096x8x32, .f32⟩
  | 77 => ⟨S4x4096x8x32, .f32⟩
  | 78 => ⟨S4x4096x8x32, .f32⟩
  | 79 => ⟨S4x4096x8x32, .f32⟩
  | 80 => ⟨S4x4096x8x32, .f32⟩
  | 81 => ⟨S4x4096x8x32, .f32⟩
  | 82 => ⟨S4x4096x8x32, .f32⟩
  | 83 => ⟨S4x4096x8x32, .f32⟩
  | 84 => ⟨S4x4096x8x64, .f32⟩
  | 85 => ⟨S4x4096x8x128, .f32⟩
  | 86 => ⟨S4x4096x8x128, .f32⟩
  | 87 => ⟨S4x4096x1x64, .f32⟩
  | 88 => ⟨S32, .f32⟩
  | 89 => ⟨S_, .f32⟩
  | 90 => ⟨S32, .f32⟩
  | 91 => ⟨S32, .f32⟩
  | 92 => ⟨S_, .f32⟩
  | 93 => ⟨S32, .f32⟩
  | 94 => ⟨S32, .f32⟩
  | 95 => ⟨S32, .f32⟩
  | 96 => ⟨S_, .f32⟩
  | 97 => ⟨S32, .f32⟩
  | 98 => ⟨S32, .f32⟩
  | 99 => ⟨S_, .f32⟩
  | 100 => ⟨S32, .f32⟩
  | 101 => ⟨S32, .f32⟩
  | 102 => ⟨S4x4096, .f32⟩
  | 103 => ⟨S4x4096x1, .f32⟩
  | 104 => ⟨S1x1x32, .f32⟩
  | 105 => ⟨S4x4096x32, .f32⟩
  | 106 => ⟨S4x4096x32, .f32⟩
  | 107 => ⟨S4x4096x32, .f32⟩
  | 108 => ⟨S4x4096x32, .f32⟩
  | 109 => ⟨S4x4096x1x32, .f32⟩
  | 110 => ⟨S4x4096x32, .f32⟩
  | 111 => ⟨S4x4096x1x32, .f32⟩
  | 112 => ⟨S4x4096x1x32, .f32⟩
  | 113 => ⟨S4x4096x1x32, .f32⟩
  | 114 => ⟨S4x4096x1x32, .f32⟩
  | 115 => ⟨S4x4096x1x32, .f32⟩
  | 116 => ⟨S4x4096x1x32, .f32⟩
  | 117 => ⟨S4x4096x1x32, .f32⟩
  | 118 => ⟨S4x4096x1x32, .f32⟩
  | 119 => ⟨S4x4096x1x32, .f32⟩
  | 120 => ⟨S4x4096x1x64, .f32⟩
  | 121 => ⟨S4x4096x8x64, .f32⟩
  | 122 => ⟨S_, .f32⟩
  | 123 => ⟨S4x4096x8x64, .f32⟩
  | 124 => ⟨S_, .f32⟩
  | 125 => ⟨S4x4096x8x128, .f32⟩
  | 126 => ⟨S_, .f32⟩
  | 127 => ⟨S4x4096x8x128, .f32⟩
  | _ => ⟨S16384x10752, .f32⟩

abbrev hbmTy0_1 (i : Nat) : BufTy := match i % 128 with
  | 0 => ⟨S4x4096x8x128, .f32⟩
  | 1 => ⟨S_, .f32⟩
  | 2 => ⟨S4x4096x8x64, .f32⟩
  | 3 => ⟨S4x4096x8x64, .f32⟩
  | 4 => ⟨S4x4096x8x256, .f32⟩
  | 5 => ⟨S16384x2048, .f32⟩
  | 6 => ⟨S16384x2048, .bf16⟩
  | 7 => ⟨S4x4096x8x256, .f32⟩
  | 8 => ⟨S16384x2048, .f32⟩
  | 9 => ⟨S16384x2048, .bf16⟩
  | 10 => ⟨S4x4096x8x256, .f32⟩
  | 11 => ⟨S16384x2048, .f32⟩
  | 12 => ⟨S16384x2048, .bf16⟩
  | _ => ⟨S16384x10752, .f32⟩

abbrev hbmTy (i : Nat) : BufTy := match i / 128 with
  | 0 => hbmTy0_0 i
  | 1 => hbmTy0_1 i
  | _ => ⟨S16384x10752, .f32⟩

abbrev bufTy : (tb : Table) → Fin (tcTables nBuf tb) → BufTy
  | .hbm, ⟨i, _⟩ => hbmTy i
  | _, _ => ⟨S16384x10752, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst : Ref sig .tc := ⟨.hbm, 11, rfl⟩
abbrev main_v5 : Ref sig .tc := ⟨.hbm, 12, rfl⟩
abbrev main_v6 : Ref sig .tc := ⟨.hbm, 13, rfl⟩
abbrev main_cst_0 : Ref sig .tc := ⟨.hbm, 14, rfl⟩
abbrev main_v7 : Ref sig .tc := ⟨.hbm, 15, rfl⟩
abbrev main_v8 : Ref sig .tc := ⟨.hbm, 16, rfl⟩
abbrev main_cst_1 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_cst_2 : Ref sig .tc := ⟨.hbm, 29, rfl⟩
abbrev main_v20 : Ref sig .tc := ⟨.hbm, 30, rfl⟩
abbrev main_v21 : Ref sig .tc := ⟨.hbm, 31, rfl⟩
abbrev main_cst_3 : Ref sig .tc := ⟨.hbm, 32, rfl⟩
abbrev main_v22 : Ref sig .tc := ⟨.hbm, 33, rfl⟩
abbrev main_v23 : Ref sig .tc := ⟨.hbm, 34, rfl⟩
abbrev main_cst_4 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_cst_5 : Ref sig .tc := ⟨.hbm, 49, rfl⟩
abbrev main_v37 : Ref sig .tc := ⟨.hbm, 50, rfl⟩
abbrev main_v38 : Ref sig .tc := ⟨.hbm, 51, rfl⟩
abbrev main_cst_6 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_cst_7 : Ref sig .tc := ⟨.hbm, 56, rfl⟩
abbrev main_v42 : Ref sig .tc := ⟨.hbm, 57, rfl⟩
abbrev main_v43 : Ref sig .tc := ⟨.hbm, 58, rfl⟩
abbrev main_cst_8 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_v53 : Ref sig .tc := ⟨.hbm, 69, rfl⟩
abbrev main_v54 : Ref sig .tc := ⟨.hbm, 70, rfl⟩
abbrev main_v55 : Ref sig .tc := ⟨.hbm, 71, rfl⟩
abbrev main_v56 : Ref sig .tc := ⟨.hbm, 72, rfl⟩
abbrev main_v57 : Ref sig .tc := ⟨.hbm, 73, rfl⟩
abbrev main_v58 : Ref sig .tc := ⟨.hbm, 74, rfl⟩
abbrev main_v59 : Ref sig .tc := ⟨.hbm, 75, rfl⟩
abbrev main_v60 : Ref sig .tc := ⟨.hbm, 76, rfl⟩
abbrev main_v61 : Ref sig .tc := ⟨.hbm, 77, rfl⟩
abbrev main_v62 : Ref sig .tc := ⟨.hbm, 78, rfl⟩
abbrev main_v63 : Ref sig .tc := ⟨.hbm, 79, rfl⟩
abbrev main_v64 : Ref sig .tc := ⟨.hbm, 80, rfl⟩
abbrev main_v65 : Ref sig .tc := ⟨.hbm, 81, rfl⟩
abbrev main_v66 : Ref sig .tc := ⟨.hbm, 82, rfl⟩
abbrev main_v67 : Ref sig .tc := ⟨.hbm, 83, rfl⟩
abbrev main_v68 : Ref sig .tc := ⟨.hbm, 84, rfl⟩
abbrev main_v69 : Ref sig .tc := ⟨.hbm, 85, rfl⟩
abbrev main_v70 : Ref sig .tc := ⟨.hbm, 86, rfl⟩
abbrev main_v71 : Ref sig .tc := ⟨.hbm, 87, rfl⟩
abbrev main_v72 : Ref sig .tc := ⟨.hbm, 88, rfl⟩
abbrev main_cst_9 : Ref sig .tc := ⟨.hbm, 89, rfl⟩
abbrev main_v73 : Ref sig .tc := ⟨.hbm, 90, rfl⟩
abbrev main_v74 : Ref sig .tc := ⟨.hbm, 91, rfl⟩
abbrev main_cst_10 : Ref sig .tc := ⟨.hbm, 92, rfl⟩
abbrev main_v75 : Ref sig .tc := ⟨.hbm, 93, rfl⟩
abbrev main_v76 : Ref sig .tc := ⟨.hbm, 94, rfl⟩
abbrev main_v77 : Ref sig .tc := ⟨.hbm, 95, rfl⟩
abbrev main_cst_11 : Ref sig .tc := ⟨.hbm, 96, rfl⟩
abbrev main_v78 : Ref sig .tc := ⟨.hbm, 97, rfl⟩
abbrev main_v79 : Ref sig .tc := ⟨.hbm, 98, rfl⟩
abbrev main_cst_12 : Ref sig .tc := ⟨.hbm, 99, rfl⟩
abbrev main_v80 : Ref sig .tc := ⟨.hbm, 100, rfl⟩
abbrev main_v81 : Ref sig .tc := ⟨.hbm, 101, rfl⟩
abbrev main_v82 : Ref sig .tc := ⟨.hbm, 102, rfl⟩
abbrev main_v83 : Ref sig .tc := ⟨.hbm, 103, rfl⟩
abbrev main_v84 : Ref sig .tc := ⟨.hbm, 104, rfl⟩
abbrev main_v85 : Ref sig .tc := ⟨.hbm, 105, rfl⟩
abbrev main_v86 : Ref sig .tc := ⟨.hbm, 106, rfl⟩
abbrev main_v87 : Ref sig .tc := ⟨.hbm, 107, rfl⟩
abbrev main_v88 : Ref sig .tc := ⟨.hbm, 108, rfl⟩
abbrev main_v89 : Ref sig .tc := ⟨.hbm, 109, rfl⟩
abbrev main_v90 : Ref sig .tc := ⟨.hbm, 110, rfl⟩
abbrev main_v91 : Ref sig .tc := ⟨.hbm, 111, rfl⟩
abbrev main_v92 : Ref sig .tc := ⟨.hbm, 112, rfl⟩
abbrev main_v93 : Ref sig .tc := ⟨.hbm, 113, rfl⟩
abbrev main_v94 : Ref sig .tc := ⟨.hbm, 114, rfl⟩
abbrev main_v95 : Ref sig .tc := ⟨.hbm, 115, rfl⟩
abbrev main_v96 : Ref sig .tc := ⟨.hbm, 116, rfl⟩
abbrev main_v97 : Ref sig .tc := ⟨.hbm, 117, rfl⟩
abbrev main_v98 : Ref sig .tc := ⟨.hbm, 118, rfl⟩
abbrev main_v99 : Ref sig .tc := ⟨.hbm, 119, rfl⟩
abbrev main_v100 : Ref sig .tc := ⟨.hbm, 120, rfl⟩
abbrev main_v101 : Ref sig .tc := ⟨.hbm, 121, rfl⟩
abbrev main_cst_13 : Ref sig .tc := ⟨.hbm, 122, rfl⟩
abbrev main_v102 : Ref sig .tc := ⟨.hbm, 123, rfl⟩
abbrev main_cst_14 : Ref sig .tc := ⟨.hbm, 124, rfl⟩
abbrev main_v103 : Ref sig .tc := ⟨.hbm, 125, rfl⟩
abbrev main_cst_15 : Ref sig .tc := ⟨.hbm, 126, rfl⟩
abbrev main_v104 : Ref sig .tc := ⟨.hbm, 127, rfl⟩
abbrev main_v105 : Ref sig .tc := ⟨.hbm, 128, rfl⟩
abbrev main_cst_16 : Ref sig .tc := ⟨.hbm, 129, rfl⟩
abbrev main_v106 : Ref sig .tc := ⟨.hbm, 130, rfl⟩
abbrev main_v107 : Ref sig .tc := ⟨.hbm, 131, rfl⟩
abbrev main_v108 : Ref sig .tc := ⟨.hbm, 132, rfl⟩
abbrev main_v109 : Ref sig .tc := ⟨.hbm, 133, rfl⟩
abbrev main_v110 : Ref sig .tc := ⟨.hbm, 134, rfl⟩
abbrev main_v111 : Ref sig .tc := ⟨.hbm, 135, rfl⟩
abbrev main_v112 : Ref sig .tc := ⟨.hbm, 136, rfl⟩
abbrev main_v113 : Ref sig .tc := ⟨.hbm, 137, rfl⟩
abbrev main_v114 : Ref sig .tc := ⟨.hbm, 138, rfl⟩
abbrev main_v115 : Ref sig .tc := ⟨.hbm, 139, rfl⟩
abbrev main_v116 : Ref sig .tc := ⟨.hbm, 140, rfl⟩

abbrev nD : Nat := 1
abbrev τ : Topo := Topo.v7x

variable {F : FTy → Type} [FloatOps F]
-- ==== FfnNorm.lean ====
abbrev S4x4096x4096 : Shape := ⟨3, ![4, 4096, 4096]⟩
abbrev S4x4096 : Shape := ⟨2, ![4, 4096]⟩
abbrev S16384x4096 : Shape := ⟨2, ![16384, 4096]⟩
abbrev S1x4096 : Shape := ⟨2, ![1, 4096]⟩
abbrev S4096 : Shape := ⟨1, ![4096]⟩
abbrev S512x4096 : Shape := ⟨2, ![512, 4096]⟩
abbrev S512 : Shape := ⟨1, ![512]⟩
abbrev S512x1 : Shape := ⟨2, ![512, 1]⟩

abbrev nBuf : Space → Nat
  | .hbm => 7
  | .vmem => 5
  | .smem => 0
  | _ => 0

abbrev bufTy : (tb : Table) → Fin (tcTables nBuf tb) → BufTy
  | .hbm, ⟨0, _⟩ => ⟨S4x4096x4096, .f32⟩
  | .hbm, ⟨1, _⟩ => ⟨S4x4096, .f32⟩
  | .hbm, ⟨2, _⟩ => ⟨S16384x4096, .f32⟩
  | .hbm, ⟨3, _⟩ => ⟨S1x4096, .f32⟩
  | .hbm, ⟨4, _⟩ => ⟨S4096, .f32⟩
  | .hbm, ⟨5, _⟩ => ⟨S1x4096, .f32⟩
  | .hbm, ⟨6, _⟩ => ⟨S16384x4096, .bf16⟩
  | .local _ .vmem, ⟨0, _⟩ => ⟨S512x4096, .f32⟩
  | .local _ .vmem, ⟨1, _⟩ => ⟨S512x4096, .f32⟩
  | .local _ .vmem, ⟨2, _⟩ => ⟨S1x4096, .f32⟩
  | .local _ .vmem, ⟨3, _⟩ => ⟨S512x4096, .bf16⟩
  | .local _ .vmem, ⟨4, _⟩ => ⟨S512x4096, .bf16⟩
  | _, _ => ⟨S4x4096x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x4096 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== FfnNormReferenceIdeal.lean ====
abbrev S4x4096x4096 : Shape := ⟨3, ![4, 4096, 4096]⟩
abbrev S4x4096 : Shape := ⟨2, ![4, 4096]⟩
abbrev S1x4096 : Shape := ⟨2, ![1, 4096]⟩
abbrev S4096 : Shape := ⟨1, ![4096]⟩
abbrev S_ : Shape := ⟨0, ![]⟩
abbrev S4x4096x1 : Shape := ⟨3, ![4, 4096, 1]⟩
abbrev S1x1x4096 : Shape := ⟨3, ![1, 1, 4096]⟩
abbrev S16384x4096 : Shape := ⟨2, ![16384, 4096]⟩

abbrev nBuf : Space → Nat
  | .hbm => 22
  | .vmem => 0
  | .smem => 0
  | _ => 0

abbrev bufTy : (tb : Table) → Fin (tcTables nBuf tb) → BufTy
  | .hbm, ⟨0, _⟩ => ⟨S4x4096x4096, .f32⟩
  | .hbm, ⟨1, _⟩ => ⟨S4x4096, .f32⟩
  | .hbm, ⟨2, _⟩ => ⟨S1x4096, .f32⟩
  | .hbm, ⟨3, _⟩ => ⟨S4096, .f32⟩
  | .hbm, ⟨4, _⟩ => ⟨S4x4096x4096, .f32⟩
  | .hbm, ⟨5, _⟩ => ⟨S_, .f32⟩
  | .hbm, ⟨6, _⟩ => ⟨S4x4096, .f32⟩
  | .hbm, ⟨7, _⟩ => ⟨S4x4096x1, .f32⟩
  | .hbm, ⟨8, _⟩ => ⟨S_, .f32⟩
  | .hbm, ⟨9, _⟩ => ⟨S4x4096x1, .f32⟩
  | .hbm, ⟨10, _⟩ => ⟨S4x4096x1, .f32⟩
  | .hbm, ⟨11, _⟩ => ⟨S_, .f32⟩
  | .hbm, ⟨12, _⟩ => ⟨S4x4096x1, .f32⟩
  | .hbm, ⟨13, _⟩ => ⟨S4x4096x1, .f32⟩
  | .hbm, ⟨14, _⟩ => ⟨S4x4096x1, .f32⟩
  | .hbm, ⟨15, _⟩ => ⟨S4x4096x4096, .f32⟩
  | .hbm, ⟨16, _⟩ => ⟨S4x4096x4096, .f32⟩
  | .hbm, ⟨17, _⟩ => ⟨S1x1x4096, .f32⟩
  | .hbm, ⟨18, _⟩ => ⟨S4x4096x4096, .f32⟩
  | .hbm, ⟨19, _⟩ => ⟨S4x4096x4096, .f32⟩
  | .hbm, ⟨20, _⟩ => ⟨S16384x4096, .f32⟩
  | .hbm, ⟨21, _⟩ => ⟨S16384x4096, .bf16⟩
  | _, _ => ⟨S4x4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_v4 : Ref sig .tc := ⟨.hbm, 7, rfl⟩
abbrev main_cst_0 : Ref sig .tc := ⟨.hbm, 8, rfl⟩
abbrev main_v5 : Ref sig .tc := ⟨.hbm, 9, rfl⟩
abbrev main_v6 : Ref sig .tc := ⟨.hbm, 10, rfl⟩
abbrev main_cst_1 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩

abbrev nD : Nat := 1
abbrev τ : Topo := Topo.v7x

variable {F : FTy → Type} [FloatOps F]
-- ==== Proof.RetMath.lean ====
/-
  Chunkwise retention over the extended reals, one head at a time.

  A head's queries, keys and values come in chunks of 128 rows.  A chunk's output is the decayed attention inside the chunk
  plus the queries, decayed, against the state; the state then decays by a whole chunk and takes in the chunk's keys, each
  decayed to the chunk's end, against its values.  The outputs are normalised per head, gated and scaled.

  The arrays are read by functions of natural numbers, so that a row of the sequence has one name wherever it is read from.
-/
module

public import Idealize.ShloMosaic.Lib.Pointwise

@[expose] public section

set_option maxRecDepth 16384

noncomputable section

namespace Cert.Ret

open Idealize.ShloMosaic

/-- The number `n` as the value an integer-to-float conversion of its word has. -/
def num (n : ℕ) : EReal := FloatOps.sitofp (F := Ideal) .f32 (BitVec.ofNat 32 n)

/-- The decay from row `c` to row `r` of a chunk: nothing flows backwards. -/
def decay (lg : EReal) (r c : ℕ) : EReal :=
  if 0 ≤ num r - num c then Ideal.exp (lg * max (num r - num c) 0) else 0

/-- The state after a chunk with keys `k` and values `v`. -/
def nextState (lg : EReal) (k v S : ℕ → ℕ → EReal) (d e : ℕ) : EReal :=
  Ideal.exp (lg * Ideal.ofBits .f32 0x43000000#32) * S d e
    + ∑ x : Fin 128, k x d * Ideal.exp (lg * (Ideal.ofBits .f32 0x42FE0000#32 - num x)) * v x e

/-- A chunk's output at row `r` and lane `e`. -/
def chunkOut (lg : EReal) (q k v S : ℕ → ℕ → EReal) (r e : ℕ) : EReal :=
  ∑ x : Fin 128, (∑ d : Fin 128, q r d * k x d) * decay lg r x * v x e
    + ∑ d : Fin 128, q r d * Ideal.exp (lg * (num r + 1)) * S d e

/-- The states before each chunk. -/
def stateAt (lg : EReal) (k v : ℕ → ℕ → ℕ → EReal) : ℕ → ℕ → ℕ → EReal
  | 0 => fun _ _ => 0
  | n + 1 => nextState lg (k n) (v n) (stateAt lg k v n)

/-- Layer normalisation of a row of 256. -/
def layerNorm (o : ℕ → EReal) (e : ℕ) : EReal :=
  (o e - Ideal.div (∑ x : Fin 256, o x) (Ideal.ofBits .f32 0x43800000#32))
    * Ideal.rsqrt (Ideal.div (∑ x : Fin 256,
          (o x - Ideal.div (∑ x : Fin 256, o x) (Ideal.ofBits .f32 0x43800000#32))
            * (o x - Ideal.div (∑ x : Fin 256, o x) (Ideal.ofBits .f32 0x43800000#32)))
        (Ideal.ofBits .f32 0x43800000#32) + Ideal.ofBits .f32 0x358637BD#32)

/-- A normalised output under its gate and its gain. -/
def gated (g n gn : EReal) : EReal := g * Ideal.div 1 (1 + Ideal.exp (-g)) * n * gn

/-- The rotary embedding of a row of 128 lanes: lane `d` with lane `d + 64`. -/
def rope (x cs sn : ℕ → EReal) (d : ℕ) : EReal :=
  if d < 64 then x d * cs d - x (d + 64) * sn d else x (d - 64) * sn (d - 64) + x d * cs (d - 64)

/-- The same, in one formula over a table of cosines and a table of signed sines. -/
theorem rope_of_tables (x cs sn rc rs : ℕ → EReal) (d : ℕ) (hd : d < 128)
    (hc : rc d = if d < 64 then cs d else cs (d - 64)) (hs : rs d = if d < 64 then sn d * -1 else sn (d - 64) * 1) :
    x d * rc d + x ((d + 128 - 64) % 128) * rs d = rope x cs sn d := by
  unfold rope
  rw [hc, hs]
  split
  · next h =>
    rw [show (d + 128 - 64) % 128 = d + 64 by omega, mul_neg, mul_one, mul_neg, sub_eq_add_neg]
  · next h =>
    rw [show (d + 128 - 64) % 128 = d - 64 by omega, mul_one, add_comm]

/-- A difference of two row numbers is the same taken over words or over numbers. -/
theorem num_sub (r c : ℕ) (hr : r < 128) (hc : c < 128) :
    FloatOps.sitofp (F := Ideal) .f32 (IntOp.subi (BitVec.ofNat 32 r) (BitVec.ofNat 32 c)) = num r - num c := by
  have h : (IntOp.subi (BitVec.ofNat 32 r) (BitVec.ofNat 32 c)).toInt = (r : ℤ) - (c : ℤ) := by
    unfold IntOp.subi
    rw [BitVec.toInt_sub, BitVec.toInt_ofNat', BitVec.toInt_ofNat']
    simp only [Int.bmod]
    omega
  have hn : ∀ n : ℕ, n < 128 → (BitVec.ofNat 32 n).toInt = (n : ℤ) := fun n hn => by
    rw [BitVec.toInt_ofNat']
    simp only [Int.bmod]
    omega
  show (((IntOp.subi (BitVec.ofNat 32 r) (BitVec.ofNat 32 c)).toInt : ℝ) : EReal)
    = (((BitVec.ofNat 32 r).toInt : ℝ) : EReal) - (((BitVec.ofNat 32 c).toInt : ℝ) : EReal)
  rw [h, hn r hr, hn c hc, ← EReal.coe_sub]
  push_cast
  rfl

/-! ## The arrays of the problem -/

/-- The projection at row `i` and column `c`. -/
def pj (P : FVec Ideal ⟨2, ![16384, 10752]⟩ .f32) (i c : ℕ) : EReal :=
  if h : i < 16384 ∧ c < 10752 then P (ix2 ⟨i, h.1⟩ ⟨c, h.2⟩) else 0

/-- The position of row `i`, the sequences one after the other. -/
def ps (p : IVec ⟨2, ![4, 4096]⟩ 32) (i : ℕ) : EReal :=
  if h : i < 16384 then
    FloatOps.sitofp (F := Ideal) .f32 (p (ix2 ⟨i / 4096, by omega⟩ ⟨i % 4096, Nat.mod_lt _ (by norm_num)⟩)) else 0

/-- The gain of column `c`. -/
def gnAt (g : FVec Ideal ⟨1, ![1024]⟩ .f32) (c : ℕ) : EReal := if h : c < 1024 then g (ix1 ⟨c, h⟩) else 0

/-- The rotary frequency of lane `n`. -/
def freq (n : ℕ) : EReal :=
  Ideal.pow (Ideal.ofBits .f32 0x461C4000#32)
    (Ideal.div (-(Ideal.ofBits .f32 0x40000000#32 * num n)) (Ideal.ofBits .f32 0x43000000#32))

/-- The cosine and the sine of row `i`'s angle at lane `n`. -/
def cs (p : IVec ⟨2, ![4, 4096]⟩ 32) (i n : ℕ) : EReal := Ideal.cos (ps p i * freq n)
@[inherit_doc cs] def sn (p : IVec ⟨2, ![4, 4096]⟩ 32) (i n : ℕ) : EReal := Ideal.sin (ps p i * freq n)

/-- The logarithm of head `h`'s decay. -/
def lgAt (h : ℕ) : EReal :=
  Ideal.log1p (-Ideal.exp (Ideal.ofBits .f32 0x3F317218#32 * (Ideal.ofBits .f32 0xC0A00000#32 - num h)))

variable (P : FVec Ideal ⟨2, ![16384, 10752]⟩ .f32) (p : IVec ⟨2, ![4, 4096]⟩ 32) (g : FVec Ideal ⟨1, ![1024]⟩ .f32)

/-- Queries, keys and values of head `h` at row `i`; the keys carry the attention's scale. -/
def qv (h i d : ℕ) : EReal := rope (fun c => pj P i (3072 + (h * 128 + c))) (cs p i) (sn p i) d
@[inherit_doc qv] def kv (h i d : ℕ) : EReal :=
  rope (fun c => pj P i (3584 + (h * 128 + c))) (cs p i) (sn p i) d * Ideal.ofBits .f32 0x3DB504F3#32
@[inherit_doc qv] def vv (h i e : ℕ) : EReal := pj P i (4096 + (h * 256 + e))

/-- Head `h`'s state in sequence `b` before chunk `n`. -/
def st (b h n : ℕ) : ℕ → ℕ → EReal :=
  stateAt (lgAt h) (fun j x d => kv P p h (b * 4096 + (j * 128 + x)) d) (fun j x e => vv P h (b * 4096 + (j * 128 + x)) e) n

/-- Head `h`'s output in sequence `b` at row `r` of chunk `j`. -/
def ot (b h j r e : ℕ) : EReal :=
  chunkOut (lgAt h) (fun x d => qv P p h (b * 4096 + (j * 128 + x)) d) (fun x d => kv P p h (b * 4096 + (j * 128 + x)) d)
    (fun x e => vv P h (b * 4096 + (j * 128 + x)) e) (st P p b h j) r e

/-- The layer's retention at row `r` of chunk `j` of sequence `b`, head `h`, lane `e`. -/
def retAt (b h j r e : ℕ) : EReal :=
  gated (pj P (b * 4096 + (j * 128 + r)) (5120 + (h * 256 + e))) (layerNorm (fun x => ot P p b h j r x) e) (gnAt g (h * 256 + e))

/-- The layer's retention: sequence `i 0`, row `i 1`, column `i 2`. -/
def ret : FVec Ideal ⟨3, ![4, 4096, 1024]⟩ .bf16 := fun i =>
  retAt P p g (i 0) ((i 2).val / 256) ((i 1).val / 128) ((i 1).val % 128) ((i 2).val % 256)

end Cert.Ret

end
-- ==== Proof.KerRead.lean ====
/-
  The retention kernel's input blocks, read as arrays: at point `t` the sequences `2 * (t / 32)` and the next, rows
  `128 * (t % 32)` on.
-/
module

public import proofs.«01_k».proof.Proof.Gen.KernelIdeal.Value
public import Idealize.ShloMosaic.Lib.Pipeline.ValueKit
public import Idealize.ShloMosaic.Lib.Pipeline.ReadBack
public import Idealize.ShloMosaic.Lib.Pointwise
public import proofs.«01_k».proof.Proof.RetMath

@[expose] public section

set_option maxRecDepth 16384

noncomputable section

namespace Cert.KernelIdeal.Ret

open Idealize.ShloMosaic Idealize.ShloMosaic.TcCoe Idealize.SL.Sem
open Cert.KernelIdeal Cert.KernelIdeal.Gen Cert.Ret

variable (m : (ℓ : Loc nD τ sig) → Buf (Elt Ideal) ℓ)

/-- The windows' block indices at a point. -/
theorem idx0 : ∀ t : Fin grid0.N, win0_0.index t = ![t.val / 32, t.val % 32, 6] := by decide +kernel
theorem idx1 : ∀ t : Fin grid0.N, win0_1.index t = ![t.val / 32, t.val % 32, 7] := by decide +kernel
theorem idx2 : ∀ t : Fin grid0.N, win0_2.index t = ![t.val / 32, t.val % 32, 4] := by decide +kernel
theorem idx3 : ∀ t : Fin grid0.N, win0_3.index t = ![t.val / 32, t.val % 32, 5] := by decide +kernel
theorem idx4 : ∀ t : Fin grid0.N, win0_4.index t = ![t.val / 32, t.val % 32, 0] := by decide +kernel
theorem idx5 : ∀ t : Fin grid0.N, win0_5.index t = ![t.val / 32, t.val % 32, 0] := by decide +kernel
theorem idx6 : ∀ t : Fin grid0.N, win0_6.index t = ![0, 0, 0] := by decide +kernel
theorem idx7 : ∀ t : Fin grid0.N, win0_7.index t = ![0, 0] := by decide +kernel

/-- The row of the projection a point's block has at its sequence `bi` and its row `r`. -/
def row (t bi r : ℕ) : ℕ := (t / 32 * 2 + bi) * 4096 + (t % 32 * 128 + r)

theorem row_lt {t bi r : ℕ} (ht : t < 64) (hb : bi < 2) (hr : r < 128) : row t bi r < 16384 := by unfold row; omega

theorem q_read (c : Dev nD) (t : Fin cfg0.N) (bi : Fin 2) (r : Fin 128) (d : Fin 512) :
    iblk m c 0 t (ix3 bi r d) = pj (m (c, Proc.tc.devRef main_arg0)) (row t bi r) (3072 + d) := by
  have ht : t.val < 64 := t.isLt
  unfold pj
  rw [dif_pos ⟨row_lt ht bi.isLt r.isLt, by omega⟩]
  blk_simp [iblk, idx0 t]
  entry_read
  pointwise []
  unfold row
  blk_ext [idx0 t]

theorem k_read (c : Dev nD) (t : Fin cfg0.N) (bi : Fin 2) (r : Fin 128) (d : Fin 512) :
    iblk m c 1 t (ix3 bi r d) = pj (m (c, Proc.tc.devRef main_arg0)) (row t bi r) (3584 + d) := by
  have ht : t.val < 64 := t.isLt
  unfold pj
  rw [dif_pos ⟨row_lt ht bi.isLt r.isLt, by omega⟩]
  blk_simp [iblk, idx1 t]
  entry_read
  pointwise []
  unfold row
  blk_ext [idx1 t]

theorem v_read (c : Dev nD) (t : Fin cfg0.N) (bi : Fin 2) (r : Fin 128) (e : Fin 1024) :
    X0_2 m c t (ix3 bi r e) = pj (m (c, Proc.tc.devRef main_arg0)) (row t bi r) (4096 + e) := by
  have ht : t.val < 64 := t.isLt
  unfold pj
  rw [dif_pos ⟨row_lt ht bi.isLt r.isLt, by omega⟩]
  unfold X0_2 Pipeline.Window.fill
  rw [dif_pos (moved0_2 t _)]
  blk_simp [iblk, idx2 t]
  entry_read
  pointwise []
  unfold row
  blk_ext [idx2 t]

theorem g_read (c : Dev nD) (t : Fin cfg0.N) (bi : Fin 2) (r : Fin 128) (e : Fin 1024) :
    X0_3 m c t (ix3 bi r e) = pj (m (c, Proc.tc.devRef main_arg0)) (row t bi r) (5120 + e) := by
  have ht : t.val < 64 := t.isLt
  unfold pj
  rw [dif_pos ⟨row_lt ht bi.isLt r.isLt, by omega⟩]
  unfold X0_3 Pipeline.Window.fill
  rw [dif_pos (moved0_3 t _)]
  blk_simp [iblk, idx3 t]
  entry_read
  pointwise []
  unfold row
  blk_ext [idx3 t]

theorem rc_read (c : Dev nD) (t : Fin cfg0.N) (bi : Fin 2) (r : Fin 128) (d : Fin 128) :
    iblk m c 4 t (ix3 bi r d)
      = if (d : ℕ) < 64 then cs (m (c, Proc.tc.devRef main_arg1)) (row t bi r) d
        else cs (m (c, Proc.tc.devRef main_arg1)) (row t bi r) (d - 64) := by
  have ht : t.val < 64 := t.isLt
  unfold cs ps freq num
  rw [dif_pos (row_lt ht bi.isLt r.isLt)]
  blk_simp [iblk, idx4 t]
  entry_read
  pointwise []
  blk_simp [idx4 t]
  unfold row
  by_cases hd : (d : ℕ) < 64
  · simp only [hd, ↓reduceDIte, ↓reduceIte]
  · simp only [hd, ↓reduceDIte, ↓reduceIte]

theorem rs_read (c : Dev nD) (t : Fin cfg0.N) (bi : Fin 2) (r : Fin 128) (d : Fin 128) :
    iblk m c 5 t (ix3 bi r d)
      = if (d : ℕ) < 64 then sn (m (c, Proc.tc.devRef main_arg1)) (row t bi r) d * -1
        else sn (m (c, Proc.tc.devRef main_arg1)) (row t bi r) (d - 64) * 1 := by
  have ht : t.val < 64 := t.isLt
  unfold sn ps freq num
  rw [dif_pos (row_lt ht bi.isLt r.isLt)]
  blk_simp [iblk, idx5 t]
  entry_read
  pointwise []
  blk_simp [idx5 t]
  unfold row
  by_cases hd : (d : ℕ) < 64
  · simp only [hd, ↓reduceDIte, ↓reduceIte]
  · simp only [hd, ↓reduceDIte, ↓reduceIte, mul_one]

theorem lg_read (c : Dev nD) (t : Fin cfg0.N) (h : Fin 4) (x : Fin 8) (y : Fin 128) : iblk m c 6 t (ix3 h x y) = lgAt h := by
  unfold lgAt num
  blk_simp [iblk, idx6 t]
  entry_read
  pointwise []
  blk_simp [idx6 t]

theorem gain_read (c : Dev nD) (t : Fin cfg0.N) (e : Fin 1024) :
    iblk m c 7 t (ix2 0 e) = gnAt (m (c, Proc.tc.devRef main_arg2)) e := by
  unfold gnAt
  rw [dif_pos e.isLt]
  blk_simp [iblk, idx7 t]
  entry_read
  pointwise []
  blk_ext [idx7 t]

end Cert.KernelIdeal.Ret

end
-- ==== Proof.KerHead.lean ====
/-
  One head's part of the retention kernel's body, over abstract tiles: the state it leaves and the output it stores are the
  chunk formulas of `Cert.Ret`.
-/
module

public import proofs.«01_k».proof.Proof.Gen.KernelIdeal.Value
public import Idealize.ShloMosaic.Lib.Pipeline.ValueKit
public import Idealize.ShloMosaic.Lib.Pointwise
public import proofs.«01_k».proof.Proof.RetMath

@[expose] public section

set_option maxRecDepth 16384

noncomputable section

namespace Cert.KernelIdeal.Ret

open Idealize.ShloMosaic Idealize.ShloMosaic.TcCoe Idealize.SL.Sem
open Cert.KernelIdeal Cert.KernelIdeal.Gen Cert.Ret

/-- The state a head leaves, from the tiles it loads. -/
def headState (lg : Vec Ideal S1x1x1 .f32) (rc rs k : Vec Ideal S1x128x128 .f32) (v S : Vec Ideal S1x128x256 .f32) :
    FVec Ideal S1x128x256 .f32 :=
  k0_pay16 k0_pay5 (k0_pay8 lg) (k0_pay10 rc rs k) (k0_pay11 v) S

/-- A head's output before its normalisation. -/
def headChunk (lg : Vec Ideal S1x1x1 .f32) (rc rs q k : Vec Ideal S1x128x128 .f32) (v S : Vec Ideal S1x128x256 .f32) :
    FVec Ideal S128x256 .f32 :=
  k0_pay98 k0_pay3 k0_pay4 (k0_pay8 lg) (k0_pay12 (k0_pay11 v)) (k0_pay14 (k0_pay9 rc rs q) (k0_pay10 rc rs k))
    (k0_pay15 k0_pay5 (k0_pay8 lg) (k0_pay9 rc rs q) S)

/-- A head's stored output. -/
def headOut (lg : Vec Ideal S1x1x1 .f32) (rc rs q k : Vec Ideal S1x128x128 .f32) (v S g : Vec Ideal S1x128x256 .f32)
    (gn : Vec Ideal S1x256 .f32) : FVec Ideal S1x128x256 .bf16 :=
  k0_pay108 (headChunk lg rc rs q k v S) g gn

/-- What the tiles of a head hold: its decay, the rotary tables, queries, keys and values before the rotation, its state. -/
structure Tiles (lg : Vec Ideal S1x1x1 .f32) (rc rs k : Vec Ideal S1x128x128 .f32) (v S : Vec Ideal S1x128x256 .f32)
    (L : EReal) (C N K V T : ℕ → ℕ → EReal) : Prop where
  lg : lg (ix3 0 0 0) = L
  rc : ∀ x d : Fin 128, rc (ix3 0 x d) = if (d : ℕ) < 64 then C x d else C x (d - 64)
  rs : ∀ x d : Fin 128, rs (ix3 0 x d) = if (d : ℕ) < 64 then N x d * -1 else N x (d - 64) * 1
  k : ∀ x d : Fin 128, k (ix3 0 x d) = K x d
  v : ∀ (x : Fin 128) (e : Fin 256), v (ix3 0 x e) = V x e
  S : ∀ (d : Fin 128) (e : Fin 256), S (ix3 0 d e) = T d e

section
variable {lg : Vec Ideal S1x1x1 .f32} {rc rs q k : Vec Ideal S1x128x128 .f32} {v S : Vec Ideal S1x128x256 .f32}
  {L : EReal} {C N Q K V T : ℕ → ℕ → EReal}

/-- A rotated lane, as the body forms it. -/
theorem Tiles.rope (h : Tiles lg rc rs k v S L C N K V T) (hq : ∀ x d : Fin 128, q (ix3 0 x d) = Q x d) (x d : Fin 128)
    (hd : (d.val + 128 - 64) % 128 < 128) :
    q (ix3 0 x d) * rc (ix3 0 x d) + q (ix3 0 x ⟨(d.val + 128 - 64) % 128, hd⟩) * rs (ix3 0 x d)
      = Cert.Ret.rope (Q x) (C x) (N x) d := by
  rw [hq, hq, h.rc, h.rs]
  exact rope_of_tables (Q x) (C x) (N x) (fun n => if n < 64 then C x n else C x (n - 64))
    (fun n => if n < 64 then N x n * -1 else N x (n - 64) * 1) d d.isLt rfl rfl

theorem headState_at (h : Tiles lg rc rs k v S L C N K V T) (d : Fin 128) (e : Fin 256) :
    headState lg rc rs k v S (ix3 0 d e)
      = nextState L (fun x d => Cert.Ret.rope (K x) (C x) (N x) d * Ideal.ofBits .f32 0x3DB504F3#32) V T d e := by
  unfold headState nextState num
  unfold_payloads
  pointwise []
  simp only [h.rope h.k, h.lg, h.v, h.S]

theorem headChunk_at (h : Tiles lg rc rs k v S L C N K V T) (hq : ∀ x d : Fin 128, q (ix3 0 x d) = Q x d)
    (r : Fin 128) (e : Fin 256) :
    headChunk lg rc rs q k v S (ix2 r e)
      = chunkOut L (fun x d => Cert.Ret.rope (Q x) (C x) (N x) d)
          (fun x d => Cert.Ret.rope (K x) (C x) (N x) d * Ideal.ofBits .f32 0x3DB504F3#32) V T r e := by
  unfold headChunk chunkOut decay
  unfold_payloads
  pointwise []
  simp only [h.rope h.k, h.rope hq, h.lg, h.v, h.S, num_sub _ _ (Fin.isLt _) (Fin.isLt _)]
  rfl

theorem headNorm_at (o : FVec Ideal S128x256 .f32) (g : Vec Ideal S1x128x256 .f32) (gn : Vec Ideal S1x256 .f32)
    (O : ℕ → ℕ → EReal) (ho : ∀ (r : Fin 128) (e : Fin 256), o (ix2 r e) = O r e) (r : Fin 128) (e : Fin 256) :
    k0_pay108 o g gn (ix3 0 r e) = gated (g (ix3 0 r e)) (layerNorm (O r) e) (gn (ix2 0 e)) := by
  unfold gated layerNorm
  unfold_payloads
  pointwise []
  simp only [ho, zero_sub]

theorem headOut_at (h : Tiles lg rc rs k v S L C N K V T) (hq : ∀ x d : Fin 128, q (ix3 0 x d) = Q x d)
    (g : Vec Ideal S1x128x256 .f32) (gn : Vec Ideal S1x256 .f32) (r : Fin 128) (e : Fin 256) :
    headOut lg rc rs q k v S g gn (ix3 0 r e)
      = gated (g (ix3 0 r e))
          (layerNorm (fun e => chunkOut L (fun x d => Cert.Ret.rope (Q x) (C x) (N x) d)
            (fun x d => Cert.Ret.rope (K x) (C x) (N x) d * Ideal.ofBits .f32 0x3DB504F3#32) V T r e) e) (gn (ix2 0 e)) :=
  headNorm_at _ g gn _ (fun r e => headChunk_at h hq r e) r e

end

end Cert.KernelIdeal.Ret

end
-- ==== Proof.KerPoint.lean ====
/-
  A point of the retention kernel: two sequences, four heads each.  The state it leaves in its scratch and the block it stores
  are the chunk formulas of `Cert.Ret` over the state the point before left.
-/
module

public import proofs.«01_k».proof.Proof.Gen.KernelIdeal.Value
public import Idealize.ShloMosaic.Lib.Pipeline.ValueKit
public import Idealize.ShloMosaic.Lib.Pipeline.ReadBack
public import Idealize.ShloMosaic.Lib.Pointwise
public import proofs.«01_k».proof.Proof.KerRead
public import proofs.«01_k».proof.Proof.KerHead

@[expose] public section

set_option maxRecDepth 16384

noncomputable section

namespace Cert.KernelIdeal.Ret

open Idealize.ShloMosaic Idealize.ShloMosaic.TcCoe Idealize.SL.Sem
open Cert.KernelIdeal Cert.KernelIdeal.Gen Cert.Ret

variable (m : (ℓ : Loc nD τ sig) → Buf (Elt Ideal) ℓ)

/-- The tiles head `h` of the point's sequence `bi` loads. -/
theorem tiles (c : Dev nD) (t : Fin cfg0.N) (bi : Fin 2) (h : Fin 4) (X : Vec Ideal S8x128x256 .f32)
    (T : ℕ → ℕ → ℕ → ℕ → EReal)
    (hX : ∀ y : S8x128x256.Idx, X y = T ((y 0).val / 4) ((y 0).val % 4) (y 1) (y 2)) (i6 i4 i5 i1 i2 iS) :
    Tiles (View.ld (iblk m c 6 t) (Rect.unit (s := S4x8x128) ![h.val, 0, 0] ![1, 1, 1] i6))
      (View.ld (iblk m c 4 t) (Rect.unit (s := S2x128x128) ![bi.val, 0, 0] ![1, 128, 128] i4))
      (View.ld (iblk m c 5 t) (Rect.unit (s := S2x128x128) ![bi.val, 0, 0] ![1, 128, 128] i5))
      (View.ld (iblk m c 1 t) (Rect.unit (s := S2x128x512) ![bi.val, 0, h.val * 128] ![1, 128, 128] i1))
      (View.ld (X0_2 m c t) (Rect.unit (s := S2x128x1024) ![bi.val, 0, h.val * 256] ![1, 128, 256] i2))
      (View.ld X (Rect.unit (s := S8x128x256) ![bi.val * 4 + h.val, 0, 0] ![1, 128, 256] iS))
      (lgAt h) (fun x d => cs (m (c, Proc.tc.devRef main_arg1)) (row t bi x) d)
      (fun x d => sn (m (c, Proc.tc.devRef main_arg1)) (row t bi x) d)
      (fun x d => pj (m (c, Proc.tc.devRef main_arg0)) (row t bi x) (3584 + (h.val * 128 + d)))
      (fun x e => vv (m (c, Proc.tc.devRef main_arg0)) h (row t bi x) e) (T bi h) where
  lg := by
    pointwise []
    exact lg_read m c t h 0 0
  rc x d := by
    pointwise []
    exact rc_read m c t bi x d
  rs x d := by
    refine Eq.trans (?_ : _ = iblk m c 5 t (ix3 bi x d)) (rs_read m c t bi x d)
    pointwise []
  k x d := by
    pointwise []
    exact k_read m c t bi x ⟨h.val * 128 + d.val, by omega⟩
  v x e := by
    pointwise []
    exact v_read m c t bi x ⟨h.val * 256 + e.val, by omega⟩
  S d e := by
    pointwise []
    rw [hX]
    show T ((bi.val * 4 + h.val) / 4) ((bi.val * 4 + h.val) % 4) d e = _
    rw [show (bi.val * 4 + h.val) / 4 = bi.val by omega, show (bi.val * 4 + h.val) % 4 = h.val by omega]

/-- The state head `h` of sequence `bi` leaves. -/
theorem state_piece (c : Dev nD) (t : Fin cfg0.N) (bi : Fin 2) (h : Fin 4) (X : Vec Ideal S8x128x256 .f32)
    (T : ℕ → ℕ → ℕ → ℕ → EReal)
    (hX : ∀ y : S8x128x256.Idx, X y = T ((y 0).val / 4) ((y 0).val % 4) (y 1) (y 2)) (i6 i4 i5 i1 i2 iS) (x : S1x128x256.Idx) :
    headState (View.ld (iblk m c 6 t) (Rect.unit (s := S4x8x128) ![h.val, 0, 0] ![1, 1, 1] i6))
      (View.ld (iblk m c 4 t) (Rect.unit (s := S2x128x128) ![bi.val, 0, 0] ![1, 128, 128] i4))
      (View.ld (iblk m c 5 t) (Rect.unit (s := S2x128x128) ![bi.val, 0, 0] ![1, 128, 128] i5))
      (View.ld (iblk m c 1 t) (Rect.unit (s := S2x128x512) ![bi.val, 0, h.val * 128] ![1, 128, 128] i1))
      (View.ld (X0_2 m c t) (Rect.unit (s := S2x128x1024) ![bi.val, 0, h.val * 256] ![1, 128, 256] i2))
      (View.ld X (Rect.unit (s := S8x128x256) ![bi.val * 4 + h.val, 0, 0] ![1, 128, 256] iS)) x
      = nextState (lgAt h)
          (fun x d => kv (m (c, Proc.tc.devRef main_arg0)) (m (c, Proc.tc.devRef main_arg1)) h (row t bi x) d)
          (fun x e => vv (m (c, Proc.tc.devRef main_arg0)) h (row t bi x) e) (T bi h) (x 1) (x 2) := by
  idx_vars x
  obtain rfl : x0 = 0 := Subsingleton.elim _ _
  exact headState_at (tiles m c t bi h X T hX i6 i4 i5 i1 i2 iS) x1 x2

/-- What head `h` of sequence `bi` stores. -/
theorem out_piece (c : Dev nD) (t : Fin cfg0.N) (bi : Fin 2) (h : Fin 4) (X : Vec Ideal S8x128x256 .f32)
    (T : ℕ → ℕ → ℕ → ℕ → EReal)
    (hX : ∀ y : S8x128x256.Idx, X y = T ((y 0).val / 4) ((y 0).val % 4) (y 1) (y 2)) (i6 i4 i5 i0 i1 i2 iS i3 i7)
    (x : S1x128x256.Idx) :
    headOut (View.ld (iblk m c 6 t) (Rect.unit (s := S4x8x128) ![h.val, 0, 0] ![1, 1, 1] i6))
      (View.ld (iblk m c 4 t) (Rect.unit (s := S2x128x128) ![bi.val, 0, 0] ![1, 128, 128] i4))
      (View.ld (iblk m c 5 t) (Rect.unit (s := S2x128x128) ![bi.val, 0, 0] ![1, 128, 128] i5))
      (View.ld (iblk m c 0 t) (Rect.unit (s := S2x128x512) ![bi.val, 0, h.val * 128] ![1, 128, 128] i0))
      (View.ld (iblk m c 1 t) (Rect.unit (s := S2x128x512) ![bi.val, 0, h.val * 128] ![1, 128, 128] i1))
      (View.ld (X0_2 m c t) (Rect.unit (s := S2x128x1024) ![bi.val, 0, h.val * 256] ![1, 128, 256] i2))
      (View.ld X (Rect.unit (s := S8x128x256) ![bi.val * 4 + h.val, 0, 0] ![1, 128, 256] iS))
      (View.ld (X0_3 m c t) (Rect.unit (s := S2x128x1024) ![bi.val, 0, h.val * 256] ![1, 128, 256] i3))
      (View.ld (iblk m c 7 t) (Rect.unit (s := S1x1024) ![0, h.val * 256] ![1, 256] i7)) x
      = gated (pj (m (c, Proc.tc.devRef main_arg0)) (row t bi (x 1)) (5120 + (h.val * 256 + (x 2).val)))
          (layerNorm (fun e => chunkOut (lgAt h)
            (fun x d => qv (m (c, Proc.tc.devRef main_arg0)) (m (c, Proc.tc.devRef main_arg1)) h (row t bi x) d)
            (fun x d => kv (m (c, Proc.tc.devRef main_arg0)) (m (c, Proc.tc.devRef main_arg1)) h (row t bi x) d)
            (fun x e => vv (m (c, Proc.tc.devRef main_arg0)) h (row t bi x) e) (T bi h) (x 1) e) (x 2))
          (gnAt (m (c, Proc.tc.devRef main_arg2)) (h.val * 256 + (x 2).val)) := by
  idx_vars x
  obtain rfl : x0 = 0 := Subsingleton.elim _ _
  have hq : ∀ x d : Fin 128,
      View.ld (iblk m c 0 t) (Rect.unit (s := S2x128x512) ![bi.val, 0, h.val * 128] ![1, 128, 128] i0) (ix3 0 x d)
        = pj (m (c, Proc.tc.devRef main_arg0)) (row t bi x) (3072 + (h.val * 128 + d.val)) := fun x d => by
    pointwise []
    exact q_read m c t bi x ⟨h.val * 128 + d.val, by omega⟩
  refine (headOut_at (tiles m c t bi h X T hX i6 i4 i5 i1 i2 iS)
    (Q := fun x d => pj (m (c, Proc.tc.devRef main_arg0)) (row t bi x) (3072 + (h.val * 128 + d))) hq _ _ x1 x2).trans ?_
  pointwise []
  rw [g_read m c t bi x1 ⟨h.val * 256 + x2.val, by omega⟩, gain_read m c t ⟨h.val * 256 + x2.val, by omega⟩]
  rfl

end Cert.KernelIdeal.Ret

end
-- ==== Proof.KerState.lean ====
/-
  The retention kernel's scratch after a point: both cases of the first chunk's test, head by head.
-/
module

public import proofs.«01_k».proof.Proof.Gen.KernelIdeal.Value
public import Idealize.ShloMosaic.Lib.Pipeline.ValueKit
public import Idealize.ShloMosaic.Lib.Pipeline.ReadBack
public import Idealize.ShloMosaic.Lib.Pointwise
public import proofs.«01_k».proof.Proof.KerPoint

@[expose] public section

set_option maxRecDepth 16384

noncomputable section

namespace Cert.KernelIdeal.Ret

open Idealize.ShloMosaic Idealize.ShloMosaic.TcCoe Idealize.SL.Sem
open Cert.KernelIdeal Cert.KernelIdeal.Gen Cert.Ret

variable (m : (ℓ : Loc nD τ sig) → Buf (Elt Ideal) ℓ)

/-- An early store that the later ones cover at `y` does not show there. -/
theorem canon_drop {S : Shape} {e : EltTy} (q : View.Piece (Elt Ideal) S e) :
    ∀ (L : List (View.Piece (Elt Ideal) S e)) (y : S.Idx), (∃ p ∈ L, y ∈ p.1.set) → View.canon (L ++ [q]) y = View.canon L y
  | [], _, hc => by obtain ⟨p, hp, _⟩ := hc; simp at hp
  | p :: L, y, hc => by
    by_cases hm : y ∈ p.1.set
    · obtain ⟨x, rfl⟩ := p.1.exists_idx_of_mem hm
      rw [List.cons_append, show p.1.idx x = p.1.emb x from rfl, View.canon_cons_emb, View.canon_cons_emb]
    · rw [List.cons_append, View.canon_cons_of_not_mem _ _ hm, View.canon_cons_of_not_mem _ _ hm]
      refine canon_drop q L y ?_
      obtain ⟨r, hr, hy⟩ := hc
      rcases List.mem_cons.mp hr with rfl | hr'
      · exact absurd hy hm
      · exact ⟨r, hr', hy⟩

/-- The same for eight stores over one. -/
theorem canon_drop8 {S : Shape} {e : EltTy} {p0 p1 p2 p3 p4 p5 p6 p7 q : View.Piece (Elt Ideal) S e} {y : S.Idx}
    (hc : ∃ p ∈ [p0, p1, p2, p3, p4, p5, p6, p7], y ∈ p.1.set) :
    View.canon [p0, p1, p2, p3, p4, p5, p6, p7, q] y = View.canon [p0, p1, p2, p3, p4, p5, p6, p7] y :=
  canon_drop q [p0, p1, p2, p3, p4, p5, p6, p7] y hc

theorem state_A (c : Dev nD) (t : Fin cfg0.N) (h0 : t.val % 32 = 0) (T : ℕ → ℕ → ℕ → ℕ → EReal)
    (hT : ∀ y : S8x128x256.Idx, k0_pay2 (F := Ideal) y = T ((y 0).val / 4) ((y 0).val % 4) (y 1) (y 2)) (y : S8x128x256.Idx) :
    (outsAt0 m c t.val t.isLt).2 y
      = nextState (lgAt ((y 0).val % 4))
          (fun x d => kv (m (c, Proc.tc.devRef main_arg0)) (m (c, Proc.tc.devRef main_arg1)) ((y 0).val % 4) (row t ((y 0).val / 4) x) d)
          (fun x e => vv (m (c, Proc.tc.devRef main_arg0)) ((y 0).val % 4) (row t ((y 0).val / 4) x) e)
          (T ((y 0).val / 4) ((y 0).val % 4)) (y 1) (y 2) := by
  rw [outsAt0_A m c t h0]
  generalize hX : (k0_pay2 (F := Ideal)) = X at hT
  frame_open
  simp (disch := decide) only [↓ View.readCov_skip, ↓ View.readCov_cons_toLoadRect, ↓ View.readCov_fill]
  frame_out
  try simp only [read_unread_whole]
  simp only [hX]
  refine (canon_drop8 (View.cover_of_tiled_head _ _ _ rfl y)).trans ?_
  canon_tiles x h
  case piece0 =>
    rw [show (y 0).val / 4 = 1 by omega, show (y 0).val % 4 = 3 by omega, h1, h2]
    exact state_piece m c t 1 3 X T hT _ _ _ _ _ _ x
  case piece1 =>
    rw [show (y 0).val / 4 = 1 by omega, show (y 0).val % 4 = 2 by omega, h1, h2]
    exact state_piece m c t 1 2 X T hT _ _ _ _ _ _ x
  case piece2 =>
    rw [show (y 0).val / 4 = 1 by omega, show (y 0).val % 4 = 1 by omega, h1, h2]
    exact state_piece m c t 1 1 X T hT _ _ _ _ _ _ x
  case piece3 =>
    rw [show (y 0).val / 4 = 1 by omega, show (y 0).val % 4 = 0 by omega, h1, h2]
    exact state_piece m c t 1 0 X T hT _ _ _ _ _ _ x
  case piece4 =>
    rw [show (y 0).val / 4 = 0 by omega, show (y 0).val % 4 = 3 by omega, h1, h2]
    exact state_piece m c t 0 3 X T hT _ _ _ _ _ _ x
  case piece5 =>
    rw [show (y 0).val / 4 = 0 by omega, show (y 0).val % 4 = 2 by omega, h1, h2]
    exact state_piece m c t 0 2 X T hT _ _ _ _ _ _ x
  case piece6 =>
    rw [show (y 0).val / 4 = 0 by omega, show (y 0).val % 4 = 1 by omega, h1, h2]
    exact state_piece m c t 0 1 X T hT _ _ _ _ _ _ x
  case piece7 =>
    rw [show (y 0).val / 4 = 0 by omega, show (y 0).val % 4 = 0 by omega, h1, h2]
    exact state_piece m c t 0 0 X T hT _ _ _ _ _ _ x

theorem state_B (c : Dev nD) (t : Fin cfg0.N) (h0 : ¬t.val % 32 = 0) (T : ℕ → ℕ → ℕ → ℕ → EReal)
    (hT : ∀ y : S8x128x256.Idx, (outsAt0 m c (t.val - 1) (Nat.lt_of_le_of_lt (Nat.sub_le _ _) t.isLt)).2 y
      = T ((y 0).val / 4) ((y 0).val % 4) (y 1) (y 2)) (y : S8x128x256.Idx) :
    (outsAt0 m c t.val t.isLt).2 y
      = nextState (lgAt ((y 0).val % 4))
          (fun x d => kv (m (c, Proc.tc.devRef main_arg0)) (m (c, Proc.tc.devRef main_arg1)) ((y 0).val % 4) (row t ((y 0).val / 4) x) d)
          (fun x e => vv (m (c, Proc.tc.devRef main_arg0)) ((y 0).val % 4) (row t ((y 0).val / 4) x) e)
          (T ((y 0).val / 4) ((y 0).val % 4)) (y 1) (y 2) := by
  rw [outsAt0_B m c t h0]
  generalize (outsAt0 m c (t.val - 1) (Nat.lt_of_le_of_lt (Nat.sub_le _ _) t.isLt)).2 = X at hT ⊢
  frame_open
  simp (disch := decide) only [↓ View.readCov_skip, ↓ View.readCov_cons_toLoadRect, ↓ View.readCov_fill]
  frame_out
  simp only [read_unread_whole]
  canon_tiles x h
  case piece0 =>
    rw [show (y 0).val / 4 = 1 by omega, show (y 0).val % 4 = 3 by omega, h1, h2]
    exact state_piece m c t 1 3 X T hT _ _ _ _ _ _ x
  case piece1 =>
    rw [show (y 0).val / 4 = 1 by omega, show (y 0).val % 4 = 2 by omega, h1, h2]
    exact state_piece m c t 1 2 X T hT _ _ _ _ _ _ x
  case piece2 =>
    rw [show (y 0).val / 4 = 1 by omega, show (y 0).val % 4 = 1 by omega, h1, h2]
    exact state_piece m c t 1 1 X T hT _ _ _ _ _ _ x
  case piece3 =>
    rw [show (y 0).val / 4 = 1 by omega, show (y 0).val % 4 = 0 by omega, h1, h2]
    exact state_piece m c t 1 0 X T hT _ _ _ _ _ _ x
  case piece4 =>
    rw [show (y 0).val / 4 = 0 by omega, show (y 0).val % 4 = 3 by omega, h1, h2]
    exact state_piece m c t 0 3 X T hT _ _ _ _ _ _ x
  case piece5 =>
    rw [show (y 0).val / 4 = 0 by omega, show (y 0).val % 4 = 2 by omega, h1, h2]
    exact state_piece m c t 0 2 X T hT _ _ _ _ _ _ x
  case piece6 =>
    rw [show (y 0).val / 4 = 0 by omega, show (y 0).val % 4 = 1 by omega, h1, h2]
    exact state_piece m c t 0 1 X T hT _ _ _ _ _ _ x
  case piece7 =>
    rw [show (y 0).val / 4 = 0 by omega, show (y 0).val % 4 = 0 by omega, h1, h2]
    exact state_piece m c t 0 0 X T hT _ _ _ _ _ _ x

end Cert.KernelIdeal.Ret

end
-- ==== Proof.KerOut.lean ====
/-
  The block the retention kernel stores at a point: both cases of the first chunk's test, head by head.
-/
module

public import proofs.«01_k».proof.Proof.Gen.KernelIdeal.Value
public import Idealize.ShloMosaic.Lib.Pipeline.ValueKit
public import Idealize.ShloMosaic.Lib.Pipeline.ReadBack
public import Idealize.ShloMosaic.Lib.Pointwise
public import proofs.«01_k».proof.Proof.KerPoint

@[expose] public section

set_option maxRecDepth 16384

noncomputable section

namespace Cert.KernelIdeal.Ret

open Idealize.ShloMosaic Idealize.ShloMosaic.TcCoe Idealize.SL.Sem
open Cert.KernelIdeal Cert.KernelIdeal.Gen Cert.Ret

variable (m : (ℓ : Loc nD τ sig) → Buf (Elt Ideal) ℓ)

theorem out_A (c : Dev nD) (t : Fin cfg0.N) (h0 : t.val % 32 = 0) (T : ℕ → ℕ → ℕ → ℕ → EReal)
    (hT : ∀ y : S8x128x256.Idx, k0_pay2 (F := Ideal) y = T ((y 0).val / 4) ((y 0).val % 4) (y 1) (y 2)) (y : S2x128x1024.Idx) :
    (outsAt0 m c t.val t.isLt).1 y
      = gated (pj (m (c, Proc.tc.devRef main_arg0)) (row t (y 0) (y 1)) (5120 + ((y 2).val / 256 * 256 + (y 2).val % 256)))
          (layerNorm (fun e => chunkOut (lgAt ((y 2).val / 256))
            (fun x d => qv (m (c, Proc.tc.devRef main_arg0)) (m (c, Proc.tc.devRef main_arg1)) ((y 2).val / 256) (row t (y 0) x) d)
            (fun x d => kv (m (c, Proc.tc.devRef main_arg0)) (m (c, Proc.tc.devRef main_arg1)) ((y 2).val / 256) (row t (y 0) x) d)
            (fun x e => vv (m (c, Proc.tc.devRef main_arg0)) ((y 2).val / 256) (row t (y 0) x) e)
            (T (y 0) ((y 2).val / 256)) (y 1) e) ((y 2).val % 256))
          (gnAt (m (c, Proc.tc.devRef main_arg2)) ((y 2).val / 256 * 256 + (y 2).val % 256)) := by
  rw [outsAt0_A m c t h0]
  generalize hX : (k0_pay2 (F := Ideal)) = X at hT
  frame_open
  simp (disch := decide) only [↓ View.readCov_skip, ↓ View.readCov_cons_toLoadRect, ↓ View.readCov_fill]
  frame_out
  try simp only [read_unread_whole]
  simp only [hX]
  canon_tiles x h
  case piece0 =>
    rw [show (y 2).val / 256 = 3 by omega, show (y 2).val % 256 = (x 2).val by omega, show (y 0).val = 1 by omega, h1]
    exact out_piece m c t 1 3 X T hT _ _ _ _ _ _ _ _ _ x
  case piece1 =>
    rw [show (y 2).val / 256 = 2 by omega, show (y 2).val % 256 = (x 2).val by omega, show (y 0).val = 1 by omega, h1]
    exact out_piece m c t 1 2 X T hT _ _ _ _ _ _ _ _ _ x
  case piece2 =>
    rw [show (y 2).val / 256 = 1 by omega, show (y 2).val % 256 = (x 2).val by omega, show (y 0).val = 1 by omega, h1]
    exact out_piece m c t 1 1 X T hT _ _ _ _ _ _ _ _ _ x
  case piece3 =>
    rw [show (y 2).val / 256 = 0 by omega, show (y 2).val % 256 = (x 2).val by omega, show (y 0).val = 1 by omega, h1]
    exact out_piece m c t 1 0 X T hT _ _ _ _ _ _ _ _ _ x
  case piece4 =>
    rw [show (y 2).val / 256 = 3 by omega, show (y 2).val % 256 = (x 2).val by omega, show (y 0).val = 0 by omega, h1]
    exact out_piece m c t 0 3 X T hT _ _ _ _ _ _ _ _ _ x
  case piece5 =>
    rw [show (y 2).val / 256 = 2 by omega, show (y 2).val % 256 = (x 2).val by omega, show (y 0).val = 0 by omega, h1]
    exact out_piece m c t 0 2 X T hT _ _ _ _ _ _ _ _ _ x
  case piece6 =>
    rw [show (y 2).val / 256 = 1 by omega, show (y 2).val % 256 = (x 2).val by omega, show (y 0).val = 0 by omega, h1]
    exact out_piece m c t 0 1 X T hT _ _ _ _ _ _ _ _ _ x
  case piece7 =>
    rw [show (y 2).val / 256 = 0 by omega, show (y 2).val % 256 = (x 2).val by omega, show (y 0).val = 0 by omega, h1]
    exact out_piece m c t 0 0 X T hT _ _ _ _ _ _ _ _ _ x

theorem out_B (c : Dev nD) (t : Fin cfg0.N) (h0 : ¬t.val % 32 = 0) (T : ℕ → ℕ → ℕ → ℕ → EReal)
    (hT : ∀ y : S8x128x256.Idx, (outsAt0 m c (t.val - 1) (Nat.lt_of_le_of_lt (Nat.sub_le _ _) t.isLt)).2 y
      = T ((y 0).val / 4) ((y 0).val % 4) (y 1) (y 2)) (y : S2x128x1024.Idx) :
    (outsAt0 m c t.val t.isLt).1 y
      = gated (pj (m (c, Proc.tc.devRef main_arg0)) (row t (y 0) (y 1)) (5120 + ((y 2).val / 256 * 256 + (y 2).val % 256)))
          (layerNorm (fun e => chunkOut (lgAt ((y 2).val / 256))
            (fun x d => qv (m (c, Proc.tc.devRef main_arg0)) (m (c, Proc.tc.devRef main_arg1)) ((y 2).val / 256) (row t (y 0) x) d)
            (fun x d => kv (m (c, Proc.tc.devRef main_arg0)) (m (c, Proc.tc.devRef main_arg1)) ((y 2).val / 256) (row t (y 0) x) d)
            (fun x e => vv (m (c, Proc.tc.devRef main_arg0)) ((y 2).val / 256) (row t (y 0) x) e)
            (T (y 0) ((y 2).val / 256)) (y 1) e) ((y 2).val % 256))
          (gnAt (m (c, Proc.tc.devRef main_arg2)) ((y 2).val / 256 * 256 + (y 2).val % 256)) := by
  rw [outsAt0_B m c t h0]
  generalize (outsAt0 m c (t.val - 1) (Nat.lt_of_le_of_lt (Nat.sub_le _ _) t.isLt)).2 = X at hT ⊢
  frame_open
  simp (disch := decide) only [↓ View.readCov_skip, ↓ View.readCov_cons_toLoadRect, ↓ View.readCov_fill]
  frame_out
  simp only [read_unread_whole]
  canon_tiles x h
  case piece0 =>
    rw [show (y 2).val / 256 = 3 by omega, show (y 2).val % 256 = (x 2).val by omega, show (y 0).val = 1 by omega, h1]
    exact out_piece m c t 1 3 X T hT _ _ _ _ _ _ _ _ _ x
  case piece1 =>
    rw [show (y 2).val / 256 = 2 by omega, show (y 2).val % 256 = (x 2).val by omega, show (y 0).val = 1 by omega, h1]
    exact out_piece m c t 1 2 X T hT _ _ _ _ _ _ _ _ _ x
  case piece2 =>
    rw [show (y 2).val / 256 = 1 by omega, show (y 2).val % 256 = (x 2).val by omega, show (y 0).val = 1 by omega, h1]
    exact out_piece m c t 1 1 X T hT _ _ _ _ _ _ _ _ _ x
  case piece3 =>
    rw [show (y 2).val / 256 = 0 by omega, show (y 2).val % 256 = (x 2).val by omega, show (y 0).val = 1 by omega, h1]
    exact out_piece m c t 1 0 X T hT _ _ _ _ _ _ _ _ _ x
  case piece4 =>
    rw [show (y 2).val / 256 = 3 by omega, show (y 2).val % 256 = (x 2).val by omega, show (y 0).val = 0 by omega, h1]
    exact out_piece m c t 0 3 X T hT _ _ _ _ _ _ _ _ _ x
  case piece5 =>
    rw [show (y 2).val / 256 = 2 by omega, show (y 2).val % 256 = (x 2).val by omega, show (y 0).val = 0 by omega, h1]
    exact out_piece m c t 0 2 X T hT _ _ _ _ _ _ _ _ _ x
  case piece6 =>
    rw [show (y 2).val / 256 = 1 by omega, show (y 2).val % 256 = (x 2).val by omega, show (y 0).val = 0 by omega, h1]
    exact out_piece m c t 0 1 X T hT _ _ _ _ _ _ _ _ _ x
  case piece7 =>
    rw [show (y 2).val / 256 = 0 by omega, show (y 2).val % 256 = (x 2).val by omega, show (y 0).val = 0 by omega, h1]
    exact out_piece m c t 0 0 X T hT _ _ _ _ _ _ _ _ _ x

end Cert.KernelIdeal.Ret

end
-- ==== Proof.KerValue.lean ====
/-
  The retention kernel's result: along the grid the scratch holds the states of `Cert.Ret`, and the array the points write is
  its retention.
-/
module

public import proofs.«01_k».proof.Proof.Gen.KernelIdeal.Value
public import Idealize.ShloMosaic.Lib.Pipeline.ValueKit
public import Idealize.ShloMosaic.Lib.Pointwise
public import proofs.«01_k».proof.Proof.KerState
public import proofs.«01_k».proof.Proof.KerOut

@[expose] public section

set_option maxRecDepth 16384

noncomputable section

namespace Cert.KernelIdeal.Ret

open Idealize.ShloMosaic Idealize.ShloMosaic.TcCoe Idealize.SL.Sem
open Cert.KernelIdeal Cert.KernelIdeal.Gen Cert.Ret

variable (m : (ℓ : Loc nD τ sig) → Buf (Elt Ideal) ℓ)

variable (P : FVec Ideal ⟨2, ![16384, 10752]⟩ .f32) (p : IVec ⟨2, ![4, 4096]⟩ 32)

theorem zeros_at (y : S8x128x256.Idx) : k0_pay2 (F := Ideal) y = (fun _ _ _ _ => 0 : ℕ → ℕ → ℕ → ℕ → EReal)
    ((y 0).val / 4) ((y 0).val % 4) (y 1) (y 2) := by
  idx_vars y
  pointwise [k0_pay2]

theorem st_zero (b h : ℕ) : st P p b h 0 = fun _ _ => 0 := rfl

theorem st_succ (b h n : ℕ) : st P p b h (n + 1)
    = nextState (lgAt h) (fun x d => kv P p h (b * 4096 + (n * 128 + x)) d)
        (fun x e => vv P h (b * 4096 + (n * 128 + x)) e) (st P p b h n) := rfl

/-- After point `t` the scratch holds every head's state, the point's chunk taken in; `ih` is the same of the point before. -/
theorem scratch_step (c : Dev nD) (t : Fin cfg0.N)
    (ih : ¬t.val % 32 = 0 → ∀ y : S8x128x256.Idx, (outsAt0 m c (t.val - 1) (Nat.lt_of_le_of_lt (Nat.sub_le _ _) t.isLt)).2 y
      = st (m (c, Proc.tc.devRef main_arg0)) (m (c, Proc.tc.devRef main_arg1))
          (t.val / 32 * 2 + (y 0).val / 4) ((y 0).val % 4) (t.val % 32) (y 1) (y 2)) (y : S8x128x256.Idx) :
    (outsAt0 m c t.val t.isLt).2 y = st (m (c, Proc.tc.devRef main_arg0)) (m (c, Proc.tc.devRef main_arg1))
      (t.val / 32 * 2 + (y 0).val / 4) ((y 0).val % 4) (t.val % 32 + 1) (y 1) (y 2) := by
  rw [st_succ]
  by_cases h0 : t.val % 32 = 0
  · rw [state_A m c t h0 (fun _ _ _ _ => 0) zeros_at y]
    unfold row
    rw [h0, st_zero]
  · rw [state_B m c t h0 (fun bi h => st (m (c, Proc.tc.devRef main_arg0)) (m (c, Proc.tc.devRef main_arg1))
      (t.val / 32 * 2 + bi) h (t.val % 32)) (ih h0) y]
    unfold row
    rfl

theorem scratch (c : Dev nD) : ∀ (n : ℕ) (hn : n < cfg0.N) (y : S8x128x256.Idx),
    (outsAt0 m c n hn).2 y = st (m (c, Proc.tc.devRef main_arg0)) (m (c, Proc.tc.devRef main_arg1))
      (n / 32 * 2 + (y 0).val / 4) ((y 0).val % 4) (n % 32 + 1) (y 1) (y 2) := by
  intro n
  induction n with
  | zero => exact fun hn => scratch_step m c ⟨0, hn⟩ (fun h => absurd (Nat.zero_mod 32) h)
  | succ n ih =>
    intro hn
    refine scratch_step m c ⟨n + 1, hn⟩ (fun h0 y => ?_)
    have h0' : ¬(n + 1) % 32 = 0 := h0
    have e1 : (n + 1) % 32 = n % 32 + 1 := by omega
    have e2 : (n + 1) / 32 = n / 32 := by omega
    refine (ih (by omega) y).trans ?_
    show st _ _ _ _ _ _ _ = st _ _ ((n + 1) / 32 * 2 + (y 0).val / 4) _ ((n + 1) % 32) _ _
    rw [e1, e2]

/-- What point `t` stores: its rows' retention. -/
theorem stored (c : Dev nD) (t : Fin cfg0.N) (y : S2x128x1024.Idx) :
    (outsAt0 m c t.val t.isLt).1 y
      = retAt (m (c, Proc.tc.devRef main_arg0)) (m (c, Proc.tc.devRef main_arg1)) (m (c, Proc.tc.devRef main_arg2))
          (t.val / 32 * 2 + (y 0).val) ((y 2).val / 256) (t.val % 32) (y 1) ((y 2).val % 256) := by
  unfold retAt ot
  by_cases h0 : t.val % 32 = 0
  · rw [out_A m c t h0 (fun _ _ _ _ => 0) zeros_at y]
    unfold row
    rw [h0, st_zero]
  · rw [out_B m c t h0 (fun bi h => st (m (c, Proc.tc.devRef main_arg0)) (m (c, Proc.tc.devRef main_arg1))
      (t.val / 32 * 2 + bi) h (t.val % 32)) (fun y => ?_) y]
    · unfold row
      rfl
    · have e1 : (t.val - 1) % 32 + 1 = t.val % 32 := by omega
      have e2 : (t.val - 1) / 32 = t.val / 32 := by omega
      rw [scratch m c (t.val - 1), e1, e2]

/-- The result array. -/
theorem final (c : Dev nD) : Value.G8 m c
    = ret (m (c, Proc.tc.devRef main_arg0)) (m (c, Proc.tc.devRef main_arg1)) (m (c, Proc.tc.devRef main_arg2)) := by
  funext i
  have h0 : (i 0).val < 4 := (i 0).isLt
  have h1 : (i 1).val < 4096 := (i 1).isLt
  have h2 : (i 2).val < 1024 := (i 2).isLt
  have hp : Value.pt8Of i = (i 0).val / 2 * 32 + (i 1).val / 128 := by
    unfold Value.pt8Of Value.run8Of
    omega
  have hN : Value.pt8Of i < cfg0.N := by
    show _ < 64
    omega
  unfold Value.G8
  rw [dif_pos hN, ← Value.outsAt0_sweep m c _ hN]
  refine (stored m c ⟨Value.pt8Of i, hN⟩ (Value.loc8Of i)).trans ?_
  unfold ret
  have e0 : Value.pt8Of i / 32 * 2 + (Value.loc8Of i 0).val = (i 0).val := by
    show Value.pt8Of i / 32 * 2 + (i 0).val % 2 = _
    omega
  have e1 : Value.pt8Of i % 32 = (i 1).val / 128 := by omega
  have e2 : (Value.loc8Of i 2).val = (i 2).val := Nat.mod_eq_of_lt h2
  have e3 : (Value.loc8Of i 1).val = (i 1).val % 128 := rfl
  show retAt _ _ _ (Value.pt8Of i / 32 * 2 + _) _ (Value.pt8Of i % 32) _ _ = _
  rw [e0, e1, e2, e3]

end Cert.KernelIdeal.Ret

end
-- ==== Proof.RefRead.lean ====
/-
  The reference's chunks and decays, read at an index.
-/
module

public import proofs.«01_k».proof.Proof.Gen.ReferenceIdeal.Step
public import Idealize.ShloMosaic.Lib.Pipeline.ValueKit
public import Idealize.ShloMosaic.Lib.Pointwise
public import Idealize.ShloMosaic.Lib.WordCmp
public import proofs.«01_k».proof.Proof.RetMath

@[expose] public section

set_option maxRecDepth 16384

noncomputable section

namespace Cert.ReferenceIdeal.Ret

open Idealize.ShloMosaic Idealize.ShloMosaic.TcCoe Idealize.SL.Sem
open Cert.ReferenceIdeal Cert.ReferenceIdeal.Gen Cert.ReferenceIdeal.Step Cert.Ret

variable (P : FVec Ideal ⟨2, ![16384, 10752]⟩ .f32) (p : IVec ⟨2, ![4, 4096]⟩ 32)

theorem freq_q (n : Fin 64) : K_main_v17 (F := Ideal) (ix1 n) = freq n := by
  unfold freq num
  pointwise [K_main_v17, K_main_v16, K_main_cst_2, K_main_v15, K_main_v14, K_main_cst_1, K_main_v13, K_main_v12, K_main_v11,
    K_main_cst_0, K_main_v10, K_main_v9, K_main_cst, K_main_v8]

theorem freq_k (n : Fin 64) : K_main_v51 (F := Ideal) (ix1 n) = freq n := by
  unfold freq num
  pointwise [K_main_v51, K_main_v50, K_main_cst_6, K_main_v49, K_main_v48, K_main_cst_5, K_main_v47, K_main_v46, K_main_v45,
    K_main_cst_4, K_main_v44, K_main_v43, K_main_cst_3, K_main_v42]

theorem x_q (b : Fin 4) (s : Fin 4096) (h : Fin 4) (d : Fin 128) :
    A_main_v2 (F := Ideal) P p (ix4 b s h d) = pj P (b * 4096 + s) (3072 + (h * 128 + d)) := by
  unfold pj
  rw [dif_pos ⟨by omega, by omega⟩]
  pointwise [A_main_v2, A_main_v1, A_main_v0]
  blk_ext

theorem x_k (b : Fin 4) (s : Fin 4096) (h : Fin 4) (d : Fin 128) :
    A_main_v4 (F := Ideal) P p (ix4 b s h d) = pj P (b * 4096 + s) (3584 + (h * 128 + d)) := by
  unfold pj
  rw [dif_pos ⟨by omega, by omega⟩]
  pointwise [A_main_v4, A_main_v3, A_main_v0]
  blk_ext

theorem x_v (b : Fin 4) (s : Fin 4096) (h : Fin 4) (d : Fin 256) :
    A_main_v6 (F := Ideal) P p (ix4 b s h d) = vv P h (b * 4096 + s) d := by
  unfold vv pj
  rw [dif_pos ⟨by omega, by omega⟩]
  pointwise [A_main_v6, A_main_v5, A_main_v0]
  blk_ext

theorem ps_at (b : Fin 4) (s : Fin 4096) : ps p (b.val * 4096 + s) = FloatOps.sitofp (F := Ideal) .f32 (p (ix2 b s)) := by
  unfold ps
  rw [dif_pos (by omega)]
  congr 2
  blk_ext

theorem rope_q (b : Fin 4) (s : Fin 4096) (h : Fin 4) (d : Fin 128) :
    A_main_v40 (F := Ideal) P p (ix4 b s h d)
      = rope (fun c => pj P (b * 4096 + s) (3072 + (h * 128 + c))) (cs p (b * 4096 + s)) (sn p (b * 4096 + s)) d := by
  unfold rope cs sn
  rw [ps_at]
  pointwise [A_main_v40, A_main_v39, A_main_v38, A_main_v37, A_main_v36, A_main_v35, A_main_v34, A_main_v33, A_main_v32, A_main_v31, A_main_v30, A_main_v29, A_main_v28, A_main_v27, A_main_v26, A_main_v25, A_main_v24, A_main_v23, A_main_v21, A_main_v19, A_main_v18,
    K_main_v22, K_main_v20]
  simp only [freq_q, x_q]
  by_cases hd : (d : ℕ) < 64
  · simp only [hd, ↓reduceDIte, ↓reduceIte, Nat.add_comm 64]
  · simp only [hd, ↓reduceDIte, ↓reduceIte, show 64 + ((d : ℕ) - 64) = d by omega]

theorem rope_k (b : Fin 4) (s : Fin 4096) (h : Fin 4) (d : Fin 128) :
    A_main_v74 (F := Ideal) P p (ix4 b s h d)
      = rope (fun c => pj P (b * 4096 + s) (3584 + (h * 128 + c))) (cs p (b * 4096 + s)) (sn p (b * 4096 + s)) d := by
  unfold rope cs sn
  rw [ps_at]
  pointwise [A_main_v74, A_main_v73, A_main_v72, A_main_v71, A_main_v70, A_main_v69, A_main_v68, A_main_v67, A_main_v66, A_main_v65, A_main_v64, A_main_v63, A_main_v62, A_main_v61, A_main_v60, A_main_v59, A_main_v58, A_main_v57, A_main_v55, A_main_v53, A_main_v52,
    K_main_v56, K_main_v54]
  simp only [freq_k, x_k]
  by_cases hd : (d : ℕ) < 64
  · simp only [hd, ↓reduceDIte, ↓reduceIte, Nat.add_comm 64]
  · simp only [hd, ↓reduceDIte, ↓reduceIte, show 64 + ((d : ℕ) - 64) = d by omega]

/-- Splitting the sequence into chunks, heads before chunks, then chunks first: an element's place. -/
theorem chunk_of (X : S4x4096x4x128.Idx → EReal) (h1 h2 h3) (j : Fin 32) (b h : Fin 4) (r d : Fin 128) :
    transpose S32x4x4x128x128 [2, 0, 1, 3, 4] (shapeCast S4x4x32x128x128 (transpose S4x4x4096x128 [0, 2, 1, 3] X h1) h2) h3
        (ix5 j b h r d)
      = X (ix4 b ⟨j * 128 + r, by omega⟩ h d) := by
  pointwise []

theorem chunk_of_v (X : S4x4096x4x256.Idx → EReal) (h1 h2 h3) (j : Fin 32) (b h : Fin 4) (r : Fin 128) (d : Fin 256) :
    transpose S32x4x4x128x256 [2, 0, 1, 3, 4] (shapeCast S4x4x32x128x256 (transpose S4x4x4096x256 [0, 2, 1, 3] X h1) h2) h3
        (ix5 j b h r d)
      = X (ix4 b ⟨j * 128 + r, by omega⟩ h d) := by
  pointwise []

theorem chunk_q (j : Fin 32) (b h : Fin 4) (r d : Fin 128) :
    A_main_v127 (F := Ideal) P p (ix5 j b h r d) = qv P p h (b * 4096 + (j * 128 + r)) d := by
  unfold A_main_v127 A_main_v126 A_main_v41
  exact (chunk_of (A_main_v40 (F := Ideal) P p) _ _ _ j b h r d).trans (rope_q P p b _ h d)

theorem scale_k (b : Fin 4) (s : Fin 4096) (h : Fin 4) (d : Fin 128) :
    A_main_v76 (F := Ideal) P p (ix4 b s h d) = kv P p h (b * 4096 + s) d := by
  unfold kv
  rw [← rope_k]
  pointwise [A_main_v76, K_main_v75, K_main_cst_7]

theorem chunk_k (j : Fin 32) (b h : Fin 4) (r d : Fin 128) :
    A_main_v129 (F := Ideal) P p (ix5 j b h r d) = kv P p h (b * 4096 + (j * 128 + r)) d := by
  unfold A_main_v129 A_main_v128 A_main_v77
  exact (chunk_of (A_main_v76 (F := Ideal) P p) _ _ _ j b h r d).trans (scale_k P p b _ h d)

theorem chunk_v (j : Fin 32) (b h : Fin 4) (r : Fin 128) (d : Fin 256) :
    A_main_v131 (F := Ideal) P p (ix5 j b h r d) = vv P h (b * 4096 + (j * 128 + r)) d := by
  unfold A_main_v131 A_main_v130 A_main_v7
  exact (chunk_of_v (A_main_v6 (F := Ideal) P p) _ _ _ j b h r d).trans (x_v P p b _ h d)

theorem decay_at (h : Fin 4) (r c : Fin 128) : K_main_v102 (F := Ideal) (ix3 h r c) = decay (lgAt h) r c := by
  unfold decay lgAt num
  pointwise [K_main_v102, K_main_call0_v2, K_main_call0_v1, K_main_call0_v0, K_main_cst_12, K_main_v101, K_main_v100, K_main_v99, K_main_v98, K_main_v97, K_main_v96, K_main_v95, K_main_cst_11, K_main_v94, K_main_v93, K_main_v92, K_main_cst_10, K_main_v91, K_main_v90, K_main_v89, K_main_v88, K_main_v87, K_main_v86, K_main_v85, K_main_v84, K_main_v83, K_main_v82, K_main_v81, K_main_cst_9, K_main_v80, K_main_v79, K_main_cst_8, K_main_v78]
  simp only [id_eq]
  pointwise []

theorem qdecay_at (h : Fin 4) (r : Fin 128) :
    K_main_v111 (F := Ideal) (ix3 h r 0) = Ideal.exp (lgAt h * (num r + 1)) := by
  unfold lgAt num
  pointwise [K_main_v111, K_main_v110, K_main_v109, K_main_v108, K_main_v107, K_main_v106, K_main_v105, K_main_v104, K_main_cst_13,
    K_main_v103, K_main_v86, K_main_v85, K_main_v84, K_main_v83, K_main_v82, K_main_v81, K_main_cst_9, K_main_v80, K_main_v79, K_main_cst_8, K_main_v78]

theorem kdecay_at (h : Fin 4) (r : Fin 128) :
    K_main_v120 (F := Ideal) (ix3 h r 0) = Ideal.exp (lgAt h * (Ideal.ofBits .f32 0x42FE0000#32 - num r)) := by
  unfold lgAt num
  pointwise [K_main_v120, K_main_v119, K_main_v118, K_main_v117, K_main_v116, K_main_v115, K_main_v114, K_main_v113, K_main_cst_14,
    K_main_v112, K_main_v86, K_main_v85, K_main_v84, K_main_v83, K_main_v82, K_main_v81, K_main_cst_9, K_main_v80, K_main_v79, K_main_cst_8, K_main_v78]

theorem cdecay_at (h : Fin 4) : K_main_v124 (F := Ideal) (ix3 h 0 0) = Ideal.exp (lgAt h * Ideal.ofBits .f32 0x43000000#32) := by
  unfold lgAt num
  pointwise [K_main_v124, K_main_v123, K_main_v122, K_main_v121, K_main_cst_15, K_main_v85, K_main_v84, K_main_v83, K_main_v82, K_main_v81, K_main_cst_9, K_main_v80, K_main_v79, K_main_cst_8, K_main_v78]

end Cert.ReferenceIdeal.Ret

end
-- ==== Proof.RefLoop.lean ====
/-
  The reference's loop over the 32 chunks, read as its own step.

  The generated run of the reference states its result over a valuation of the loop's buffers, stepped 32 times.  Here the
  valuation is tied to a `State`: the carried retention state and outputs, the chunks of the query, the key and the value,
  the decays, and the number of the trip.
-/
module

public import proofs.«01_k».proof.Proof.Gen.ReferenceIdeal.Run
public import proofs.«01_k».proof.Proof.Gen.ReferenceIdeal.Step

@[expose] public section

set_option maxRecDepth 16384

noncomputable section

namespace Cert.ReferenceIdeal.Ret

open Idealize.ShloMosaic Idealize.ShloMosaic.TcCoe Idealize.SL.Sem Idealize.ShloMosaic.StableHlo
open Cert.ReferenceIdeal Cert.ReferenceIdeal.Gen Cert.ReferenceIdeal.Value Cert.ReferenceIdeal.Step

variable {F : FTy → Type} [FloatOps F]

/-- The valuation `V` of the loop's buffers before trip `j` carries the state `s`. -/
structure Carries (V : Valuation τ sig (Elt F)) (s : State F) (j : ℕ) : Prop where
  state : V (Proc.devRef .tc main_v133_8) = s.main_v133_8
  outs : V (Proc.devRef .tc main_v133_9) = s.main_v133_9
  q : V (Proc.devRef .tc main_v133_0) = s.main_v133_0
  k : V (Proc.devRef .tc main_v133_1) = s.main_v133_1
  v : V (Proc.devRef .tc main_v133_2) = s.main_v133_2
  trip : V (Proc.devRef .tc main_v133_7) = constantI S_ 32 (BitVec.ofNat 32 j)
  decay : V (Proc.devRef .tc main_v133_3) = K_main_v102 (F := F)
  qdecay : V (Proc.devRef .tc main_v133_4) = K_main_v111 (F := F)
  cdecay : V (Proc.devRef .tc main_v133_5) = K_main_v124 (F := F)
  kdecay : V (Proc.devRef .tc main_v133_6) = K_main_v120 (F := F)

variable {V : Valuation τ sig (Elt F)} {s : State F} {j : ℕ}

theorem Carries.next_state (h : Carries V s j) : Value.step_main_v133_8 V = (step j s).main_v133_8 := by
  unfold Value.step_main_v133_8 res_main_while0b_v163 res_main_while0b_v164
  rw [h.state, h.k, h.v, h.cdecay, h.kdecay, h.trip]
  rfl

theorem Carries.next_outs (h : Carries V s j) : Value.step_main_v133_9 V = (step j s).main_v133_9 := by
  unfold Value.step_main_v133_9 res_main_while0b_v162 res_main_while0b_v163 res_main_while0b_v164
  rw [h.state, h.outs, h.q, h.k, h.v, h.decay, h.qdecay, h.trip]
  rfl

theorem Carries.next_trip (h : Carries V s j) : step_main_v133_7 V = constantI S_ 32 (BitVec.ofNat 32 (j + 1)) := by
  unfold step_main_v133_7
  rw [h.trip]
  funext i
  exact (BitVec.ofNat_add ..).symm

theorem Carries.next (h : Carries V s j) : Carries (STEP V) (step j s) (j + 1) where
  state := (STEP_main_v133_8 V).trans h.next_state
  outs := (STEP_main_v133_9 V).trans h.next_outs
  q := (STEP_main_v133_0 V).trans h.q
  k := (STEP_main_v133_1 V).trans h.k
  v := (STEP_main_v133_2 V).trans h.v
  trip := (STEP_main_v133_7 V).trans h.next_trip
  decay := (STEP_main_v133_3 V).trans h.decay
  qdecay := (STEP_main_v133_4 V).trans h.qdecay
  cdecay := (STEP_main_v133_5 V).trans h.cdecay
  kdecay := (STEP_main_v133_6 V).trans h.kdecay

variable (m : (ℓ : Loc nD τ sig) → Buf (Elt F) ℓ) (c : Dev nD)

set_option maxRecDepth 65536 in
set_option maxHeartbeats 1000000 in
/-- The operations before the loop leave the state it starts from. -/
theorem carries_entry : Carries (entryContents preI m c)
    (init (m ((c.tc : Thread nD τ).loc main_arg0)) (m ((c.tc : Thread nD τ).loc main_arg1))) 0 := by
  constructor <;> (simp only [entryContents, afterL_cons, afterL_nil]; after_reads_simp) <;> rfl

/-- Along any sequence of states that starts there and goes on by `step`, trip `k` starts from state `k`. -/
theorem carries_iter (it : ℕ → State F)
    (h0 : it 0 = init (m ((c.tc : Thread nD τ).loc main_arg0)) (m ((c.tc : Thread nD τ).loc main_arg1)))
    (hs : ∀ n, n < 32 → it (n + 1) = step n (it n)) : ∀ k, k ≤ 32 → Carries (STEP^[k] (entryContents preI m c)) (it k) k
  | 0, _ => h0 ▸ carries_entry m c
  | k + 1, hk => by
    rw [Function.iterate_succ_apply', hs k (by omega)]
    exact (carries_iter it h0 hs k (by omega)).next

theorem Carries.result (h : Carries V s j) {x0 : (⟨S16384x10752, .f32⟩ : BufTy).Contents (Elt F)}
    (h0 : V (Proc.devRef .tc main_arg0) = x0) {x2 : (⟨S1024, .f32⟩ : BufTy).Contents (Elt F)}
    (h2 : V (Proc.devRef .tc main_arg2) = x2) : out_main_v161 V = R_main_v161 s x0 x2 := by
  unfold out_main_v161 R_main_v161
  rw [h.outs, h0, h2]
  try rfl

/-- The reference's result, from the last state of such a sequence, with its arguments unchanged. -/
theorem run_states (m : (ℓ : Loc nD τ sig) → Buf (Elt F) ℓ) (ρ : Dev nD → PrngReg) (it : Dev nD → ℕ → State F)
    (h0 : ∀ c, it c 0 = init (m ((c.tc : Thread nD τ).loc main_arg0)) (m ((c.tc : Thread nD τ).loc main_arg1)))
    (hs : ∀ c n, n < 32 → it c (n + 1) = step n (it c n)) :
    θ_run (defs (F := F)) (onTc (τ := τ) (main (F := F))) ⟨m, fun _ => 0, ρ⟩ fun r => ∀ c : Dev nD,
      r.2.mem ((c.tc : Thread nD τ).loc main_v161)
        = R_main_v161 (it c 32) (m ((c.tc : Thread nD τ).loc main_arg0)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c =>
    have hk := carries_iter m c (it c) (h0 c) (hs c) 32 (le_refl _)
    ⟨(h c).1.trans (hk.result (iter_main_arg0 m c 32) (iter_main_arg2 m c 32)), (h c).2.1, (h c).2.2.1, (h c).2.2.2⟩)
    (Value.run m ρ)

end Cert.ReferenceIdeal.Ret

end
-- ==== Proof.RefTrip.lean ====
/-
  The reference's loop over the chunks, as the chunk formulas of `Cert.Ret`: a trip reads its chunk, moves the states on and
  writes its outputs; the operations after the loop normalise and gate them.
-/
module

public import proofs.«01_k».proof.Proof.Gen.ReferenceIdeal.Step
public import Idealize.ShloMosaic.Lib.Pipeline.ValueKit
public import Idealize.ShloMosaic.Lib.Pointwise
public import Idealize.ShloMosaic.Lib.WordCmp
public import proofs.«01_k».proof.Proof.RefRead
public import proofs.«01_k».proof.Proof.RefLoop

@[expose] public section

set_option maxRecDepth 16384

noncomputable section

namespace Cert.ReferenceIdeal.Ret

open Idealize.ShloMosaic Idealize.ShloMosaic.TcCoe Idealize.SL.Sem
open Cert.ReferenceIdeal Cert.ReferenceIdeal.Gen Cert.ReferenceIdeal.Step Cert.Ret

theorem toInt_trip (j : ℕ) (hj : j < 32) (k : Fin 5) :
    (((![(constantI S_ 32 (BitVec.ofNat 32 j) : (⟨S_, .i32⟩ : BufTy).Contents (Elt Ideal)), constantI S_ 32 0#32,
      constantI S_ 32 0#32, constantI S_ 32 0#32, constantI S_ 32 0#32] : Fin 5 → (⟨S_, .i32⟩ : BufTy).Contents (Elt Ideal))) k
        (Shape.Idx.first h_S_)).toInt = ((![j, 0, 0, 0, 0] : Fin 5 → ℕ) k : ℤ) := by
  have h : (BitVec.ofNat 32 j).toInt = (j : ℤ) := WordCmp.toInt_ofNat_of_lt (by norm_num; omega)
  fin_cases k
  · exact h
  all_goals rfl

theorem slice_at (X : S32x4x4x128x128.Idx → EReal) (j : ℕ) (hj : j < 32) (start : Fin 5 → ℤ)
    (hs : ∀ k, start k = ((![j, 0, 0, 0, 0] : Fin 5 → ℕ) k : ℤ)) (h1 h2) (b h : Fin 4) (r d : Fin 128) :
    shapeCast S4x4x128x128 (Host.dynamicSlice S1x4x4x128x128 X start h1) h2 (ix4 b h r d) = X (ix5 ⟨j, hj⟩ b h r d) := by
  rw [WordCmp.dynamicSlice_eq_extract S1x4x4x128x128 X start h1 ![j, 0, 0, 0, 0] ⟨rfl, fun a => by fin_cases a <;> simp <;> omega⟩ hs]
  pointwise []

theorem slice_at_v (X : S32x4x4x128x256.Idx → EReal) (j : ℕ) (hj : j < 32) (start : Fin 5 → ℤ)
    (hs : ∀ k, start k = ((![j, 0, 0, 0, 0] : Fin 5 → ℕ) k : ℤ)) (h1 h2) (b h : Fin 4) (r : Fin 128) (d : Fin 256) :
    shapeCast S4x4x128x256 (Host.dynamicSlice S1x4x4x128x256 X start h1) h2 (ix4 b h r d) = X (ix5 ⟨j, hj⟩ b h r d) := by
  rw [WordCmp.dynamicSlice_eq_extract S1x4x4x128x256 X start h1 ![j, 0, 0, 0, 0] ⟨rfl, fun a => by fin_cases a <;> simp <;> omega⟩ hs]
  pointwise []

theorem update_at (X : S32x4x4x128x256.Idx → EReal) (U : S1x4x4x128x256.Idx → EReal) (j : ℕ) (hj : j < 32) (start : Fin 5 → ℤ)
    (hs : ∀ k, start k = ((![j, 0, 0, 0, 0] : Fin 5 → ℕ) k : ℤ)) (h1) (n : Fin 32) (b h : Fin 4) (r : Fin 128) (d : Fin 256) :
    Host.dynamicUpdateSlice X U start h1 (ix5 n b h r d) = if n.val = j then U (ix5 0 b h r d) else X (ix5 n b h r d) := by
  rw [WordCmp.dynamicUpdateSlice_eq_update X U start h1 ![j, 0, 0, 0, 0] ⟨rfl, fun a => by fin_cases a <;> simp <;> omega⟩ hs]
  pointwise []
  by_cases hn : n.val = j
  · rw [dif_pos ⟨by omega, by omega⟩, if_pos hn]
    congr 2
    exact Fin.ext (by show n.val - j = 0; omega)
  · rw [dif_neg (by omega), if_neg hn]

theorem b5_at (j : ℕ) (hj : j < 32) (s : State Ideal) (b h : Fin 4) (r d : Fin 128) :
    b5 j s (ix4 b h r d) = s.main_v133_0 (ix5 ⟨j, hj⟩ b h r d) := by
  unfold b5 b4
  exact slice_at s.main_v133_0 j hj _ (toInt_trip j hj) _ _ b h r d

theorem b11_at (j : ℕ) (hj : j < 32) (s : State Ideal) (b h : Fin 4) (r d : Fin 128) :
    b11 j s (ix4 b h r d) = s.main_v133_1 (ix5 ⟨j, hj⟩ b h r d) := by
  unfold b11 b10
  exact slice_at s.main_v133_1 j hj _ (toInt_trip j hj) _ _ b h r d

theorem b17_at (j : ℕ) (hj : j < 32) (s : State Ideal) (b h : Fin 4) (r : Fin 128) (d : Fin 256) :
    b17 j s (ix4 b h r d) = s.main_v133_2 (ix5 ⟨j, hj⟩ b h r d) := by
  unfold b17 b16
  exact slice_at_v s.main_v133_2 j hj _ (toInt_trip j hj) _ _ b h r d

variable (P : FVec Ideal ⟨2, ![16384, 10752]⟩ .f32) (p : IVec ⟨2, ![4, 4096]⟩ 32) (g : FVec Ideal ⟨1, ![1024]⟩ .f32)

/-- What a trip reads and finds, over any state: its chunk's queries, keys and values, and the states the earlier chunks left. -/
structure Finds (s : State Ideal) (n : ℕ) (hn : n < 32) : Prop where
  q : ∀ (b h : Fin 4) (r d : Fin 128), s.main_v133_0 (ix5 ⟨n, hn⟩ b h r d) = qv P p h (b * 4096 + (n * 128 + r)) d
  k : ∀ (b h : Fin 4) (r d : Fin 128), s.main_v133_1 (ix5 ⟨n, hn⟩ b h r d) = kv P p h (b * 4096 + (n * 128 + r)) d
  v : ∀ (b h : Fin 4) (r : Fin 128) (e : Fin 256), s.main_v133_2 (ix5 ⟨n, hn⟩ b h r e) = vv P h (b * 4096 + (n * 128 + r)) e
  S : ∀ (b h : Fin 4) (d : Fin 128) (e : Fin 256), s.main_v133_8 (ix4 b h d e) = st P p b h n d e

theorem out_of (s : State Ideal) (n : ℕ) (hn : n < 32) (H : Finds P p s n hn) (b h : Fin 4) (r : Fin 128) (e : Fin 256) :
    b27 n s (ix4 b h r e) = ot P p b h n r e := by
  unfold ot chunkOut
  pointwise [b27, b26, b25, b24, b23, b22, b21, b20, b19, b18]
  simp only [b5_at n hn, b11_at n hn, b17_at n hn, H.q, H.k, H.v, H.S, decay_at, qdecay_at]

theorem state_of (s : State Ideal) (n : ℕ) (hn : n < 32) (H : Finds P p s n hn) (b h : Fin 4) (d : Fin 128) (e : Fin 256) :
    b35 n s (ix4 b h d e) = nextState (lgAt h) (fun x d => kv P p h (b * 4096 + (n * 128 + x)) d)
      (fun x e => vv P h (b * 4096 + (n * 128 + x)) e) (st P p b h n) d e := by
  unfold nextState
  pointwise [b35, b34, b33, b32, b31, b30, b29, b28]
  simp only [b11_at n hn, b17_at n hn, H.k, H.v, H.S, cdecay_at, kdecay_at]

end Cert.ReferenceIdeal.Ret

end
-- ==== Proof.RefIter.lean ====
/-
  The reference's whole run: its loop from the first state to the last, and the operations after it.
-/
module

public import proofs.«01_k».proof.Proof.Gen.ReferenceIdeal.Step
public import Idealize.ShloMosaic.Lib.Pipeline.ValueKit
public import Idealize.ShloMosaic.Lib.Pointwise
public import Idealize.ShloMosaic.Lib.WordCmp
public import proofs.«01_k».proof.Proof.RefTrip

@[expose] public section

set_option maxRecDepth 16384

noncomputable section

namespace Cert.ReferenceIdeal.Ret

open Idealize.ShloMosaic Idealize.ShloMosaic.TcCoe Idealize.SL.Sem
open Cert.ReferenceIdeal Cert.ReferenceIdeal.Gen Cert.ReferenceIdeal.Step Cert.Ret

variable (P : FVec Ideal ⟨2, ![16384, 10752]⟩ .f32) (p : IVec ⟨2, ![4, 4096]⟩ 32) (g : FVec Ideal ⟨1, ![1024]⟩ .f32)

/-- The loop's state before trip `n`. -/
def it : ℕ → State Ideal
  | 0 => init P p
  | n + 1 => step n (it n)

theorem it_q : ∀ n, (it P p n).main_v133_0 = A_main_v127 (F := Ideal) P p
  | 0 => rfl
  | n + 1 => it_q n
theorem it_k : ∀ n, (it P p n).main_v133_1 = A_main_v129 (F := Ideal) P p
  | 0 => rfl
  | n + 1 => it_k n
theorem it_v : ∀ n, (it P p n).main_v133_2 = A_main_v131 (F := Ideal) P p
  | 0 => rfl
  | n + 1 => it_v n

theorem start_state (b h : Fin 4) (d : Fin 128) (e : Fin 256) :
    (init (F := Ideal) P p).main_v133_8 (ix4 b h d e) = st P p b h 0 d e := by
  show K_main_v125 (F := Ideal) (ix4 b h d e) = (0 : EReal)
  pointwise [K_main_v125, K_main_cst_16]

theorem finds_of (s : State Ideal) (n : ℕ) (hn : n < 32) (hq : s.main_v133_0 = A_main_v127 (F := Ideal) P p)
    (hk : s.main_v133_1 = A_main_v129 (F := Ideal) P p) (hv : s.main_v133_2 = A_main_v131 (F := Ideal) P p)
    (hS : ∀ (b h : Fin 4) (d : Fin 128) (e : Fin 256), s.main_v133_8 (ix4 b h d e) = st P p b h n d e) : Finds P p s n hn where
  q b h r d := by rw [hq]; exact chunk_q P p ⟨n, hn⟩ b h r d
  k b h r d := by rw [hk]; exact chunk_k P p ⟨n, hn⟩ b h r d
  v b h r e := by rw [hv]; exact chunk_v P p ⟨n, hn⟩ b h r e
  S := hS

/-- Before trip `n` the carried states are those after `n` chunks. -/
theorem it_state : ∀ n, n ≤ 32 → ∀ (b h : Fin 4) (d : Fin 128) (e : Fin 256),
    (it P p n).main_v133_8 (ix4 b h d e) = st P p b h n d e := by
  intro n
  induction n with
  | zero => exact fun _ => start_state P p
  | succ n ih =>
    intro hn b h d e
    exact state_of P p (it P p n) n hn
      (finds_of P p _ n hn (it_q P p n) (it_k P p n) (it_v P p n) (ih (Nat.le_of_succ_le hn))) b h d e

theorem finds (n : ℕ) (hn : n < 32) : Finds P p (it P p n) n hn :=
  finds_of P p _ n hn (it_q P p n) (it_k P p n) (it_v P p n) (it_state P p n (Nat.le_of_lt hn))

theorem outs_of (s : State Ideal) (n : ℕ) (hn : n < 32) (j : Fin 32) (b h : Fin 4) (r : Fin 128) (e : Fin 256) :
    b41 n s (ix5 j b h r e) = if j.val = n then b27 n s (ix4 b h r e) else s.main_v133_9 (ix5 j b h r e) := by
  unfold b41
  refine (update_at s.main_v133_9 (b36 n s) n hn _ (toInt_trip n hn) _ j b h r e).trans ?_
  have e36 : b36 n s (ix5 0 b h r e) = b27 n s (ix4 b h r e) := by pointwise [b36]
  rw [e36]

/-- Before trip `n` the outputs of the chunks before it are written. -/
theorem it_outs : ∀ n, n ≤ 32 → ∀ (j : Fin 32) (b h : Fin 4) (r : Fin 128) (e : Fin 256), j.val < n →
    (it P p n).main_v133_9 (ix5 j b h r e) = ot P p b h j r e := by
  intro n
  induction n with
  | zero => exact fun _ j _ _ _ _ h => absurd h (Nat.not_lt_zero _)
  | succ n ih =>
    intro hn j b h r e hj
    refine (outs_of (it P p n) n hn j b h r e).trans ?_
    by_cases hjn : j.val = n
    · rw [if_pos hjn, out_of P p _ n hn (finds P p n hn), hjn]
    · rw [if_neg hjn]
      exact ih (Nat.le_of_succ_le hn) j b h r e (by omega)

/-- The operations after the loop, over any outputs. -/
theorem result_at (s : State Ideal) (hs : ∀ (j : Fin 32) (b h : Fin 4) (r : Fin 128) (e : Fin 256),
      s.main_v133_9 (ix5 j b h r e) = ot P p b h j r e) (b : Fin 4) (r : Fin 4096) (c : Fin 1024) :
    R_main_v161 (F := Ideal) s P g (ix3 b r c) = retAt P p g b (c.val / 256) (r.val / 128) (r.val % 128) (c.val % 256) := by
  unfold retAt gated layerNorm gnAt pj
  rw [dif_pos ⟨by omega, by omega⟩, dif_pos (by omega)]
  pointwise [R_main_v161]
  simp only [hs]
  have e1 : b.val * 4096 + (r.val / 128 * 128 + r.val % 128) = b.val * 4096 + r.val := by omega
  have e2 : 5120 + (c.val / 256 * 256 + c.val % 256) = 5120 + c.val := by omega
  have e3 : c.val / 256 * 256 + c.val % 256 = c.val := by omega
  simp only [e1, e2, e3]

theorem result : R_main_v161 (F := Ideal) (it P p 32) P g = ret P p g := by
  funext i
  idx_vars i
  exact result_at P p g _ (fun j b h r e => it_outs P p 32 le_rfl j b h r e j.isLt) _ _ _

end Cert.ReferenceIdeal.Ret

end
-- ==== Proof.Retention.lean ====
/-
  The claims about the retention: the frames, and that the kernel and the reference compute the same retention.
-/
module

public import proofs.«01_k».proof.Defs
public import proofs.«01_k».proof.Proof.Gen.KernelIdeal.Value
public import proofs.«01_k».proof.Proof.KerValue
public import proofs.«01_k».proof.Proof.RefIter

@[expose] public section

noncomputable section

namespace Cert.Retention

open Idealize.ShloMosaic Idealize.SL.Sem

attribute [local instance] Cert.KernelIdeal.Gen.facts Cert.ReferenceIdeal.Gen.facts

theorem frame_ref : Cert.quiescent_ReferenceIdeal (hReferenceIdeal := Cert.ReferenceIdeal.Gen.facts) := fun m ρ _ =>
  (θ_run Cert.ReferenceIdeal.defs _ _).mono (fun r h => ⟨fun c => (h c).2, sem_eq_zero_of_no_sems (by decide) r.2⟩)
    (Cert.ReferenceIdeal.Ret.run_states (F := Ideal) m ρ (fun c => Cert.ReferenceIdeal.Ret.it _ _) (fun _ => rfl) (fun _ _ _ => rfl))

/-- Both programs end at `Cert.Ret.ret` of the arguments. -/
theorem algebraic : Cert.algebraic_KernelIdeal_ReferenceIdeal (hKernelIdeal := Cert.KernelIdeal.Gen.facts)
    (hReferenceIdeal := Cert.ReferenceIdeal.Gen.facts) := by
  intro m ρ m' ρ' _ hag
  refine ⟨fun c => Cert.Ret.ret (m ((c.tc : Thread Cert.KernelIdeal.nD Cert.KernelIdeal.τ).loc Cert.KernelIdeal.main_arg0))
    (m ((c.tc : Thread Cert.KernelIdeal.nD Cert.KernelIdeal.τ).loc Cert.KernelIdeal.main_arg1))
    (m ((c.tc : Thread Cert.KernelIdeal.nD Cert.KernelIdeal.τ).loc Cert.KernelIdeal.main_arg2)), ?_, ?_⟩
  · exact (θ_run _ _ _).mono (fun r h c => ⟨(h c).1.trans (Cert.KernelIdeal.Ret.final m c), (h c).2⟩)
      (Cert.KernelIdeal.Value.run (F := Ideal) m ρ)
  · refine (θ_run _ _ _).mono (fun r h c => ⟨(h c).1.trans ?_, (h c).2⟩)
      (Cert.ReferenceIdeal.Ret.run_states (F := Ideal) m' ρ' (fun c => Cert.ReferenceIdeal.Ret.it _ _) (fun _ => rfl) (fun _ _ _ => rfl))
    refine (Cert.ReferenceIdeal.Ret.result _ _ _).trans ?_
    rw [(hag c).1, (hag c).2.1, (hag c).2.2]

end Cert.Retention

end
-- ==== Proof.CallGateUp.lean ====
/-
  The gate and up projections over the first 10752 columns: silu of one product times the other, block by block.
-/
module

public import proofs.«01_k».proof.Defs
public import proofs.«01_k».proof.Proof.Gen.GateUp.Frame
public import proofs.«01_k».proof.Proof.Gen.On_main_columns
public import proofs.«01_k».proof.Proof.Gen.GateUpIdeal.Value
public import proofs.«01_k».proof.Proof.Gen.GateUpReferenceIdeal.Run
public import Idealize.ShloMosaic.Lib.Pipeline.ValueKit
public import Idealize.ShloMosaic.Lib.Pointwise
public import Idealize.ShloMosaic.Lib.WordCmp

@[expose] public section

set_option maxRecDepth 16384

noncomputable section

namespace Cert.GateUpReferenceIdeal.Val

open Idealize.ShloMosaic Idealize.ShloMosaic.TcCoe
open Cert.GateUpReferenceIdeal Cert.GateUpReferenceIdeal.Gen

/-- The activations, as the reference computes them. -/
abbrev result (X0 : FVec Ideal S4x4096x4096 .f32) (X1 : FVec Ideal S4x4096x11008 .f32) (X2 : FVec Ideal S4x4096x11008 .f32) : FVec Ideal S16384x11008 .bf16 :=
  truncf .bf16 (shapeCast _ (mulf (mulf (Host.dotGeneral dot_S4x4096x4096_S4096x11008_S4x4096x11008_2_0_01_1_n_n none X0 (shapeCast _ (extractStridedSlice S1x4096x11008 ![0, 0, 0] X1 slices_S4x4096x11008_S1x4096x11008_0_0_0) shapeCasts_S1x4096x11008_S4096x11008)) (Host.divf (broadcastInDim S4x4096x11008 ![] bcast_S_S4x4096x11008 (constant S_ .f32 0x3F800000#32)) (addf (broadcastInDim S4x4096x11008 ![] bcast_S_S4x4096x11008 (constant S_ .f32 0x3F800000#32)) (Host.exp (Host.negf (Host.dotGeneral dot_S4x4096x4096_S4096x11008_S4x4096x11008_2_0_01_1_n_n none X0 (shapeCast _ (extractStridedSlice S1x4096x11008 ![0, 0, 0] X1 slices_S4x4096x11008_S1x4096x11008_0_0_0) shapeCasts_S1x4096x11008_S4096x11008))))))) (Host.dotGeneral dot_S4x4096x4096_S4096x11008_S4x4096x11008_2_0_01_1_n_n none X0 (shapeCast _ (extractStridedSlice S1x4096x11008 ![0, 0, 0] X2 slices_S4x4096x11008_S1x4096x11008_0_0_0) shapeCasts_S1x4096x11008_S4096x11008))) shapeCasts_S4x4096x11008_S16384x11008) bitsLt_bf16_f32

end Cert.GateUpReferenceIdeal.Val

namespace Cert.On_main_columns

open Idealize.ShloMosaic

/-- The mask at an index: set exactly in the first 10752 columns. -/
theorem fn_apply_iff [Facts] (x : FVec Ideal S4x4096x4096 .f32) (u v : FVec Ideal S4x4096x11008 .f32) (i : S16384x11008.Idx) :
    fn x u v i = 1#1 ↔ (i 1 : Nat) < 10752 := by
  have h : (i 1 : Nat) < 11008 := (i 1).isLt
  exact WordCmp.cmpi_slt_ofNat_eq_one_iff (w := 32) (a := (i 1 : Nat)) (b := 10752) (by omega) (by omega)

end Cert.On_main_columns

namespace Cert.GateUpIdeal.Val

open Idealize.ShloMosaic Idealize.ShloMosaic.TcCoe Idealize.SL.Sem
open Cert.GateUpIdeal Cert.GateUpIdeal.Gen
open Cert.GateUpReferenceIdeal.Val (result)

variable (m : (ℓ : Loc nD τ sig) → Buf (Elt Ideal) ℓ)

theorem idx0 : ∀ t : Fin cfg0.N, win0_0.index t = ![t.val / 21, 0] := (by decide +kernel : ∀ t : Fin grid0.N, _)
theorem idx1 : ∀ t : Fin cfg0.N, win0_1.index t = ![0, 0, t.val % 21] := (by decide +kernel : ∀ t : Fin grid0.N, _)
theorem idx2 : ∀ t : Fin cfg0.N, win0_2.index t = ![0, 0, t.val % 21] := (by decide +kernel : ∀ t : Fin grid0.N, _)
theorem idx3 : ∀ t : Fin cfg0.N, win0_3.index t = ![t.val / 21, t.val % 21] := (by decide +kernel : ∀ t : Fin grid0.N, _)

theorem lt_t (t : Fin cfg0.N) : t.val < 336 := t.isLt

theorem row0 (t : Fin cfg0.N) (y : S1024x4096.Idx) : ((((cfg0.win 0).blk t).view.emb y) 0).val = t.val / 21 * 1024 + (y 0).val := by
  blk_simp [idx0 t]
theorem col0 (t : Fin cfg0.N) (y : S1024x4096.Idx) : ((((cfg0.win 0).blk t).view.emb y) 1).val = (y 1).val := by
  blk_simp [idx0 t]

/-- The input rows' block. -/
theorem blk0 (c : Dev nD) (t : Fin cfg0.N) (y : S1024x4096.Idx) (r : Fin 16384) (hr : r.val = t.val / 21 * 1024 + (y 0).val) :
    iblk m c 0 t y = m ((c : Thread nD τ).loc main_arg0)
      (ix3 (⟨r.val / 4096, by omega⟩ : Fin 4) (⟨r.val % 4096, Nat.mod_lt _ (by decide)⟩ : Fin 4096) (⟨(y 1).val, (y 1).isLt⟩ : Fin 4096)) := by
  have e := idx0 t
  blk_simp [iblk, e]
  entry_read
  pointwise []
  have h0 := (row0 t y).trans hr.symm
  have h1 := col0 t y
  refine congrArg _ ?_
  congr 1
  · exact Fin.ext (by simp only [h0])
  · exact Fin.ext (by simp only [h0])
  · exact Fin.ext h1

/-- Window 1 is never cut: its buffer is its block. -/
theorem whole1 (c : Dev nD) (t : Fin cfg0.N) (y : S1x4096x512.Idx) (y' : ((cfg0.win 1).xblock (cfg0.grid.coords t)).Idx) (h : ∀ a, (y' a).val = (y a).val) :
    X0_1 m c t y = iblk m c 1 t y' := by
  have e : y = (cfg0.win 1).xinj (cfg0.grid.coords t) y' := funext fun a => Fin.ext (h a).symm
  rw [e]
  exact (cfg0.win 1).fill_xinj _ _ _ _

theorem pos1 (t : Fin cfg0.N) (y' : ((cfg0.win 1).xblock (cfg0.grid.coords t)).Idx) :
    ((((cfg0.win 1).blk t).view.emb y') 1).val = (y' 1).val ∧ ((((cfg0.win 1).blk t).view.emb y') 2).val = t.val % 21 * 512 + (y' 2).val
      ∧ ((((cfg0.win 1).blk t).view.emb y') 0).val = (y' 0).val := by
  have h := fun a => (cfg0.win 1).rect_emb_val t y' a
  have e0 : (cfg0.win 1).index t 0 = 0 := congrFun (idx1 t) 0
  have e1 : (cfg0.win 1).index t 1 = 0 := congrFun (idx1 t) 1
  have e2 : (cfg0.win 1).index t 2 = t.val % 21 := congrFun (idx1 t) 2
  refine ⟨(h 1).trans ?_, (h 2).trans ?_, (h 0).trans ?_⟩
  · rw [e1, Nat.zero_mul, Nat.zero_add]
  · rw [e2]
    rfl
  · rw [e0, Nat.zero_mul, Nat.zero_add]

theorem blk1 (c : Dev nD) (t : Fin cfg0.N) (y : S1x4096x512.Idx) (j : Fin 11008) (hj : j.val = t.val % 21 * 512 + (y 2).val) :
    X0_1 m c t y = m ((c : Thread nD τ).loc main_arg1)
      (ix3 (0 : Fin 4) (⟨(y 1).val, (y 1).isLt⟩ : Fin 4096) j) := by
  have hs := xsize0_1 t
  let y' : ((cfg0.win 1).xblock (cfg0.grid.coords t)).Idx := fun a => ⟨(y a).val, by
    have := (y a).isLt
    exact lt_of_lt_of_eq this (hs a).symm⟩
  rw [whole1 m c t y y' (fun _ => rfl)]
  obtain ⟨p1, p2, p0⟩ := pos1 t y'
  have e := idx1 t
  have q0 : (y' 0).val = 0 := Nat.lt_one_iff.mp (y 0).isLt
  have q1 : (y' 1).val = (y 1).val := rfl
  have q2 : (y' 2).val = (y 2).val := rfl
  clear_value y'
  blk_simp [iblk, e]
  entry_read
  pointwise []
  refine congrArg _ (funext fun a => Fin.ext ?_)
  match a with
  | 0 => exact p0.trans q0
  | 1 => exact p1.trans q1
  | 2 => exact (p2.trans (congrArg _ q2)).trans hj.symm

/-- Window 2 is never cut: its buffer is its block. -/
theorem whole2 (c : Dev nD) (t : Fin cfg0.N) (y : S1x4096x512.Idx) (y' : ((cfg0.win 2).xblock (cfg0.grid.coords t)).Idx) (h : ∀ a, (y' a).val = (y a).val) :
    X0_2 m c t y = iblk m c 2 t y' := by
  have e : y = (cfg0.win 2).xinj (cfg0.grid.coords t) y' := funext fun a => Fin.ext (h a).symm
  rw [e]
  exact (cfg0.win 2).fill_xinj _ _ _ _

theorem pos2 (t : Fin cfg0.N) (y' : ((cfg0.win 2).xblock (cfg0.grid.coords t)).Idx) :
    ((((cfg0.win 2).blk t).view.emb y') 1).val = (y' 1).val ∧ ((((cfg0.win 2).blk t).view.emb y') 2).val = t.val % 21 * 512 + (y' 2).val
      ∧ ((((cfg0.win 2).blk t).view.emb y') 0).val = (y' 0).val := by
  have h := fun a => (cfg0.win 2).rect_emb_val t y' a
  have e0 : (cfg0.win 2).index t 0 = 0 := congrFun (idx2 t) 0
  have e1 : (cfg0.win 2).index t 1 = 0 := congrFun (idx2 t) 1
  have e2 : (cfg0.win 2).index t 2 = t.val % 21 := congrFun (idx2 t) 2
  refine ⟨(h 1).trans ?_, (h 2).trans ?_, (h 0).trans ?_⟩
  · rw [e1, Nat.zero_mul, Nat.zero_add]
  · rw [e2]
    rfl
  · rw [e0, Nat.zero_mul, Nat.zero_add]

theorem blk2 (c : Dev nD) (t : Fin cfg0.N) (y : S1x4096x512.Idx) (j : Fin 11008) (hj : j.val = t.val % 21 * 512 + (y 2).val) :
    X0_2 m c t y = m ((c : Thread nD τ).loc main_arg2)
      (ix3 (0 : Fin 4) (⟨(y 1).val, (y 1).isLt⟩ : Fin 4096) j) := by
  have hs := xsize0_2 t
  let y' : ((cfg0.win 2).xblock (cfg0.grid.coords t)).Idx := fun a => ⟨(y a).val, by
    have := (y a).isLt
    exact lt_of_lt_of_eq this (hs a).symm⟩
  rw [whole2 m c t y y' (fun _ => rfl)]
  obtain ⟨p1, p2, p0⟩ := pos2 t y'
  have e := idx2 t
  have q0 : (y' 0).val = 0 := Nat.lt_one_iff.mp (y 0).isLt
  have q1 : (y' 1).val = (y 1).val := rfl
  have q2 : (y' 2).val = (y 2).val := rfl
  clear_value y'
  blk_simp [iblk, e]
  entry_read
  pointwise []
  refine congrArg _ (funext fun a => Fin.ext ?_)
  match a with
  | 0 => exact p0.trans q0
  | 1 => exact p1.trans q1
  | 2 => exact (p2.trans (congrArg _ q2)).trans hj.symm

/-- What the body stores at an index of point `t`'s block. -/
theorem point (c : Dev nD) (t : Fin cfg0.N) (y : S1024x512.Idx) (i : S16384x11008.Idx) (h0 : (i 0).val = t.val / 21 * 1024 + (y 0).val) (h1 : (i 1).val = t.val % 21 * 512 + (y 1).val) :
    k0_pay1 (iblk m c 0 t) (X0_1 m c t) (X0_2 m c t) y
      = result (m ((c : Thread nD τ).loc main_arg0)) (m ((c : Thread nD τ).loc main_arg1)) (m ((c : Thread nD τ).loc main_arg2)) i := by
  pointwise [k0_pay1, result]
  rw [zero_sub]
  have comb : ∀ {a b a' b' : EReal}, a = a' → b = b' →
      a * Ideal.div 1 (1 + Ideal.exp (-a)) * b = a' * Ideal.div 1 (1 + Ideal.exp (-a')) * b' := by
    rintro a b _ _ rfl rfl
    rfl
  refine comb (Finset.sum_congr rfl fun x _ => ?_) (Finset.sum_congr rfl fun x _ => ?_)
  · exact congrArg₂ (· * ·) (blk0 m c t (ix2 (y 0) x) (i 0) h0) (blk1 m c t (ix3 (0 : Fin 1) x (y 1)) (i 1) h1)
  · exact congrArg₂ (· * ·) (blk0 m c t (ix2 (y 0) x) (i 0) h0) (blk2 m c t (ix3 (0 : Fin 1) x (y 1)) (i 1) h1)

theorem final (c : Dev nD) : (dats m 0 c).arrAt 3 (cfgs 0).N
      = fun i => if (i 1 : ℕ) < 10752 then result (m ((c : Thread nD τ).loc main_arg0)) (m ((c : Thread nD τ).loc main_arg1)) (m ((c : Thread nD τ).loc main_arg2)) i
        else V m c main_v4 i := by
  refine (dats m 0 c).arrAt_eq_of_coversWhere 3 _ (fun β => β 1 < 21) (by decide +kernel) (fun t hf y => ?_)
    (fun j => by blk_simp [Pipeline.Window.cell_apply]; omega)
  have h := fun a => (cfg0.win 3).rect_emb_val t y a
  have r0 := (h 0).trans (congrArg (fun n => n * 1024 + (y 0).val) (congrFun (idx3 t) 0))
  have r1 := (h 1).trans (congrArg (fun n => n * 512 + (y 1).val) (congrFun (idx3 t) 1))
  clear h
  have hy : (y 1).val < 512 := lt_of_lt_of_le (y 1).isLt ((cfg0.win 3).xsize_le _ 1)
  have hc : ((((cfg0.win 3).rect t).emb y 1 : _) : ℕ) < 10752 := by
    rw [r1]
    show t.val % 21 * 512 + (y 1).val < 10752
    omega
  blk_simp
  rw [after0_3]
  simp only [outsAt0]
  frame_open
  frame_out
  exact point m c t _ _ r0 r1

end Cert.GateUpIdeal.Val

namespace Cert.CallGateUp

open Idealize.ShloMosaic Idealize.SL.Sem

attribute [local instance] Cert.GateUpIdeal.Gen.facts Cert.GateUpReferenceIdeal.Gen.facts Cert.On_main_columns.Gen.facts

theorem frame_ref : Cert.quiescent_GateUpReferenceIdeal (hGateUpReferenceIdeal := Cert.GateUpReferenceIdeal.Gen.facts) := fun m ρ _ =>
  (θ_run Cert.GateUpReferenceIdeal.defs _ _).mono (fun r h => ⟨fun c => (h c).2, sem_eq_zero_of_no_sems (by decide) r.2⟩)
    (Cert.GateUpReferenceIdeal.Value.run (F := Ideal) m ρ)

theorem algebraic : Cert.algebraic_GateUpIdeal_GateUpReferenceIdeal_on_main_columns (hGateUpIdeal := Cert.GateUpIdeal.Gen.facts)
    (hGateUpReferenceIdeal := Cert.GateUpReferenceIdeal.Gen.facts) (hOn_main_columns := Cert.On_main_columns.Gen.facts) := by
  intro m ρ m' ρ' _ hag
  refine ⟨fun c => Cert.GateUpReferenceIdeal.Val.result (m ((c.tc : Thread Cert.GateUpIdeal.nD Cert.GateUpIdeal.τ).loc Cert.GateUpIdeal.main_arg0))
    (m ((c.tc : Thread Cert.GateUpIdeal.nD Cert.GateUpIdeal.τ).loc Cert.GateUpIdeal.main_arg1))
    (m ((c.tc : Thread Cert.GateUpIdeal.nD Cert.GateUpIdeal.τ).loc Cert.GateUpIdeal.main_arg2)), ?_, ?_⟩
  · exact (θ_run _ _ _).mono (fun r h c => ⟨fun i hi => (congrFun ((h c).1.trans (Cert.GateUpIdeal.Val.final m c)) i).trans
        (if_pos ((Cert.On_main_columns.fn_apply_iff _ _ _ i).mp hi)), (h c).2⟩)
      (Cert.GateUpIdeal.Value.run_blocks (F := Ideal) m ρ)
  · refine (θ_run _ _ _).mono (fun r h c => ⟨fun i _ => congrFun ((h c).1.trans ?_) i, (h c).2⟩) (Cert.GateUpReferenceIdeal.Value.run (F := Ideal) m' ρ')
    rw [(hag c).1, (hag c).2.1, (hag c).2.2]

end Cert.CallGateUp

end
-- ==== Proof.CallTail.lean ====
/-
  The gate and up projections over the last 256 columns, written into an array whose other columns are kept.
-/
module

public import proofs.«01_k».proof.Defs
public import proofs.«01_k».proof.Proof.Gen.Tail.Frame
public import proofs.«01_k».proof.Proof.Gen.TailIdeal.Value
public import proofs.«01_k».proof.Proof.Gen.TailReferenceIdeal.Run
public import Idealize.ShloMosaic.Lib.Pipeline.ValueKit
public import Idealize.ShloMosaic.Lib.Pointwise

@[expose] public section

set_option maxRecDepth 16384

noncomputable section

namespace Cert.TailReferenceIdeal.Val

open Idealize.ShloMosaic Idealize.ShloMosaic.TcCoe
open Cert.TailReferenceIdeal Cert.TailReferenceIdeal.Gen

/-- All the columns of the activations. -/
def act (X0 : FVec Ideal S4x4096x4096 .f32) (X1 : FVec Ideal S4x4096x11008 .f32) (X2 : FVec Ideal S4x4096x11008 .f32) : FVec Ideal S16384x11008 .f32 :=
  (shapeCast _ (mulf (mulf (Host.dotGeneral dot_S4x4096x4096_S4096x11008_S4x4096x11008_2_0_01_1_n_n none X0 (shapeCast _ (extractStridedSlice S1x4096x11008 ![0, 0, 0] X1 slices_S4x4096x11008_S1x4096x11008_0_0_0) shapeCasts_S1x4096x11008_S4096x11008)) (Host.divf (broadcastInDim S4x4096x11008 ![] bcast_S_S4x4096x11008 (constant S_ .f32 0x3F800000#32)) (addf (broadcastInDim S4x4096x11008 ![] bcast_S_S4x4096x11008 (constant S_ .f32 0x3F800000#32)) (Host.exp (Host.negf (Host.dotGeneral dot_S4x4096x4096_S4096x11008_S4x4096x11008_2_0_01_1_n_n none X0 (shapeCast _ (extractStridedSlice S1x4096x11008 ![0, 0, 0] X1 slices_S4x4096x11008_S1x4096x11008_0_0_0) shapeCasts_S1x4096x11008_S4096x11008))))))) (Host.dotGeneral dot_S4x4096x4096_S4096x11008_S4x4096x11008_2_0_01_1_n_n none X0 (shapeCast _ (extractStridedSlice S1x4096x11008 ![0, 0, 0] X2 slices_S4x4096x11008_S1x4096x11008_0_0_0) shapeCasts_S1x4096x11008_S4096x11008))) shapeCasts_S4x4096x11008_S16384x11008)

/-- The kept columns and the last ones. -/
def join (P X3 : FVec Ideal S16384x11008 .f32) : FVec Ideal S16384x11008 .bf16 :=
  truncf .bf16 (concatenate S16384x11008 1 [⟨S16384x10752, (extractStridedSlice S16384x10752 ![0, 0] X3 slices_S16384x11008_S16384x10752_0_0)⟩, ⟨S16384x256, (extractStridedSlice S16384x256 ![0, 10752] P slices_S16384x11008_S16384x256_0_10752)⟩] concatenates_S16384x10752_S16384x256_S16384x11008_d1) bitsLt_bf16_f32

abbrev result (X0 : FVec Ideal S4x4096x4096 .f32) (X1 : FVec Ideal S4x4096x11008 .f32) (X2 : FVec Ideal S4x4096x11008 .f32) (X3 : FVec Ideal S16384x11008 .f32) : FVec Ideal S16384x11008 .bf16 := join (act X0 X1 X2) X3

theorem join_at (P X3 : FVec Ideal S16384x11008 .f32) (i : S16384x11008.Idx) : join P X3 i = if 10752 ≤ (i 1).val then P i else X3 i := by
  pointwise [join]
  by_cases h : (i 1).val < 10752
  · rw [dif_pos h, if_neg (not_le.mpr h)]
  · rw [dif_neg h, if_pos (not_lt.mp h)]
    refine congrArg P (funext fun a => Fin.ext ?_)
    match a with
    | 0 => rfl
    | 1 => exact Nat.add_sub_cancel' (not_lt.mp h)

end Cert.TailReferenceIdeal.Val

namespace Cert.TailIdeal.Val

open Idealize.ShloMosaic Idealize.ShloMosaic.TcCoe Idealize.SL.Sem
open Cert.TailIdeal Cert.TailIdeal.Gen
open Cert.TailReferenceIdeal.Val (result act join_at)

variable (m : (ℓ : Loc nD τ sig) → Buf (Elt Ideal) ℓ)

theorem idx0 : ∀ t : Fin cfg0.N, win0_0.index t = ![t.val, 0] := (by decide +kernel : ∀ t : Fin grid0.N, _)
theorem idx1 : ∀ t : Fin cfg0.N, win0_1.index t = ![0, 0, 42] := (by decide +kernel : ∀ t : Fin grid0.N, _)
theorem idx2 : ∀ t : Fin cfg0.N, win0_2.index t = ![0, 0, 42] := (by decide +kernel : ∀ t : Fin grid0.N, _)
theorem idx3 : ∀ t : Fin cfg0.N, win0_3.index t = ![t.val, 42] := (by decide +kernel : ∀ t : Fin grid0.N, _)

theorem lt_t (t : Fin cfg0.N) : t.val < 8 := t.isLt

theorem row0 (t : Fin cfg0.N) (y : S2048x4096.Idx) : ((((cfg0.win 0).blk t).view.emb y) 0).val = t.val * 2048 + (y 0).val := by
  blk_simp [idx0 t]
theorem col0 (t : Fin cfg0.N) (y : S2048x4096.Idx) : ((((cfg0.win 0).blk t).view.emb y) 1).val = (y 1).val := by
  blk_simp [idx0 t]
theorem row3 (t : Fin cfg0.N) (y : S2048x256.Idx) : ((((cfg0.win 3).blk t).view.emb y) 0).val = t.val * 2048 + (y 0).val := by
  blk_simp [idx3 t]
theorem col3 (t : Fin cfg0.N) (y : S2048x256.Idx) : ((((cfg0.win 3).blk t).view.emb y) 1).val = 10752 + (y 1).val := by
  blk_simp [idx3 t]

/-- The input rows' block. -/
theorem blk0 (c : Dev nD) (t : Fin cfg0.N) (y : S2048x4096.Idx) (r : Fin 16384) (hr : r.val = t.val * 2048 + (y 0).val) :
    iblk m c 0 t y = m ((c : Thread nD τ).loc main_arg0)
      (ix3 (⟨r.val / 4096, by omega⟩ : Fin 4) (⟨r.val % 4096, Nat.mod_lt _ (by decide)⟩ : Fin 4096) (⟨(y 1).val, (y 1).isLt⟩ : Fin 4096)) := by
  have e := idx0 t
  blk_simp [iblk, e]
  entry_read
  pointwise []
  have h0 := (row0 t y).trans hr.symm
  have h1 := col0 t y
  refine congrArg _ ?_
  congr 1
  · exact Fin.ext (by simp only [h0])
  · exact Fin.ext (by simp only [h0])
  · exact Fin.ext h1

/-- A weight's block. -/
theorem blk1 (c : Dev nD) (t : Fin cfg0.N) (y : S1x4096x256.Idx) (j : Fin 11008) (hj : j.val = 10752 + (y 2).val) :
    iblk m c 1 t y = m ((c : Thread nD τ).loc main_arg1) (ix3 (0 : Fin 4) (⟨(y 1).val, (y 1).isLt⟩ : Fin 4096) j) := by
  blk_simp [iblk, idx1 t]
  entry_read
  pointwise []
  blk_ext [idx1 t]

/-- A weight's block. -/
theorem blk2 (c : Dev nD) (t : Fin cfg0.N) (y : S1x4096x256.Idx) (j : Fin 11008) (hj : j.val = 10752 + (y 2).val) :
    iblk m c 2 t y = m ((c : Thread nD τ).loc main_arg2) (ix3 (0 : Fin 4) (⟨(y 1).val, (y 1).isLt⟩ : Fin 4096) j) := by
  blk_simp [iblk, idx2 t]
  entry_read
  pointwise []
  blk_ext [idx2 t]

/-- What the body stores at an index of point `t`'s block. -/
theorem point (c : Dev nD) (t : Fin cfg0.N) (y : S2048x256.Idx) (i : S16384x11008.Idx) (h0 : (i 0).val = t.val * 2048 + (y 0).val) (h1 : (i 1).val = 10752 + (y 1).val) :
    k0_pay1 (iblk m c 0 t) (iblk m c 1 t) (iblk m c 2 t) y
      = act (m ((c : Thread nD τ).loc main_arg0)) (m ((c : Thread nD τ).loc main_arg1)) (m ((c : Thread nD τ).loc main_arg2)) i := by
  pointwise [k0_pay1, act]
  rw [zero_sub]
  have comb : ∀ {a b a' b' : EReal}, a = a' → b = b' →
      a * Ideal.div 1 (1 + Ideal.exp (-a)) * b = a' * Ideal.div 1 (1 + Ideal.exp (-a')) * b' := by
    rintro a b _ _ rfl rfl
    rfl
  refine comb (Finset.sum_congr rfl fun x _ => ?_) (Finset.sum_congr rfl fun x _ => ?_)
  · exact congrArg₂ (· * ·) (blk0 m c t (ix2 (y 0) x) (i 0) h0) (blk1 m c t (ix3 (0 : Fin 1) x (y 1)) (i 1) h1)
  · exact congrArg₂ (· * ·) (blk0 m c t (ix2 (y 0) x) (i 0) h0) (blk2 m c t (ix3 (0 : Fin 1) x (y 1)) (i 1) h1)

/-- The columns that are not written keep what the call was given. -/
theorem kept (c : Dev nD) (i : S16384x11008.Idx) : V m c main_v5 i = m ((c : Thread nD τ).loc main_arg3) i := by
  entry_read
  rfl

theorem final (c : Dev nD) : (dats m 0 c).arrAt 3 (cfgs 0).N
      = result (m ((c : Thread nD τ).loc main_arg0)) (m ((c : Thread nD τ).loc main_arg1)) (m ((c : Thread nD τ).loc main_arg2)) (m ((c : Thread nD τ).loc main_arg3)) := by
  have h : (dats m 0 c).arrAt 3 (cfgs 0).N = fun i => if 10752 ≤ (i 1 : ℕ)
      then act (m ((c : Thread nD τ).loc main_arg0)) (m ((c : Thread nD τ).loc main_arg1)) (m ((c : Thread nD τ).loc main_arg2)) i
      else V m c main_v5 i := by
    refine (dats m 0 c).arrAt_eq_of_coversWhere 3 _ (fun β => 42 ≤ β 1) (by decide +kernel) (fun t hf y => ?_)
      (fun j => by blk_simp [Pipeline.Window.cell_apply]; omega)
    have h := fun a => (cfg0.win 3).rect_emb_val t y a
    have r0 := (h 0).trans (congrArg (fun n => n * 2048 + (y 0).val) (congrFun (idx3 t) 0))
    have r1 := (h 1).trans (congrArg (fun n => n * 256 + (y 1).val) (congrFun (idx3 t) 1))
    clear h
    have hc : 10752 ≤ ((((cfg0.win 3).rect t).emb y 1 : _) : ℕ) := by
      rw [r1]
      show 10752 ≤ 42 * 256 + (y 1).val
      omega
    blk_simp
    rw [after0_3]
    simp only [outsAt0]
    frame_open
    frame_out
    have r1' : ((((cfg0.win 3).rect t).emb y 1 : _) : ℕ) = 10752 + (y 1).val := r1
    clear hc
    exact point m c t y _ r0 r1'
  rw [h]
  funext i
  refine Eq.trans ?_ (join_at _ _ i).symm
  exact congrArg (fun v : EReal => if 10752 ≤ (i 1).val then act (m ((c : Thread nD τ).loc main_arg0)) (m ((c : Thread nD τ).loc main_arg1)) (m ((c : Thread nD τ).loc main_arg2)) i else v) (kept m c i)

end Cert.TailIdeal.Val

namespace Cert.CallTail

open Idealize.ShloMosaic Idealize.SL.Sem

attribute [local instance] Cert.TailIdeal.Gen.facts Cert.TailReferenceIdeal.Gen.facts

theorem frame_ref : Cert.quiescent_TailReferenceIdeal (hTailReferenceIdeal := Cert.TailReferenceIdeal.Gen.facts) := fun m ρ _ =>
  (θ_run Cert.TailReferenceIdeal.defs _ _).mono (fun r h => ⟨fun c => (h c).2, sem_eq_zero_of_no_sems (by decide) r.2⟩)
    (Cert.TailReferenceIdeal.Value.run (F := Ideal) m ρ)

theorem algebraic : Cert.algebraic_TailIdeal_TailReferenceIdeal (hTailIdeal := Cert.TailIdeal.Gen.facts)
    (hTailReferenceIdeal := Cert.TailReferenceIdeal.Gen.facts) := by
  intro m ρ m' ρ' _ hag
  refine ⟨fun c => Cert.TailReferenceIdeal.Val.result (m ((c.tc : Thread Cert.TailIdeal.nD Cert.TailIdeal.τ).loc Cert.TailIdeal.main_arg0)) (m ((c.tc : Thread Cert.TailIdeal.nD Cert.TailIdeal.τ).loc Cert.TailIdeal.main_arg1)) (m ((c.tc : Thread Cert.TailIdeal.nD Cert.TailIdeal.τ).loc Cert.TailIdeal.main_arg2)) (m ((c.tc : Thread Cert.TailIdeal.nD Cert.TailIdeal.τ).loc Cert.TailIdeal.main_arg3)), ?_, ?_⟩
  · exact (θ_run _ _ _).mono (fun r h c => ⟨(h c).1.trans (Cert.TailIdeal.Val.final m c), (h c).2⟩)
      (Cert.TailIdeal.Value.run_blocks (F := Ideal) m ρ)
  · refine (θ_run _ _ _).mono (fun r h c => ⟨(h c).1.trans ?_, (h c).2⟩) (Cert.TailReferenceIdeal.Value.run (F := Ideal) m' ρ')
    rw [(hag c).1, (hag c).2.1, (hag c).2.2.1, (hag c).2.2.2]
    rfl

end Cert.CallTail

end
-- ==== Proof.CallDownFirst.lean ====
/-
  The first half of the down projection: the first 5504 columns of the activations, times their rows of the weight, added to the residual.
-/
module

public import proofs.«01_k».proof.Defs
public import proofs.«01_k».proof.Proof.Gen.DownFirst.Frame
public import proofs.«01_k».proof.Proof.Gen.DownFirstIdeal.Value
public import proofs.«01_k».proof.Proof.Gen.DownFirstReferenceIdeal.Run
public import Idealize.ShloMosaic.Lib.Pipeline.ValueKit
public import Idealize.ShloMosaic.Lib.Pointwise

@[expose] public section

set_option maxRecDepth 16384

noncomputable section

namespace Cert.DownFirstReferenceIdeal.Val

open Idealize.ShloMosaic Idealize.ShloMosaic.TcCoe
open Cert.DownFirstReferenceIdeal Cert.DownFirstReferenceIdeal.Gen

/-- The residual with the first half added, as the reference computes it. -/
abbrev result (X0 : FVec Ideal S4x4096x11008 .f32) (X1 : FVec Ideal S4x11008x4096 .f32) (X2 : FVec Ideal S4x4096x4096 .f32) : FVec Ideal S16384x4096 .f32 :=
  shapeCast _ (addf X2 (Host.dotGeneral dot_S4x4096x5504_S5504x4096_S4x4096x4096_2_0_01_1_n_n none (extractStridedSlice S4x4096x5504 ![0, 0, 0] X0 slices_S4x4096x11008_S4x4096x5504_0_0_0) (shapeCast _ (extractStridedSlice S1x5504x4096 ![0, 0, 0] X1 slices_S4x11008x4096_S1x5504x4096_0_0_0) shapeCasts_S1x5504x4096_S5504x4096))) shapeCasts_S4x4096x4096_S16384x4096

end Cert.DownFirstReferenceIdeal.Val

namespace Cert.DownFirstIdeal.Val

open Idealize.ShloMosaic Idealize.ShloMosaic.TcCoe Idealize.SL.Sem
open Cert.DownFirstIdeal Cert.DownFirstIdeal.Gen
open Cert.DownFirstReferenceIdeal.Val (result)

variable (m : (ℓ : Loc nD τ sig) → Buf (Elt Ideal) ℓ)

theorem idx0 : ∀ t : Fin cfg0.N, win0_0.index t = ![t.val / 8, 0] := (by decide +kernel : ∀ t : Fin grid0.N, _)
theorem idx1 : ∀ t : Fin cfg0.N, win0_1.index t = ![0, 0, t.val % 8] := (by decide +kernel : ∀ t : Fin grid0.N, _)
theorem idx2 : ∀ t : Fin cfg0.N, win0_2.index t = ![t.val / 8, t.val % 8] := (by decide +kernel : ∀ t : Fin grid0.N, _)
theorem idx3 : ∀ t : Fin cfg0.N, win0_3.index t = ![t.val / 8, t.val % 8] := (by decide +kernel : ∀ t : Fin grid0.N, _)

theorem lt_t (t : Fin cfg0.N) : t.val < 128 := t.isLt

theorem row0 (t : Fin cfg0.N) (y : S1024x5504.Idx) : ((((cfg0.win 0).blk t).view.emb y) 0).val = t.val / 8 * 1024 + (y 0).val := by
  blk_simp [idx0 t]
theorem col0 (t : Fin cfg0.N) (y : S1024x5504.Idx) : ((((cfg0.win 0).blk t).view.emb y) 1).val = (y 1).val := by
  blk_simp [idx0 t]
theorem row2 (t : Fin cfg0.N) (y : S1024x512.Idx) : ((((cfg0.win 2).blk t).view.emb y) 0).val = t.val / 8 * 1024 + (y 0).val := by
  blk_simp [idx2 t]
theorem col2 (t : Fin cfg0.N) (y : S1024x512.Idx) : ((((cfg0.win 2).blk t).view.emb y) 1).val = t.val % 8 * 512 + (y 1).val := by
  blk_simp [idx2 t]
theorem row3 (t : Fin cfg0.N) (y : S1024x512.Idx) : ((((cfg0.win 3).blk t).view.emb y) 0).val = t.val / 8 * 1024 + (y 0).val := by
  blk_simp [idx3 t]
theorem col3 (t : Fin cfg0.N) (y : S1024x512.Idx) : ((((cfg0.win 3).blk t).view.emb y) 1).val = t.val % 8 * 512 + (y 1).val := by
  blk_simp [idx3 t]

/-- The activations' block. -/
theorem blk0 (c : Dev nD) (t : Fin cfg0.N) (y : S1024x5504.Idx) (r : Fin 16384) (hr : r.val = t.val / 8 * 1024 + (y 0).val) :
    iblk m c 0 t y = m ((c : Thread nD τ).loc main_arg0)
      (ix3 (⟨r.val / 4096, by omega⟩ : Fin 4) (⟨r.val % 4096, Nat.mod_lt _ (by decide)⟩ : Fin 4096) (⟨(y 1).val, lt_of_lt_of_le (y 1).isLt (by decide)⟩ : Fin 11008)) := by
  have e := idx0 t
  blk_simp [iblk, e]
  entry_read
  pointwise []
  have h0 := (row0 t y).trans hr.symm
  have h1 := col0 t y
  refine congrArg _ ?_
  congr 1
  · exact Fin.ext (by simp only [h0])
  · exact Fin.ext (by simp only [h0])
  · exact Fin.ext h1

/-- The weight's block. -/
theorem blk1 (c : Dev nD) (t : Fin cfg0.N) (y : S1x5504x512.Idx) (j : Fin 4096) (hj : j.val = t.val % 8 * 512 + (y 2).val) :
    iblk m c 1 t y = m ((c : Thread nD τ).loc main_arg1)
      (ix3 (0 : Fin 4) (⟨(y 1).val, lt_of_lt_of_le (y 1).isLt (by decide)⟩ : Fin 11008) j) := by
  blk_simp [iblk, idx1 t]
  entry_read
  pointwise []
  blk_ext [idx1 t]

/-- The residual's block. -/
theorem blk2 (c : Dev nD) (t : Fin cfg0.N) (y : S1024x512.Idx) (r : Fin 16384) (hr : r.val = t.val / 8 * 1024 + (y 0).val) (j : Fin 4096) (hj : j.val = t.val % 8 * 512 + (y 1).val) :
    iblk m c 2 t y = m ((c : Thread nD τ).loc main_arg2)
      (ix3 (⟨r.val / 4096, by omega⟩ : Fin 4) (⟨r.val % 4096, Nat.mod_lt _ (by decide)⟩ : Fin 4096) j) := by
  have e := idx2 t
  blk_simp [iblk, e]
  entry_read
  pointwise []
  have h0 := (row2 t y).trans hr.symm
  have h1 := (col2 t y).trans hj.symm
  refine congrArg _ ?_
  congr 1
  · exact Fin.ext (by simp only [h0])
  · exact Fin.ext (by simp only [h0])
  · exact Fin.ext h1

/-- What the body stores at an index of point `t`'s block. -/
theorem point (c : Dev nD) (t : Fin cfg0.N) (y : S1024x512.Idx) (i : S16384x4096.Idx) (h0 : (i 0).val = t.val / 8 * 1024 + (y 0).val) (h1 : (i 1).val = t.val % 8 * 512 + (y 1).val) :
    k0_pay1 (iblk m c 2 t) (iblk m c 0 t) (iblk m c 1 t) y
      = result (m ((c : Thread nD τ).loc main_arg0)) (m ((c : Thread nD τ).loc main_arg1)) (m ((c : Thread nD τ).loc main_arg2)) i := by
  pointwise [k0_pay1, result]
  refine congrArg₂ (· + ·) (blk2 m c t _ (i 0) h0 (i 1) h1) (Finset.sum_congr rfl fun x _ => ?_)
  refine congrArg₂ (· * ·) ((blk0 m c t _ (i 0) h0).trans ?_) ((blk1 m c t _ (i 1) h1).trans ?_)
  · rfl
  · rfl

theorem final (c : Dev nD) : (dats m 0 c).arrAt 3 (cfgs 0).N
      = result (m ((c : Thread nD τ).loc main_arg0)) (m ((c : Thread nD τ).loc main_arg1)) (m ((c : Thread nD τ).loc main_arg2)) := by
  refine (dats m 0 c).arrAt_eq_of_covers 3 _ (by decide +kernel) fun t _ y => ?_
  blk_simp
  rw [after0_3]
  frame_out
  exact point m c t y _ (row3 t y) (col3 t y)

end Cert.DownFirstIdeal.Val

namespace Cert.CallDownFirst

open Idealize.ShloMosaic Idealize.SL.Sem

attribute [local instance] Cert.DownFirstIdeal.Gen.facts Cert.DownFirstReferenceIdeal.Gen.facts

theorem frame_ref : Cert.quiescent_DownFirstReferenceIdeal (hDownFirstReferenceIdeal := Cert.DownFirstReferenceIdeal.Gen.facts) := fun m ρ _ =>
  (θ_run Cert.DownFirstReferenceIdeal.defs _ _).mono (fun r h => ⟨fun c => (h c).2, sem_eq_zero_of_no_sems (by decide) r.2⟩)
    (Cert.DownFirstReferenceIdeal.Value.run (F := Ideal) m ρ)

theorem algebraic : Cert.algebraic_DownFirstIdeal_DownFirstReferenceIdeal (hDownFirstIdeal := Cert.DownFirstIdeal.Gen.facts)
    (hDownFirstReferenceIdeal := Cert.DownFirstReferenceIdeal.Gen.facts) := by
  intro m ρ m' ρ' _ hag
  refine ⟨fun c => Cert.DownFirstReferenceIdeal.Val.result (m ((c.tc : Thread Cert.DownFirstIdeal.nD Cert.DownFirstIdeal.τ).loc Cert.DownFirstIdeal.main_arg0)) (m ((c.tc : Thread Cert.DownFirstIdeal.nD Cert.DownFirstIdeal.τ).loc Cert.DownFirstIdeal.main_arg1)) (m ((c.tc : Thread Cert.DownFirstIdeal.nD Cert.DownFirstIdeal.τ).loc Cert.DownFirstIdeal.main_arg2)), ?_, ?_⟩
  · exact (θ_run _ _ _).mono (fun r h c => ⟨(h c).1.trans (Cert.DownFirstIdeal.Val.final m c), (h c).2⟩)
      (Cert.DownFirstIdeal.Value.run_blocks (F := Ideal) m ρ)
  · refine (θ_run _ _ _).mono (fun r h c => ⟨(h c).1.trans ?_, (h c).2⟩) (Cert.DownFirstReferenceIdeal.Value.run (F := Ideal) m' ρ')
    rw [(hag c).1, (hag c).2.1, (hag c).2.2]

end Cert.CallDownFirst

end
-- ==== Proof.CallDownSecond.lean ====
/-
  The second half of the down projection: the other 5504 columns of the activations added to the residual; the new residual in both widths, and each row's sum of squares.
-/
module

public import proofs.«01_k».proof.Defs
public import proofs.«01_k».proof.Proof.Gen.DownSecond.Frame
public import proofs.«01_k».proof.Proof.Gen.DownSecondIdeal.Value
public import proofs.«01_k».proof.Proof.Gen.DownSecondReferenceIdeal.Run
public import Idealize.ShloMosaic.Lib.Pipeline.ValueKit
public import Idealize.ShloMosaic.Lib.Pointwise

@[expose] public section

set_option maxRecDepth 16384

noncomputable section

namespace Cert.DownSecondReferenceIdeal.Val

open Idealize.ShloMosaic Idealize.ShloMosaic.TcCoe
open Cert.DownSecondReferenceIdeal Cert.DownSecondReferenceIdeal.Gen

/-- The new residual, as the reference computes it. -/
abbrev result (X0 : FVec Ideal S4x4096x11008 .f32) (X1 : FVec Ideal S4x11008x4096 .f32) (X2 : FVec Ideal S4x4096x4096 .f32) : FVec Ideal S16384x4096 .f32 :=
  shapeCast _ (addf X2 (Host.dotGeneral dot_S4x4096x5504_S5504x4096_S4x4096x4096_2_0_01_1_n_n none (extractStridedSlice S4x4096x5504 ![0, 0, 5504] X0 slices_S4x4096x11008_S4x4096x5504_0_0_5504) (shapeCast _ (extractStridedSlice S1x5504x4096 ![0, 5504, 0] X1 slices_S4x11008x4096_S1x5504x4096_0_5504_0) shapeCasts_S1x5504x4096_S5504x4096))) shapeCasts_S4x4096x4096_S16384x4096

/-- The new residual, narrowed. -/
abbrev narrow (X0 : FVec Ideal S4x4096x11008 .f32) (X1 : FVec Ideal S4x11008x4096 .f32) (X2 : FVec Ideal S4x4096x4096 .f32) : FVec Ideal S16384x4096 .bf16 :=
  truncf .bf16 (shapeCast _ (addf X2 (Host.dotGeneral dot_S4x4096x5504_S5504x4096_S4x4096x4096_2_0_01_1_n_n none (extractStridedSlice S4x4096x5504 ![0, 0, 5504] X0 slices_S4x4096x11008_S4x4096x5504_0_0_5504) (shapeCast _ (extractStridedSlice S1x5504x4096 ![0, 5504, 0] X1 slices_S4x11008x4096_S1x5504x4096_0_5504_0) shapeCasts_S1x5504x4096_S5504x4096))) shapeCasts_S4x4096x4096_S16384x4096) bitsLt_bf16_f32

/-- Each row's sum of squares, in all the lanes. -/
abbrev sums (X0 : FVec Ideal S4x4096x11008 .f32) (X1 : FVec Ideal S4x11008x4096 .f32) (X2 : FVec Ideal S4x4096x4096 .f32) : FVec Ideal S16384x128 .f32 :=
  broadcastInDim S16384x128 ![0, 1] bcast_S16384x1_S16384x128_0_1 (broadcastInDim S16384x1 ![0] bcast_S16384_S16384x1_0 (Host.reduceAdd (mulf (shapeCast _ (addf X2 (Host.dotGeneral dot_S4x4096x5504_S5504x4096_S4x4096x4096_2_0_01_1_n_n none (extractStridedSlice S4x4096x5504 ![0, 0, 5504] X0 slices_S4x4096x11008_S4x4096x5504_0_0_5504) (shapeCast _ (extractStridedSlice S1x5504x4096 ![0, 5504, 0] X1 slices_S4x11008x4096_S1x5504x4096_0_5504_0) shapeCasts_S1x5504x4096_S5504x4096))) shapeCasts_S4x4096x4096_S16384x4096) (shapeCast _ (addf X2 (Host.dotGeneral dot_S4x4096x5504_S5504x4096_S4x4096x4096_2_0_01_1_n_n none (extractStridedSlice S4x4096x5504 ![0, 0, 5504] X0 slices_S4x4096x11008_S4x4096x5504_0_0_5504) (shapeCast _ (extractStridedSlice S1x5504x4096 ![0, 5504, 0] X1 slices_S4x11008x4096_S1x5504x4096_0_5504_0) shapeCasts_S1x5504x4096_S5504x4096))) shapeCasts_S4x4096x4096_S16384x4096)) (constant S_ .f32 0x00000000#32) reducesTo_S16384x4096_S16384_d1 h_S_))

theorem sums_at (X0 : FVec Ideal S4x4096x11008 .f32) (X1 : FVec Ideal S4x11008x4096 .f32) (X2 : FVec Ideal S4x4096x4096 .f32) (i : S16384x128.Idx) :
    sums X0 X1 X2 i = ∑ j : Fin 4096, result X0 X1 X2 (ix2 (i 0) j) * result X0 X1 X2 (ix2 (i 0) j) := by
  unfold sums result
  generalize shapeCast _ (addf X2 (Host.dotGeneral dot_S4x4096x5504_S5504x4096_S4x4096x4096_2_0_01_1_n_n none (extractStridedSlice S4x4096x5504 ![0, 0, 5504] X0 slices_S4x4096x11008_S4x4096x5504_0_0_5504) (shapeCast _ (extractStridedSlice S1x5504x4096 ![0, 5504, 0] X1 slices_S4x11008x4096_S1x5504x4096_0_5504_0) shapeCasts_S1x5504x4096_S5504x4096))) shapeCasts_S4x4096x4096_S16384x4096 = P
  pointwise []

end Cert.DownSecondReferenceIdeal.Val

namespace Cert.DownSecondIdeal.Val

open Idealize.ShloMosaic Idealize.ShloMosaic.TcCoe Idealize.SL.Sem
open Cert.DownSecondIdeal Cert.DownSecondIdeal.Gen
open Cert.DownSecondReferenceIdeal.Val (result narrow sums sums_at)

variable (m : (ℓ : Loc nD τ sig) → Buf (Elt Ideal) ℓ)

theorem idx0 : ∀ t : Fin cfg0.N, win0_0.index t = ![t.val / 8, 1] := (by decide +kernel : ∀ t : Fin grid0.N, _)
theorem idx1 : ∀ t : Fin cfg0.N, win0_1.index t = ![0, 1, t.val % 8] := (by decide +kernel : ∀ t : Fin grid0.N, _)
theorem idx2 : ∀ t : Fin cfg0.N, win0_2.index t = ![t.val / 8, t.val % 8] := (by decide +kernel : ∀ t : Fin grid0.N, _)
theorem idx3 : ∀ t : Fin cfg0.N, win0_3.index t = ![t.val / 8, t.val % 8] := (by decide +kernel : ∀ t : Fin grid0.N, _)

theorem idx4 : ∀ t : Fin cfg0.N, win0_4.index t = ![t.val / 8, t.val % 8] := (by decide +kernel : ∀ t : Fin grid0.N, _)
theorem idx5 : ∀ t : Fin cfg0.N, win0_5.index t = ![t.val / 8, 0] := (by decide +kernel : ∀ t : Fin grid0.N, _)
theorem row4 (t : Fin cfg0.N) (y : S1024x512.Idx) : ((((cfg0.win 4).blk t).view.emb y) 0).val = t.val / 8 * 1024 + (y 0).val := by
  blk_simp [idx4 t]
theorem col4 (t : Fin cfg0.N) (y : S1024x512.Idx) : ((((cfg0.win 4).blk t).view.emb y) 1).val = t.val % 8 * 512 + (y 1).val := by
  blk_simp [idx4 t]
theorem row5 (t : Fin cfg0.N) (y : S1024x128.Idx) : ((((cfg0.win 5).blk t).view.emb y) 0).val = t.val / 8 * 1024 + (y 0).val := by
  blk_simp [idx5 t]

theorem lt_t (t : Fin cfg0.N) : t.val < 128 := t.isLt

theorem row0 (t : Fin cfg0.N) (y : S1024x5504.Idx) : ((((cfg0.win 0).blk t).view.emb y) 0).val = t.val / 8 * 1024 + (y 0).val := by
  blk_simp [idx0 t]
theorem col0 (t : Fin cfg0.N) (y : S1024x5504.Idx) : ((((cfg0.win 0).blk t).view.emb y) 1).val = 5504 + (y 1).val := by
  blk_simp [idx0 t]
theorem row2 (t : Fin cfg0.N) (y : S1024x512.Idx) : ((((cfg0.win 2).blk t).view.emb y) 0).val = t.val / 8 * 1024 + (y 0).val := by
  blk_simp [idx2 t]
theorem col2 (t : Fin cfg0.N) (y : S1024x512.Idx) : ((((cfg0.win 2).blk t).view.emb y) 1).val = t.val % 8 * 512 + (y 1).val := by
  blk_simp [idx2 t]
theorem row3 (t : Fin cfg0.N) (y : S1024x512.Idx) : ((((cfg0.win 3).blk t).view.emb y) 0).val = t.val / 8 * 1024 + (y 0).val := by
  blk_simp [idx3 t]
theorem col3 (t : Fin cfg0.N) (y : S1024x512.Idx) : ((((cfg0.win 3).blk t).view.emb y) 1).val = t.val % 8 * 512 + (y 1).val := by
  blk_simp [idx3 t]

/-- The activations' block. -/
theorem blk0 (c : Dev nD) (t : Fin cfg0.N) (y : S1024x5504.Idx) (r : Fin 16384) (hr : r.val = t.val / 8 * 1024 + (y 0).val) :
    iblk m c 0 t y = m ((c : Thread nD τ).loc main_arg0)
      (ix3 (⟨r.val / 4096, by omega⟩ : Fin 4) (⟨r.val % 4096, Nat.mod_lt _ (by decide)⟩ : Fin 4096) (⟨5504 + (y 1).val, Nat.add_lt_add_left (y 1).isLt 5504⟩ : Fin 11008)) := by
  have e := idx0 t
  blk_simp [iblk, e]
  entry_read
  pointwise []
  have h0 := (row0 t y).trans hr.symm
  have h1 := col0 t y
  refine congrArg _ ?_
  congr 1
  · exact Fin.ext (by simp only [h0])
  · exact Fin.ext (by simp only [h0])
  · exact Fin.ext h1

/-- The weight's block. -/
theorem blk1 (c : Dev nD) (t : Fin cfg0.N) (y : S1x5504x512.Idx) (j : Fin 4096) (hj : j.val = t.val % 8 * 512 + (y 2).val) :
    iblk m c 1 t y = m ((c : Thread nD τ).loc main_arg1)
      (ix3 (0 : Fin 4) (⟨5504 + (y 1).val, Nat.add_lt_add_left (y 1).isLt 5504⟩ : Fin 11008) j) := by
  blk_simp [iblk, idx1 t]
  entry_read
  pointwise []
  blk_ext [idx1 t]

/-- The residual's block. -/
theorem blk2 (c : Dev nD) (t : Fin cfg0.N) (y : S1024x512.Idx) (r : Fin 16384) (hr : r.val = t.val / 8 * 1024 + (y 0).val) (j : Fin 4096) (hj : j.val = t.val % 8 * 512 + (y 1).val) :
    iblk m c 2 t y = m ((c : Thread nD τ).loc main_arg2)
      (ix3 (⟨r.val / 4096, by omega⟩ : Fin 4) (⟨r.val % 4096, Nat.mod_lt _ (by decide)⟩ : Fin 4096) j) := by
  have e := idx2 t
  blk_simp [iblk, e]
  entry_read
  pointwise []
  have h0 := (row2 t y).trans hr.symm
  have h1 := (col2 t y).trans hj.symm
  refine congrArg _ ?_
  congr 1
  · exact Fin.ext (by simp only [h0])
  · exact Fin.ext (by simp only [h0])
  · exact Fin.ext h1

/-- What the body stores at an index of point `t`'s block. -/
theorem point (c : Dev nD) (t : Fin cfg0.N) (y : S1024x512.Idx) (i : S16384x4096.Idx) (h0 : (i 0).val = t.val / 8 * 1024 + (y 0).val) (h1 : (i 1).val = t.val % 8 * 512 + (y 1).val) :
    k0_pay1 (iblk m c 2 t) (iblk m c 0 t) (iblk m c 1 t) y
      = result (m ((c : Thread nD τ).loc main_arg0)) (m ((c : Thread nD τ).loc main_arg1)) (m ((c : Thread nD τ).loc main_arg2)) i := by
  pointwise [k0_pay1, result]
  refine congrArg₂ (· + ·) (blk2 m c t _ (i 0) h0 (i 1) h1) (Finset.sum_congr rfl fun x _ => ?_)
  refine congrArg₂ (· * ·) ((blk0 m c t _ (i 0) h0).trans ?_) ((blk1 m c t _ (i 1) h1).trans ?_)
  · rfl
  · rfl

theorem final3 (c : Dev nD) : (dats m 0 c).arrAt 3 (cfgs 0).N = result (m ((c : Thread nD τ).loc main_arg0)) (m ((c : Thread nD τ).loc main_arg1)) (m ((c : Thread nD τ).loc main_arg2)) := by
  refine (dats m 0 c).arrAt_eq_of_covers 3 _ (by decide +kernel) fun t _ y => ?_
  blk_simp
  rw [after0_3]
  by_cases h : t.val % 8 = 0
  · rw [outsAt0_A m c t h]
    frame_out
    exact point m c t y _ (row3 t y) (col3 t y)
  · rw [outsAt0_B m c t h]
    frame_out
    exact point m c t y _ (row3 t y) (col3 t y)

theorem final4 (c : Dev nD) : (dats m 0 c).arrAt 4 (cfgs 0).N = narrow (m ((c : Thread nD τ).loc main_arg0)) (m ((c : Thread nD τ).loc main_arg1)) (m ((c : Thread nD τ).loc main_arg2)) := by
  refine (dats m 0 c).arrAt_eq_of_covers 4 _ (by decide +kernel) fun t _ y => ?_
  blk_simp
  rw [after0_4]
  by_cases h : t.val % 8 = 0
  · rw [outsAt0_A m c t h]
    frame_out
    exact point m c t y _ (row4 t y) (col4 t y)
  · rw [outsAt0_B m c t h]
    frame_out
    exact point m c t y _ (row4 t y) (col4 t y)

theorem hzero (y : S1024x128.Idx) : k0_pay3 (F := Ideal) y = 0 := by pointwise [k0_pay3]

/-- The sums' payload: what was there, and the block's own squares added up. -/
theorem hpay (v0 : Vec Ideal S1024x512 .f32) (v2 : Vec Ideal S1024x5504 .bf16) (v4 : Vec Ideal S1x5504x512 .bf16) (acc : Vec Ideal S1024x128 .f32) (y : S1024x128.Idx) :
    k0_pay4 v0 v2 v4 acc y = acc y + ∑ l : Fin 512, k0_pay1 v0 v2 v4 (ix2 (y 0) l) * k0_pay1 v0 v2 v4 (ix2 (y 0) l) := by
  unfold k0_pay4
  generalize k0_pay1 v0 v2 v4 = P
  pointwise []

theorem final5 (c : Dev nD) : (dats m 0 c).arrAt 5 (cfgs 0).N = sums (m ((c : Thread nD τ).loc main_arg0)) (m ((c : Thread nD τ).loc main_arg1)) (m ((c : Thread nD τ).loc main_arg2)) := by
  refine (dats m 0 c).arrAt_eq_of_covers 5 _ (by decide +kernel) fun t hf y => ?_
  blk_simp
  rw [after0_5, Pipeline.eq_sum_fin_of_reset_step_apply_of_flush (fun n h => (outsAt0 m c n h).2.2) 8 (fun _ => 0) _
    (fun t h j => by rw [outsAt0_A m c t h]; frame_out; rw [hpay, hzero])
    (fun t h j => by rw [outsAt0_B m c t h]; frame_out; rw [hpay])
    t ((flush0_5 t).mp hf) _, zero_add]
  have h5 := row5 t y
  have hm := (flush0_5 t).mp hf
  have ht := lt_t t
  generalize ((cfg0.win 5).blk t).view.emb y = i at h5 ⊢
  refine Eq.trans ?_ (sums_at _ _ _ i).symm
  refine Fin.sum_mul_add_congr fun s l hl => ?_
  have hs := s.isLt
  refine congrArg (fun u : EReal => u * u) (point m c ⟨8 * (t.val / 8) + s.val, _⟩ (ix2 (y 0) l) (ix2 (i 0) ⟨s.val * 512 + l.val, hl⟩) ?_ ?_)
  · show (i 0).val = (8 * (t.val / 8) + s.val) / 8 * 1024 + (y 0).val
    rw [show (8 * (t.val / 8) + s.val) / 8 = t.val / 8 by omega]
    exact h5
  · show s.val * 512 + l.val = (8 * (t.val / 8) + s.val) % 8 * 512 + l.val
    rw [show (8 * (t.val / 8) + s.val) % 8 = s.val by omega]

end Cert.DownSecondIdeal.Val

namespace Cert.CallDownSecond

open Idealize.ShloMosaic Idealize.SL.Sem

attribute [local instance] Cert.DownSecondIdeal.Gen.facts Cert.DownSecondReferenceIdeal.Gen.facts

theorem frame_ref : Cert.quiescent_DownSecondReferenceIdeal (hDownSecondReferenceIdeal := Cert.DownSecondReferenceIdeal.Gen.facts) := fun m ρ _ =>
  (θ_run Cert.DownSecondReferenceIdeal.defs _ _).mono (fun r h => ⟨fun c => (h c).2.2.2, sem_eq_zero_of_no_sems (by decide) r.2⟩)
    (Cert.DownSecondReferenceIdeal.Value.run (F := Ideal) m ρ)

theorem algebraic : Cert.algebraic_DownSecondIdeal_DownSecondReferenceIdeal (hDownSecondIdeal := Cert.DownSecondIdeal.Gen.facts)
    (hDownSecondReferenceIdeal := Cert.DownSecondReferenceIdeal.Gen.facts) := by
  intro m ρ m' ρ' _ hag
  refine ⟨fun c => Cert.DownSecondReferenceIdeal.Val.result (m ((c.tc : Thread Cert.DownSecondIdeal.nD Cert.DownSecondIdeal.τ).loc Cert.DownSecondIdeal.main_arg0)) (m ((c.tc : Thread Cert.DownSecondIdeal.nD Cert.DownSecondIdeal.τ).loc Cert.DownSecondIdeal.main_arg1)) (m ((c.tc : Thread Cert.DownSecondIdeal.nD Cert.DownSecondIdeal.τ).loc Cert.DownSecondIdeal.main_arg2)), fun c => Cert.DownSecondReferenceIdeal.Val.narrow (m ((c.tc : Thread Cert.DownSecondIdeal.nD Cert.DownSecondIdeal.τ).loc Cert.DownSecondIdeal.main_arg0)) (m ((c.tc : Thread Cert.DownSecondIdeal.nD Cert.DownSecondIdeal.τ).loc Cert.DownSecondIdeal.main_arg1)) (m ((c.tc : Thread Cert.DownSecondIdeal.nD Cert.DownSecondIdeal.τ).loc Cert.DownSecondIdeal.main_arg2)), fun c => Cert.DownSecondReferenceIdeal.Val.sums (m ((c.tc : Thread Cert.DownSecondIdeal.nD Cert.DownSecondIdeal.τ).loc Cert.DownSecondIdeal.main_arg0)) (m ((c.tc : Thread Cert.DownSecondIdeal.nD Cert.DownSecondIdeal.τ).loc Cert.DownSecondIdeal.main_arg1)) (m ((c.tc : Thread Cert.DownSecondIdeal.nD Cert.DownSecondIdeal.τ).loc Cert.DownSecondIdeal.main_arg2)), ?_, ?_⟩
  · exact (θ_run _ _ _).mono (fun r h c => ⟨(h c).1.trans (Cert.DownSecondIdeal.Val.final3 m c), (h c).2.1.trans (Cert.DownSecondIdeal.Val.final4 m c), (h c).2.2.1.trans (Cert.DownSecondIdeal.Val.final5 m c), (h c).2.2.2⟩)
      (Cert.DownSecondIdeal.Value.run_blocks (F := Ideal) m ρ)
  · refine (θ_run _ _ _).mono (fun r h c => ⟨(h c).1.trans ?_, (h c).2.1.trans ?_, (h c).2.2.1.trans ?_, (h c).2.2.2⟩) (Cert.DownSecondReferenceIdeal.Value.run (F := Ideal) m' ρ')
    · rw [(hag c).1, (hag c).2.1, (hag c).2.2]
    · rw [(hag c).1, (hag c).2.1, (hag c).2.2]
    · rw [(hag c).1, (hag c).2.1, (hag c).2.2]

end Cert.CallDownSecond

end
-- ==== Proof.CallInProj.lean ====
/-
  The input projection: rows times the weight with the norm's gain in it, scaled by the row's inverse norm afterwards; the reference normalises first.
-/
module

public import proofs.«01_k».proof.Defs
public import proofs.«01_k».proof.Proof.Gen.InProj.Frame
public import proofs.«01_k».proof.Proof.Gen.InProjIdeal.Value
public import proofs.«01_k».proof.Proof.Gen.InProjReferenceIdeal.Run
public import Idealize.ShloMosaic.Lib.Pipeline.ValueKit
public import Idealize.ShloMosaic.Lib.Pointwise

@[expose] public section

set_option maxRecDepth 16384

noncomputable section

namespace Cert.InProjReferenceIdeal.Val

open Idealize.ShloMosaic Idealize.ShloMosaic.TcCoe
open Cert.InProjReferenceIdeal Cert.InProjReferenceIdeal.Gen

/-- The projection of the normalised rows, in the weight's own order of columns. -/
def core (X0 : FVec Ideal S4x4096x4096 .f32) (X1 : FVec Ideal S4x4096 .f32) (X2 : FVec Ideal S4x4096x10600 .f32) : FVec Ideal S16384x10600 .f32 :=
  (shapeCast _ (Host.dotGeneral dot_S4x4096x4096_S4096x10600_S4x4096x10600_2_0_01_1_n_n none (mulf (mulf X0 (broadcastInDim S4x4096x4096 ![0, 1, 2] bcast_S4x4096x1_S4x4096x4096_0_1_2 (Host.rsqrt (addf (Host.divf (broadcastInDim S4x4096x1 ![0, 1] bcast_S4x4096_S4x4096x1_0_1 (Host.reduceAdd (mulf X0 X0) (constant S_ .f32 0x00000000#32) reducesTo_S4x4096x4096_S4x4096_d2 h_S_)) (broadcastInDim S4x4096x1 ![] bcast_S_S4x4096x1 (constant S_ .f32 0x45800000#32))) (broadcastInDim S4x4096x1 ![] bcast_S_S4x4096x1 (constant S_ .f32 0x358637BD#32)))))) (broadcastInDim S4x4096x4096 ![0, 1, 2] bcast_S1x1x4096_S4x4096x4096_0_1_2 (broadcastInDim S1x1x4096 ![2] bcast_S4096_S1x1x4096_2 (shapeCast _ (extractStridedSlice S1x4096 ![0, 0] X1 slices_S4x4096_S1x4096_0_0) shapeCasts_S1x4096_S4096)))) (shapeCast _ (extractStridedSlice S1x4096x10600 ![0, 0, 0] X2 slices_S4x4096x10600_S1x4096x10600_0_0_0) shapeCasts_S1x4096x10600_S4096x10600)) shapeCasts_S4x4096x10600_S16384x10600)

/-- The columns' groups in the order in which the mixers read them. -/
def packed (P : FVec Ideal S16384x10600 .f32) : FVec Ideal S16384x10752 .f32 :=
  (concatenate S16384x10752 1 [⟨S16384x3072, ((extractStridedSlice S16384x3072 ![0, 0] P slices_S16384x10600_S16384x3072_0_0) : FVec Ideal S16384x3072 .f32)⟩, ⟨S16384x3072, ((extractStridedSlice S16384x3072 ![0, 4168] P slices_S16384x10600_S16384x3072_0_4168) : FVec Ideal S16384x3072 .f32)⟩, ⟨S16384x3072, ((extractStridedSlice S16384x3072 ![0, 7240] P slices_S16384x10600_S16384x3072_0_7240) : FVec Ideal S16384x3072 .f32)⟩, ⟨S16384x1024, ((extractStridedSlice S16384x1024 ![0, 3080] P slices_S16384x10600_S16384x1024_0_3080) : FVec Ideal S16384x1024 .f32)⟩, ⟨S16384x288, ((extractStridedSlice S16384x288 ![0, 10312] P slices_S16384x10600_S16384x288_0_10312) : FVec Ideal S16384x288 .f32)⟩, ⟨S16384x96, ((broadcastInDim S16384x96 ![] bcast_S_S16384x96 (constant S_ .f32 0x00000000#32)) : FVec Ideal S16384x96 .f32)⟩, ⟨S16384x64, ((extractStridedSlice S16384x64 ![0, 4104] P slices_S16384x10600_S16384x64_0_4104) : FVec Ideal S16384x64 .f32)⟩, ⟨S16384x8, ((extractStridedSlice S16384x8 ![0, 3072] P slices_S16384x10600_S16384x8_0_3072) : FVec Ideal S16384x8 .f32)⟩, ⟨S16384x56, ((broadcastInDim S16384x56 ![] bcast_S_S16384x56 (constant S_ .f32 0x00000000#32)) : FVec Ideal S16384x56 .f32)⟩] concatenates_S16384x3072_S16384x3072_S16384x3072_S16384x1024_S16384x288_S16384x96_S16384x64_S16384x8_S16384x56_S16384x10752_d1 : FVec Ideal S16384x10752 .f32)

abbrev result (X0 : FVec Ideal S4x4096x4096 .f32) (X1 : FVec Ideal S4x4096 .f32) (X2 : FVec Ideal S4x4096x10600 .f32) : FVec Ideal S16384x10752 .f32 := packed (core X0 X1 X2)

/-- A row's sum of squares. -/
def ssq (X0 : FVec Ideal S4x4096x4096 .f32) (r : Fin 16384) : EReal :=
  ∑ x : Fin 4096, X0 (ix3 (⟨r.val / 4096, by omega⟩ : Fin 4) (⟨r.val % 4096, Nat.mod_lt _ (by decide)⟩ : Fin 4096) x) * X0 (ix3 (⟨r.val / 4096, by omega⟩ : Fin 4) (⟨r.val % 4096, Nat.mod_lt _ (by decide)⟩ : Fin 4096) x)

/-- A weight with the norm's gain in it. -/
def gw (X1 : FVec Ideal S4x4096 .f32) (X2 : FVec Ideal S4x4096x10600 .f32) (k : Fin 4096) (x : Fin 10600) : EReal :=
  X1 (ix2 (0 : Fin 4) k) * X2 (ix3 (0 : Fin 4) k x)

theorem bits_mean : Ideal.ofBits .f32 0x45800000#32 = ((4096 : ℝ) : EReal) := by
  simp [Ideal.ofBits, Ideal.ieee, -EReal.coe_mul]; norm_num
theorem bits_inv : Ideal.ofBits .f32 0x39800000#32 = ((1 / 4096 : ℝ) : EReal) := by
  simp [Ideal.ofBits, Ideal.ieee, -EReal.coe_mul]; norm_num
theorem bits_eps : 0 < Ideal.ofBits .f32 0x358637BD#32 := by
  simp [Ideal.ofBits, Ideal.ieee, -EReal.coe_mul]

theorem mean_eq (s : EReal) : Ideal.div s (Ideal.ofBits .f32 0x45800000#32) = s * Ideal.ofBits .f32 0x39800000#32 := by
  rw [bits_mean, bits_inv]
  have h : ((4096 : ℝ) : EReal) ≠ 0 := by norm_num
  rw [Ideal.div, if_neg h, one_div, EReal.coe_inv]

theorem sq_nonneg' (x : EReal) : 0 ≤ x * x := by
  rcases le_total 0 x with h | h
  · exact mul_nonneg h h
  · rw [← neg_mul_neg x x]
    exact mul_nonneg (EReal.neg_nonneg.mpr h) (EReal.neg_nonneg.mpr h)

theorem sum_mul_right {ι : Type} (s : Finset ι) (f : ι → EReal) (c : EReal) (h0 : 0 ≤ c) (ht : c ≠ ⊤) :
    (∑ x ∈ s, f x) * c = ∑ x ∈ s, f x * c := by
  classical
  induction s using Finset.induction_on with
  | empty => simp
  | insert a s ha ih =>
    rw [Finset.sum_insert ha, Finset.sum_insert ha, EReal.right_distrib_of_nonneg_of_ne_top h0 ht, ih]

/-- The inverse root of a positive number is neither negative nor infinite. -/
theorem rsqrt_pos (x : EReal) (h : 0 < x) : 0 ≤ Ideal.rsqrt x ∧ Ideal.rsqrt x ≠ ⊤ := by
  induction x with
  | bot => exact absurd h (by simp)
  | top => exact ⟨le_refl _, EReal.zero_ne_top⟩
  | coe r =>
    have hr : 0 < r := EReal.coe_pos.mp h
    have e : Ideal.rsqrt (r : EReal) = (((Real.sqrt r)⁻¹ : ℝ) : EReal) := by
      show (if r < 0 then (⊥ : EReal) else if r = 0 then ⊤ else (((Real.sqrt r)⁻¹ : ℝ) : EReal)) = _
      rw [if_neg (not_lt.mpr hr.le), if_neg hr.ne']
    rw [e]
    exact ⟨EReal.coe_nonneg.mpr (inv_nonneg.mpr (Real.sqrt_nonneg r)), EReal.coe_ne_top _⟩

/-- The row's inverse norm. -/
def inv (q : EReal) : EReal := Ideal.rsqrt (q * Ideal.ofBits FTy.f32 0x39800000#32 + Ideal.ofBits FTy.f32 0x358637BD#32)

theorem inv_pos (q : EReal) (h : 0 ≤ q) : 0 ≤ inv q ∧ inv q ≠ ⊤ := by
  refine rsqrt_pos _ (lt_of_lt_of_le bits_eps (le_add_of_nonneg_left (mul_nonneg h ?_)))
  rw [bits_inv]
  exact EReal.coe_nonneg.mpr (by norm_num)

theorem core_at (X0 : FVec Ideal S4x4096x4096 .f32) (X1 : FVec Ideal S4x4096 .f32) (X2 : FVec Ideal S4x4096x10600 .f32) (r : Fin 16384) (j : Fin 10600) : core X0 X1 X2 (ix2 r j)
    = (∑ k : Fin 4096, X0 (ix3 (⟨r.val / 4096, by omega⟩ : Fin 4) (⟨r.val % 4096, Nat.mod_lt _ (by decide)⟩ : Fin 4096) k) * gw X1 X2 k j) * inv (ssq X0 r) := by
  have hp := inv_pos (ssq X0 r) (Finset.sum_nonneg fun x _ => sq_nonneg' _)
  rw [sum_mul_right _ _ _ hp.1 hp.2]
  have e : inv (ssq X0 r) = Ideal.rsqrt (Ideal.div (ssq X0 r) (Ideal.ofBits .f32 0x45800000#32) + Ideal.ofBits FTy.f32 0x358637BD#32) := by
    rw [mean_eq, inv]
  rw [e]
  pointwise [core]
  refine Finset.sum_congr rfl fun k _ => ?_
  unfold gw ssq
  rw [mul_right_comm (X0 _) (X1 _ * X2 _), mul_assoc (X0 _ * _)]

/-- Column `j` of the packed order, out of the columns `f` of the weight's own order: the zero columns are padding. -/
def pick (f : Fin 10600 → EReal) (j : Fin 10752) : EReal :=
  if h : j.val < 3072 then f ⟨j.val, by omega⟩
  else if h : j.val - 3072 < 3072 then f ⟨4168 + (j.val - 3072), by omega⟩
  else if h : j.val - 3072 - 3072 < 3072 then f ⟨7240 + (j.val - 3072 - 3072), by omega⟩
  else if h : j.val - 3072 - 3072 - 3072 < 1024 then f ⟨3080 + (j.val - 3072 - 3072 - 3072), by omega⟩
  else if h : j.val - 3072 - 3072 - 3072 - 1024 < 288 then f ⟨10312 + (j.val - 3072 - 3072 - 3072 - 1024), by omega⟩
  else if h : j.val - 3072 - 3072 - 3072 - 1024 - 288 < 96 then 0
  else if h : j.val - 3072 - 3072 - 3072 - 1024 - 288 - 96 < 64 then f ⟨4104 + (j.val - 3072 - 3072 - 3072 - 1024 - 288 - 96), by omega⟩
  else if h : j.val - 3072 - 3072 - 3072 - 1024 - 288 - 96 - 64 < 8 then f ⟨3072 + (j.val - 3072 - 3072 - 3072 - 1024 - 288 - 96 - 64), by omega⟩
  else 0

/-- A scaled product with a packed column is the packed scaled product. -/
theorem pick_dot (a : Fin 4096 → EReal) (f : Fin 4096 → Fin 10600 → EReal) (s : EReal) (j : Fin 10752) :
    (∑ x, a x * pick (f x) j) * s = pick (fun k => (∑ x, a x * f x k) * s) j := by
  unfold pick
  split_ifs <;> first | rfl | simp only [mul_zero, Finset.sum_const_zero, zero_mul]

theorem packed_at (P : FVec Ideal S16384x10600 .f32) (i : S16384x10752.Idx) : packed P i = pick (fun k => P (ix2 (i 0) k)) (i 1) := by
  pointwise [packed]
  rfl

end Cert.InProjReferenceIdeal.Val

namespace Cert.InProjIdeal.Val

open Idealize.ShloMosaic Idealize.ShloMosaic.TcCoe Idealize.SL.Sem
open Cert.InProjIdeal Cert.InProjIdeal.Gen
open Cert.InProjReferenceIdeal.Val (result pick gw ssq inv pick_dot packed_at core_at packed core)

variable (m : (ℓ : Loc nD τ sig) → Buf (Elt Ideal) ℓ)

theorem idx0 : ∀ t : Fin cfg0.N, win0_0.index t = ![t.val / 14, 0] := (by decide +kernel : ∀ t : Fin grid0.N, _)
theorem idx1 : ∀ t : Fin cfg0.N, win0_1.index t = ![0, 0, t.val % 14] := (by decide +kernel : ∀ t : Fin grid0.N, _)
theorem idx2 : ∀ t : Fin cfg0.N, win0_2.index t = ![t.val / 14, 0] := (by decide +kernel : ∀ t : Fin grid0.N, _)
theorem idx3 : ∀ t : Fin cfg0.N, win0_3.index t = ![t.val / 14, t.val % 14] := (by decide +kernel : ∀ t : Fin grid0.N, _)

theorem lt_t (t : Fin cfg0.N) : t.val < 224 := t.isLt

theorem row0 (t : Fin cfg0.N) (y : S1024x4096.Idx) : ((((cfg0.win 0).blk t).view.emb y) 0).val = t.val / 14 * 1024 + (y 0).val := by
  blk_simp [idx0 t]
theorem col0 (t : Fin cfg0.N) (y : S1024x4096.Idx) : ((((cfg0.win 0).blk t).view.emb y) 1).val = (y 1).val := by
  blk_simp [idx0 t]
theorem row2 (t : Fin cfg0.N) (y : S1024x128.Idx) : ((((cfg0.win 2).blk t).view.emb y) 0).val = t.val / 14 * 1024 + (y 0).val := by
  blk_simp [idx2 t]
theorem row3 (t : Fin cfg0.N) (y : S1024x768.Idx) : ((((cfg0.win 3).blk t).view.emb y) 0).val = t.val / 14 * 1024 + (y 0).val := by
  blk_simp [idx3 t]
theorem col3 (t : Fin cfg0.N) (y : S1024x768.Idx) : ((((cfg0.win 3).blk t).view.emb y) 1).val = t.val % 14 * 768 + (y 1).val := by
  blk_simp [idx3 t]

/-- The rows' block. -/
theorem blk0 (c : Dev nD) (t : Fin cfg0.N) (y : S1024x4096.Idx) (r : Fin 16384) (hr : r.val = t.val / 14 * 1024 + (y 0).val) (k : Fin 4096) (hk : k.val = (y 1).val) :
    iblk m c 0 t y = m ((c : Thread nD τ).loc main_arg0)
      (ix3 (⟨r.val / 4096, by omega⟩ : Fin 4) (⟨r.val % 4096, Nat.mod_lt _ (by decide)⟩ : Fin 4096) k) := by
  have e := idx0 t
  blk_simp [iblk, e]
  entry_read
  pointwise []
  have h0 := (row0 t y).trans hr.symm
  have h1 := (col0 t y).trans hk.symm
  refine congrArg _ ?_
  congr 1
  · exact Fin.ext (by simp only [h0])
  · exact Fin.ext (by simp only [h0])
  · exact Fin.ext h1

/-- The sums' block. -/
theorem blk2 (c : Dev nD) (t : Fin cfg0.N) (y : S1024x128.Idx) (r : Fin 16384) (hr : r.val = t.val / 14 * 1024 + (y 0).val) :
    iblk m c 2 t y = ssq (m ((c : Thread nD τ).loc main_arg0)) r := by
  have e := idx2 t
  blk_simp [iblk, e]
  entry_read
  pointwise []
  have h0 := (row2 t y).trans hr.symm
  unfold ssq
  refine Fin.sum_fin_congr fun x => ?_
  refine congrArg (fun u : EReal => u * u) (congrArg _ ?_)
  congr 1
  · exact Fin.ext (by simp only [h0])
  · exact Fin.ext (by simp only [h0])

theorem pos1 (t : Fin cfg0.N) (y : S1x4096x768.Idx) : ((((cfg0.win 1).blk t).view.emb y) 1).val = (y 1).val
    ∧ ((((cfg0.win 1).blk t).view.emb y) 2).val = t.val % 14 * 768 + (y 2).val ∧ ((((cfg0.win 1).blk t).view.emb y) 0).val = (y 0).val := by
  refine ⟨?_, ?_, ?_⟩ <;> blk_simp [idx1 t]

open Idealize.ShloMosaic.StableHlo in
theorem after_app (l₁ l₂ : List (HloOp τ sig (Elt Ideal))) (σ : Valuation τ sig (Elt Ideal)) : after (l₁ ++ l₂) σ = after l₂ (after l₁ σ) := by
  induction l₁ generalizing σ with
  | nil => rfl
  | cons o l ih => exact ih (o.result σ)

/-- The packed weight's columns, side by side. -/
def wpack (v4 : FVec Ideal S4x4096x3072 .f32) (v5 : FVec Ideal S4x4096x3072 .f32) (v6 : FVec Ideal S4x4096x3072 .f32) (v7 : FVec Ideal S4x4096x1024 .f32) (v8 : FVec Ideal S4x4096x288 .f32) (v9 : FVec Ideal S4x4096x96 .f32) (v10 : FVec Ideal S4x4096x64 .f32) (v11 : FVec Ideal S4x4096x8 .f32) (v12 : FVec Ideal S4x4096x56 .f32) : FVec Ideal S4x4096x10752 .f32 :=
  concatenate S4x4096x10752 2 [⟨S4x4096x3072, v4⟩, ⟨S4x4096x3072, v5⟩, ⟨S4x4096x3072, v6⟩, ⟨S4x4096x1024, v7⟩, ⟨S4x4096x288, v8⟩, ⟨S4x4096x96, v9⟩, ⟨S4x4096x64, v10⟩, ⟨S4x4096x8, v11⟩, ⟨S4x4096x56, v12⟩] concatenates_S4x4096x3072_S4x4096x3072_S4x4096x3072_S4x4096x1024_S4x4096x288_S4x4096x96_S4x4096x64_S4x4096x8_S4x4096x56_S4x4096x10752_d2

/-- The host's operations from the concatenation on. -/
theorem tail14 (σ : Valuation τ sig (Elt Ideal)) : StableHlo.after (List.drop 15 hostOps0) σ main_v14
    = truncf .bf16 (wpack (σ main_v4) (σ main_v5) (σ main_v6) (σ main_v7) (σ main_v8) (σ main_v9) (σ main_v10) (σ main_v11) (σ main_v12)) bitsLt_bf16_f32 := by
  simp only [hostOps0, List.drop]
  open Idealize.ShloMosaic.StableHlo in
  after_results
  rfl

/-- The weight with the norm's gain in it. -/
def gainw (X1 : FVec Ideal S4x4096 .f32) (X2 : FVec Ideal S4x4096x10600 .f32) : FVec Ideal S4x4096x10600 .f32 :=
  mulf (broadcastInDim S4x4096x10600 ![0, 1, 2] bcast_S4x4096x1_S4x4096x10600_0_1_2 (broadcastInDim S4x4096x1 ![0, 1] bcast_S4x4096_S4x4096x1_0_1 X1)) X2

theorem head4 (σ : Valuation τ sig (Elt Ideal)) : StableHlo.after (List.take 15 hostOps0) σ main_v4
    = extractStridedSlice S4x4096x3072 ![0, 0, 0] (gainw (σ main_arg1) (σ main_arg2)) slices_S4x4096x10600_S4x4096x3072_0_0_0 := by
  simp only [hostOps0, List.take]
  open Idealize.ShloMosaic.StableHlo in
  after_results
  rfl

theorem head5 (σ : Valuation τ sig (Elt Ideal)) : StableHlo.after (List.take 15 hostOps0) σ main_v5
    = extractStridedSlice S4x4096x3072 ![0, 0, 4168] (gainw (σ main_arg1) (σ main_arg2)) slices_S4x4096x10600_S4x4096x3072_0_0_4168 := by
  simp only [hostOps0, List.take]
  open Idealize.ShloMosaic.StableHlo in
  after_results
  rfl

theorem head6 (σ : Valuation τ sig (Elt Ideal)) : StableHlo.after (List.take 15 hostOps0) σ main_v6
    = extractStridedSlice S4x4096x3072 ![0, 0, 7240] (gainw (σ main_arg1) (σ main_arg2)) slices_S4x4096x10600_S4x4096x3072_0_0_7240 := by
  simp only [hostOps0, List.take]
  open Idealize.ShloMosaic.StableHlo in
  after_results
  rfl

theorem head7 (σ : Valuation τ sig (Elt Ideal)) : StableHlo.after (List.take 15 hostOps0) σ main_v7
    = extractStridedSlice S4x4096x1024 ![0, 0, 3080] (gainw (σ main_arg1) (σ main_arg2)) slices_S4x4096x10600_S4x4096x1024_0_0_3080 := by
  simp only [hostOps0, List.take]
  open Idealize.ShloMosaic.StableHlo in
  after_results
  rfl

theorem head8 (σ : Valuation τ sig (Elt Ideal)) : StableHlo.after (List.take 15 hostOps0) σ main_v8
    = extractStridedSlice S4x4096x288 ![0, 0, 10312] (gainw (σ main_arg1) (σ main_arg2)) slices_S4x4096x10600_S4x4096x288_0_0_10312 := by
  simp only [hostOps0, List.take]
  open Idealize.ShloMosaic.StableHlo in
  after_results
  rfl

theorem head9 (σ : Valuation τ sig (Elt Ideal)) : StableHlo.after (List.take 15 hostOps0) σ main_v9
    = broadcastInDim S4x4096x96 ![] bcast_S_S4x4096x96 (constant S_ .f32 0x00000000#32 : FVec Ideal S_ .f32) := by
  simp only [hostOps0, List.take]
  open Idealize.ShloMosaic.StableHlo in
  after_results

theorem head10 (σ : Valuation τ sig (Elt Ideal)) : StableHlo.after (List.take 15 hostOps0) σ main_v10
    = extractStridedSlice S4x4096x64 ![0, 0, 4104] (gainw (σ main_arg1) (σ main_arg2)) slices_S4x4096x10600_S4x4096x64_0_0_4104 := by
  simp only [hostOps0, List.take]
  open Idealize.ShloMosaic.StableHlo in
  after_results
  rfl

theorem head11 (σ : Valuation τ sig (Elt Ideal)) : StableHlo.after (List.take 15 hostOps0) σ main_v11
    = extractStridedSlice S4x4096x8 ![0, 0, 3072] (gainw (σ main_arg1) (σ main_arg2)) slices_S4x4096x10600_S4x4096x8_0_0_3072 := by
  simp only [hostOps0, List.take]
  open Idealize.ShloMosaic.StableHlo in
  after_results
  rfl

theorem head12 (σ : Valuation τ sig (Elt Ideal)) : StableHlo.after (List.take 15 hostOps0) σ main_v12
    = broadcastInDim S4x4096x56 ![] bcast_S_S4x4096x56 (constant S_ .f32 0x00000000#32 : FVec Ideal S_ .f32) := by
  simp only [hostOps0, List.take]
  open Idealize.ShloMosaic.StableHlo in
  after_results

/-- The packed weight, out of the weight `W` in its own order. -/
def wpacked (W : FVec Ideal S4x4096x10600 .f32) : FVec Ideal S4x4096x10752 .f32 :=
  wpack (extractStridedSlice S4x4096x3072 ![0, 0, 0] W slices_S4x4096x10600_S4x4096x3072_0_0_0) (extractStridedSlice S4x4096x3072 ![0, 0, 4168] W slices_S4x4096x10600_S4x4096x3072_0_0_4168) (extractStridedSlice S4x4096x3072 ![0, 0, 7240] W slices_S4x4096x10600_S4x4096x3072_0_0_7240) (extractStridedSlice S4x4096x1024 ![0, 0, 3080] W slices_S4x4096x10600_S4x4096x1024_0_0_3080) (extractStridedSlice S4x4096x288 ![0, 0, 10312] W slices_S4x4096x10600_S4x4096x288_0_0_10312) (broadcastInDim S4x4096x96 ![] bcast_S_S4x4096x96 (constant S_ .f32 0x00000000#32)) (extractStridedSlice S4x4096x64 ![0, 0, 4104] W slices_S4x4096x10600_S4x4096x64_0_0_4104) (extractStridedSlice S4x4096x8 ![0, 0, 3072] W slices_S4x4096x10600_S4x4096x8_0_0_3072) (broadcastInDim S4x4096x56 ![] bcast_S_S4x4096x56 (constant S_ .f32 0x00000000#32))

theorem V14 (c : Dev nD) : V m c main_v14
    = truncf .bf16 (wpacked (gainw (m ((c : Thread nD τ).loc main_arg1)) (m ((c : Thread nD τ).loc main_arg2)))) bitsLt_bf16_f32 := by
  have e : (hostOps0 : List (HloOp τ sig (Elt Ideal))) = List.take 15 hostOps0 ++ List.drop 15 hostOps0 := (List.take_append_drop 15 _).symm
  show StableHlo.after hostOps0 (fun b => m (c, b)) main_v14 = _
  rw [e, after_app, tail14, head4, head5, head6, head7, head8, head9, head10, head11, head12]
  rfl

theorem wpacked_at (W : FVec Ideal S4x4096x10600 .f32) (l : Fin 4) (k : Fin 4096) (j : Fin 10752) :
    wpacked W (ix3 l k j) = pick (fun x => W (ix3 l k x)) j := by
  pointwise [wpacked, wpack]
  rfl

/-- The weight's block. -/
theorem blk1 (c : Dev nD) (t : Fin cfg0.N) (y : S1x4096x768.Idx) (k : Fin 4096) (hk : k.val = (y 1).val) (j : Fin 10752) (hj : j.val = t.val % 14 * 768 + (y 2).val) :
    iblk m c 1 t y = pick (gw (m ((c : Thread nD τ).loc main_arg1)) (m ((c : Thread nD τ).loc main_arg2)) k) j := by
  have e := idx1 t
  have h : iblk m c 1 t y = V m c main_v14 (((cfg0.win 1).blk t).view.emb y) := by
    blk_simp [iblk, e]
  rw [h, V14]
  have hi : ((cfg0.win 1).blk t).view.emb y = (ix3 (0 : Fin 4) k j : S4x4096x10752.Idx) := by
    obtain ⟨p1, p2, p0⟩ := pos1 t y
    refine funext fun a => Fin.ext ?_
    match a with
    | 0 => exact p0.trans (Nat.lt_one_iff.mp (y 0).isLt)
    | 1 => exact p1.trans hk.symm
    | 2 => exact p2.trans hj.symm
  rw [hi]
  refine (wpacked_at _ _ _ _).trans ?_
  refine congrArg (fun f => pick f j) (funext fun x => ?_)
  pointwise [gainw]
  rfl

/-- Six copies side by side of lanes that all hold `s`. -/
theorem cat6 (v : FVec Ideal S1024x128 .f32) (y : S1024x768.Idx) (s : EReal) (h : ∀ x : Fin 128, v (ix2 (y 0) x) = s) :
    concatenate S1024x768 1 [⟨S1024x128, v⟩, ⟨S1024x128, v⟩, ⟨S1024x128, v⟩, ⟨S1024x128, v⟩, ⟨S1024x128, v⟩, ⟨S1024x128, v⟩] concatenates_S1024x128_S1024x128_S1024x128_S1024x128_S1024x128_S1024x128_S1024x768_d1 y = s := by
  pointwise []
  simp only [h]
  simp only [dite_eq_ite, ite_self]

/-- The payload at an index, where all the lanes of the row's sum hold `q`. -/
theorem pay_at (b : Vec Ideal S1024x128 .f32) (a : Vec Ideal S1024x4096 .bf16) (w : Vec Ideal S1x4096x768 .bf16) (y : S1024x768.Idx) (q : EReal)
    (hq : ∀ x : Fin 128, b (ix2 (y 0) x) = q) :
    k0_pay1 b a w y = (∑ x : Fin 4096, a (ix2 (y 0) x) * w (ix3 (0 : Fin 1) x (y 1)))
      * Ideal.rsqrt (q * Ideal.ofBits FTy.f32 0x39800000#32 + Ideal.ofBits FTy.f32 0x358637BD#32) := by
  unfold k0_pay1
  refine congrArg₂ (fun u v : EReal => u * v) ?_ (cat6 _ y _ fun x => ?_)
  · pointwise []
  · pointwise []
    rw [hq]

theorem point (c : Dev nD) (t : Fin cfg0.N) (y : S1024x768.Idx) (i : S16384x10752.Idx)
    (h0 : (i 0).val = t.val / 14 * 1024 + (y 0).val) (h1 : (i 1).val = t.val % 14 * 768 + (y 1).val) :
    k0_pay1 (iblk m c 2 t) (iblk m c 0 t) (iblk m c 1 t) y
      = result (m ((c : Thread nD τ).loc main_arg0)) (m ((c : Thread nD τ).loc main_arg1)) (m ((c : Thread nD τ).loc main_arg2)) i := by
  refine (pay_at _ _ _ y (ssq (m ((c : Thread nD τ).loc main_arg0)) (i 0)) fun x => blk2 m c t _ (i 0) h0).trans ?_
  refine Eq.trans ?_ (packed_at _ i).symm
  refine ((congrArg (fun u : EReal => u * inv (ssq (m ((c : Thread nD τ).loc main_arg0)) (i 0))) (Finset.sum_congr rfl fun x _ => ?_)).trans
    (pick_dot (fun x => (m ((c : Thread nD τ).loc main_arg0) : FVec Ideal S4x4096x4096 .f32) (ix3 (⟨(i 0).val / 4096, by have := (i 0).isLt; change _ < 16384 at this; omega⟩ : Fin 4) (⟨(i 0).val % 4096, Nat.mod_lt _ (by decide)⟩ : Fin 4096) x))
      (gw (m ((c : Thread nD τ).loc main_arg1)) (m ((c : Thread nD τ).loc main_arg2))) (inv (ssq (m ((c : Thread nD τ).loc main_arg0)) (i 0))) (i 1))).trans ?_
  · exact congrArg₂ (fun u v : EReal => u * v) (blk0 m c t _ (i 0) h0 x rfl) (blk1 m c t _ x rfl (i 1) h1)
  · exact congrArg (fun f => pick f (i 1)) (funext fun k => (core_at _ _ _ (i 0) k).symm)

theorem final (c : Dev nD) : (dats m 0 c).arrAt 3 (cfgs 0).N
      = result (m ((c : Thread nD τ).loc main_arg0)) (m ((c : Thread nD τ).loc main_arg1)) (m ((c : Thread nD τ).loc main_arg2)) := by
  refine (dats m 0 c).arrAt_eq_of_covers 3 _ (by decide +kernel) fun t _ y => ?_
  blk_simp
  rw [after0_3]
  frame_out
  exact point m c t y _ (row3 t y) (col3 t y)

end Cert.InProjIdeal.Val

namespace Cert.CallInProj

open Idealize.ShloMosaic Idealize.SL.Sem

attribute [local instance] Cert.InProjIdeal.Gen.facts Cert.InProjReferenceIdeal.Gen.facts

theorem frame_ref : Cert.quiescent_InProjReferenceIdeal (hInProjReferenceIdeal := Cert.InProjReferenceIdeal.Gen.facts) := fun m ρ _ =>
  (θ_run Cert.InProjReferenceIdeal.defs _ _).mono (fun r h => ⟨fun c => (h c).2, sem_eq_zero_of_no_sems (by decide) r.2⟩)
    (Cert.InProjReferenceIdeal.Value.run (F := Ideal) m ρ)

theorem algebraic : Cert.algebraic_InProjIdeal_InProjReferenceIdeal (hInProjIdeal := Cert.InProjIdeal.Gen.facts)
    (hInProjReferenceIdeal := Cert.InProjReferenceIdeal.Gen.facts) := by
  intro m ρ m' ρ' _ hag
  refine ⟨fun c => Cert.InProjReferenceIdeal.Val.result (m ((c.tc : Thread Cert.InProjIdeal.nD Cert.InProjIdeal.τ).loc Cert.InProjIdeal.main_arg0)) (m ((c.tc : Thread Cert.InProjIdeal.nD Cert.InProjIdeal.τ).loc Cert.InProjIdeal.main_arg1)) (m ((c.tc : Thread Cert.InProjIdeal.nD Cert.InProjIdeal.τ).loc Cert.InProjIdeal.main_arg2)), ?_, ?_⟩
  · exact (θ_run _ _ _).mono (fun r h c => ⟨(h c).1.trans (Cert.InProjIdeal.Val.final m c), (h c).2⟩)
      (Cert.InProjIdeal.Value.run_blocks (F := Ideal) m ρ)
  · refine (θ_run _ _ _).mono (fun r h c => ⟨(h c).1.trans ?_, (h c).2⟩) (Cert.InProjReferenceIdeal.Value.run (F := Ideal) m' ρ')
    unfold Cert.InProjReferenceIdeal.Value.res_main_v28
    rw [(hag c).1, (hag c).2.1, (hag c).2.2]
    rfl

end Cert.CallInProj

end
-- ==== Proof.CallOutProj.lean ====
/-
  The output projection: four products, one for each kind of layer, added to the residual.
-/
module

public import proofs.«01_k».proof.Defs
public import proofs.«01_k».proof.Proof.Gen.OutProj.Frame
public import proofs.«01_k».proof.Proof.Gen.OutProjIdeal.Value
public import proofs.«01_k».proof.Proof.Gen.OutProjReferenceIdeal.Run
public import Idealize.ShloMosaic.Lib.Pipeline.ValueKit
public import Idealize.ShloMosaic.Lib.Pointwise

@[expose] public section

set_option maxRecDepth 16384

noncomputable section

namespace Cert.OutProjReferenceIdeal.Val

open Idealize.ShloMosaic Idealize.ShloMosaic.TcCoe
open Cert.OutProjReferenceIdeal Cert.OutProjReferenceIdeal.Gen

/-- The residual with the projection added, as the reference computes it. -/
abbrev result (X0 : FVec Ideal S4x4096x1024 .f32) (X1 : FVec Ideal S4x4096x1024 .f32) (X2 : FVec Ideal S4x4096x1024 .f32) (X3 : FVec Ideal S4x4096x1024 .f32) (X4 : FVec Ideal S4x4096x4096 .f32) (X5 : FVec Ideal S4x4096x4096 .f32) : FVec Ideal S16384x4096 .f32 :=
  shapeCast _ (addf X5 (Host.dotGeneral dot_S4x4096x4096_S4096x4096_S4x4096x4096_2_0_01_1_n_n none ((concatenate S4x4096x4096 2 [⟨S4x4096x1024, (X0 : FVec Ideal S4x4096x1024 .f32)⟩, ⟨S4x4096x1024, (X1 : FVec Ideal S4x4096x1024 .f32)⟩, ⟨S4x4096x1024, (X2 : FVec Ideal S4x4096x1024 .f32)⟩, ⟨S4x4096x1024, (X3 : FVec Ideal S4x4096x1024 .f32)⟩] concatenates_S4x4096x1024_S4x4096x1024_S4x4096x1024_S4x4096x1024_S4x4096x4096_d2 : FVec Ideal S4x4096x4096 .f32)) (shapeCast _ (extractStridedSlice S1x4096x4096 ![0, 0, 0] X4 slices_S4x4096x4096_S1x4096x4096_0_0_0) shapeCasts_S1x4096x4096_S4096x4096))) shapeCasts_S4x4096x4096_S16384x4096

end Cert.OutProjReferenceIdeal.Val

namespace Cert.OutProjIdeal.Val

open Idealize.ShloMosaic Idealize.ShloMosaic.TcCoe Idealize.SL.Sem
open Cert.OutProjIdeal Cert.OutProjIdeal.Gen
open Cert.OutProjReferenceIdeal.Val (result)

variable (m : (ℓ : Loc nD τ sig) → Buf (Elt Ideal) ℓ)

theorem idx0 : ∀ t : Fin cfg0.N, win0_0.index t = ![t.val / 8, 0] := (by decide +kernel : ∀ t : Fin grid0.N, _)
theorem idx1 : ∀ t : Fin cfg0.N, win0_1.index t = ![t.val / 8, 0] := (by decide +kernel : ∀ t : Fin grid0.N, _)
theorem idx2 : ∀ t : Fin cfg0.N, win0_2.index t = ![t.val / 8, 0] := (by decide +kernel : ∀ t : Fin grid0.N, _)
theorem idx3 : ∀ t : Fin cfg0.N, win0_3.index t = ![t.val / 8, 0] := (by decide +kernel : ∀ t : Fin grid0.N, _)
theorem idx4 : ∀ t : Fin cfg0.N, win0_4.index t = ![0, 0, t.val % 8] := (by decide +kernel : ∀ t : Fin grid0.N, _)
theorem idx5 : ∀ t : Fin cfg0.N, win0_5.index t = ![t.val / 8, t.val % 8] := (by decide +kernel : ∀ t : Fin grid0.N, _)
theorem idx6 : ∀ t : Fin cfg0.N, win0_6.index t = ![t.val / 8, t.val % 8] := (by decide +kernel : ∀ t : Fin grid0.N, _)

theorem lt_t (t : Fin cfg0.N) : t.val < 128 := t.isLt

/-! ## The blocks -/

theorem row0 (t : Fin cfg0.N) (y : S1024x1024.Idx) : ((((cfg0.win 0).blk t).view.emb y) 0).val = t.val / 8 * 1024 + (y 0).val := by
  blk_simp [idx0 t]
theorem col0 (t : Fin cfg0.N) (y : S1024x1024.Idx) : ((((cfg0.win 0).blk t).view.emb y) 1).val = (y 1).val := by
  blk_simp [idx0 t]

theorem blk0 (c : Dev nD) (t : Fin cfg0.N) (y : S1024x1024.Idx) (r : Fin 16384) (hr : r.val = t.val / 8 * 1024 + (y 0).val) (j : Fin 1024) (hj : j.val = (y 1).val) :
    iblk m c 0 t y = m ((c : Thread nD τ).loc main_arg0)
      (ix3 (⟨r.val / 4096, by omega⟩ : Fin 4) (⟨r.val % 4096, Nat.mod_lt _ (by decide)⟩ : Fin 4096) j) := by
  have e := idx0 t
  blk_simp [iblk, e]
  entry_read
  pointwise []
  have h0 := (row0 t y).trans hr.symm
  have h1 := (col0 t y).trans hj.symm
  refine congrArg _ ?_
  congr 1
  · exact Fin.ext (by simp only [h0])
  · exact Fin.ext (by simp only [h0])
  · exact Fin.ext h1

theorem row1 (t : Fin cfg0.N) (y : S1024x1024.Idx) : ((((cfg0.win 1).blk t).view.emb y) 0).val = t.val / 8 * 1024 + (y 0).val := by
  blk_simp [idx1 t]
theorem col1 (t : Fin cfg0.N) (y : S1024x1024.Idx) : ((((cfg0.win 1).blk t).view.emb y) 1).val = (y 1).val := by
  blk_simp [idx1 t]

theorem blk1 (c : Dev nD) (t : Fin cfg0.N) (y : S1024x1024.Idx) (r : Fin 16384) (hr : r.val = t.val / 8 * 1024 + (y 0).val) (j : Fin 1024) (hj : j.val = (y 1).val) :
    iblk m c 1 t y = m ((c : Thread nD τ).loc main_arg1)
      (ix3 (⟨r.val / 4096, by omega⟩ : Fin 4) (⟨r.val % 4096, Nat.mod_lt _ (by decide)⟩ : Fin 4096) j) := by
  have e := idx1 t
  blk_simp [iblk, e]
  entry_read
  pointwise []
  have h0 := (row1 t y).trans hr.symm
  have h1 := (col1 t y).trans hj.symm
  refine congrArg _ ?_
  congr 1
  · exact Fin.ext (by simp only [h0])
  · exact Fin.ext (by simp only [h0])
  · exact Fin.ext h1

theorem row2 (t : Fin cfg0.N) (y : S1024x1024.Idx) : ((((cfg0.win 2).blk t).view.emb y) 0).val = t.val / 8 * 1024 + (y 0).val := by
  blk_simp [idx2 t]
theorem col2 (t : Fin cfg0.N) (y : S1024x1024.Idx) : ((((cfg0.win 2).blk t).view.emb y) 1).val = (y 1).val := by
  blk_simp [idx2 t]

theorem blk2 (c : Dev nD) (t : Fin cfg0.N) (y : S1024x1024.Idx) (r : Fin 16384) (hr : r.val = t.val / 8 * 1024 + (y 0).val) (j : Fin 1024) (hj : j.val = (y 1).val) :
    iblk m c 2 t y = m ((c : Thread nD τ).loc main_arg2)
      (ix3 (⟨r.val / 4096, by omega⟩ : Fin 4) (⟨r.val % 4096, Nat.mod_lt _ (by decide)⟩ : Fin 4096) j) := by
  have e := idx2 t
  blk_simp [iblk, e]
  entry_read
  pointwise []
  have h0 := (row2 t y).trans hr.symm
  have h1 := (col2 t y).trans hj.symm
  refine congrArg _ ?_
  congr 1
  · exact Fin.ext (by simp only [h0])
  · exact Fin.ext (by simp only [h0])
  · exact Fin.ext h1

theorem row3 (t : Fin cfg0.N) (y : S1024x1024.Idx) : ((((cfg0.win 3).blk t).view.emb y) 0).val = t.val / 8 * 1024 + (y 0).val := by
  blk_simp [idx3 t]
theorem col3 (t : Fin cfg0.N) (y : S1024x1024.Idx) : ((((cfg0.win 3).blk t).view.emb y) 1).val = (y 1).val := by
  blk_simp [idx3 t]

theorem blk3 (c : Dev nD) (t : Fin cfg0.N) (y : S1024x1024.Idx) (r : Fin 16384) (hr : r.val = t.val / 8 * 1024 + (y 0).val) (j : Fin 1024) (hj : j.val = (y 1).val) :
    iblk m c 3 t y = m ((c : Thread nD τ).loc main_arg3)
      (ix3 (⟨r.val / 4096, by omega⟩ : Fin 4) (⟨r.val % 4096, Nat.mod_lt _ (by decide)⟩ : Fin 4096) j) := by
  have e := idx3 t
  blk_simp [iblk, e]
  entry_read
  pointwise []
  have h0 := (row3 t y).trans hr.symm
  have h1 := (col3 t y).trans hj.symm
  refine congrArg _ ?_
  congr 1
  · exact Fin.ext (by simp only [h0])
  · exact Fin.ext (by simp only [h0])
  · exact Fin.ext h1

theorem row5 (t : Fin cfg0.N) (y : S1024x512.Idx) : ((((cfg0.win 5).blk t).view.emb y) 0).val = t.val / 8 * 1024 + (y 0).val := by
  blk_simp [idx5 t]
theorem col5 (t : Fin cfg0.N) (y : S1024x512.Idx) : ((((cfg0.win 5).blk t).view.emb y) 1).val = t.val % 8 * 512 + (y 1).val := by
  blk_simp [idx5 t]
theorem row6 (t : Fin cfg0.N) (y : S1024x512.Idx) : ((((cfg0.win 6).blk t).view.emb y) 0).val = t.val / 8 * 1024 + (y 0).val := by
  blk_simp [idx6 t]
theorem col6 (t : Fin cfg0.N) (y : S1024x512.Idx) : ((((cfg0.win 6).blk t).view.emb y) 1).val = t.val % 8 * 512 + (y 1).val := by
  blk_simp [idx6 t]

/-- The weight's block. -/
theorem blk4 (c : Dev nD) (t : Fin cfg0.N) (y : S1x4096x512.Idx) (k j : Fin 4096) (hk : k.val = (y 1).val) (hj : j.val = t.val % 8 * 512 + (y 2).val) :
    iblk m c 4 t y = m ((c : Thread nD τ).loc main_arg4) (ix3 (0 : Fin 4) k j) := by
  blk_simp [iblk, idx4 t]
  entry_read
  pointwise []
  blk_ext [idx4 t]

/-- The residual's block. -/
theorem blk5 (c : Dev nD) (t : Fin cfg0.N) (y : S1024x512.Idx) (r : Fin 16384) (hr : r.val = t.val / 8 * 1024 + (y 0).val) (j : Fin 4096) (hj : j.val = t.val % 8 * 512 + (y 1).val) :
    iblk m c 5 t y = m ((c : Thread nD τ).loc main_arg5)
      (ix3 (⟨r.val / 4096, by omega⟩ : Fin 4) (⟨r.val % 4096, Nat.mod_lt _ (by decide)⟩ : Fin 4096) j) := by
  have e := idx5 t
  blk_simp [iblk, e]
  entry_read
  pointwise []
  have h0 := (row5 t y).trans hr.symm
  have h1 := (col5 t y).trans hj.symm
  refine congrArg _ ?_
  congr 1
  · exact Fin.ext (by simp only [h0])
  · exact Fin.ext (by simp only [h0])
  · exact Fin.ext h1

/-- A sum over 4096 in four parts. -/
theorem sum4 (f : Fin 4096 → EReal) : ∑ x, f x
    = ∑ x : Fin 1024, f ⟨x.val, by omega⟩ + ∑ x : Fin 1024, f ⟨1024 + x.val, by omega⟩ + ∑ x : Fin 1024, f ⟨2048 + x.val, by omega⟩
      + ∑ x : Fin 1024, f ⟨3072 + x.val, by omega⟩ := by
  refine (Fin.sum_univ_add (a := 3072) (b := 1024) f).trans ?_
  refine congrArg₂ (· + ·) ?_ rfl
  refine (Fin.sum_univ_add (a := 2048) (b := 1024) fun x => f (Fin.castAdd 1024 x)).trans ?_
  refine congrArg₂ (· + ·) ?_ rfl
  exact Fin.sum_univ_add (a := 1024) (b := 1024) fun x => f (Fin.castAdd 1024 (Fin.castAdd 1024 x))

/-- What the body stores at an index of point `t`'s block. -/
theorem point (c : Dev nD) (t : Fin cfg0.N) (y : S1024x512.Idx) (i : S16384x4096.Idx) (h0 : (i 0).val = t.val / 8 * 1024 + (y 0).val) (h1 : (i 1).val = t.val % 8 * 512 + (y 1).val) :
    k0_pay1 (iblk m c 5 t) (iblk m c 0 t) (View.ld (iblk m c 4 t) r0_2) (iblk m c 1 t) (View.ld (iblk m c 4 t) r0_3) (iblk m c 2 t) (View.ld (iblk m c 4 t) r0_4) (iblk m c 3 t) (View.ld (iblk m c 4 t) r0_5) y
      = result (m ((c : Thread nD τ).loc main_arg0)) (m ((c : Thread nD τ).loc main_arg1)) (m ((c : Thread nD τ).loc main_arg2)) (m ((c : Thread nD τ).loc main_arg3))
          (m ((c : Thread nD τ).loc main_arg4)) (m ((c : Thread nD τ).loc main_arg5)) i := by
  pointwise [k0_pay1, result]
  have L : ∀ {a b c d e a' b' c' d' e' : EReal}, a = a' → b = b' → c = c' → d = d' → e = e' →
      a + b + c + d + e = a' + (b' + c' + d' + e') := by
    rintro a b c d e _ _ _ _ _ rfl rfl rfl rfl rfl
    simp only [add_assoc]
  rw [sum4]
  refine L (blk5 m c t y (i 0) h0 (i 1) h1) ?_ ?_ ?_ ?_
  · refine Finset.sum_congr rfl fun x _ => ?_
    refine congrArg₂ (· * ·) ((blk0 m c t _ (i 0) h0 ⟨x.val, _⟩ rfl).trans ?_) (blk4 m c t _ _ (i 1) rfl h1)
    rw [dif_pos (show x.val < 1024 from x.isLt)]
  · refine Finset.sum_congr rfl fun x _ => ?_
    refine congrArg₂ (· * ·) ((blk1 m c t _ (i 0) h0 ⟨1024 + x.val - 1024, by omega⟩ (by show 1024 + x.val - 1024 = x.val; omega)).trans ?_) (blk4 m c t _ _ (i 1) rfl h1)
    rw [dif_neg (show ¬ 1024 + x.val < 1024 by omega), dif_pos (show 1024 + x.val - 1024 < 1024 by omega)]
  · refine Finset.sum_congr rfl fun x _ => ?_
    refine congrArg₂ (· * ·) ((blk2 m c t _ (i 0) h0 ⟨2048 + x.val - 1024 - 1024, by omega⟩ (by show 2048 + x.val - 1024 - 1024 = x.val; omega)).trans ?_) (blk4 m c t _ _ (i 1) rfl h1)
    rw [dif_neg (show ¬ 2048 + x.val < 1024 by omega), dif_neg (show ¬ 2048 + x.val - 1024 < 1024 by omega),
      dif_pos (show 2048 + x.val - 1024 - 1024 < 1024 by omega)]
  · refine Finset.sum_congr rfl fun x _ => ?_
    refine congrArg₂ (· * ·) ((blk3 m c t _ (i 0) h0 ⟨3072 + x.val - 1024 - 1024 - 1024, by omega⟩ (by show 3072 + x.val - 1024 - 1024 - 1024 = x.val; omega)).trans ?_) (blk4 m c t _ _ (i 1) rfl h1)
    rw [dif_neg (show ¬ 3072 + x.val < 1024 by omega), dif_neg (show ¬ 3072 + x.val - 1024 < 1024 by omega),
      dif_neg (show ¬ 3072 + x.val - 1024 - 1024 < 1024 by omega)]

theorem final (c : Dev nD) : (dats m 0 c).arrAt 6 (cfgs 0).N
      = result (m ((c : Thread nD τ).loc main_arg0)) (m ((c : Thread nD τ).loc main_arg1)) (m ((c : Thread nD τ).loc main_arg2)) (m ((c : Thread nD τ).loc main_arg3))
          (m ((c : Thread nD τ).loc main_arg4)) (m ((c : Thread nD τ).loc main_arg5)) := by
  refine (dats m 0 c).arrAt_eq_of_covers 6 _ (by decide +kernel) fun t _ y => ?_
  blk_simp
  rw [after0_6]
  frame_out
  exact point m c t y _ (row6 t y) (col6 t y)

end Cert.OutProjIdeal.Val

namespace Cert.CallOutProj

open Idealize.ShloMosaic Idealize.SL.Sem

attribute [local instance] Cert.OutProjIdeal.Gen.facts Cert.OutProjReferenceIdeal.Gen.facts

theorem frame_ref : Cert.quiescent_OutProjReferenceIdeal (hOutProjReferenceIdeal := Cert.OutProjReferenceIdeal.Gen.facts) := fun m ρ _ =>
  (θ_run Cert.OutProjReferenceIdeal.defs _ _).mono (fun r h => ⟨fun c => (h c).2, sem_eq_zero_of_no_sems (by decide) r.2⟩)
    (Cert.OutProjReferenceIdeal.Value.run (F := Ideal) m ρ)

theorem algebraic : Cert.algebraic_OutProjIdeal_OutProjReferenceIdeal (hOutProjIdeal := Cert.OutProjIdeal.Gen.facts)
    (hOutProjReferenceIdeal := Cert.OutProjReferenceIdeal.Gen.facts) := by
  intro m ρ m' ρ' _ hag
  refine ⟨fun c => Cert.OutProjReferenceIdeal.Val.result (m ((c.tc : Thread Cert.OutProjIdeal.nD Cert.OutProjIdeal.τ).loc Cert.OutProjIdeal.main_arg0)) (m ((c.tc : Thread Cert.OutProjIdeal.nD Cert.OutProjIdeal.τ).loc Cert.OutProjIdeal.main_arg1)) (m ((c.tc : Thread Cert.OutProjIdeal.nD Cert.OutProjIdeal.τ).loc Cert.OutProjIdeal.main_arg2)) (m ((c.tc : Thread Cert.OutProjIdeal.nD Cert.OutProjIdeal.τ).loc Cert.OutProjIdeal.main_arg3)) (m ((c.tc : Thread Cert.OutProjIdeal.nD Cert.OutProjIdeal.τ).loc Cert.OutProjIdeal.main_arg4)) (m ((c.tc : Thread Cert.OutProjIdeal.nD Cert.OutProjIdeal.τ).loc Cert.OutProjIdeal.main_arg5)), ?_, ?_⟩
  · exact (θ_run _ _ _).mono (fun r h c => ⟨(h c).1.trans (Cert.OutProjIdeal.Val.final m c), (h c).2⟩)
      (Cert.OutProjIdeal.Value.run_blocks (F := Ideal) m ρ)
  · refine (θ_run _ _ _).mono (fun r h c => ⟨(h c).1.trans ?_, (h c).2⟩) (Cert.OutProjReferenceIdeal.Value.run (F := Ideal) m' ρ')
    rw [(hag c).1, (hag c).2.1, (hag c).2.2.1, (hag c).2.2.2.1, (hag c).2.2.2.2.1, (hag c).2.2.2.2.2]

end Cert.CallOutProj

end
-- ==== Proof.CallFinal.lean ====
/-
  The final norm: each block of 512 rows is normalised on its own, and is what the whole array's norm has there.
-/
module

public import proofs.«01_k».proof.Defs
public import proofs.«01_k».proof.Proof.Gen.Final.Frame
public import proofs.«01_k».proof.Proof.Gen.FinalIdeal.Value
public import proofs.«01_k».proof.Proof.Gen.FinalReferenceIdeal.Run
public import Idealize.ShloMosaic.Lib.Pipeline.ValueKit
public import Idealize.ShloMosaic.Lib.Pointwise

@[expose] public section

set_option maxRecDepth 16384

noncomputable section

namespace Cert.FinalReferenceIdeal.Val

open Idealize.ShloMosaic Idealize.ShloMosaic.TcCoe
open Cert.FinalReferenceIdeal Cert.FinalReferenceIdeal.Gen

/-- The normalised rows, as the reference computes them. -/
abbrev result (X0 : FVec Ideal S4x4096x4096 .f32) (X1 : FVec Ideal S4096 .f32) : FVec Ideal S16384x4096 .f32 :=
  shapeCast _ (mulf (mulf X0 (broadcastInDim S4x4096x4096 ![0, 1, 2] bcast_S4x4096x1_S4x4096x4096_0_1_2 (Host.rsqrt (addf (Host.divf (broadcastInDim S4x4096x1 ![0, 1] bcast_S4x4096_S4x4096x1_0_1 (Host.reduceAdd (mulf X0 X0) (constant S_ .f32 0x00000000#32) reducesTo_S4x4096x4096_S4x4096_d2 h_S_)) (broadcastInDim S4x4096x1 ![] bcast_S_S4x4096x1 (constant S_ .f32 0x45800000#32))) (broadcastInDim S4x4096x1 ![] bcast_S_S4x4096x1 (constant S_ .f32 0x358637BD#32)))))) (broadcastInDim S4x4096x4096 ![0, 1, 2] bcast_S1x1x4096_S4x4096x4096_0_1_2 (broadcastInDim S1x1x4096 ![2] bcast_S4096_S1x1x4096_2 X1))) shapeCasts_S4x4096x4096_S16384x4096

end Cert.FinalReferenceIdeal.Val

namespace Cert.FinalIdeal.Val

open Idealize.ShloMosaic Idealize.ShloMosaic.TcCoe Idealize.SL.Sem
open Cert.FinalIdeal Cert.FinalIdeal.Gen
open Cert.FinalReferenceIdeal.Val (result)

variable (m : (ℓ : Loc nD τ sig) → Buf (Elt Ideal) ℓ)

theorem idx : ∀ t : Fin cfg0.N, win0_0.index t = ![t.val, 0] ∧ win0_1.index t = ![0, 0] ∧ win0_2.index t = ![t.val, 0] :=
  (by decide +kernel : ∀ t : Fin grid0.N, _)

theorem lt_t (t : Fin cfg0.N) : t.val < 32 := t.isLt

/-- Row `r` of the block of point `t`, as a batch and a token. -/
def at3 (t : Fin cfg0.N) (r : Fin 512) (j : Fin 4096) : S4x4096x4096.Idx :=
  ix3 ⟨(t.val * 512 + r.val) / 4096, by have := lt_t t; have := r.isLt; omega⟩ ⟨(t.val * 512 + r.val) % 4096, Nat.mod_lt _ (by decide)⟩ j

theorem at3_of (i : S16384x4096.Idx) (t : Fin cfg0.N) (r : Fin 512) (j : Fin 4096) (h0 : (i 0).val = t.val * 512 + r.val)
    (p : (i 0).val / 4096 < 4) (q : (i 0).val % 4096 < 4096) : (ix3 ⟨(i 0).val / 4096, p⟩ ⟨(i 0).val % 4096, q⟩ j : S4x4096x4096.Idx) = at3 t r j := by
  unfold at3
  congr 1 <;> exact Fin.ext (by simp only [h0])

theorem row0 (t : Fin cfg0.N) (y : S512x4096.Idx) : ((((cfg0.win 0).blk t).view.emb y) 0).val = t.val * 512 + (y 0).val := by
  blk_simp [(idx t).1]

theorem col0 (t : Fin cfg0.N) (y : S512x4096.Idx) : (((cfg0.win 0).blk t).view.emb y) 1 = y 1 := by
  refine Fin.ext ?_
  blk_simp [(idx t).1]

theorem row2 (t : Fin cfg0.N) (y : S512x4096.Idx) : ((((cfg0.win 2).blk t).view.emb y) 0).val = t.val * 512 + (y 0).val := by
  blk_simp [(idx t).2.2]

theorem col2 (t : Fin cfg0.N) (y : S512x4096.Idx) : (((cfg0.win 2).blk t).view.emb y) 1 = y 1 := by
  refine Fin.ext ?_
  blk_simp [(idx t).2.2]

theorem col1 (t : Fin cfg0.N) (y : S1x4096.Idx) : (((cfg0.win 1).blk t).view.emb y) 1 = y 1 := by
  refine Fin.ext ?_
  blk_simp [(idx t).2.1]

theorem blk0 (c : Dev nD) (t : Fin cfg0.N) (y : S512x4096.Idx) :
    iblk m c 0 t y = m ((c : Thread nD τ).loc main_arg0) (at3 t (y 0) (y 1)) := by
  have e := (idx t).1
  blk_simp [iblk, e]
  entry_read
  pointwise []
  exact congrArg _ ((congrArg _ (col0 t y)).trans (at3_of _ t (y 0) (y 1) (row0 t y) _ _))

theorem blk1 (c : Dev nD) (t : Fin cfg0.N) (y : S1x4096.Idx) :
    iblk m c 1 t y = m ((c : Thread nD τ).loc main_arg1) (ix1 (y 1)) := by
  have e := (idx t).2.1
  blk_simp [iblk, e]
  entry_read
  pointwise []
  exact congrArg (fun j => m ((c : Thread nD τ).loc main_arg1) (ix1 j)) (col1 t y)

/-- What the body stores at an index of point `t`'s block. -/
theorem point (c : Dev nD) (t : Fin cfg0.N) (y : S512x4096.Idx) (i : S16384x4096.Idx) (h0 : (i 0).val = t.val * 512 + (y 0).val) (h1 : i 1 = y 1) :
    k0_pay1 (iblk m c 0 t) (iblk m c 1 t) y
      = result (m ((c : Thread nD τ).loc main_arg0)) (m ((c : Thread nD τ).loc main_arg1)) i := by
  pointwise [k0_pay1, result]
  simp only [blk0, blk1, at3, h0, h1]
  rfl

theorem final (c : Dev nD) : (dats m 0 c).arrAt 2 (cfgs 0).N
      = result (m ((c : Thread nD τ).loc main_arg0)) (m ((c : Thread nD τ).loc main_arg1)) := by
  refine (dats m 0 c).arrAt_eq_of_covers 2 _ (by decide +kernel) fun t _ y => ?_
  blk_simp
  rw [after0_2]
  frame_out
  exact point m c t y _ (row2 t y) (col2 t y)

end Cert.FinalIdeal.Val

namespace Cert.CallFinal

open Idealize.ShloMosaic Idealize.SL.Sem

attribute [local instance] Cert.FinalIdeal.Gen.facts Cert.FinalReferenceIdeal.Gen.facts

theorem frame_ref : Cert.quiescent_FinalReferenceIdeal (hFinalReferenceIdeal := Cert.FinalReferenceIdeal.Gen.facts) := fun m ρ _ =>
  (θ_run Cert.FinalReferenceIdeal.defs _ _).mono (fun r h => ⟨fun c => (h c).2, sem_eq_zero_of_no_sems (by decide) r.2⟩)
    (Cert.FinalReferenceIdeal.Value.run (F := Ideal) m ρ)

theorem algebraic : Cert.algebraic_FinalIdeal_FinalReferenceIdeal (hFinalIdeal := Cert.FinalIdeal.Gen.facts)
    (hFinalReferenceIdeal := Cert.FinalReferenceIdeal.Gen.facts) := by
  intro m ρ m' ρ' _ hag
  refine ⟨fun c => Cert.FinalReferenceIdeal.Val.result (m ((c.tc : Thread Cert.FinalIdeal.nD Cert.FinalIdeal.τ).loc Cert.FinalIdeal.main_arg0))
    (m ((c.tc : Thread Cert.FinalIdeal.nD Cert.FinalIdeal.τ).loc Cert.FinalIdeal.main_arg1)), ?_, ?_⟩
  · exact (θ_run _ _ _).mono (fun r h c => ⟨(h c).1.trans (Cert.FinalIdeal.Val.final m c), (h c).2⟩)
      (Cert.FinalIdeal.Value.run_blocks (F := Ideal) m ρ)
  · refine (θ_run _ _ _).mono (fun r h c => ⟨(h c).1.trans ?_, (h c).2⟩) (Cert.FinalReferenceIdeal.Value.run (F := Ideal) m' ρ')
    rw [(hag c).1, (hag c).2]

end Cert.CallFinal

end
-- ==== Proof.AttStep.lean ====
/-
  The attention kernel's steps as functions: the state is the running maximum and the accumulator, and each stored
  block is one step of it over a block of keys and values.
-/
module

public import proofs.«01_k».proof.Proof.Gen.AttentionIdeal.Value
public import Idealize.ShloMosaic.Lib.Pipeline.ValueKit
public import Idealize.ShloMosaic.Lib.Pipeline.ReadBack
public import Idealize.ShloMosaic.Lib.Pointwise
public import Idealize.ShloMosaic.Lib.VecWindow

@[expose] public section

set_option maxRecDepth 16384

noncomputable section

namespace Cert.AttentionIdeal.Att

open Idealize.ShloMosaic Idealize.ShloMosaic.TcCoe Idealize.SL.Sem
open Cert.AttentionIdeal Cert.AttentionIdeal.Gen

/-- The scores of a block of keys. -/
def sc (q : FVec Ideal S512x256 .bf16) (kb : Vec Ideal S256x256 .bf16) : FVec Ideal S512x256 .f32 :=
  matmul (φ₂ := .bf16) dot_S512x256_S256x256_S512x256_1_1_0_0_n_n none q kb (constant S512x256 .f32 0x00000000#32)

/-- The scores with the keys past the query masked; the block's first key is `off` keys after the first query. -/
def msk (ri ci : IVec S512x256 32) (off : BitVec 32) (s : FVec Ideal S512x256 .f32) : FVec Ideal S512x256 .f32 :=
  select (cmpi .sle (addi ci (broadcast S512x256 off)) ri) s (broadcast S512x256 (Scalar.ofBits .f32 0xFF800000#32 : Ideal .f32))

/-- The running maximum after a block of scores. -/
def newM (s : FVec Ideal S512x256 .f32) (m : Vec Ideal S512x128 .f32) : FVec Ideal S512x128 .f32 :=
  maximumf (m : FVec Ideal S512x128 .f32) (broadcastTo S512x128 (shapeCast S512x1
    (multiReduction .maximumf [1] S512 s 0xFF800000#32 reduces_S512x256_S512 (.inl rfl) rfl) shapeCasts_S512_S512x1)
    broadcasts_S512x1_S512x128)

/-- Two copies of a block side by side. -/
def twice (x : FVec Ideal S512x128 .f32) : FVec Ideal S512x256 .f32 :=
  concatenate S512x256 1 [⟨S512x128, x⟩, ⟨S512x128, x⟩] concatenates_S512x128_S512x128_S512x256_d1

/-- The accumulator after a block of scores and values. -/
def newA (s : FVec Ideal S512x256 .f32) (m : Vec Ideal S512x128 .f32) (vb : Vec Ideal S256x256 .bf16)
    (a : Vec Ideal S512x256 .f32) : FVec Ideal S512x256 .f32 :=
  addf (mulf (twice (exp2 (subf (m : FVec Ideal S512x128 .f32) (newM s m)))) (a : FVec Ideal S512x256 .f32))
    (matmul (φ₂ := .bf16) dot_S512x256_S256x256_S512x256_1_0_0_1_n_n none (truncf .bf16 (exp2 (subf s (twice (newM s m)))) bitsLt_bf16_f32)
      vb (constant S512x256 .f32 0x00000000#32))

/-- A block of 256 rows of the keys or the values. -/
def blkAt (X : Vec Ideal S4096x256 .bf16) (o : ℕ) : Vec Ideal S256x256 .bf16 :=
  fun y => if h : o + (y 0).val < 4096 then X (ix2 ⟨o + (y 0).val, h⟩ (y 1)) else (0 : EReal)

/-- The state: the running maximum and the accumulator. -/
abbrev St := Vec Ideal S512x128 .f32 × Vec Ideal S512x256 .f32

def step (s : FVec Ideal S512x256 .f32) (vb : Vec Ideal S256x256 .bf16) (z : St) : St := (newM s z.1, newA s z.1 vb z.2)

/-- One step over the 256 keys at `o`. -/
def stepU (q : FVec Ideal S512x256 .bf16) (K V : Vec Ideal S4096x256 .bf16) (o : ℕ) (z : St) : St :=
  step (sc q (blkAt K o)) (blkAt V o) z

/-- One masked step over the 256 keys at `o`. -/
def stepM (q : FVec Ideal S512x256 .bf16) (K V : Vec Ideal S4096x256 .bf16) (off : BitVec 32) (o : ℕ) (z : St) : St :=
  step (msk (iota .tc S512x256 32 [0] iota_S512x256_d0_w32)
    (iota .tc S512x256 32 [1] iota_S512x256_d1_w32) off (sc q (blkAt K o))) (blkAt V o) z

/-- The state at the start. -/
def st0 : St := (broadcast S512x128 (Scalar.ofBits .f32 0xFF800000#32 : Ideal .f32), broadcast S512x256 (Scalar.ofBits .f32 0x00000000#32 : Ideal .f32))

/-- Four steps over the 1024 keys at `o`. -/
def step4 (q : FVec Ideal S512x256 .bf16) (K V : Vec Ideal S4096x256 .bf16) (o : ℕ) (z : St) : St :=
  stepU q K V (o + 768) (stepU q K V (o + 512) (stepU q K V (o + 256) (stepU q K V o z)))

/-- The whole spans before the query block. -/
def spans (q : FVec Ideal S512x256 .bf16) (K V : Vec Ideal S4096x256 .bf16) (z : St) : ℕ → St
  | 0 => z
  | n + 1 => step4 q K V (1024 * n) (spans q K V z n)

section pays

variable (q : FVec Ideal S512x256 .bf16) (kb vb : Vec Ideal S256x256 .bf16) (s : FVec Ideal S512x256 .f32)
  (m : Vec Ideal S512x128 .f32) (a : Vec Ideal S512x256 .f32) (ri ci : IVec S512x256 32)

theorem newA_of (M : FVec Ideal S512x128 .f32) (hM : M = newM s m) :
    addf (mulf (twice (exp2 (subf (m : FVec Ideal S512x128 .f32) M))) (a : FVec Ideal S512x256 .f32))
      (matmul (φ₂ := .bf16) dot_S512x256_S256x256_S512x256_1_0_0_1_n_n none (truncf .bf16 (exp2 (subf s (twice M))) bitsLt_bf16_f32)
        vb (constant S512x256 .f32 0x00000000#32)) = newA s m vb a := by
  subst hM; rfl

theorem p61 : k0_pay61 q = q := by unfold k0_pay61; simp only [shapeCast_self]
theorem p62 : k0_pay62 (F := Ideal) = st0.1 := by unfold k0_pay62; simp only [shapeCast_self]; rfl
theorem p63 : k0_pay63 (F := Ideal) = st0.2 := by unfold k0_pay63; simp only [shapeCast_self]; rfl
theorem p2 : k0_pay2 q kb = sc q kb := by unfold k0_pay2; simp only [shapeCast_self]; rfl
theorem p3 : k0_pay3 q kb = sc q kb := by unfold k0_pay3; simp only [shapeCast_self]; rfl
theorem p4 : k0_pay4 q kb = sc q kb := by unfold k0_pay4; simp only [shapeCast_self]; rfl
theorem p5 : k0_pay5 q kb m = newM (sc q kb) m := by unfold k0_pay5 k0_pay1; simp only [shapeCast_self]; rfl
theorem p8 : k0_pay8 (k0_pay6 q kb m vb) (k0_pay7 q kb m) a = newA (sc q kb) m vb a := by
  unfold k0_pay8 k0_pay6 k0_pay7 k0_pay1; simp only [shapeCast_self]; exact newA_of vb (sc q kb) m a _ (p5 q kb m)
theorem p9 (x : FVec Ideal S512x128 .f32) : k0_pay9 x = x := by unfold k0_pay9; simp only [shapeCast_self]
theorem p10 : k0_pay10 s m = newM s m := by unfold k0_pay10; rfl
theorem p11 : k0_pay11 s m vb a = newA s m vb a := by unfold k0_pay11; simp only [shapeCast_self, p10]; rfl
theorem p12 : k0_pay12 s m = newM s m := by unfold k0_pay12; simp only [shapeCast_self, p10]
theorem p13 : k0_pay13 s m = newM s m := by unfold k0_pay13; rfl
theorem p14 : k0_pay14 s m vb a = newA s m vb a := by unfold k0_pay14; simp only [shapeCast_self, p13]; rfl
theorem p15 : k0_pay15 s m = newM s m := by unfold k0_pay15; simp only [shapeCast_self, p13]
theorem p16 : k0_pay16 s m = newM s m := by unfold k0_pay16; rfl
theorem p64 : k0_pay64 (k0_pay17 s m vb) (k0_pay18 s m) a = newA s m vb a := by
  unfold k0_pay64 k0_pay17 k0_pay18; simp only [shapeCast_self]; exact newA_of vb s m a _ (p16 s m)
theorem p65 (x : FVec Ideal S512x128 .f32) : k0_pay65 x = x := by unfold k0_pay65; simp only [shapeCast_self]

theorem p37 : k0_pay37 q kb = sc q kb := by unfold k0_pay37; simp only [shapeCast_self]; rfl
theorem p38 : k0_pay38 q ri ci kb = msk ri ci 0#32 (sc q kb) := by unfold k0_pay38; simp only [shapeCast_self]; rfl
theorem p39 : k0_pay39 q ri ci kb m = newM (msk ri ci 0#32 (sc q kb)) m := by unfold k0_pay39; simp only [p38]; rfl
theorem p40 : k0_pay40 q ri ci kb m vb a = newA (msk ri ci 0#32 (sc q kb)) m vb a := by
  unfold k0_pay40; simp only [shapeCast_self, p38]; exact newA_of vb (msk ri ci 0#32 (sc q kb)) m a _ (p39 q kb m ri ci)
theorem p68 (x : FVec Ideal S512x256 .f32) : k0_pay68 x = x := by unfold k0_pay68; simp only [shapeCast_self]
theorem p69 (x : FVec Ideal S512x128 .f32) : k0_pay69 x = x := by unfold k0_pay69; simp only [shapeCast_self]
theorem p70 : k0_pay70 ri ci s = msk ri ci 256#32 s := by unfold k0_pay70; rfl
theorem p71 : k0_pay71 ri ci s m = newM (msk ri ci 256#32 s) m := by unfold k0_pay71; simp only [p70]; rfl
theorem p72 : k0_pay72 ri ci s m vb a = newA (msk ri ci 256#32 s) m vb a := by
  unfold k0_pay72; simp only [shapeCast_self, p70]; exact newA_of vb (msk ri ci 256#32 s) m a _ (p71 s m ri ci)
theorem p73 : k0_pay73 ri ci s m = newM (msk ri ci 256#32 s) m := by unfold k0_pay73; simp only [shapeCast_self, p71]
theorem p42 : k0_pay42 q kb = sc q kb := by unfold k0_pay42; simp only [shapeCast_self]; rfl
theorem p43 : k0_pay43 q kb = sc q kb := by unfold k0_pay43; simp only [shapeCast_self]; rfl
theorem p44 : k0_pay44 q kb = sc q kb := by unfold k0_pay44; simp only [shapeCast_self]; rfl
theorem p45 : k0_pay45 q kb m = newM (sc q kb) m := by unfold k0_pay45 k0_pay41; simp only [shapeCast_self]; rfl
theorem p48 : k0_pay48 (k0_pay46 q kb m vb) (k0_pay47 q kb m) a = newA (sc q kb) m vb a := by
  unfold k0_pay48 k0_pay46 k0_pay47 k0_pay41; simp only [shapeCast_self]; exact newA_of vb (sc q kb) m a _ (p45 q kb m)
theorem p49 (x : FVec Ideal S512x128 .f32) : k0_pay49 x = x := by unfold k0_pay49; simp only [shapeCast_self]
theorem p50 : k0_pay50 s m = newM s m := by unfold k0_pay50; rfl
theorem p51 : k0_pay51 s m vb a = newA s m vb a := by unfold k0_pay51; simp only [shapeCast_self, p50]; rfl
theorem p52 : k0_pay52 s m = newM s m := by unfold k0_pay52; simp only [shapeCast_self, p50]
theorem p54 : k0_pay54 ri s (k0_pay53 ci) = msk ri ci 0#32 s := by unfold k0_pay54 k0_pay53; rfl
theorem p55 : k0_pay55 ri s (k0_pay53 ci) m = newM (msk ri ci 0#32 s) m := by unfold k0_pay55; simp only [p54]; rfl
theorem p56 : k0_pay56 ri s (k0_pay53 ci) m vb a = newA (msk ri ci 0#32 s) m vb a := by
  unfold k0_pay56; simp only [shapeCast_self, p54]; exact newA_of vb (msk ri ci 0#32 s) m a _ (p55 s m ri ci)
theorem p57 : k0_pay57 ri s (k0_pay53 ci) m = newM (msk ri ci 0#32 s) m := by unfold k0_pay57; simp only [shapeCast_self, p55]
theorem p58 : k0_pay58 ri ci s = msk ri ci 256#32 s := by unfold k0_pay58; rfl
theorem p59 : k0_pay59 ri ci s m = newM (msk ri ci 256#32 s) m := by unfold k0_pay59; simp only [p58]; rfl
theorem p74 : k0_pay74 (k0_pay58 ri ci s) (k0_pay59 ri ci s m) (k0_pay60 ri ci s m) vb a = newA (msk ri ci 256#32 s) m vb a := by
  unfold k0_pay74 k0_pay60; simp only [shapeCast_self, p58]; exact newA_of vb (msk ri ci 256#32 s) m a _ (p59 s m ri ci)
theorem p75 (x : FVec Ideal S512x128 .f32) : k0_pay75 x = x := by unfold k0_pay75; simp only [shapeCast_self]

end pays

/-- A load of 256 rows reads a block. -/
theorem readAt_blk {κ : Kind} {sp : Space} (v : View sig κ sp S4096x256 .bf16) (f : v.ty.Contents (Elt Ideal))
    (n : ℕ) (inb) :
    v.readAt (Elt Ideal) (Rect.unit (s := S4096x256) ![n, 0] ![256, 256] inb).toLoadRect f = blkAt (v.read (Elt Ideal) f) n := by
  funext y
  have hi := inb 0
  have hy : (y 0).val < 256 := (y 0).isLt
  have hn : n + 256 ≤ 4096 := hi
  unfold blkAt
  rw [dif_pos (by omega)]
  refine congrArg (v.read (Elt Ideal) f) (funext fun a => Fin.ext ?_)
  match a with
  | ⟨0, _⟩ => show n + 1 * (y 0).val = n + (y 0).val; omega
  | ⟨1, _⟩ => show 0 + 1 * (y 1).val = (y 1).val; omega

section trip

variable (𝒱 : Variants) (c : Dev nD) (bd : Option 𝒱.V) (i : grid0.Coords) (arg3 : Memref sig .tc .vmem S512x256 .bf16) (harg3 : arg3.IsWhole) (arg4 : Memref sig .tc .vmem S4096x256 .bf16) (harg4 : arg4.IsWhole) (arg5 : Memref sig .tc .vmem S4096x256 .bf16) (harg5 : arg5.IsWhole) (arg6 : Memref sig .tc .vmem S1x128 .f32) (harg6 : arg6.IsWhole) (arg7 : Memref sig .tc .vmem S512x128 .bf16) (harg7 : arg7.IsWhole) (arg8 : Memref sig .tc .vmem S512x128 .f32) (harg8 : arg8.IsWhole) (arg9 : Memref sig .tc .vmem S512x256 .f32) (harg9 : arg9.IsWhole) (v0 : Vec Ideal S512x256 .bf16) (X4 : BufTy.Contents (Elt Ideal) arg4.view.ty) (X5 : BufTy.Contents (Elt Ideal) arg5.view.ty)

theorem row0 : ∀ n : Fin 4, BitVec.toNat (Scalar.indexCast (Scalar.addi (Scalar.muli (Scf.iv 0#32 1#32 n.val) 1024#32) 0#32)) = 1024 * n.val := by decide
theorem row1 : ∀ n : Fin 4, BitVec.toNat (Scalar.indexCast (Scalar.addi (Scalar.muli (Scf.iv 0#32 1#32 n.val) 1024#32) 256#32)) = 1024 * n.val + 256 := by decide
theorem row2 : ∀ n : Fin 4, BitVec.toNat (Scalar.indexCast (Scalar.addi (Scalar.muli (Scf.iv 0#32 1#32 n.val) 1024#32) 512#32)) = 1024 * n.val + 512 := by decide
theorem row3 : ∀ n : Fin 4, BitVec.toNat (Scalar.indexCast (Scalar.addi (Scalar.muli (Scf.iv 0#32 1#32 n.val) 1024#32) 768#32)) = 1024 * n.val + 768 := by decide

theorem rd8 (f) (i1) : arg8.view.readAt (Elt Ideal) (Rect.unit (s := S512x128) ![0, 0] ![512, 128] i1).toLoadRect f = arg8.view.read (Elt Ideal) f := View.readAt_full arg8.view f i1
theorem rd9 (f) (i1) : arg9.view.readAt (Elt Ideal) (Rect.unit (s := S512x256) ![0, 0] ![512, 256] i1).toLoadRect f = arg9.view.read (Elt Ideal) f := View.readAt_full arg9.view f i1
theorem cv8 (i1) (w : (Rect.unit (s := S512x128) ![0, 0] ![512, 128] i1).shape.Idx → Elt Ideal .f32) (i2) (L : List (View.Piece (Elt Ideal) S512x128 .f32)) : arg8.view.readCov (Val := Elt Ideal) (⟨Rect.unit (s := S512x128) ![0, 0] ![512, 128] i1, w⟩ :: L) (Rect.unit (s := S512x128) ![0, 0] ![512, 128] i2).toLoadRect = w := View.readCov_full arg8.view i2 i1 w L
theorem cv9 (i1) (w : (Rect.unit (s := S512x256) ![0, 0] ![512, 256] i1).shape.Idx → Elt Ideal .f32) (i2) (L : List (View.Piece (Elt Ideal) S512x256 .f32)) : arg9.view.readCov (Val := Elt Ideal) (⟨Rect.unit (s := S512x256) ![0, 0] ![512, 256] i1, w⟩ :: L) (Rect.unit (s := S512x256) ![0, 0] ![512, 256] i2).toLoadRect = w := View.readCov_full arg9.view i2 i1 w L
theorem wr8 (f) (i1) (w : (Rect.unit (s := S512x128) ![0, 0] ![512, 128] i1).shape.Idx → Elt Ideal .f32) (L : List (View.Piece (Elt Ideal) S512x128 .f32)) : arg8.view.read (Elt Ideal) (arg8.view.writes (Elt Ideal) f (⟨Rect.unit (s := S512x128) ![0, 0] ![512, 128] i1, w⟩ :: L)) = w := View.read_writes_full arg8.view f i1 w L
theorem wr9 (f) (i1) (w : (Rect.unit (s := S512x256) ![0, 0] ![512, 256] i1).shape.Idx → Elt Ideal .f32) (L : List (View.Piece (Elt Ideal) S512x256 .f32)) : arg9.view.read (Elt Ideal) (arg9.view.writes (Elt Ideal) f (⟨Rect.unit (s := S512x256) ![0, 0] ![512, 256] i1, w⟩ :: L)) = w := View.read_writes_full arg9.view f i1 w L

set_option backward.isDefEq.respectTransparency.types false in
theorem trip (k : Fin (k0_t1_loop i).trips) (f8 : BufTy.Contents (Elt Ideal) arg8.view.ty) (f9 : BufTy.Contents (Elt Ideal) arg9.view.ty) :
    ((arg8.view.read (Elt Ideal) (arg8.view.writes (Elt Ideal) f8
        (tripL_k0_t1 𝒱 c bd i arg3 harg3 arg4 harg4 arg5 harg5 arg6 harg6 arg7 harg7 arg8 harg8 arg9 harg9 v0 X4 X5 k f8 f9).1),
      arg9.view.read (Elt Ideal) (arg9.view.writes (Elt Ideal) f9
        (tripL_k0_t1 𝒱 c bd i arg3 harg3 arg4 harg4 arg5 harg5 arg6 harg6 arg7 harg7 arg8 harg8 arg9 harg9 v0 X4 X5 k f8 f9).2)) : St)
    = step4 v0 (arg4.view.read (Elt Ideal) X4) (arg5.view.read (Elt Ideal) X5) (1024 * k.val)
        (arg8.view.read (Elt Ideal) f8, arg9.view.read (Elt Ideal) f9) := by
  have hk : k.val < 4 := lt_of_lt_of_le k.isLt ((k0_t1_abs i).2.1.trans (by decide))
  have r0 := row0 ⟨k.val, hk⟩
  have r1 := row1 ⟨k.val, hk⟩
  have r2 := row2 ⟨k.val, hk⟩
  have r3 := row3 ⟨k.val, hk⟩
  dsimp only at r0 r1 r2 r3
  unfold tripL_k0_t1 trip_k0_t1
  dsimp only
  sl_unfold_words
  dsimp only
  simp only [rd8, rd9, cv8, cv9, wr8, wr9, readAt_blk, r0, r1, r2, r3, p61, p2, p3, p4, p5, p8, p9, p10, p11, p12, p13, p14, p15, p16, p64, p65]
  rfl

end trip

end Cert.AttentionIdeal.Att
-- ==== Proof.AttMath.lean ====
/-
  Softmax in one sweep over the extended reals: the running maximum, the running weighted sum, and what they end at.

  A row's scores and values are read by functions of natural numbers.  A masked score is `⊥`.
-/
module

public import Idealize.ShloMosaic.Lib.Pointwise

@[expose] public section

set_option maxRecDepth 16384

noncomputable section

namespace Cert.AttMath

open Idealize.ShloMosaic

/-- The largest of the first `n` scores. -/
def mx (S : ℕ → EReal) (n : ℕ) : EReal := (Finset.range n).sup S

/-- The values of the first `n` keys, weighted by their scores against the largest. -/
def nu (S V : ℕ → EReal) (n : ℕ) : EReal := ∑ j ∈ Finset.range n, Ideal.exp2 (S j - mx S n) * V j

theorem fold_sup {ι : Type} (s : Finset ι) (f : ι → EReal) : s.fold max ⊥ f = s.sup f := rfl

theorem sup_fin (S : ℕ → EReal) (n : ℕ) : (Finset.univ : Finset (Fin n)).sup (fun x => S x.val) = mx S n := by
  refine le_antisymm (Finset.sup_le fun x _ => Finset.le_sup (f := S) (Finset.mem_range.mpr x.isLt)) (Finset.sup_le fun j hj => ?_)
  exact Finset.le_sup (f := fun x : Fin n => S x.val) (Finset.mem_univ (⟨j, Finset.mem_range.mp hj⟩ : Fin n))

theorem mx_add (S : ℕ → EReal) (n k : ℕ) :
    mx S (n + k) = max (mx S n) ((Finset.univ : Finset (Fin k)).fold max ⊥ fun x => S (n + x.val)) := by
  rw [fold_sup]
  refine le_antisymm (Finset.sup_le fun j hj => ?_) (max_le ?_ ?_)
  · rcases lt_or_ge j n with h | h
    · exact le_max_of_le_left (Finset.le_sup (f := S) (Finset.mem_range.mpr h))
    · have hj' := Finset.mem_range.mp hj
      have e : S j = (fun x : Fin k => S (n + x.val)) ⟨j - n, by omega⟩ := by
        show S j = S (n + (j - n))
        rw [Nat.add_sub_cancel' h]
      rw [e]
      exact le_max_of_le_right (Finset.le_sup (f := fun x : Fin k => S (n + x.val)) (Finset.mem_univ _))
  · exact Finset.sup_mono (Finset.range_mono (Nat.le_add_right n k))
  · exact Finset.sup_le fun x _ => Finset.le_sup (f := S) (Finset.mem_range.mpr (Nat.add_lt_add_left x.isLt n))

theorem mul_sum' {ι : Type} (s : Finset ι) (f : ι → EReal) (c : EReal) (h0 : 0 ≤ c) (ht : c ≠ ⊤) :
    c * (∑ x ∈ s, f x) = ∑ x ∈ s, c * f x := by
  classical
  induction s using Finset.induction_on with
  | empty => simp
  | insert a s ha ih =>
    rw [Finset.sum_insert ha, Finset.sum_insert ha, EReal.left_distrib_of_nonneg_of_ne_top h0 ht, ih]

theorem mx_real (S : ℕ → EReal) (h0 : S 0 ≠ ⊥) (ht : ∀ j, S j ≠ ⊤) (n : ℕ) (hn : 0 < n) : ∃ r : ℝ, mx S n = (r : EReal) := by
  have hb : mx S n ≠ ⊥ := fun e => h0 (le_bot_iff.mp (e ▸ Finset.le_sup (f := S) (Finset.mem_range.mpr hn)))
  have htop : mx S n ≠ ⊤ := by
    refine ne_of_lt ((Finset.sup_lt_iff (by simp)).mpr fun j _ => lt_top_iff_ne_top.mpr (ht j))
  exact ⟨(mx S n).toReal, (EReal.coe_toReal htop hb).symm⟩

theorem exp2_sub (s : EReal) (hs : s ≠ ⊤) (a b : ℝ) :
    Ideal.exp2 ((a : EReal) - (b : EReal)) * Ideal.exp2 (s - (a : EReal)) = Ideal.exp2 (s - (b : EReal)) := by
  induction s with
  | bot => rw [EReal.bot_sub, EReal.bot_sub, Ideal.exp2_bot, mul_zero]
  | top => exact absurd rfl hs
  | coe r =>
    rw [← EReal.coe_sub, ← EReal.coe_sub, ← EReal.coe_sub, Ideal.exp2_coe, Ideal.exp2_coe, Ideal.exp2_coe, ← EReal.coe_mul]
    congr 1
    show (2 : ℝ) ^ (a - b) * (2 : ℝ) ^ (r - a) = (2 : ℝ) ^ (r - b)
    rw [← Real.rpow_add (by norm_num)]
    congr 1
    ring

theorem exp2_nonneg (s : EReal) : 0 ≤ Ideal.exp2 s := by
  induction s with
  | bot => exact le_refl _
  | top => exact le_top
  | coe r => exact EReal.coe_nonneg.mpr (Real.rpow_nonneg (by norm_num) r)

/-- One block of keys more. -/
theorem nu_add (S V : ℕ → EReal) (h0 : S 0 ≠ ⊥) (ht : ∀ j, S j ≠ ⊤) (n k : ℕ) (hk : 0 < k) :
    nu S V (n + k) = Ideal.exp2 (mx S n - mx S (n + k)) * nu S V n
      + ∑ x : Fin k, Ideal.exp2 (S (n + x.val) - mx S (n + k)) * V (n + x.val) := by
  obtain ⟨b, hb⟩ := mx_real S h0 ht (n + k) (by omega)
  rw [nu, Finset.sum_range_add, Fin.sum_univ_eq_sum_range (fun x => Ideal.exp2 (S (n + x) - mx S (n + k)) * V (n + x))]
  congr 1
  rcases Nat.eq_zero_or_pos n with rfl | hn
  · simp [nu]
  · obtain ⟨a, ha⟩ := mx_real S h0 ht n hn
    rw [nu, ha, hb, mul_sum' _ _ _ (exp2_nonneg _) (by rw [← EReal.coe_sub, Ideal.exp2_coe]; exact EReal.coe_ne_top _)]
    exact Finset.sum_congr rfl fun j _ => by rw [← mul_assoc, exp2_sub _ (ht j)]

/-- The factor from the natural exponential to the one in base two. -/
def lg : EReal := (((Real.log 2)⁻¹ : ℝ) : EReal)

theorem log2_pos : 0 < (Real.log 2)⁻¹ := inv_pos.mpr (Real.log_pos (by norm_num))

theorem exp2_lg (s : EReal) (hs : s ≠ ⊤) (b : ℝ) : Ideal.exp2 (s * lg - (b : EReal) * lg) = Ideal.exp (s - (b : EReal)) := by
  unfold lg
  induction s with
  | bot =>
    rw [EReal.bot_mul_coe_of_pos log2_pos, ← EReal.coe_mul, EReal.bot_sub, EReal.bot_sub, Ideal.exp2_bot, Ideal.exp_bot]
  | top => exact absurd rfl hs
  | coe r =>
    rw [← EReal.coe_mul, ← EReal.coe_mul, ← EReal.coe_sub, ← EReal.coe_sub, Ideal.exp2_coe, Ideal.exp_coe]
    congr 1
    show (2 : ℝ) ^ (r * (Real.log 2)⁻¹ - b * (Real.log 2)⁻¹) = Real.exp (r - b)
    rw [Real.rpow_def_of_pos (by norm_num)]
    congr 1
    have : Real.log 2 ≠ 0 := (Real.log_pos (by norm_num)).ne'
    field_simp

theorem mx_lg (T : ℕ → EReal) (n : ℕ) : mx (fun j => T j * lg) n = mx T n * lg := by
  refine (Finset.comp_sup_eq_sup_comp (fun x : EReal => x * lg) ?_ ?_).symm
  · intro a b
    have hm : Monotone fun x : EReal => x * lg := fun x y h => mul_le_mul_of_nonneg_right h (EReal.coe_nonneg.mpr log2_pos.le)
    exact hm.map_sup a b
  · exact EReal.bot_mul_coe_of_pos log2_pos

theorem mx_tail (T : ℕ → EReal) (n N : ℕ) (h : n ≤ N) (hT : ∀ j, n ≤ j → T j = ⊥) : mx T N = mx T n := by
  refine le_antisymm (Finset.sup_le fun j _ => ?_) (Finset.sup_mono (Finset.range_mono h))
  rcases lt_or_ge j n with hj | hj
  · exact Finset.le_sup (f := T) (Finset.mem_range.mpr hj)
  · rw [hT j hj]; exact bot_le

/-- A row's weight at a key. -/
def wt (T : ℕ → EReal) (N j : ℕ) : EReal := Ideal.exp (T j - mx T N)

theorem wt_real (T : ℕ → EReal) (h0 : T 0 ≠ ⊥) (ht : ∀ j, T j ≠ ⊤) (N : ℕ) (hN : 0 < N) (j : ℕ) :
    ∃ r : ℝ, 0 ≤ r ∧ wt T N j = (r : EReal) := by
  obtain ⟨b, hb⟩ := mx_real T h0 ht N hN
  unfold wt
  rw [hb]
  have h := ht j
  induction hT : T j with
  | bot => exact ⟨0, le_refl _, by rw [EReal.bot_sub, Ideal.exp_bot, EReal.coe_zero]⟩
  | top => exact absurd hT h
  | coe r => exact ⟨Real.exp (r - b), (Real.exp_pos _).le, by rw [← EReal.coe_sub, Ideal.exp_coe]⟩

theorem coe_sum' (s : Finset ℕ) (f : ℕ → ℝ) : ((∑ j ∈ s, f j : ℝ) : EReal) = ∑ j ∈ s, (f j : EReal) := by
  classical
  induction s using Finset.induction_on with
  | empty => simp
  | insert a s ha ih => rw [Finset.sum_insert ha, Finset.sum_insert ha, EReal.coe_add, ih]

theorem sum_wt (T : ℕ → EReal) (h0 : T 0 ≠ ⊥) (ht : ∀ j, T j ≠ ⊤) (N : ℕ) (hN : 0 < N) :
    ∃ r : ℝ, 0 < r ∧ ∑ j ∈ Finset.range N, wt T N j = (r : EReal) := by
  choose f hf0 hf using wt_real T h0 ht N hN
  refine ⟨∑ j ∈ Finset.range N, f j, ?_, ?_⟩
  · refine Finset.sum_pos' (fun j _ => hf0 j) ⟨0, Finset.mem_range.mpr hN, ?_⟩
    obtain ⟨b, hb⟩ := mx_real T h0 ht N hN
    have h := hf 0
    unfold wt at h
    rw [hb, ← EReal.coe_toReal (ht 0) h0, ← EReal.coe_sub, Ideal.exp_coe] at h
    rw [← EReal.coe_eq_coe_iff.mp h]
    exact Real.exp_pos _
  · rw [coe_sum']
    exact Finset.sum_congr rfl fun j _ => hf j

theorem nu_eq (T V : ℕ → EReal) (h0 : T 0 ≠ ⊥) (ht : ∀ j, T j ≠ ⊤) (n N : ℕ) (hn : 0 < n) (h : n ≤ N) (hT : ∀ j, n ≤ j → T j = ⊥) :
    nu (fun j => T j * lg) V n = ∑ j ∈ Finset.range N, wt T N j * V j := by
  obtain ⟨b, hb⟩ := mx_real T h0 ht n hn
  rw [nu, mx_lg, hb]
  simp only [wt, mx_tail T n N h hT, hb]
  rw [← Finset.sum_subset (Finset.range_mono h) fun j _ hj => by
    rw [hT j (not_lt.mp fun hlt => hj (Finset.mem_range.mpr hlt)), EReal.bot_sub, Ideal.exp_bot, zero_mul]]
  exact Finset.sum_congr rfl fun j _ => by rw [exp2_lg _ (ht j)]

/-- What the sweep ends at: the values weighted by the softmax of the scores. -/
theorem soft_eq (T V : ℕ → EReal) (h0 : T 0 ≠ ⊥) (ht : ∀ j, T j ≠ ⊤) (n N : ℕ) (hn : 0 < n) (h : n ≤ N) (hT : ∀ j, n ≤ j → T j = ⊥) :
    Ideal.div (nu (fun j => T j * lg) V n) (nu (fun j => T j * lg) (fun _ => 1) n)
      = ∑ j ∈ Finset.range N, Ideal.div (wt T N j) (∑ x ∈ Finset.range N, wt T N x) * V j := by
  rw [nu_eq T V h0 ht n N hn h hT, nu_eq T _ h0 ht n N hn h hT]
  simp only [mul_one]
  obtain ⟨d, hd, e⟩ := sum_wt T h0 ht N (by omega)
  rw [e, Ideal.div_coe hd.ne', mul_comm, mul_sum' _ _ _ (EReal.coe_nonneg.mpr (by positivity)) (EReal.coe_ne_top _)]
  refine Finset.sum_congr rfl fun j _ => ?_
  rw [Ideal.div_coe hd.ne', mul_left_comm, mul_assoc]

end Cert.AttMath

end
-- ==== Proof.AttPoint.lean ====
/-
  The attention kernel's steps at an index.
-/
module

public import proofs.«01_k».proof.Proof.AttStep
public import proofs.«01_k».proof.Proof.AttMath

@[expose] public section

set_option maxRecDepth 16384

noncomputable section

namespace Cert.AttentionIdeal.Att

open Idealize.ShloMosaic Idealize.ShloMosaic.TcCoe Idealize.SL.Sem
open Cert.AttentionIdeal Cert.AttentionIdeal.Gen
open Cert.AttMath

/-- The lane of a 128-wide block that lane `d` of 256 copies. -/
def low (d : Fin 256) : Fin 128 := ⟨d.val % 128, Nat.mod_lt _ (by decide)⟩

theorem ninf : Ideal.ofBits FTy.f32 0xFF800000#32 = ⊥ := by
  simp [Ideal.ofBits, Ideal.ieee]

theorem sc_at (q : FVec Ideal S512x256 .bf16) (kb : Vec Ideal S256x256 .bf16) (r : Fin 512) (j : Fin 256) :
    sc q kb (ix2 r j) = ∑ d : Fin 256, q (ix2 r d) * kb (ix2 j d) := by
  pointwise [sc]

theorem newM_at (s : FVec Ideal S512x256 .f32) (m : Vec Ideal S512x128 .f32) (r : Fin 512) (c : Fin 128) :
    newM s m (ix2 r c) = max (m (ix2 r c)) ((Finset.univ : Finset (Fin 256)).fold max ⊥ fun j => s (ix2 r j)) := by
  pointwise [newM]
  rw [ninf]

theorem twice_at (x : FVec Ideal S512x128 .f32) (r : Fin 512) (d : Fin 256) : twice x (ix2 r d) = x (ix2 r (low d)) := by
  pointwise [twice]
  split
  · next h => exact congrArg (fun k => x (ix2 r k)) (Fin.ext (show d.val = d.val % 128 by omega))
  · next h => exact congrArg (fun k => x (ix2 r k)) (Fin.ext (show d.val - 128 = d.val % 128 by omega))

theorem newA_at (s : FVec Ideal S512x256 .f32) (m : Vec Ideal S512x128 .f32) (vb : Vec Ideal S256x256 .bf16)
    (a : Vec Ideal S512x256 .f32) (r : Fin 512) (d : Fin 256) :
    newA s m vb a (ix2 r d) = Ideal.exp2 (m (ix2 r (low d)) - newM s m (ix2 r (low d))) * a (ix2 r d)
      + ∑ j : Fin 256, Ideal.exp2 (s (ix2 r j) - newM s m (ix2 r (low j))) * vb (ix2 j d) := by
  unfold newA
  generalize newM s m = M
  pointwise [twice_at]
  rfl

theorem sle_nat (j o r : ℕ) (h1 : j + o < 2 ^ 31) (h2 : r < 2 ^ 31) :
    IntOp.cmpi CmpIPredicate.sle (IntOp.addi (BitVec.ofNat 32 j) (BitVec.ofNat 32 o)) (BitVec.ofNat 32 r)
      = if j + o ≤ r then 1#1 else 0#1 := by
  have e : (BitVec.ofNat 32 (j + o)).sle (BitVec.ofNat 32 r) = decide (j + o ≤ r) := by
    rw [BitVec.sle_eq_decide, BitVec.toInt_ofNat', BitVec.toInt_ofNat']
    simp only [Int.bmod]
    rw [decide_eq_decide]
    omega
  show BitVec.ofBool ((BitVec.ofNat 32 j + BitVec.ofNat 32 o).sle (BitVec.ofNat 32 r)) = _
  rw [← BitVec.ofNat_add, e]
  by_cases h : j + o ≤ r <;> simp [h]

theorem msk_at (off : ℕ) (s : FVec Ideal S512x256 .f32) (hoff : off ≤ 256) (r : Fin 512) (j : Fin 256) :
    msk (iota .tc S512x256 32 [0] iota_S512x256_d0_w32) (iota .tc S512x256 32 [1] iota_S512x256_d1_w32) (BitVec.ofNat 32 off) s (ix2 r j)
      = if j.val + off ≤ r.val then s (ix2 r j) else ⊥ := by
  pointwise [msk]
  rw [ninf, sle_nat j.val off r.val (by omega) (by omega)]
  by_cases h : j.val + off ≤ r.val
  · rw [if_pos h, if_pos h]; rfl
  · rw [if_neg h, if_neg h]; rfl

theorem blk_at (X : Vec Ideal S4096x256 .bf16) (o : ℕ) (j d : Fin 256) (h : o + j.val < 4096) :
    blkAt X o (ix2 j d) = X (ix2 ⟨o + j.val, h⟩ d) := by
  unfold blkAt
  exact dif_pos h

theorem pay76_at (a : Vec Ideal S512x256 .f32) (g : Vec Ideal S1x128 .f32) (r : Fin 512) (d : Fin 128) :
    k0_pay76 a g (ix2 r d) = Ideal.div (a (ix2 r ⟨d.val, by omega⟩)) (a (ix2 r ⟨128 + d.val, by omega⟩)) * g (ix2 0 d) := by
  pointwise [k0_pay76]

end Cert.AttentionIdeal.Att

end
-- ==== Proof.AttOut.lean ====
/-
  What a point of the attention kernel stores: the whole spans before its query block, then the span that holds it.
-/
module

public import proofs.«01_k».proof.Proof.Gen.AttentionIdeal.Value
public import Idealize.ShloMosaic.Lib.Pipeline.ValueKit
public import Idealize.ShloMosaic.Lib.Pipeline.ReadBack
public import Idealize.ShloMosaic.Lib.Pointwise
public import Idealize.ShloMosaic.Lib.VecWindow
public import proofs.«01_k».proof.Proof.AttStep

@[expose] public section

set_option maxRecDepth 16384

noncomputable section

namespace Cert.AttentionIdeal.Att

open Idealize.ShloMosaic Idealize.ShloMosaic.TcCoe Idealize.SL.Sem
open Cert.AttentionIdeal Cert.AttentionIdeal.Gen

theorem hz : (![0, 0] : Fin 2 → Nat) = fun _ => 0 := funext fun a => by fin_cases a <;> rfl

variable (c : Dev nD) (i : grid0.Coords) (arg3 : Memref sig .tc .vmem S512x256 .bf16) (harg3 : arg3.IsWhole) (arg4 : Memref sig .tc .vmem S4096x256 .bf16) (harg4 : arg4.IsWhole) (arg5 : Memref sig .tc .vmem S4096x256 .bf16) (harg5 : arg5.IsWhole) (arg6 : Memref sig .tc .vmem S1x128 .f32) (harg6 : arg6.IsWhole) (arg7 : Memref sig .tc .vmem S512x128 .bf16) (harg7 : arg7.IsWhole) (arg8 : Memref sig .tc .vmem S512x128 .f32) (harg8 : arg8.IsWhole) (arg9 : Memref sig .tc .vmem S512x256 .f32) (harg9 : arg9.IsWhole)
  (x0 : Vec Ideal S512x256 .bf16) (x1 x2 : Vec Ideal S4096x256 .bf16) (x3 : Vec Ideal S1x128 .f32)

/-- The second counted loop has no trips: it adds nothing. -/
theorem pb2_nil (𝒱 : Variants) (bd : Option 𝒱.V) (a2 v0 v10 v11 v33 c1 X4 X5 G8 G9) : ∀ n,
    pb_k0_t2 (F := Ideal) 𝒱 c bd i arg3 harg3 arg4 harg4 arg5 harg5 arg6 harg6 arg7 harg7 arg8 harg8 arg9 harg9 a2 v0 v10 v11 v33 c1 X4 X5 G8 G9 n = ([], [])
  | 0 => rfl
  | n + 1 => by
    rw [pb_k0_t2.eq_2, pb2_nil]
    unfold pb_k0_t2Step
    exact dif_neg fun h => absurd ((k0_t2_abs i).2.1) (by omega)

/-- The whole spans, at most `T` of them. -/
def spansT (q : FVec Ideal S512x256 .bf16) (K V : Vec Ideal S4096x256 .bf16) (T : ℕ) (z : St) : ℕ → St
  | 0 => z
  | n + 1 => if n < T then step4 q K V (1024 * n) (spansT q K V T z n) else spansT q K V T z n

theorem spansT_succ (q : FVec Ideal S512x256 .bf16) (K V : Vec Ideal S4096x256 .bf16) (T : ℕ) (z : St) (n : ℕ) :
    spansT q K V T z (n + 1) = if n < T then step4 q K V (1024 * n) (spansT q K V T z n) else spansT q K V T z n := rfl

theorem pb1_st (𝒱 : Variants) (bd : Option 𝒱.V) (v0 : Vec Ideal S512x256 .bf16) (X4 : BufTy.Contents (Elt Ideal) arg4.view.ty) (X5 : BufTy.Contents (Elt Ideal) arg5.view.ty) (G8 G9) : ∀ n,
    ((arg8.view.read (Elt Ideal) (arg8.view.writes (Elt Ideal) G8
        (pb_k0_t1 (F := Ideal) 𝒱 c bd i arg3 harg3 arg4 harg4 arg5 harg5 arg6 harg6 arg7 harg7 arg8 harg8 arg9 harg9 v0 X4 X5 G8 G9 n).1),
      arg9.view.read (Elt Ideal) (arg9.view.writes (Elt Ideal) G9
        (pb_k0_t1 (F := Ideal) 𝒱 c bd i arg3 harg3 arg4 harg4 arg5 harg5 arg6 harg6 arg7 harg7 arg8 harg8 arg9 harg9 v0 X4 X5 G8 G9 n).2)) : St)
    = spansT v0 (arg4.view.read (Elt Ideal) X4) (arg5.view.read (Elt Ideal) X5) (k0_t1_loop i).trips
        (arg8.view.read (Elt Ideal) G8, arg9.view.read (Elt Ideal) G9) n
  | 0 => rfl
  | n + 1 => by
    by_cases h : n < (k0_t1_loop i).trips
    · have e := pb_k0_t1_succ (F := Ideal) 𝒱 c bd i arg3 harg3 arg4 harg4 arg5 harg5 arg6 harg6 arg7 harg7 arg8 harg8 arg9 harg9 v0 X4 X5 G8 G9 ⟨n, h⟩
      dsimp only at e
      rw [e]
      dsimp only
      rw [View.writes_append, View.writes_append]
      refine (trip 𝒱 c bd i arg3 harg3 arg4 harg4 arg5 harg5 arg6 harg6 arg7 harg7 arg8 harg8 arg9 harg9 v0 X4 X5 ⟨n, h⟩ _ _).trans ?_
      rw [pb1_st 𝒱 bd v0 X4 X5 G8 G9 n]
      rw [spansT_succ, if_pos h]
    · rw [pb_k0_t1.eq_2]
      unfold pb_k0_t1Step
      rw [dif_neg h, pb1_st 𝒱 bd v0 X4 X5 G8 G9 n]
      rw [spansT_succ, if_neg h]

/-- What the loads after the loop read: the state after the whole spans. -/
theorem cvp8 (𝒱 : Variants) (bd : Option 𝒱.V) (v0 : Vec Ideal S512x256 .bf16) (X4 : BufTy.Contents (Elt Ideal) arg4.view.ty) (X5 : BufTy.Contents (Elt Ideal) arg5.view.ty) (L8 L9 n) (i2) :
    arg8.view.readCov (Val := Elt Ideal) ((pb_k0_t1 (F := Ideal) 𝒱 c bd i arg3 harg3 arg4 harg4 arg5 harg5 arg6 harg6 arg7 harg7 arg8 harg8 arg9 harg9 v0 X4 X5
        (arg8.view.writes (Elt Ideal) arg8.view.junk L8) (arg9.view.writes (Elt Ideal) arg9.view.junk L9) n).1 ++ L8)
      (Rect.unit (s := S512x128) ![0, 0] ![512, 128] i2).toLoadRect
    = (spansT v0 (arg4.view.read (Elt Ideal) X4) (arg5.view.read (Elt Ideal) X5) (k0_t1_loop i).trips
        (arg8.view.read (Elt Ideal) (arg8.view.writes (Elt Ideal) arg8.view.junk L8),
          arg9.view.read (Elt Ideal) (arg9.view.writes (Elt Ideal) arg9.view.junk L9)) n).1 := by
  refine (View.readAt_full arg8.view _ i2).trans ?_
  rw [View.writes_append]
  exact congrArg Prod.fst (pb1_st c i arg3 harg3 arg4 harg4 arg5 harg5 arg6 harg6 arg7 harg7 arg8 harg8 arg9 harg9 𝒱 bd v0 X4 X5 _ _ n)

theorem cvp9 (𝒱 : Variants) (bd : Option 𝒱.V) (v0 : Vec Ideal S512x256 .bf16) (X4 : BufTy.Contents (Elt Ideal) arg4.view.ty) (X5 : BufTy.Contents (Elt Ideal) arg5.view.ty) (L8 L9 n) (i2) :
    arg9.view.readCov (Val := Elt Ideal) ((pb_k0_t1 (F := Ideal) 𝒱 c bd i arg3 harg3 arg4 harg4 arg5 harg5 arg6 harg6 arg7 harg7 arg8 harg8 arg9 harg9 v0 X4 X5
        (arg8.view.writes (Elt Ideal) arg8.view.junk L8) (arg9.view.writes (Elt Ideal) arg9.view.junk L9) n).2 ++ L9)
      (Rect.unit (s := S512x256) ![0, 0] ![512, 256] i2).toLoadRect
    = (spansT v0 (arg4.view.read (Elt Ideal) X4) (arg5.view.read (Elt Ideal) X5) (k0_t1_loop i).trips
        (arg8.view.read (Elt Ideal) (arg8.view.writes (Elt Ideal) arg8.view.junk L8),
          arg9.view.read (Elt Ideal) (arg9.view.writes (Elt Ideal) arg9.view.junk L9)) n).2 := by
  refine (View.readAt_full arg9.view _ i2).trans ?_
  rw [View.writes_append]
  exact congrArg Prod.snd (pb1_st c i arg3 harg3 arg4 harg4 arg5 harg5 arg6 harg6 arg7 harg7 arg8 harg8 arg9 harg9 𝒱 bd v0 X4 X5 _ _ n)

theorem rd3 (f) (i1) : arg3.view.readAt (Elt Ideal) (Rect.unit (s := S512x256) ![0, 0] ![512, 256] i1).toLoadRect f
    = arg3.view.read (Elt Ideal) f := View.readAt_full arg3.view f i1
theorem rd6 (f) (i1) : arg6.view.readAt (Elt Ideal) (Rect.unit (s := S1x128) ![0, 0] ![1, 128] i1).toLoadRect f
    = arg6.view.read (Elt Ideal) f := View.readAt_full arg6.view f i1
theorem cn7 (i1) (w : (Rect.unit (s := S512x128) ![0, 0] ![512, 128] i1).shape.Idx → Elt Ideal .bf16) :
    View.canon (Val := Elt Ideal) [⟨Rect.unit (s := S512x128) ![0, 0] ![512, 128] i1, w⟩] = w := View.canon_unit_zero (S := S512x128) hz i1 w

set_option backward.isDefEq.respectTransparency.types false in
theorem out_A (hc0 : cond0_0 i) (hc1 : ¬cond0_1 i) :
    out0_A_4 c i arg3 harg3 arg4 harg4 arg5 harg5 arg6 harg6 arg7 harg7 arg8 harg8 arg9 harg9 hc0 hc1 x0 x1 x2 x3
      = k0_pay76 (stepM x0 x1 x2 256#32 (k0_off3 i 256#32 0) (stepM x0 x1 x2 0#32 (k0_off3 i 0#32 0)
          (spansT x0 x1 x2 (k0_t1_loop i).trips st0 (k0_t1_loop i).trips))).2 x3 := by
  unfold out0_A_4
  rw [View.read_writes_eq_canon _ _ _ (cover0_A_4 c i arg3 harg3 arg4 harg4 arg5 harg5 arg6 harg6 arg7 harg7 arg8 harg8 arg9 harg9 hc0 hc1 x0 x1 x2 x3)]
  unfold kernelRun0_A
  dsimp only
  sl_unfold_words
  dsimp only
  simp only [pb2_nil, List.nil_append]
  simp only [cn7, rd3, rd6, cv8, cv9, cvp8, cvp9, wr8, wr9, readAt_blk, harg3.read_unread, harg4.read_unread,
    harg5.read_unread, harg6.read_unread, p61, p62, p63, p37, p38, p39, p40, p68, p69, p70, p71, p72, p73]
  rfl

set_option backward.isDefEq.respectTransparency.types false in
theorem out_B (hc0 : ¬cond0_0 i) (hc1 : cond0_1 i) :
    out0_B_4 c i arg3 harg3 arg4 harg4 arg5 harg5 arg6 harg6 arg7 harg7 arg8 harg8 arg9 harg9 hc0 hc1 x0 x1 x2 x3
      = k0_pay76 (stepM x0 x1 x2 256#32 (k0_off4 i 768#32 0) (stepM x0 x1 x2 0#32 (k0_off4 i 512#32 0)
          (stepU x0 x1 x2 (k0_off4 i 256#32 0) (stepU x0 x1 x2 (k0_off4 i 0#32 0)
          (spansT x0 x1 x2 (k0_t1_loop i).trips st0 (k0_t1_loop i).trips))))).2 x3 := by
  unfold out0_B_4
  rw [View.read_writes_eq_canon _ _ _ (cover0_B_4 c i arg3 harg3 arg4 harg4 arg5 harg5 arg6 harg6 arg7 harg7 arg8 harg8 arg9 harg9 hc0 hc1 x0 x1 x2 x3)]
  unfold kernelRun0_B
  dsimp only
  sl_unfold_words
  dsimp only
  simp only [pb2_nil, List.nil_append]
  simp only [cn7, rd3, rd6, cv8, cv9, cvp8, cvp9, wr8, wr9, readAt_blk, harg3.read_unread, harg4.read_unread,
    harg5.read_unread, harg6.read_unread, p61, p62, p63, p42, p43, p44, p45, p48, p49, p50, p51, p52, p54, p55, p56, p57,
    p74, p75]
  rfl

end Cert.AttentionIdeal.Att
-- ==== Proof.AttSweep.lean ====
/-
  The attention kernel's sweep over the keys: after each block the state is the running maximum and the running
  weighted sum of the keys so far, and a point's output is the softmax of its rows' scores against the values.
-/
module

public import proofs.«01_k».proof.Proof.AttPoint
public import proofs.«01_k».proof.Proof.AttOut

@[expose] public section

set_option maxRecDepth 16384

noncomputable section

namespace Cert.AttentionIdeal.Att

open Idealize.ShloMosaic Idealize.ShloMosaic.TcCoe Idealize.SL.Sem
open Cert.AttentionIdeal Cert.AttentionIdeal.Gen
open Cert.AttMath

/-- A row of the keys or the values, nothing past the end. -/
def ext (X : Vec Ideal S4096x256 .bf16) (j : ℕ) (d : Fin 256) : EReal := if h : j < 4096 then X (ix2 ⟨j, h⟩ d) else 0

/-- A row's masked scores; `b` is the query block. -/
def Sc (q : FVec Ideal S512x256 .bf16) (K : Vec Ideal S4096x256 .bf16) (b : ℕ) (r : Fin 512) (j : ℕ) : EReal :=
  if j ≤ 512 * b + r.val then ∑ d : Fin 256, q (ix2 r d) * ext K j d else ⊥

variable (q : FVec Ideal S512x256 .bf16) (K V : Vec Ideal S4096x256 .bf16) (b : ℕ)

/-- The state after `n` keys. -/
def Inv (n : ℕ) (z : St) : Prop :=
  ∀ r : Fin 512, (∀ c : Fin 128, z.1 (ix2 r c) = mx (Sc q K b r) n)
    ∧ ∀ d : Fin 256, z.2 (ix2 r d) = nu (Sc q K b r) (fun j => ext V j d) n

/-- No score is `⊤`, and the first key's is a number. -/
def Fine : Prop := ∀ r : Fin 512, Sc q K b r 0 ≠ ⊥ ∧ ∀ j, Sc q K b r j ≠ ⊤

variable {q K V b}

theorem step_inv (hF : Fine q K b) (s : FVec Ideal S512x256 .f32) (vb : Vec Ideal S256x256 .bf16) (z : St) (n : ℕ)
    (hs : ∀ (r : Fin 512) (j : Fin 256), s (ix2 r j) = Sc q K b r (n + j.val))
    (hv : ∀ j d : Fin 256, vb (ix2 j d) = ext V (n + j.val) d) (hz : Inv q K V b n z) :
    Inv q K V b (n + 256) (step s vb z) := fun r => by
  have hM : ∀ c : Fin 128, newM s z.1 (ix2 r c) = mx (Sc q K b r) (n + 256) := fun c => by
    rw [newM_at, (hz r).1 c, mx_add]
    simp only [hs]
  refine ⟨hM, fun d => ?_⟩
  show newA s z.1 vb z.2 (ix2 r d) = _
  rw [newA_at, (hz r).1, (hz r).2, nu_add _ _ (hF r).1 (hF r).2 n 256 (by decide)]
  simp only [hM, hs, hv]

theorem ext_blk (X : Vec Ideal S4096x256 .bf16) (n : ℕ) (hn : n + 256 ≤ 4096) (j d : Fin 256) :
    blkAt X n (ix2 j d) = ext X (n + j.val) d := by
  have h : n + j.val < 4096 := by omega
  rw [blk_at X n j d h, ext, dif_pos h]

theorem stepU_inv (hF : Fine q K b) (hb : b < 8) (z : St) (n : ℕ) (hn : n + 256 ≤ 512 * b) (hz : Inv q K V b n z) :
    Inv q K V b (n + 256) (stepU q K V n z) := by
  refine step_inv hF _ _ z n (fun r j => ?_) (fun j d => ext_blk V n (by omega) j d) hz
  rw [sc_at, Sc, if_pos (by omega)]
  exact Finset.sum_congr rfl fun d _ => by rw [ext_blk K n (by omega)]

theorem stepM_inv (hF : Fine q K b) (hb : b < 8) (off : ℕ) (hoff : off ≤ 256) (z : St) (n : ℕ) (hn : n = 512 * b + off) (hz : Inv q K V b n z) :
    Inv q K V b (n + 256) (stepM q K V (BitVec.ofNat 32 off) n z) := by
  refine step_inv hF _ _ z n (fun r j => ?_) (fun j d => ext_blk V n (by omega) j d) hz
  rw [msk_at off _ hoff, sc_at, Sc]
  by_cases h : j.val + off ≤ r.val
  · rw [if_pos h, if_pos (by omega)]
    exact Finset.sum_congr rfl fun d _ => by rw [ext_blk K n (by omega)]
  · rw [if_neg h, if_neg (by omega)]

theorem st0_inv : Inv q K V b 0 st0 := fun r => by
  refine ⟨fun c => ?_, fun d => ?_⟩
  · show Ideal.ofBits FTy.f32 0xFF800000#32 = _
    rw [ninf]
    rfl
  · show Ideal.ofBits FTy.f32 0x00000000#32 = _
    rw [Ideal.ofBits_zero]
    rfl

theorem step4_inv (hF : Fine q K b) (hb : b < 8) (z : St) (n : ℕ) (hn : n + 1024 ≤ 512 * b) (hz : Inv q K V b n z) :
    Inv q K V b (n + 1024) (step4 q K V n z) :=
  stepU_inv hF hb _ (n + 768) (by omega) (stepU_inv hF hb _ (n + 512) (by omega) (stepU_inv hF hb _ (n + 256) (by omega)
    (stepU_inv hF hb z n (by omega) hz)))

theorem spans_inv (hF : Fine q K b) (hb : b < 8) (T : ℕ) (hT : 1024 * T ≤ 512 * b) : ∀ n, n ≤ T → Inv q K V b (1024 * n) (spansT q K V T st0 n)
  | 0, _ => st0_inv
  | n + 1, h => by
    rw [spansT_succ, if_pos (show n < T from h)]
    exact step4_inv hF hb _ (1024 * n) (by omega) (spans_inv hF hb T hT n (by omega))

theorem trips_eq : ∀ i : grid0.Coords, (k0_t1_loop i).trips = (i 2).val / 2 := by decide +kernel
theorem off3_0 : ∀ i : grid0.Coords, k0_off3 i 0#32 0 = 512 * (i 2).val := by decide +kernel
theorem off3_1 : ∀ i : grid0.Coords, k0_off3 i 256#32 0 = 512 * (i 2).val + 256 := by decide +kernel
theorem off4_0 : ∀ i : grid0.Coords, (i 2).val % 2 = 1 → k0_off4 i 0#32 0 = 512 * ((i 2).val - 1) := by decide +kernel
theorem off4_1 : ∀ i : grid0.Coords, (i 2).val % 2 = 1 → k0_off4 i 256#32 0 = 512 * ((i 2).val - 1) + 256 := by decide +kernel
theorem off4_2 : ∀ i : grid0.Coords, (i 2).val % 2 = 1 → k0_off4 i 512#32 0 = 512 * (i 2).val := by decide +kernel
theorem off4_3 : ∀ i : grid0.Coords, (i 2).val % 2 = 1 → k0_off4 i 768#32 0 = 512 * (i 2).val + 256 := by decide +kernel
theorem even_A : ∀ i : grid0.Coords, cond0_0 i → (i 2).val % 2 = 0 := by decide +kernel
theorem odd_B : ∀ i : grid0.Coords, cond0_1 i → (i 2).val % 2 = 1 := by decide +kernel

/-- The state a point with an even query block ends with. -/
theorem inv_A (i : grid0.Coords) (hF : Fine q K (i 2).val) (hi : (i 2).val % 2 = 0) :
    Inv q K V (i 2).val (512 * (i 2).val + 512) (stepM q K V 256#32 (k0_off3 i 256#32 0) (stepM q K V 0#32 (k0_off3 i 0#32 0)
          (spansT q K V (k0_t1_loop i).trips st0 (k0_t1_loop i).trips))) := by
  have hb : (i 2).val < 8 := (i 2).isLt
  rw [trips_eq, off3_0, off3_1]
  have h0 := spans_inv (V := V) hF hb ((i 2).val / 2) (by omega) _ (le_refl _)
  rw [show 1024 * ((i 2).val / 2) = 512 * (i 2).val by omega] at h0
  exact stepM_inv hF hb 256 (le_refl _) _ _ rfl (stepM_inv hF hb 0 (by decide) _ _ rfl h0)

/-- The state a point with an odd query block ends with. -/
theorem inv_B (i : grid0.Coords) (hF : Fine q K (i 2).val) (hi : (i 2).val % 2 = 1) :
    Inv q K V (i 2).val (512 * (i 2).val + 512) (stepM q K V 256#32 (k0_off4 i 768#32 0) (stepM q K V 0#32 (k0_off4 i 512#32 0)
          (stepU q K V (k0_off4 i 256#32 0) (stepU q K V (k0_off4 i 0#32 0)
          (spansT q K V (k0_t1_loop i).trips st0 (k0_t1_loop i).trips))))) := by
  have hb : (i 2).val < 8 := (i 2).isLt
  rw [trips_eq, off4_0 i hi, off4_1 i hi, off4_2 i hi, off4_3 i hi]
  have h0 := spans_inv (V := V) hF hb ((i 2).val / 2) (by omega) _ (le_refl _)
  rw [show 1024 * ((i 2).val / 2) = 512 * ((i 2).val - 1) by omega] at h0
  have h2 := stepU_inv hF hb _ _ (by omega) (stepU_inv hF hb _ _ (by omega) h0)
  rw [show 512 * ((i 2).val - 1) + 256 + 256 = 512 * (i 2).val by omega] at h2
  exact stepM_inv hF hb 256 (le_refl _) _ _ rfl (stepM_inv hF hb 0 (by decide) _ _ rfl h2)

/-- A point's output. -/
def outSpec (q : FVec Ideal S512x256 .bf16) (K V : Vec Ideal S4096x256 .bf16) (g : Vec Ideal S1x128 .f32) (b : ℕ) (r : Fin 512) (d : Fin 128) : EReal :=
  Ideal.div (nu (Sc q K b r) (fun j => ext V j ⟨d.val, by omega⟩) (512 * b + 512))
    (nu (Sc q K b r) (fun j => ext V j ⟨128 + d.val, by omega⟩) (512 * b + 512)) * g (ix2 0 d)

theorem out_at (z : St) (g : Vec Ideal S1x128 .f32) (hz : Inv q K V b (512 * b + 512) z) (r : Fin 512) (d : Fin 128) :
    k0_pay76 z.2 g (ix2 r d) = outSpec q K V g b r d := by
  rw [pay76_at, (hz r).2, (hz r).2]
  rfl

end Cert.AttentionIdeal.Att

end
-- ==== Proof.AttRead.lean ====
/-
  The attention kernel's input blocks, read as arrays: at point `t` the sequence `t / 64`, the head `t / 8 % 8` and the
  queries `512 * (t % 8)` on, the heads padded to 256 columns.
-/
module

public import proofs.«01_k».proof.Proof.Gen.AttentionIdeal.Value
public import Idealize.ShloMosaic.Lib.Pipeline.ValueKit
public import Idealize.ShloMosaic.Lib.Pointwise

@[expose] public section

set_option maxRecDepth 16384

noncomputable section

namespace Cert.AttentionIdeal.Blk

open Idealize.ShloMosaic Idealize.ShloMosaic.TcCoe Idealize.SL.Sem
open Cert.AttentionIdeal Cert.AttentionIdeal.Gen

variable (m : (ℓ : Loc nD τ sig) → Buf (Elt Ideal) ℓ)

theorem idx0 : ∀ t : Fin cfg0.N, win0_0.index t = ![t.val / 64 * 8 + t.val % 8, t.val / 8 % 8] := (by decide +kernel : ∀ t : Fin grid0.N, _)
theorem idx1 : ∀ t : Fin cfg0.N, win0_1.index t = ![t.val / 64, t.val / 8 % 8] := (by decide +kernel : ∀ t : Fin grid0.N, _)
theorem idx2 : ∀ t : Fin cfg0.N, win0_2.index t = ![t.val / 64, t.val / 8 % 8] := (by decide +kernel : ∀ t : Fin grid0.N, _)
theorem idx3 : ∀ t : Fin cfg0.N, win0_3.index t = ![0, t.val / 8 % 8] := (by decide +kernel : ∀ t : Fin grid0.N, _)
theorem idx4 : ∀ t : Fin cfg0.N, win0_4.index t = ![t.val / 64 * 8 + t.val % 8, t.val / 8 % 8] := (by decide +kernel : ∀ t : Fin grid0.N, _)
theorem qi_eq : ∀ t : Fin cfg0.N, (grid0.coords t 2).val = t.val % 8 := (by decide +kernel : ∀ t : Fin grid0.N, _)

theorem lt_t (t : Fin cfg0.N) : t.val < 256 := t.isLt

theorem row0 (t : Fin cfg0.N) (y : S512x256.Idx) : ((((cfg0.win 0).blk t).view.emb y) 0).val = (t.val / 64 * 8 + t.val % 8) * 512 + (y 0).val := by
  blk_simp [idx0 t]
theorem col0 (t : Fin cfg0.N) (y : S512x256.Idx) : ((((cfg0.win 0).blk t).view.emb y) 1).val = t.val / 8 % 8 * 256 + (y 1).val := by
  blk_simp [idx0 t]
theorem row1 (t : Fin cfg0.N) (y : S4096x256.Idx) : ((((cfg0.win 1).blk t).view.emb y) 0).val = t.val / 64 * 4096 + (y 0).val := by
  blk_simp [idx1 t]
theorem col1 (t : Fin cfg0.N) (y : S4096x256.Idx) : ((((cfg0.win 1).blk t).view.emb y) 1).val = t.val / 8 % 8 * 256 + (y 1).val := by
  blk_simp [idx1 t]
theorem row2 (t : Fin cfg0.N) (y : S4096x256.Idx) : ((((cfg0.win 2).blk t).view.emb y) 0).val = t.val / 64 * 4096 + (y 0).val := by
  blk_simp [idx2 t]
theorem col2 (t : Fin cfg0.N) (y : S4096x256.Idx) : ((((cfg0.win 2).blk t).view.emb y) 1).val = t.val / 8 % 8 * 256 + (y 1).val := by
  blk_simp [idx2 t]
theorem col3 (t : Fin cfg0.N) (y : S1x128.Idx) : ((((cfg0.win 3).blk t).view.emb y) 1).val = t.val / 8 % 8 * 128 + (y 1).val := by
  blk_simp [idx3 t]
theorem row4 (t : Fin cfg0.N) (y : S512x128.Idx) : ((((cfg0.win 4).blk t).view.emb y) 0).val = (t.val / 64 * 8 + t.val % 8) * 512 + (y 0).val := by
  blk_simp [idx4 t]
theorem col4 (t : Fin cfg0.N) (y : S512x128.Idx) : ((((cfg0.win 4).blk t).view.emb y) 1).val = t.val / 8 % 8 * 128 + (y 1).val := by
  blk_simp [idx4 t]

/-- Heads of 192 columns, padded to 256 and laid side by side. -/
def wide (X : FVec Ideal S4x8x4096x192 .f32) (P : FVec Ideal S4x8x4096x64 .f32) : FVec Ideal S16384x2048 .bf16 :=
  truncf .bf16 (shapeCast S16384x2048 (transpose S4x4096x8x256 [0, 2, 1, 3] (concatenate S4x8x4096x256 3 [⟨S4x8x4096x192, X⟩, ⟨S4x8x4096x64, P⟩] concatenates_S4x8x4096x192_S4x8x4096x64_S4x8x4096x256_d3) transposes_S4x8x4096x256_S4x4096x8x256_0_2_1_3) shapeCasts_S4x4096x8x256_S16384x2048) bitsLt_bf16_f32

/-- Heads of 128 columns, padded to 256 and laid side by side. -/
def wideV (X : FVec Ideal S4x8x4096x128 .f32) (P : FVec Ideal S4x8x4096x128 .f32) : FVec Ideal S16384x2048 .bf16 :=
  truncf .bf16 (shapeCast S16384x2048 (transpose S4x4096x8x256 [0, 2, 1, 3] (concatenate S4x8x4096x256 3 [⟨S4x8x4096x128, X⟩, ⟨S4x8x4096x128, P⟩] concatenates_S4x8x4096x128_S4x8x4096x128_S4x8x4096x256_d3) transposes_S4x8x4096x256_S4x4096x8x256_0_2_1_3) shapeCasts_S4x4096x8x256_S16384x2048) bitsLt_bf16_f32

/-- The queries by the scores' scale. -/
def scaled (X : FVec Ideal S4x8x4096x192 .f32) : FVec Ideal S4x8x4096x192 .f32 :=
  mulf X (broadcastInDim S4x8x4096x192 ![] bcast_S_S4x8x4096x192 (Host.divf (constant S_ .f32 0x3F800000#32) (mulf (Host.sqrt (constant S_ .f32 0x43400000#32)) (Host.log (constant S_ .f32 0x40000000#32)))))

def zeros : FVec Ideal S4x8x4096x64 .f32 := broadcastInDim S4x8x4096x64 ![] bcast_S_S4x8x4096x64 (constant S_ .f32 0x00000000#32)
def ones : FVec Ideal S4x8x4096x128 .f32 := broadcastInDim S4x8x4096x128 ![] bcast_S_S4x8x4096x128 (constant S_ .f32 0x3F800000#32)

theorem V11 (c : Dev nD) : V m c main_v11 = wide (scaled (m ((c : Thread nD τ).loc main_arg0))) zeros := by
  show StableHlo.after hostOps0 (fun b => m (c, b)) main_v11 = _
  simp only [hostOps0]
  open Idealize.ShloMosaic.StableHlo in
  after_results
  rfl

theorem V15 (c : Dev nD) : V m c main_v15 = wide (m ((c : Thread nD τ).loc main_arg1)) zeros := by
  show StableHlo.after hostOps0 (fun b => m (c, b)) main_v15 = _
  simp only [hostOps0]
  open Idealize.ShloMosaic.StableHlo in
  after_results
  rfl

theorem V19 (c : Dev nD) : V m c main_v19 = wideV (m ((c : Thread nD τ).loc main_arg2)) ones := by
  show StableHlo.after hostOps0 (fun b => m (c, b)) main_v19 = _
  simp only [hostOps0]
  open Idealize.ShloMosaic.StableHlo in
  after_results
  rfl

theorem wide_at (X : FVec Ideal S4x8x4096x192 .f32) (r : Fin 16384) (k : Fin 2048) (b : Fin 4) (h : Fin 8) (i : Fin 4096)
    (hb : b.val = r.val / 4096) (hi : i.val = r.val % 4096) (hh : h.val = k.val / 256) :
    wide X zeros (ix2 r k) = if hd : k.val % 256 < 192 then X (ix4 b h i ⟨k.val % 256, hd⟩) else 0 := by
  have eb : b = ⟨r.val / 4096, by omega⟩ := Fin.ext hb
  have ei : i = ⟨r.val % 4096, Nat.mod_lt _ (by decide)⟩ := Fin.ext hi
  have eh : h = ⟨k.val / 256, by omega⟩ := Fin.ext hh
  rw [eb, eh, ei]
  pointwise [wide, zeros]

theorem wideV_at (X : FVec Ideal S4x8x4096x128 .f32) (r : Fin 16384) (k : Fin 2048) (b : Fin 4) (h : Fin 8) (i : Fin 4096)
    (hb : b.val = r.val / 4096) (hi : i.val = r.val % 4096) (hh : h.val = k.val / 256) :
    wideV X ones (ix2 r k) = if hd : k.val % 256 < 128 then X (ix4 b h i ⟨k.val % 256, hd⟩) else Ideal.ofBits .f32 0x3F800000#32 := by
  have eb : b = ⟨r.val / 4096, by omega⟩ := Fin.ext hb
  have ei : i = ⟨r.val % 4096, Nat.mod_lt _ (by decide)⟩ := Fin.ext hi
  have eh : h = ⟨k.val / 256, by omega⟩ := Fin.ext hh
  rw [eb, eh, ei]
  pointwise [wideV, ones]

theorem scaled_at (X : FVec Ideal S4x8x4096x192 .f32) (b : Fin 4) (h : Fin 8) (i : Fin 4096) (d : Fin 192) :
    scaled X (ix4 b h i d) = X (ix4 b h i d) * Ideal.div (Ideal.ofBits .f32 0x3F800000#32)
      (Ideal.sqrt (Ideal.ofBits .f32 0x43400000#32) * Ideal.log (Ideal.ofBits .f32 0x40000000#32)) := by
  pointwise [scaled]

end Cert.AttentionIdeal.Blk

end
-- ==== Proof.AttRef.lean ====
/-
  The attention reference at an index: a row's softmax of its masked scores against the values.
-/
module

public import proofs.«01_k».proof.Proof.Gen.AttentionReferenceIdeal.Run
public import proofs.«01_k».proof.Proof.AttMath
public import Idealize.ShloMosaic.Lib.Pointwise

@[expose] public section

set_option maxRecDepth 16384

noncomputable section

namespace Cert.AttentionReferenceIdeal.Val

open Idealize.ShloMosaic Idealize.ShloMosaic.TcCoe
open Cert.AttentionReferenceIdeal Cert.AttentionReferenceIdeal.Gen
open Cert.AttMath

/-- The scores, those of later keys masked. -/
def masked (Q K : FVec Ideal S4x8x4096x192 .f32) : FVec Ideal S4x8x4096x4096 .f32 :=
  select (broadcastInDim S4x8x4096x4096 ![2, 3] bcast_S4096x4096_S4x8x4096x4096_2_3 (cmpi .sle (broadcastInDim S4096x4096 ![0, 1] bcast_S1x4096_S4096x4096_0_1 (broadcastInDim S1x4096 ![1] bcast_S4096_S1x4096_1 (iotaInDim S4096 32 0))) (broadcastInDim S4096x4096 ![0, 1] bcast_S4096x1_S4096x4096_0_1 (broadcastInDim S4096x1 ![0] bcast_S4096_S4096x1_0 (iotaInDim S4096 32 0))))) (Host.divf (Host.dotGeneral dot_S4x8x4096x192_S4x8x4096x192_S4x8x4096x4096_3_3_2_2_01_01 none Q K) (broadcastInDim S4x8x4096x4096 ![] bcast_S_S4x8x4096x4096 (Host.sqrt (constant S_ .f32 0x43400000#32)))) (broadcastInDim S4x8x4096x4096 ![] bcast_S_S4x8x4096x4096 (id (constant S_ .f32 0xFF800000#32)))

/-- The scores' exponentials against a number for each row. -/
def less (S : FVec Ideal S4x8x4096x4096 .f32) (T : FVec Ideal S4x8x4096 .f32) : FVec Ideal S4x8x4096x4096 .f32 :=
  Host.exp (subf S (broadcastInDim S4x8x4096x4096 ![0, 1, 2, 3] bcast_S4x8x4096x1_S4x8x4096x4096_0_1_2_3 (broadcastInDim S4x8x4096x1 ![0, 1, 2] bcast_S4x8x4096_S4x8x4096x1_0_1_2 (maximumf (broadcastInDim S4x8x4096 ![] bcast_S_S4x8x4096 (constant S_ .f32 0xFF800000#32)) T))))

/-- The same, against each row's largest score. -/
def exps (S : FVec Ideal S4x8x4096x4096 .f32) : FVec Ideal S4x8x4096x4096 .f32 :=
  less S (Host.reduce FloatOps.maximumf S (constant S_ .f32 0xFF800000#32) reducesTo_S4x8x4096x4096_S4x8x4096_d3 h_S_)

/-- The rows over their sums. -/
def normed (E : FVec Ideal S4x8x4096x4096 .f32) : FVec Ideal S4x8x4096x4096 .f32 :=
  Host.divf E (broadcastInDim S4x8x4096x4096 ![0, 1, 2, 3] bcast_S4x8x4096x1_S4x8x4096x4096_0_1_2_3 (broadcastInDim S4x8x4096x1 ![0, 1, 2] bcast_S4x8x4096_S4x8x4096x1_0_1_2 (Host.reduceAdd E (constant S_ .f32 0x00000000#32) reducesTo_S4x8x4096x4096_S4x8x4096_d3 h_S_)))

/-- The weights against the values, by row and head, under the gain. -/
def mixed (P : FVec Ideal S4x8x4096x4096 .f32) (W : FVec Ideal S4x8x4096x128 .f32) (g : FVec Ideal S1024 .f32) : FVec Ideal S16384x1024 .bf16 :=
  truncf .bf16 (mulf (shapeCast _ (transpose S4x4096x8x128 [0, 2, 1, 3] (Host.dotGeneral dot_S4x8x4096x4096_S4x8x4096x128_S4x8x4096x128_3_2_2_3_01_01 none P W) transposes_S4x8x4096x128_S4x4096x8x128_0_2_1_3) shapeCasts_S4x4096x8x128_S16384x1024) (broadcastInDim S16384x1024 ![0, 1] bcast_S1x1024_S16384x1024_0_1 (broadcastInDim S1x1024 ![1] bcast_S1024_S1x1024_1 g))) bitsLt_bf16_f32

def result (Q K : FVec Ideal S4x8x4096x192 .f32) (W : FVec Ideal S4x8x4096x128 .f32) (g : FVec Ideal S1024 .f32) : FVec Ideal S16384x1024 .bf16 :=
  mixed (normed (exps (masked Q K))) W g

theorem res_eq (m : (ℓ : Loc nD τ sig) → Buf (Elt Ideal) ℓ) (c : Dev nD) : Value.res_main_v28 m c
    = result (m ((c.tc : Thread nD τ).loc main_arg0)) (m ((c.tc : Thread nD τ).loc main_arg1)) (m ((c.tc : Thread nD τ).loc main_arg2)) (m ((c.tc : Thread nD τ).loc main_arg3)) := by
  unfold Value.res_main_v28
  rfl

/-- A row's score at a key. -/
def tsc (Q K : FVec Ideal S4x8x4096x192 .f32) (b : Fin 4) (h : Fin 8) (i : Fin 4096) (j : ℕ) : EReal :=
  if hj : j < 4096 then (if j ≤ i.val then
    Ideal.div (∑ d : Fin 192, Q (ix4 b h i d) * K (ix4 b h ⟨j, hj⟩ d)) (Ideal.sqrt (Ideal.ofBits .f32 0x43400000#32)) else ⊥) else ⊥

/-- A head's value at a key. -/
def tval (W : FVec Ideal S4x8x4096x128 .f32) (b : Fin 4) (h : Fin 8) (d : Fin 128) (j : ℕ) : EReal :=
  if hj : j < 4096 then W (ix4 b h ⟨j, hj⟩ d) else 0

theorem ninf : Ideal.ofBits FTy.f32 0xFF800000#32 = ⊥ := by
  simp [Ideal.ofBits, Ideal.ieee]

theorem sle_nat (j r : ℕ) (h1 : j < 2 ^ 31) (h2 : r < 2 ^ 31) :
    IntOp.cmpi CmpIPredicate.sle (BitVec.ofNat 32 j) (BitVec.ofNat 32 r) = if j ≤ r then 1#1 else 0#1 := by
  have e : (BitVec.ofNat 32 j).sle (BitVec.ofNat 32 r) = decide (j ≤ r) := by
    rw [BitVec.sle_eq_decide, BitVec.toInt_ofNat', BitVec.toInt_ofNat']
    simp only [Int.bmod]
    rw [decide_eq_decide]
    omega
  show BitVec.ofBool ((BitVec.ofNat 32 j).sle (BitVec.ofNat 32 r)) = _
  rw [e]
  by_cases h : j ≤ r <;> simp [h]

theorem masked_at (Q K : FVec Ideal S4x8x4096x192 .f32) (b : Fin 4) (h : Fin 8) (i j : Fin 4096) :
    masked Q K (ix4 b h i j) = tsc Q K b h i j.val := by
  unfold tsc
  rw [dif_pos j.isLt]
  pointwise [masked]
  show Scalar.select _ _ (Ideal.ofBits FTy.f32 0xFF800000#32) = _
  rw [ninf, sle_nat j.val i.val (by omega) (by omega)]
  by_cases hl : j.val ≤ i.val
  · rw [if_pos hl, if_pos hl]; rfl
  · rw [if_neg hl, if_neg hl]; rfl

theorem max_gen {n0 n1 n2 n3 : ℕ} {t u : Shape} (S : FVec Ideal ⟨4, ![n0, n1, n2, n3]⟩ .f32) (v : u.Idx → Ideal .f32)
    (h : (⟨4, ![n0, n1, n2, n3]⟩ : Shape).ReducesTo [3] t) (hu : 0 < u.numel) (j : t.Idx) (f : Fin n3 → EReal)
    (hf : ∀ (a : Fin n0) (b : Fin n1) (c : Fin n2) (x : Fin n3), a.val = (j ⟨0, h.lt_r4_a3_0⟩).val → b.val = (j ⟨1, h.lt_r4_a3_1⟩).val →
      c.val = (j ⟨2, h.lt_r4_a3_2⟩).val → S (ix4 a b c x) = f x) :
    Host.reduce FloatOps.maximumf S v h hu j = (Finset.univ : Finset (Fin n3)).fold max (v (Shape.Idx.first hu)) f := by
  rw [Host.reduce_eq_fold, h.fold_fiber_r4_a3]
  exact Finset.fold_congr (op := (max : EReal → EReal → EReal)) fun k _ => hf _ _ _ _ rfl rfl rfl

theorem max_at (S : FVec Ideal S4x8x4096x4096 .f32) (v : S_.Idx → Ideal .f32) (b : Fin 4) (h : Fin 8) (i : Fin 4096) (f : ℕ → EReal)
    (hf : ∀ x : Fin 4096, S (ix4 b h i x) = f x.val) :
    Host.reduce FloatOps.maximumf S v reducesTo_S4x8x4096x4096_S4x8x4096_d3 h_S_ (ix3 b h i)
      = (Finset.univ : Finset (Fin 4096)).fold max (v (Shape.Idx.first h_S_)) (fun x => f x.val) := by
  refine max_gen (n0 := 4) (n1 := 8) (n2 := 4096) (n3 := 4096) S v _ _ _ _ fun a' b' c' x h0 h1 h2 => ?_
  have e0 : a' = b := Fin.ext h0
  have e1 : b' = h := Fin.ext h1
  have e2 : c' = i := Fin.ext h2
  rw [e0, e1, e2]
  exact hf x

theorem less_at (S : FVec Ideal S4x8x4096x4096 .f32) (T : FVec Ideal S4x8x4096 .f32) (b : Fin 4) (h : Fin 8) (i j : Fin 4096) :
    less S T (ix4 b h i j) = Ideal.exp (S (ix4 b h i j) - max (Ideal.ofBits FTy.f32 0xFF800000#32) (T (ix3 b h i))) := by
  pointwise [less]

theorem exps_at (S : FVec Ideal S4x8x4096x4096 .f32) (b : Fin 4) (h : Fin 8) (i j : Fin 4096) (f : ℕ → EReal)
    (hf : ∀ x : Fin 4096, S (ix4 b h i x) = f x.val) : exps S (ix4 b h i j) = wt f 4096 j.val := by
  rw [exps, less_at, max_at S _ b h i f hf, hf]
  show Ideal.exp (f j.val - max _ ((Finset.univ : Finset (Fin 4096)).fold max (Ideal.ofBits FTy.f32 0xFF800000#32) _)) = _
  rw [ninf, max_eq_right bot_le, fold_sup, sup_fin]
  rfl

theorem normed_at (E : FVec Ideal S4x8x4096x4096 .f32) (b : Fin 4) (h : Fin 8) (i j : Fin 4096) (f : ℕ → EReal)
    (hf : ∀ x : Fin 4096, E (ix4 b h i x) = f x.val) : normed E (ix4 b h i j) = Ideal.div (f j.val) (∑ x ∈ Finset.range 4096, f x) := by
  rw [← Fin.sum_univ_eq_sum_range f 4096]
  pointwise [normed]
  simp only [hf]

theorem mixed_at (P : FVec Ideal S4x8x4096x4096 .f32) (W : FVec Ideal S4x8x4096x128 .f32) (g : FVec Ideal S1024 .f32) (r : Fin 16384) (c : Fin 1024) :
    mixed P W g (ix2 r c) = (∑ j : Fin 4096, P (ix4 (⟨r.val / 4096, by omega⟩ : Fin 4) (⟨c.val / 128, by omega⟩ : Fin 8) (⟨r.val % 4096, Nat.mod_lt _ (by decide)⟩ : Fin 4096) j)
      * W (ix4 (⟨r.val / 4096, by omega⟩ : Fin 4) (⟨c.val / 128, by omega⟩ : Fin 8) j (⟨c.val % 128, Nat.mod_lt _ (by decide)⟩ : Fin 128))) * g (ix1 c) := by
  pointwise [mixed]

theorem result_at (Q K : FVec Ideal S4x8x4096x192 .f32) (W : FVec Ideal S4x8x4096x128 .f32) (g : FVec Ideal S1024 .f32)
    (r : Fin 16384) (c : Fin 1024) (b : Fin 4) (h : Fin 8) (i : Fin 4096) (d : Fin 128) (hb : b.val = r.val / 4096) (hh : h.val = c.val / 128)
    (hi : i.val = r.val % 4096) (hd : d.val = c.val % 128) :
    result Q K W g (ix2 r c) = (∑ j ∈ Finset.range 4096,
      Ideal.div (wt (tsc Q K b h i) 4096 j) (∑ x ∈ Finset.range 4096, wt (tsc Q K b h i) 4096 x) * tval W b h d j) * g (ix1 c) := by
  have eb : b = ⟨r.val / 4096, by omega⟩ := Fin.ext hb
  have eh : h = ⟨c.val / 128, by omega⟩ := Fin.ext hh
  have ei : i = ⟨r.val % 4096, Nat.mod_lt _ (by decide)⟩ := Fin.ext hi
  have ed : d = ⟨c.val % 128, Nat.mod_lt _ (by decide)⟩ := Fin.ext hd
  rw [eb, eh, ei, ed, result, mixed_at, ← Fin.sum_univ_eq_sum_range _ 4096]
  refine congrArg (fun u : EReal => u * g (ix1 c)) (Finset.sum_congr rfl fun j _ => ?_)
  rw [normed_at _ _ _ _ j _ fun x => exps_at _ _ _ _ x _ fun y => masked_at Q K _ _ _ y]
  rw [tval, dif_pos j.isLt]

end Cert.AttentionReferenceIdeal.Val

end
-- ==== Proof.AttLink.lean ====
/-
  The attention kernel's scores and the reference's: the kernel's are base-two logarithms, of the reference's by `lg`.
-/
module

public import proofs.«01_k».proof.Proof.AttSweep
public import proofs.«01_k».proof.Proof.AttRead
public import proofs.«01_k».proof.Proof.AttRef
public import proofs.«01_k».proof.Pre_finite_scores

@[expose] public section

set_option maxRecDepth 16384

noncomputable section

namespace Cert.AttentionIdeal.Att

open Idealize.ShloMosaic Idealize.ShloMosaic.TcCoe Idealize.SL.Sem
open Cert.AttentionIdeal Cert.AttentionIdeal.Gen
open Cert.AttMath Cert.AttentionIdeal.Blk
open Cert.AttentionReferenceIdeal.Val (tsc tval result result_at)

theorem bits_one : Ideal.ofBits .f32 0x3F800000#32 = ((1 : ℝ) : EReal) := by
  simp [Ideal.ofBits, Ideal.ieee, -EReal.coe_mul]; norm_num
theorem bits_two : Ideal.ofBits .f32 0x40000000#32 = ((2 : ℝ) : EReal) := by
  simp [Ideal.ofBits, Ideal.ieee, -EReal.coe_mul]; norm_num
theorem bits_dim : Ideal.ofBits .f32 0x43400000#32 = ((192 : ℝ) : EReal) := by
  simp [Ideal.ofBits, Ideal.ieee, -EReal.coe_mul]; norm_num

theorem root_eq : Ideal.sqrt (Ideal.ofBits .f32 0x43400000#32) = ((Real.sqrt 192 : ℝ) : EReal) := by
  rw [bits_dim]
  show (if (192 : ℝ) < 0 then (⊥ : EReal) else ((Real.sqrt 192 : ℝ) : EReal)) = _
  rw [if_neg (by norm_num)]

theorem ln_eq : Ideal.log (Ideal.ofBits .f32 0x40000000#32) = ((Real.log 2 : ℝ) : EReal) := by
  rw [bits_two]
  show (if (2 : ℝ) ≤ 0 then (⊥ : EReal) else ((Real.log 2 : ℝ) : EReal)) = _
  rw [if_neg (by norm_num)]

theorem root_pos : 0 < Real.sqrt 192 := Real.sqrt_pos.mpr (by norm_num)
theorem ln_pos : 0 < Real.log 2 := Real.log_pos (by norm_num)

/-- The scale of the queries. -/
def scl : EReal := ((1 / (Real.sqrt 192 * Real.log 2) : ℝ) : EReal)

theorem scale_eq : Ideal.div (Ideal.ofBits .f32 0x3F800000#32)
    (Ideal.sqrt (Ideal.ofBits .f32 0x43400000#32) * Ideal.log (Ideal.ofBits .f32 0x40000000#32)) = scl := by
  have h := (mul_pos root_pos ln_pos).ne'
  rw [root_eq, ln_eq, ← EReal.coe_mul, Ideal.div_coe h, bits_one, ← EReal.coe_mul, one_mul]
  rfl

theorem div_lg (s : EReal) : Ideal.div s (Ideal.sqrt (Ideal.ofBits .f32 0x43400000#32)) * lg = s * scl := by
  rw [root_eq, Ideal.div_coe root_pos.ne', lg, scl, mul_assoc, ← EReal.coe_mul]
  congr 2
  rw [one_div, one_div, mul_inv]

/-- A padded row of the scaled queries against a padded row of the keys. -/
theorem score_eq (a b : Fin 192 → EReal) (u v : Fin 256 → EReal)
    (hu : ∀ d : Fin 256, u d = if hd : d.val < 192 then a ⟨d.val, hd⟩ * scl else 0)
    (hv : ∀ d : Fin 256, v d = if hd : d.val < 192 then b ⟨d.val, hd⟩ else 0) :
    ∑ d, u d * v d = Ideal.div (∑ d, a d * b d) (Ideal.sqrt (Ideal.ofBits .f32 0x43400000#32)) * lg := by
  have hs : (0 : EReal) ≤ scl := EReal.coe_nonneg.mpr (one_div_nonneg.mpr (mul_pos root_pos ln_pos).le)
  rw [div_lg, mul_comm _ scl, mul_sum' _ _ scl hs (EReal.coe_ne_top _)]
  have e := Fin.sum_univ_add (a := 192) (b := 64) (fun d : Fin (192 + 64) => u d * v d)
  refine e.trans ?_
  have e1 : ∀ x : Fin 64, u (Fin.natAdd 192 x) * v (Fin.natAdd 192 x) = 0 := fun x => by
    rw [hu, dif_neg (by simp), zero_mul]
  simp only [e1, Finset.sum_const_zero, add_zero]
  refine Finset.sum_congr rfl fun d _ => ?_
  rw [hu, hv, dif_pos (show (Fin.castAdd 64 d).val < 192 from d.isLt), dif_pos (show (Fin.castAdd 64 d).val < 192 from d.isLt)]
  show a d * scl * b d = scl * (a d * b d)
  rw [mul_comm (a d) scl, mul_assoc]

variable (q : FVec Ideal S512x256 .bf16) (K V : Vec Ideal S4096x256 .bf16) (g : Vec Ideal S1x128 .f32)
variable (XQ XK : FVec Ideal S4x8x4096x192 .f32) (XV : FVec Ideal S4x8x4096x128 .f32)
variable (b : Fin 4) (h : Fin 8) (n : ℕ)

/-- A number. -/
def Num (x : EReal) : Prop := x ≠ ⊥ ∧ x ≠ ⊤

theorem num_add {x y : EReal} (hx : Num x) (hy : Num y) : Num (x + y) := by
  lift x to ℝ using ⟨hx.2, hx.1⟩
  lift y to ℝ using ⟨hy.2, hy.1⟩
  rw [← EReal.coe_add]
  exact ⟨EReal.coe_ne_bot _, EReal.coe_ne_top _⟩

theorem num_sum {ι : Type} [Fintype ι] (f : ι → EReal) (hf : ∀ x, Num (f x)) : Num (∑ x, f x) := by
  classical
  have : ∀ s : Finset ι, Num (∑ x ∈ s, f x) := fun s => by
    induction s using Finset.induction_on with
    | empty => exact ⟨by simp, by simp⟩
    | insert a s ha ih =>
      rw [Finset.sum_insert ha]
      exact num_add (hf a) ih
  exact this _

theorem num_mul {x y : EReal} (hx : Num x) (hy : Num y) : Num (x * y) := by
  lift x to ℝ using ⟨hx.2, hx.1⟩
  lift y to ℝ using ⟨hy.2, hy.1⟩
  rw [← EReal.coe_mul]
  exact ⟨EReal.coe_ne_bot _, EReal.coe_ne_top _⟩

/-- A head's scores at a query are numbers or masked, the first key's a number. -/
theorem tsc_num (hQ : ∀ x, Num (XQ x)) (hK : ∀ x, Num (XK x)) (i : Fin 4096) (j : ℕ) (hj : j ≤ i.val) : Num (tsc XQ XK b h i j) := by
  unfold tsc
  rw [dif_pos (by omega), if_pos hj, root_eq, Ideal.div_coe root_pos.ne']
  exact num_mul (num_sum _ fun d => num_mul (hQ _) (hK _)) ⟨EReal.coe_ne_bot _, EReal.coe_ne_top _⟩

theorem tsc_bot (i : Fin 4096) (j : ℕ) (hj : i.val < j) : tsc XQ XK b h i j = ⊥ := by
  unfold tsc
  by_cases hl : j < 4096
  · rw [dif_pos hl, if_neg (by omega)]
  · rw [dif_neg hl]

theorem tsc_ne_top (hQ : ∀ x, Num (XQ x)) (hK : ∀ x, Num (XK x)) (i : Fin 4096) (j : ℕ) : tsc XQ XK b h i j ≠ ⊤ := by
  by_cases hj : j ≤ i.val
  · exact (tsc_num XQ XK b h hQ hK i j hj).2
  · rw [tsc_bot XQ XK b h i j (by omega)]
    exact bot_ne_top

theorem bot_lg : (⊥ : EReal) * lg = ⊥ := EReal.bot_mul_coe_of_pos log2_pos

theorem sc_link (hq : ∀ (r : Fin 512) (d : Fin 256) (i : Fin 4096), i.val = 512 * n + r.val →
      q (ix2 r d) = if hd : d.val < 192 then XQ (ix4 b h i ⟨d.val, hd⟩) * scl else 0)
    (hk : ∀ (j : Fin 4096) (d : Fin 256), K (ix2 j d) = if hd : d.val < 192 then XK (ix4 b h j ⟨d.val, hd⟩) else 0)
    (r : Fin 512) (i : Fin 4096) (hi : i.val = 512 * n + r.val) : Sc q K n r = fun j => tsc XQ XK b h i j * lg := by
  funext j
  unfold Sc
  by_cases hj : j ≤ 512 * n + r.val
  · have hl : j < 4096 := by omega
    rw [if_pos hj, tsc, dif_pos hl, if_pos (by omega)]
    refine score_eq (fun d => XQ (ix4 b h i d)) (fun d => XK (ix4 b h ⟨j, hl⟩ d)) _ _ (fun d => hq r d i hi) fun d => ?_
    rw [ext, dif_pos hl]
    exact hk _ d
  · rw [if_neg hj, tsc_bot XQ XK b h i j (by omega), bot_lg]

theorem mul_lg_ne {x : EReal} (hx : x ≠ ⊤) : x * lg ≠ ⊤ := by
  induction x with
  | bot => rw [bot_lg]; exact bot_ne_top
  | top => exact absurd rfl hx
  | coe r => rw [lg, ← EReal.coe_mul]; exact EReal.coe_ne_top _

theorem fine (hQ : ∀ x, Num (XQ x)) (hK : ∀ x, Num (XK x)) (hn : n < 8)
    (hS : ∀ (r : Fin 512) (i : Fin 4096), i.val = 512 * n + r.val → Sc q K n r = fun j => tsc XQ XK b h i j * lg) : Fine q K n := fun r => by
  have hi : 512 * n + r.val < 4096 := by omega
  rw [hS r ⟨_, hi⟩ rfl]
  refine ⟨?_, fun j => mul_lg_ne (tsc_ne_top XQ XK b h hQ hK _ j)⟩
  exact (num_mul (tsc_num XQ XK b h hQ hK ⟨_, hi⟩ 0 (Nat.zero_le _)) ⟨EReal.coe_ne_bot _, EReal.coe_ne_top _⟩).1

theorem nu_congr (S V W : ℕ → EReal) (k : ℕ) (hV : ∀ j, j < k → V j = W j) : nu S V k = nu S W k := by
  unfold nu
  exact Finset.sum_congr rfl fun j hj => by rw [hV j (Finset.mem_range.mp hj)]

theorem spec_eq (hQ : ∀ x, Num (XQ x)) (hK : ∀ x, Num (XK x)) (hn : n < 8)
    (hS : ∀ (r : Fin 512) (i : Fin 4096), i.val = 512 * n + r.val → Sc q K n r = fun j => tsc XQ XK b h i j * lg)
    (hv : ∀ (j : Fin 4096) (d : Fin 256), V (ix2 j d) = if hd : d.val < 128 then XV (ix4 b h j ⟨d.val, hd⟩) else 1)
    (XG : FVec Ideal S1024 .f32) (r : Fin 512) (d : Fin 128) (i : Fin 16384) (k : Fin 1024)
    (hb : b.val = i.val / 4096) (hh : h.val = k.val / 128) (hi : i.val % 4096 = 512 * n + r.val) (hd : d.val = k.val % 128)
    (hg : g (ix2 0 d) = XG (ix1 k)) :
    outSpec q K V g n r d = result XQ XK XV XG (ix2 i k) := by
  have hl : 512 * n + r.val < 4096 := by omega
  rw [result_at XQ XK XV XG i k b h ⟨_, hl⟩ d hb hh hi.symm hd, outSpec, hg]
  refine congrArg (fun u : EReal => u * XG (ix1 k)) ?_
  rw [hS r ⟨_, hl⟩ rfl]
  have e1 := nu_congr (fun j => tsc XQ XK b h ⟨_, hl⟩ j * lg) (fun j => ext V j ⟨d.val, by omega⟩) (tval XV b h d) (512 * n + 512) fun j hj => by
    have hj' : j < 4096 := by omega
    rw [ext, dif_pos hj', tval, dif_pos hj', hv, dif_pos d.isLt]
  have e2 := nu_congr (fun j => tsc XQ XK b h ⟨_, hl⟩ j * lg) (fun j => ext V j ⟨128 + d.val, by omega⟩) (fun _ => 1) (512 * n + 512) fun j hj => by
    have hj' : j < 4096 := by omega
    rw [ext, dif_pos hj', hv, dif_neg (by simp)]
  rw [e1, e2]
  exact soft_eq (tsc XQ XK b h ⟨_, hl⟩) (tval XV b h d) (tsc_num XQ XK b h hQ hK _ 0 (Nat.zero_le _)).1
    (tsc_ne_top XQ XK b h hQ hK _) (512 * n + 512) 4096 (by omega) (by omega) fun j hj => tsc_bot XQ XK b h _ j (by show 512 * n + r.val < j; omega)

end Cert.AttentionIdeal.Att

end
-- ==== Proof.CallAttention.lean ====
/-
  The attention call: every point's output is its rows' softmax against the values, under the output gain.
-/
module

public import proofs.«01_k».proof.Defs
public import proofs.«01_k».proof.Proof.AttLink
public import proofs.«01_k».proof.Proof.Gen.Attention.Frame

@[expose] public section

set_option maxRecDepth 16384

noncomputable section

namespace Cert.AttentionIdeal.Att

open Idealize.ShloMosaic Idealize.ShloMosaic.TcCoe Idealize.SL.Sem
open Cert.AttentionIdeal Cert.AttentionIdeal.Gen
open Cert.AttMath
open Cert.AttentionReferenceIdeal.Val (result)

variable (m : (ℓ : Loc nD τ sig) → Buf (Elt Ideal) ℓ)

/-- The arguments as arrays. -/
def argQ (c : Dev nD) : FVec Ideal S4x8x4096x192 .f32 := m ((c.tc : Thread nD τ).loc main_arg0)
def argK (c : Dev nD) : FVec Ideal S4x8x4096x192 .f32 := m ((c.tc : Thread nD τ).loc main_arg1)
def argV (c : Dev nD) : FVec Ideal S4x8x4096x128 .f32 := m ((c.tc : Thread nD τ).loc main_arg2)
def argG (c : Dev nD) : FVec Ideal S1024 .f32 := m ((c.tc : Thread nD τ).loc main_arg3)

theorem q_read (c : Dev nD) (t : Fin cfg0.N) (b : Fin 4) (h : Fin 8) (hb : b.val = t.val / 64) (hh : h.val = t.val / 8 % 8)
    (r : Fin 512) (d : Fin 256) (i : Fin 4096) (hi : i.val = 512 * (t.val % 8) + r.val) :
    iblk m c 0 t (ix2 r d) = if hd : d.val < 192 then argQ m c (ix4 b h i ⟨d.val, hd⟩) * scl else 0 := by
  have ht := Blk.lt_t t
  have e : iblk m c 0 t (ix2 r d) = V m c main_v11 (((cfg0.win 0).blk t).view.emb (ix2 r d)) := by
    blk_simp [iblk, Blk.idx0 t]
  have p0 := Blk.row0 t (ix2 r d)
  have p1 := Blk.col0 t (ix2 r d)
  have hi' : ((cfg0.win 0).blk t).view.emb (ix2 r d) = (ix2 (⟨(t.val / 64 * 8 + t.val % 8) * 512 + r.val, by omega⟩ : Fin 16384) (⟨t.val / 8 % 8 * 256 + d.val, by omega⟩ : Fin 2048) : S16384x2048.Idx) := by
    refine funext fun a => Fin.ext ?_
    match a with
    | 0 => exact p0
    | 1 => exact p1
  rw [e, Blk.V11, hi']
  refine (Blk.wide_at _ _ _ b h i (by show _ = ((t.val / 64 * 8 + t.val % 8) * 512 + r.val) / 4096; omega) (by show _ = ((t.val / 64 * 8 + t.val % 8) * 512 + r.val) % 4096; omega) (by show _ = (t.val / 8 % 8 * 256 + d.val) / 256; omega)).trans ?_
  have ed : (t.val / 8 % 8 * 256 + d.val) % 256 = d.val := by omega
  simp only [ed]
  refine dite_congr rfl (fun hd => ?_) fun _ => rfl
  rw [Blk.scaled_at, scale_eq]
  rfl

theorem k_read (c : Dev nD) (t : Fin cfg0.N) (b : Fin 4) (h : Fin 8) (hb : b.val = t.val / 64) (hh : h.val = t.val / 8 % 8)
    (j : Fin 4096) (d : Fin 256) :
    iblk m c 1 t (ix2 j d) = if hd : d.val < 192 then argK m c (ix4 b h j ⟨d.val, hd⟩) else 0 := by
  have ht := Blk.lt_t t
  have e : iblk m c 1 t (ix2 j d) = V m c main_v15 (((cfg0.win 1).blk t).view.emb (ix2 j d)) := by
    blk_simp [iblk, Blk.idx1 t]
  have p0 := Blk.row1 t (ix2 j d)
  have p1 := Blk.col1 t (ix2 j d)
  have hi' : ((cfg0.win 1).blk t).view.emb (ix2 j d) = (ix2 (⟨t.val / 64 * 4096 + j.val, by omega⟩ : Fin 16384) (⟨t.val / 8 % 8 * 256 + d.val, by omega⟩ : Fin 2048) : S16384x2048.Idx) := by
    refine funext fun a => Fin.ext ?_
    match a with
    | 0 => exact p0
    | 1 => exact p1
  rw [e, Blk.V15, hi']
  refine (Blk.wide_at _ _ _ b h j (by show _ = (t.val / 64 * 4096 + j.val) / 4096; omega) (by show _ = (t.val / 64 * 4096 + j.val) % 4096; omega) (by show _ = (t.val / 8 % 8 * 256 + d.val) / 256; omega)).trans ?_
  have ed : (t.val / 8 % 8 * 256 + d.val) % 256 = d.val := by omega
  simp only [ed]
  rfl

theorem v_read (c : Dev nD) (t : Fin cfg0.N) (b : Fin 4) (h : Fin 8) (hb : b.val = t.val / 64) (hh : h.val = t.val / 8 % 8)
    (j : Fin 4096) (d : Fin 256) :
    iblk m c 2 t (ix2 j d) = if hd : d.val < 128 then argV m c (ix4 b h j ⟨d.val, hd⟩) else 1 := by
  have ht := Blk.lt_t t
  have e : iblk m c 2 t (ix2 j d) = V m c main_v19 (((cfg0.win 2).blk t).view.emb (ix2 j d)) := by
    blk_simp [iblk, Blk.idx2 t]
  have p0 := Blk.row2 t (ix2 j d)
  have p1 := Blk.col2 t (ix2 j d)
  have hi' : ((cfg0.win 2).blk t).view.emb (ix2 j d) = (ix2 (⟨t.val / 64 * 4096 + j.val, by omega⟩ : Fin 16384) (⟨t.val / 8 % 8 * 256 + d.val, by omega⟩ : Fin 2048) : S16384x2048.Idx) := by
    refine funext fun a => Fin.ext ?_
    match a with
    | 0 => exact p0
    | 1 => exact p1
  rw [e, Blk.V19, hi']
  refine (Blk.wideV_at _ _ _ b h j (by show _ = (t.val / 64 * 4096 + j.val) / 4096; omega) (by show _ = (t.val / 64 * 4096 + j.val) % 4096; omega) (by show _ = (t.val / 8 % 8 * 256 + d.val) / 256; omega)).trans ?_
  have ed : (t.val / 8 % 8 * 256 + d.val) % 256 = d.val := by omega
  simp only [ed, bits_one, EReal.coe_one]
  rfl

theorem g_read (c : Dev nD) (t : Fin cfg0.N) (d : Fin 128) (k : Fin 1024) (hk : k.val = t.val / 8 % 8 * 128 + d.val) :
    iblk m c 3 t (ix2 0 d) = argG m c (ix1 k) := by
  unfold argG
  have e := Blk.idx3 t
  blk_simp [iblk, e]
  entry_read
  pointwise []
  have h1 := (Blk.col3 t (ix2 0 d)).trans hk.symm
  refine congrArg _ ?_
  congr 1
  exact Fin.ext h1

/-- A point's block of the result. -/
theorem point (c : Dev nD) (t : Fin cfg0.N) (hQ : ∀ x, Num (argQ m c x)) (hK : ∀ x, Num (argK m c x)) (r : Fin 512) (d : Fin 128)
    (i : Fin 16384) (k : Fin 1024) (hi : i.val = (t.val / 64 * 8 + t.val % 8) * 512 + r.val) (hk : k.val = t.val / 8 % 8 * 128 + d.val) :
    outsAt0 m c t.val t.isLt (ix2 r d) = result (argQ m c) (argK m c) (argV m c) (argG m c) (ix2 i k) := by
  have ht := Blk.lt_t t
  have hS : ∀ (r : Fin 512) (i : Fin 4096), i.val = 512 * (t.val % 8) + r.val → Sc (iblk m c 0 t) (iblk m c 1 t) (t.val % 8) r
      = fun j => Cert.AttentionReferenceIdeal.Val.tsc (argQ m c) (argK m c) ⟨t.val / 64, by omega⟩ ⟨t.val / 8 % 8, by omega⟩ i j * lg :=
    sc_link _ _ _ _ _ _ _ (fun r d i hi => q_read m c t _ _ rfl rfl r d i hi) (fun j d => k_read m c t _ _ rfl rfl j d)
  have hF := fine _ _ _ _ _ _ _ hQ hK (by omega) hS
  have hO := spec_eq (iblk m c 0 t) (iblk m c 1 t) (iblk m c 2 t) (iblk m c 3 t) (argQ m c) (argK m c) (argV m c) ⟨t.val / 64, by omega⟩ ⟨t.val / 8 % 8, by omega⟩ (t.val % 8)
    hQ hK (by omega) hS (fun j d => v_read m c t _ _ rfl rfl j d) (argG m c) r d i k (by show t.val / 64 = _; omega) (by show t.val / 8 % 8 = _; omega) (by omega) (by omega)
    (g_read m c t d k hk)
  rw [← hO]
  have e := Blk.qi_eq t
  rw [← e] at hF ⊢
  by_cases h0 : t.val % 2 = 0
  · have h1 : ¬t.val % 2 = 1 := by omega
    rw [outsAt0_A m c t h0 h1, out_A]
    exact out_at _ _ (inv_A (grid0.coords t) hF (even_A _ ((hcond0_0 t).mpr h0))) r d
  · have h1 : t.val % 2 = 1 := by omega
    rw [outsAt0_B m c t h0 h1, out_B]
    exact out_at _ _ (inv_B (grid0.coords t) hF (odd_B _ ((hcond0_1 t).mpr h1))) r d

theorem final (c : Dev nD) (hQ : ∀ x, Num (argQ m c x)) (hK : ∀ x, Num (argK m c x)) : (dats m 0 c).arrAt 4 (cfgs 0).N
      = result (argQ m c) (argK m c) (argV m c) (argG m c) := by
  refine (dats m 0 c).arrAt_eq_of_covers 4 _ (by decide +kernel) fun t _ y => ?_
  blk_simp
  rw [after0_4]
  have e : ((cfg0.win 4).blk t).view.emb y = (ix2 ((((cfg0.win 4).blk t).view.emb y) 0) ((((cfg0.win 4).blk t).view.emb y) 1) : S16384x1024.Idx) := by
    refine funext fun a => ?_
    match a with
    | 0 => rfl
    | 1 => rfl
  have ey : y = (ix2 (y 0) (y 1) : S512x128.Idx) := by
    refine funext fun a => ?_
    match a with
    | 0 => rfl
    | 1 => rfl
  rw [e]
  refine (congrArg _ ey).trans ?_
  exact point m c t hQ hK (y 0) (y 1) _ _ (Blk.row4 t y) (Blk.col4 t y)

end Cert.AttentionIdeal.Att

namespace Cert.CallAttention

open Idealize.ShloMosaic Idealize.SL.Sem
open Cert.AttentionIdeal.Att (Num argQ argK argV argG)

/-- The predicate's side conditions. -/
theorem pre_facts : Cert.Pre_finite_scores.Facts := ⟨by decide +kernel⟩

attribute [local instance] Cert.AttentionIdeal.Gen.facts Cert.AttentionReferenceIdeal.Gen.facts pre_facts

theorem inf_eq : Ideal.ofBits .f32 0x7F800000#32 = ⊤ := by
  simp [Ideal.ofBits, Ideal.ieee]

theorem num_of_lt (x : EReal) (h : Ideal.cmp CmpFPredicate.olt (max x (-x)) (Ideal.ofBits .f32 0x7F800000#32) = 1#1) : Num x := by
  rw [inf_eq] at h
  have hl : max x (-x) < ⊤ := by
    by_contra hn
    have : Ideal.cmp CmpFPredicate.olt (max x (-x)) ⊤ = 0#1 := by
      show BitVec.ofBool (decide (max x (-x) < ⊤)) = _
      rw [decide_eq_false hn]
      rfl
    rw [this] at h
    exact absurd h (by decide)
  obtain ⟨h1, h2⟩ := max_lt_iff.mp hl
  refine ⟨fun e => ?_, h1.ne⟩
  rw [e] at h2
  exact absurd h2 (by simp)

theorem and_one : ∀ a b : BitVec 1, a &&& b = 1#1 → a = 1#1 ∧ b = 1#1 := by decide

/-- What the predicate says: the queries and the keys are numbers. -/
theorem nums (Q K : FVec Ideal Cert.Pre_finite_scores.S4x8x4096x192 .f32) (W : FVec Ideal Cert.Pre_finite_scores.S4x8x4096x128 .f32)
    (g : FVec Ideal Cert.Pre_finite_scores.S1024 .f32) (h : Cert.Pre_finite_scores.fn (F := Ideal) Q K W g = fun _ => 1#1) :
    (∀ x, Num (Q x)) ∧ ∀ x, Num (K x) := by
  have h' : ∀ x, _ ∧ _ := fun x => and_one _ _ (congrFun h x)
  exact ⟨fun x => num_of_lt _ (h' x).1, fun x => num_of_lt _ (h' x).2⟩

theorem frame_pre : Cert.quiescent_AttentionIdeal_pre_finite_scores (hAttentionIdeal := Cert.AttentionIdeal.Gen.facts)
    (hPre_finite_scores := pre_facts) := fun m ρ _ => Cert.AttentionIdeal.Gen.frame m ρ

theorem frame_ref_pre : Cert.quiescent_AttentionReferenceIdeal_pre_finite_scores (hAttentionReferenceIdeal := Cert.AttentionReferenceIdeal.Gen.facts)
    (hPre_finite_scores := pre_facts) := fun m ρ _ =>
  (θ_run Cert.AttentionReferenceIdeal.defs _ _).mono (fun r h => ⟨fun c => (h c).2, sem_eq_zero_of_no_sems (by decide) r.2⟩)
    (Cert.AttentionReferenceIdeal.Value.run (F := Ideal) m ρ)

theorem frame_ref : Cert.quiescent_AttentionReferenceIdeal (hAttentionReferenceIdeal := Cert.AttentionReferenceIdeal.Gen.facts) := fun m ρ _ =>
  (θ_run Cert.AttentionReferenceIdeal.defs _ _).mono (fun r h => ⟨fun c => (h c).2, sem_eq_zero_of_no_sems (by decide) r.2⟩)
    (Cert.AttentionReferenceIdeal.Value.run (F := Ideal) m ρ)

theorem algebraic : Cert.algebraic_AttentionIdeal_AttentionReferenceIdeal_pre_finite_scores (hAttentionIdeal := Cert.AttentionIdeal.Gen.facts)
    (hAttentionReferenceIdeal := Cert.AttentionReferenceIdeal.Gen.facts) (hPre_finite_scores := pre_facts) := by
  intro m ρ m' ρ' hp hag
  have hn : ∀ c, (∀ x, Num (argQ m c x)) ∧ ∀ x, Num (argK m c x) := fun c => nums _ _ _ _ (hp c)
  refine ⟨fun c => Cert.AttentionReferenceIdeal.Val.result (argQ m c) (argK m c) (argV m c) (argG m c), ?_, ?_⟩
  · exact (θ_run _ _ _).mono (fun r h c => ⟨(h c).1.trans (Cert.AttentionIdeal.Att.final m c (hn c).1 (hn c).2), (h c).2⟩)
      (Cert.AttentionIdeal.Value.run_blocks (F := Ideal) m ρ)
  · refine (θ_run _ _ _).mono (fun r h c => ⟨(h c).1.trans ?_, (h c).2⟩) (Cert.AttentionReferenceIdeal.Value.run (F := Ideal) m' ρ')
    rw [Cert.AttentionReferenceIdeal.Val.res_eq, (hag c).1, (hag c).2.1, (hag c).2.2.1, (hag c).2.2.2]
    rfl

end Cert.CallAttention

end
-- ==== Proof.LatMath.lean ====
/-
  The latent up projections over the extended reals: a row of the projection holds two latents of 512, each normalised
  and multiplied out into eight heads; the queries' and the shared key's last 64 lanes turn with the row's position.

  The arrays are read by functions of natural numbers, so that a row and a column have one name wherever they are read from.
-/
module

public import proofs.«01_k».proof.Proof.RetMath
public import Idealize.ShloMosaic.Lib.Pointwise

@[expose] public section

set_option maxRecDepth 16384

noncomputable section

namespace Cert.Lat

open Idealize.ShloMosaic
open Cert.Ret (pj ps num)

/-- The scale of the queries. -/
abbrev sc : EReal := Ideal.ofBits .f32 0x3DD53B95#32

theorem sc_real : ∃ r : ℝ, 0 ≤ r ∧ sc = (r : EReal) := by
  refine ⟨_, ?_, by simp [sc, Ideal.ofBits, Ideal.ieee, -EReal.coe_mul]; rfl⟩
  positivity

/-- The rotary frequency of lane `n`. -/
def freq (n : ℕ) : EReal :=
  Ideal.pow (Ideal.ofBits .f32 0x461C4000#32)
    (Ideal.div (-(Ideal.ofBits .f32 0x40000000#32 * num n)) (Ideal.ofBits .f32 0x42800000#32))

/-- The cosine and the sine of row `i`'s angle at lane `n`. -/
def cs (p : IVec ⟨2, ![4, 4096]⟩ 32) (i n : ℕ) : EReal := Ideal.cos (ps p i * freq n)
@[inherit_doc cs] def sn (p : IVec ⟨2, ![4, 4096]⟩ 32) (i n : ℕ) : EReal := Ideal.sin (ps p i * freq n)

/-- The rotary embedding of a row of 64 lanes: lane `d` with lane `d + 32`. -/
def rope (x cs sn : ℕ → EReal) (d : ℕ) : EReal :=
  if d < 32 then x d * cs d - x (d + 32) * sn d else x (d - 32) * sn (d - 32) + x d * cs (d - 32)

/-- A row of 512 normalised, under its gain. -/
def nrow (x g : ℕ → EReal) (k : ℕ) : EReal :=
  x k * Ideal.rsqrt (Ideal.div (∑ j : Fin 512, x j * x j) (Ideal.ofBits .f32 0x44000000#32) + Ideal.ofBits .f32 0x358637BD#32) * g k

/-- A gain of 512 at `k`. -/
def gn (g : FVec Ideal ⟨1, ![512]⟩ .f32) (k : ℕ) : EReal := if h : k < 512 then g (ix1 ⟨k, h⟩) else 0

/-- A weight of 512 rows at row `k` and column `c`. -/
def wt {n : ℕ} (W : FVec Ideal ⟨2, ![512, n]⟩ .f32) (k c : ℕ) : EReal := if h : k < 512 ∧ c < n then W (ix2 ⟨k, h.1⟩ ⟨c, h.2⟩) else 0

/-- Row `i`'s latent from column `o` on, against column `c` of a weight. -/
def up {n : ℕ} (P : FVec Ideal ⟨2, ![16384, 10752]⟩ .f32) (g : FVec Ideal ⟨1, ![512]⟩ .f32) (W : FVec Ideal ⟨2, ![512, n]⟩ .f32) (o i c : ℕ) : EReal :=
  ∑ k : Fin 512, nrow (fun j => pj P i (o + j)) (gn g) k * wt W k c

variable (P : FVec Ideal ⟨2, ![16384, 10752]⟩ .f32) (p : IVec ⟨2, ![4, 4096]⟩ 32) (gq gkv : FVec Ideal ⟨1, ![512]⟩ .f32)
  (Wq : FVec Ideal ⟨2, ![512, 1536]⟩ .f32) (Wkv : FVec Ideal ⟨2, ![512, 2048]⟩ .f32)

/-- Head `h`'s query at row `i`, lane `c` of 256. -/
def qAt (i h c : ℕ) : EReal :=
  if c < 128 then up P gq Wq 9216 i (h * 192 + c) * sc
  else if c < 192 then rope (fun d => up P gq Wq 9216 i (h * 192 + (128 + d))) (cs p i) (sn p i) (c - 128) * sc
  else 0

/-- Head `h`'s key at row `i`, lane `c` of 256. -/
def kAt (i h c : ℕ) : EReal :=
  if c < 128 then up P gkv Wkv 9728 i (h * 256 + c)
  else if c < 192 then rope (fun d => pj P i (10624 + d)) (cs p i) (sn p i) (c - 128)
  else 0

/-- Head `h`'s value at row `i`, lane `c` of 256: 128 lanes of value, then ones. -/
def vAt (i h c : ℕ) : EReal :=
  if c < 128 then up P gkv Wkv 9728 i (h * 256 + (128 + c)) else 1

/-- The three results: row `i 0`, eight heads of 256 lanes. -/
def qs : FVec Ideal ⟨2, ![16384, 2048]⟩ .bf16 := fun i => qAt P p gq Wq (i 0) ((i 1).val / 256) ((i 1).val % 256)
@[inherit_doc qs] def ks : FVec Ideal ⟨2, ![16384, 2048]⟩ .bf16 := fun i => kAt P p gkv Wkv (i 0) ((i 1).val / 256) ((i 1).val % 256)
@[inherit_doc qs] def vs : FVec Ideal ⟨2, ![16384, 2048]⟩ .bf16 := fun i => vAt P gkv Wkv (i 0) ((i 1).val / 256) ((i 1).val % 256)

/-! ## A rotation of 128 lanes by tables -/

/-- The sum of a row's lane, its lane 32 on and its lane 32 back, each times its table. -/
def turn (x tc tl tr : ℕ → EReal) (d : ℕ) : EReal :=
  x d * tc d + x ((d + 128 - 96) % 128) * tl d + x ((d + 128 - 32) % 128) * tr d

theorem turn_rope (x c s tc tl tr : ℕ → EReal) (d : ℕ) (hd : d < 64) (hc : tc d = c (d % 32))
    (hl : tl d = if d < 32 then -s d else 0) (hr : tr d = if d < 32 then 0 else s (d - 32)) :
    turn x tc tl tr d = rope x c s d := by
  unfold turn rope
  rw [hc, hl, hr]
  by_cases h : d < 32
  · rw [if_pos h, if_pos h, if_pos h, show (d + 128 - 96) % 128 = d + 32 by omega, show d % 32 = d by omega, mul_neg, mul_zero, add_zero,
      sub_eq_add_neg]
  · rw [if_neg h, if_neg h, if_neg h, show (d + 128 - 32) % 128 = d - 32 by omega, show d % 32 = d - 32 by omega, mul_zero, add_zero, add_comm]

theorem turn_zero (x tc tl tr : ℕ → EReal) (d : ℕ) (hc : tc d = 0) (hl : tl d = 0) (hr : tr d = 0) : turn x tc tl tr d = 0 := by
  unfold turn
  rw [hc, hl, hr, mul_zero, mul_zero, mul_zero, add_zero, add_zero]

/-- A scale comes out of the rotation. -/
theorem rope_scale (x c s : ℕ → EReal) (d : ℕ) : rope (fun e => x e * sc) c s d = rope x c s d * sc := by
  obtain ⟨r, h0, hr⟩ := sc_real
  have nn : (0 : EReal) ≤ (r : EReal) := by exact_mod_cast h0
  have ad : ∀ a b : EReal, (a + b) * (r : EReal) = a * r + b * r := fun a b =>
    EReal.right_distrib_of_nonneg_of_ne_top nn (EReal.coe_ne_top r) a b
  unfold rope
  rw [hr]
  split
  · rw [sub_eq_add_neg, sub_eq_add_neg, ad, neg_mul, mul_right_comm, mul_right_comm (x (d + 32))]
  · rw [ad, mul_right_comm, mul_right_comm (x d)]

/-! ## What the kernel's arrays hold -/

/-- The tables of cosines, of negated sines and of sines. -/
def tc (p : IVec ⟨2, ![4, 4096]⟩ 32) (i d : ℕ) : EReal := if d < 64 then cs p i (d % 32) else 0
@[inherit_doc tc] def tl (p : IVec ⟨2, ![4, 4096]⟩ 32) (i d : ℕ) : EReal := if d < 32 then -sn p i d else 0
@[inherit_doc tc] def tr (p : IVec ⟨2, ![4, 4096]⟩ 32) (i d : ℕ) : EReal := if d < 32 then 0 else if d < 64 then sn p i (d - 32) else 0

/-- The packed weights at row `k` and column `j`. -/
def wq (W : FVec Ideal ⟨2, ![512, 1536]⟩ .f32) (k j : ℕ) : EReal := if j % 256 < 192 then wt W k (j / 256 * 192 + j % 256) else 0
@[inherit_doc wq] def wkv (W : FVec Ideal ⟨2, ![512, 2048]⟩ .f32) (k j : ℕ) : EReal :=
  if j < 1024 then wt W k (j / 128 * 256 + j % 128) else wt W k ((j - 1024) / 128 * 256 + (128 + (j - 1024) % 128))

/-- The products with them. -/
def qv (i j : ℕ) : EReal := (∑ k : Fin 512, nrow (fun e => pj P i (9216 + e)) (gn gq) k.val * wq Wq k.val j) * sc
@[inherit_doc qv] def kvv (i j : ℕ) : EReal := ∑ k : Fin 512, nrow (fun e => pj P i (9728 + e)) (gn gkv) k.val * wkv Wkv k.val j

theorem qv_eq (i h d : ℕ) (hd : d < 192) : qv P gq Wq i (256 * h + d) = up P gq Wq 9216 i (h * 192 + d) * sc := by
  unfold qv up wq
  rw [show (256 * h + d) % 256 = d by omega, show (256 * h + d) / 256 = h by omega]
  simp only [if_pos hd]

theorem kvv_key (i h d : ℕ) (hd : d < 128) (hh : h < 8) : kvv P gkv Wkv i (128 * h + d) = up P gkv Wkv 9728 i (h * 256 + d) := by
  unfold kvv up wkv
  rw [show (128 * h + d) % 128 = d by omega, show (128 * h + d) / 128 = h by omega]
  simp only [if_pos (show 128 * h + d < 1024 by omega)]

theorem kvv_val (i h d : ℕ) (hd : d < 128) : kvv P gkv Wkv i (1024 + 128 * h + d) = up P gkv Wkv 9728 i (h * 256 + (128 + d)) := by
  unfold kvv up wkv
  rw [show (1024 + 128 * h + d - 1024) % 128 = d by omega, show (1024 + 128 * h + d - 1024) / 128 = h by omega]
  simp only [if_neg (show ¬1024 + 128 * h + d < 1024 by omega)]

theorem rope_congr (x y c s : ℕ → EReal) (h : ∀ e, e < 64 → x e = y e) (d : ℕ) (hd : d < 64) : rope x c s d = rope y c s d := by
  unfold rope
  by_cases h1 : d < 32
  · rw [if_pos h1, if_pos h1, h d hd, h (d + 32) (by omega)]
  · rw [if_neg h1, if_neg h1, h d hd, h (d - 32) (by omega)]

theorem turn_tables (x : ℕ → EReal) (i d : ℕ) :
    turn x (tc p i) (tl p i) (tr p i) d = if d < 64 then rope x (cs p i) (sn p i) d else 0 := by
  by_cases h : d < 64
  · rw [if_pos h]
    refine turn_rope x _ _ _ _ _ d h (if_pos h) rfl ?_
    unfold tr
    rw [if_pos h]
  · rw [if_neg h]
    refine turn_zero x _ _ _ d (if_neg h) (if_neg (by omega)) ?_
    unfold tr
    rw [if_neg (by omega), if_neg h]

theorem q_nope (i h d : ℕ) (hd : d < 128) : qv P gq Wq i (256 * h + d) = qAt P p gq Wq i h d := by
  unfold qAt
  rw [if_pos hd, qv_eq P gq Wq i h d (by omega)]

theorem q_rope (i h d : ℕ) (hd : d < 128) :
    turn (fun e => qv P gq Wq i (256 * h + 128 + e)) (tc p i) (tl p i) (tr p i) d = qAt P p gq Wq i h (128 + d) := by
  unfold qAt
  rw [turn_tables, if_neg (show ¬128 + d < 128 by omega), show 128 + d - 128 = d by omega]
  by_cases h1 : d < 64
  · rw [if_pos h1, if_pos (show 128 + d < 192 by omega), ← rope_scale]
    refine rope_congr _ _ _ _ (fun e he => ?_) d h1
    rw [Nat.add_assoc, qv_eq P gq Wq i h (128 + e) (by omega)]
  · rw [if_neg h1, if_neg (show ¬128 + d < 192 by omega)]

theorem k_nope (i h d : ℕ) (hd : d < 128) (hh : h < 8) : kvv P gkv Wkv i (128 * h + d) = kAt P p gkv Wkv i h d := by
  unfold kAt
  rw [if_pos hd, kvv_key P gkv Wkv i h d hd hh]

theorem k_rope (i h d : ℕ) (hd : d < 128) :
    turn (fun e => pj P i (10624 + e)) (tc p i) (tl p i) (tr p i) d = kAt P p gkv Wkv i h (128 + d) := by
  unfold kAt
  rw [turn_tables, if_neg (show ¬128 + d < 128 by omega), show 128 + d - 128 = d by omega]
  by_cases h1 : d < 64
  · rw [if_pos h1, if_pos (show 128 + d < 192 by omega)]
  · rw [if_neg h1, if_neg (show ¬128 + d < 192 by omega)]

theorem v_val (i h d : ℕ) (hd : d < 128) : kvv P gkv Wkv i (1024 + 128 * h + d) = vAt P gkv Wkv i h d := by
  unfold vAt
  rw [if_pos hd, kvv_val P gkv Wkv i h d hd]

theorem v_one (i h d : ℕ) : (1 : EReal) = vAt P gkv Wkv i h (128 + d) := by
  unfold vAt
  rw [if_neg (by omega)]

end Cert.Lat

end
-- ==== Proof.LatPiece.lean ====
/-
  What the latent up projections' kernel stores, piece by piece, from what its input blocks hold in a row.
-/
module

public import proofs.«01_k».proof.Proof.Gen.LatentUpIdeal.Value
public import Idealize.ShloMosaic.Lib.Pipeline.ValueKit
public import Idealize.ShloMosaic.Lib.Pipeline.ReadBack
public import Idealize.ShloMosaic.Lib.Pointwise
public import proofs.«01_k».proof.Proof.LatMath

@[expose] public section

set_option maxRecDepth 16384

noncomputable section

namespace Cert.LatentUpIdeal.Lat

open Idealize.ShloMosaic Idealize.ShloMosaic.TcCoe Idealize.SL.Sem
open Cert.LatentUpIdeal Cert.LatentUpIdeal.Gen Cert.Lat
open Cert.Ret (pj ps num)

theorem q_at (X : Vec Ideal S512x512 .f32) (G : Vec Ideal S1x512 .f32) (W : Vec Ideal S512x2048 .bf16) (r : Fin 512) (j : Fin 2048) (f g : ℕ → EReal) (w : ℕ → ℕ → EReal)
    (hX : ∀ k : Fin 512, X (ix2 r k) = f k.val) (hG : ∀ k : Fin 512, G (ix2 0 k) = g k.val) (hW : ∀ (k : Fin 512) (j : Fin 2048), W (ix2 k j) = w k.val j.val) :
    k0_pay4 X G W (ix2 r j) = (∑ k : Fin 512, nrow f g k.val * w k.val j.val) * sc := by
  unfold nrow
  pointwise [k0_pay4]
  simp only [hX, hG, hW]

theorem kv_at (X : Vec Ideal S512x512 .f32) (G : Vec Ideal S1x512 .f32) (W : Vec Ideal S512x2048 .bf16) (r : Fin 512) (j : Fin 2048) (f g : ℕ → EReal) (w : ℕ → ℕ → EReal)
    (hX : ∀ k : Fin 512, X (ix2 r k) = f k.val) (hG : ∀ k : Fin 512, G (ix2 0 k) = g k.val) (hW : ∀ (k : Fin 512) (j : Fin 2048), W (ix2 k j) = w k.val j.val) :
    k0_pay7 X (k0_pay5 G) (k0_pay6 X) (Scalar.ofBits .f32 0x358637BD#32) W (ix2 r j) = ∑ k : Fin 512, nrow f g k.val * w k.val j.val := by
  unfold nrow
  pointwise [k0_pay7, k0_pay5, k0_pay6]
  simp only [hX, hG, hW]

/-- The shared key's rotary lanes. -/
theorem turn_at (C L R X : FVec Ideal S512x128 .f32) (r : Fin 512) (x tc tl tr : ℕ → EReal) (hx : ∀ d : Fin 128, X (ix2 r d) = x d.val)
    (hc : ∀ d : Fin 128, C (ix2 r d) = tc d.val) (hl : ∀ d : Fin 128, L (ix2 r d) = tl d.val) (hr : ∀ d : Fin 128, R (ix2 r d) = tr d.val) (d : Fin 128) :
    k0_pay8 (F := Ideal) C L R X (ix2 r d) = turn x tc tl tr d.val := by
  unfold turn
  pointwise [k0_pay8]
  simp only [hx, hc, hl, hr]

/-! ## The queries' rotary lanes, head by head -/

theorem turn0 (C L R : FVec Ideal S512x128 .f32) (Q : FVec Ideal S512x2048 .f32) (r : Fin 512) (x tc tl tr : ℕ → EReal) (hx : ∀ j : Fin 2048, Q (ix2 r j) = x j.val)
    (hc : ∀ d : Fin 128, C (ix2 r d) = tc d.val) (hl : ∀ d : Fin 128, L (ix2 r d) = tl d.val) (hr : ∀ d : Fin 128, R (ix2 r d) = tr d.val) (d : Fin 128) :
    k0_pay10 (F := Ideal) C L R Q (ix2 r d) = turn (fun e => x (128 + e)) tc tl tr d.val := by
  unfold turn
  pointwise [k0_pay10]
  simp only [hx, hc, hl, hr]

theorem turn1 (C L R : FVec Ideal S512x128 .f32) (Q : FVec Ideal S512x2048 .f32) (r : Fin 512) (x tc tl tr : ℕ → EReal) (hx : ∀ j : Fin 2048, Q (ix2 r j) = x j.val)
    (hc : ∀ d : Fin 128, C (ix2 r d) = tc d.val) (hl : ∀ d : Fin 128, L (ix2 r d) = tl d.val) (hr : ∀ d : Fin 128, R (ix2 r d) = tr d.val) (d : Fin 128) :
    k0_pay13 (F := Ideal) C L R Q (ix2 r d) = turn (fun e => x (384 + e)) tc tl tr d.val := by
  unfold turn
  pointwise [k0_pay13]
  simp only [hx, hc, hl, hr]

theorem turn2 (C L R : FVec Ideal S512x128 .f32) (Q : FVec Ideal S512x2048 .f32) (r : Fin 512) (x tc tl tr : ℕ → EReal) (hx : ∀ j : Fin 2048, Q (ix2 r j) = x j.val)
    (hc : ∀ d : Fin 128, C (ix2 r d) = tc d.val) (hl : ∀ d : Fin 128, L (ix2 r d) = tl d.val) (hr : ∀ d : Fin 128, R (ix2 r d) = tr d.val) (d : Fin 128) :
    k0_pay16 (F := Ideal) C L R Q (ix2 r d) = turn (fun e => x (640 + e)) tc tl tr d.val := by
  unfold turn
  pointwise [k0_pay16]
  simp only [hx, hc, hl, hr]

theorem turn3 (C L R : FVec Ideal S512x128 .f32) (Q : FVec Ideal S512x2048 .f32) (r : Fin 512) (x tc tl tr : ℕ → EReal) (hx : ∀ j : Fin 2048, Q (ix2 r j) = x j.val)
    (hc : ∀ d : Fin 128, C (ix2 r d) = tc d.val) (hl : ∀ d : Fin 128, L (ix2 r d) = tl d.val) (hr : ∀ d : Fin 128, R (ix2 r d) = tr d.val) (d : Fin 128) :
    k0_pay19 (F := Ideal) C L R Q (ix2 r d) = turn (fun e => x (896 + e)) tc tl tr d.val := by
  unfold turn
  pointwise [k0_pay19]
  simp only [hx, hc, hl, hr]

theorem turn4 (C L R : FVec Ideal S512x128 .f32) (Q : FVec Ideal S512x2048 .f32) (r : Fin 512) (x tc tl tr : ℕ → EReal) (hx : ∀ j : Fin 2048, Q (ix2 r j) = x j.val)
    (hc : ∀ d : Fin 128, C (ix2 r d) = tc d.val) (hl : ∀ d : Fin 128, L (ix2 r d) = tl d.val) (hr : ∀ d : Fin 128, R (ix2 r d) = tr d.val) (d : Fin 128) :
    k0_pay22 (F := Ideal) C L R Q (ix2 r d) = turn (fun e => x (1152 + e)) tc tl tr d.val := by
  unfold turn
  pointwise [k0_pay22]
  simp only [hx, hc, hl, hr]

theorem turn5 (C L R : FVec Ideal S512x128 .f32) (Q : FVec Ideal S512x2048 .f32) (r : Fin 512) (x tc tl tr : ℕ → EReal) (hx : ∀ j : Fin 2048, Q (ix2 r j) = x j.val)
    (hc : ∀ d : Fin 128, C (ix2 r d) = tc d.val) (hl : ∀ d : Fin 128, L (ix2 r d) = tl d.val) (hr : ∀ d : Fin 128, R (ix2 r d) = tr d.val) (d : Fin 128) :
    k0_pay25 (F := Ideal) C L R Q (ix2 r d) = turn (fun e => x (1408 + e)) tc tl tr d.val := by
  unfold turn
  pointwise [k0_pay25]
  simp only [hx, hc, hl, hr]

theorem turn6 (C L R : FVec Ideal S512x128 .f32) (Q : FVec Ideal S512x2048 .f32) (r : Fin 512) (x tc tl tr : ℕ → EReal) (hx : ∀ j : Fin 2048, Q (ix2 r j) = x j.val)
    (hc : ∀ d : Fin 128, C (ix2 r d) = tc d.val) (hl : ∀ d : Fin 128, L (ix2 r d) = tl d.val) (hr : ∀ d : Fin 128, R (ix2 r d) = tr d.val) (d : Fin 128) :
    k0_pay28 (F := Ideal) C L R Q (ix2 r d) = turn (fun e => x (1664 + e)) tc tl tr d.val := by
  unfold turn
  pointwise [k0_pay28]
  simp only [hx, hc, hl, hr]

theorem turn7 (C L R : FVec Ideal S512x128 .f32) (Q : FVec Ideal S512x2048 .f32) (r : Fin 512) (x tc tl tr : ℕ → EReal) (hx : ∀ j : Fin 2048, Q (ix2 r j) = x j.val)
    (hc : ∀ d : Fin 128, C (ix2 r d) = tc d.val) (hl : ∀ d : Fin 128, L (ix2 r d) = tl d.val) (hr : ∀ d : Fin 128, R (ix2 r d) = tr d.val) (d : Fin 128) :
    k0_pay31 (F := Ideal) C L R Q (ix2 r d) = turn (fun e => x (1920 + e)) tc tl tr d.val := by
  unfold turn
  pointwise [k0_pay31]
  simp only [hx, hc, hl, hr]

/-! ## Slices of the products, head by head -/

theorem cut9 (Q : FVec Ideal S512x2048 .f32) (r : Fin 512) (x : ℕ → EReal) (hx : ∀ j : Fin 2048, Q (ix2 r j) = x j.val) (d : Fin 128) :
    k0_pay9 (F := Ideal) Q (ix2 r d) = x (0 + d.val) := by
  pointwise [k0_pay9]
  exact (hx _).trans (congrArg x (by dsimp only))

theorem cut12 (Q : FVec Ideal S512x2048 .f32) (r : Fin 512) (x : ℕ → EReal) (hx : ∀ j : Fin 2048, Q (ix2 r j) = x j.val) (d : Fin 128) :
    k0_pay12 (F := Ideal) Q (ix2 r d) = x (256 + d.val) := by
  pointwise [k0_pay12]
  exact (hx _).trans (congrArg x (by dsimp only))

theorem cut15 (Q : FVec Ideal S512x2048 .f32) (r : Fin 512) (x : ℕ → EReal) (hx : ∀ j : Fin 2048, Q (ix2 r j) = x j.val) (d : Fin 128) :
    k0_pay15 (F := Ideal) Q (ix2 r d) = x (512 + d.val) := by
  pointwise [k0_pay15]
  exact (hx _).trans (congrArg x (by dsimp only))

theorem cut18 (Q : FVec Ideal S512x2048 .f32) (r : Fin 512) (x : ℕ → EReal) (hx : ∀ j : Fin 2048, Q (ix2 r j) = x j.val) (d : Fin 128) :
    k0_pay18 (F := Ideal) Q (ix2 r d) = x (768 + d.val) := by
  pointwise [k0_pay18]
  exact (hx _).trans (congrArg x (by dsimp only))

theorem cut21 (Q : FVec Ideal S512x2048 .f32) (r : Fin 512) (x : ℕ → EReal) (hx : ∀ j : Fin 2048, Q (ix2 r j) = x j.val) (d : Fin 128) :
    k0_pay21 (F := Ideal) Q (ix2 r d) = x (1024 + d.val) := by
  pointwise [k0_pay21]
  exact (hx _).trans (congrArg x (by dsimp only))

theorem cut24 (Q : FVec Ideal S512x2048 .f32) (r : Fin 512) (x : ℕ → EReal) (hx : ∀ j : Fin 2048, Q (ix2 r j) = x j.val) (d : Fin 128) :
    k0_pay24 (F := Ideal) Q (ix2 r d) = x (1280 + d.val) := by
  pointwise [k0_pay24]
  exact (hx _).trans (congrArg x (by dsimp only))

theorem cut27 (Q : FVec Ideal S512x2048 .f32) (r : Fin 512) (x : ℕ → EReal) (hx : ∀ j : Fin 2048, Q (ix2 r j) = x j.val) (d : Fin 128) :
    k0_pay27 (F := Ideal) Q (ix2 r d) = x (1536 + d.val) := by
  pointwise [k0_pay27]
  exact (hx _).trans (congrArg x (by dsimp only))

theorem cut30 (Q : FVec Ideal S512x2048 .f32) (r : Fin 512) (x : ℕ → EReal) (hx : ∀ j : Fin 2048, Q (ix2 r j) = x j.val) (d : Fin 128) :
    k0_pay30 (F := Ideal) Q (ix2 r d) = x (1792 + d.val) := by
  pointwise [k0_pay30]
  exact (hx _).trans (congrArg x (by dsimp only))

theorem cut14 (Q : FVec Ideal S512x2048 .f32) (r : Fin 512) (x : ℕ → EReal) (hx : ∀ j : Fin 2048, Q (ix2 r j) = x j.val) (d : Fin 128) :
    k0_pay14 (F := Ideal) Q (ix2 r d) = x (128 + d.val) := by
  pointwise [k0_pay14]
  exact (hx _).trans (congrArg x (by dsimp only))

theorem cut17 (Q : FVec Ideal S512x2048 .f32) (r : Fin 512) (x : ℕ → EReal) (hx : ∀ j : Fin 2048, Q (ix2 r j) = x j.val) (d : Fin 128) :
    k0_pay17 (F := Ideal) Q (ix2 r d) = x (256 + d.val) := by
  pointwise [k0_pay17]
  exact (hx _).trans (congrArg x (by dsimp only))

theorem cut20 (Q : FVec Ideal S512x2048 .f32) (r : Fin 512) (x : ℕ → EReal) (hx : ∀ j : Fin 2048, Q (ix2 r j) = x j.val) (d : Fin 128) :
    k0_pay20 (F := Ideal) Q (ix2 r d) = x (384 + d.val) := by
  pointwise [k0_pay20]
  exact (hx _).trans (congrArg x (by dsimp only))

theorem cut23 (Q : FVec Ideal S512x2048 .f32) (r : Fin 512) (x : ℕ → EReal) (hx : ∀ j : Fin 2048, Q (ix2 r j) = x j.val) (d : Fin 128) :
    k0_pay23 (F := Ideal) Q (ix2 r d) = x (512 + d.val) := by
  pointwise [k0_pay23]
  exact (hx _).trans (congrArg x (by dsimp only))

theorem cut26 (Q : FVec Ideal S512x2048 .f32) (r : Fin 512) (x : ℕ → EReal) (hx : ∀ j : Fin 2048, Q (ix2 r j) = x j.val) (d : Fin 128) :
    k0_pay26 (F := Ideal) Q (ix2 r d) = x (640 + d.val) := by
  pointwise [k0_pay26]
  exact (hx _).trans (congrArg x (by dsimp only))

theorem cut29 (Q : FVec Ideal S512x2048 .f32) (r : Fin 512) (x : ℕ → EReal) (hx : ∀ j : Fin 2048, Q (ix2 r j) = x j.val) (d : Fin 128) :
    k0_pay29 (F := Ideal) Q (ix2 r d) = x (768 + d.val) := by
  pointwise [k0_pay29]
  exact (hx _).trans (congrArg x (by dsimp only))

theorem cut32 (Q : FVec Ideal S512x2048 .f32) (r : Fin 512) (x : ℕ → EReal) (hx : ∀ j : Fin 2048, Q (ix2 r j) = x j.val) (d : Fin 128) :
    k0_pay32 (F := Ideal) Q (ix2 r d) = x (896 + d.val) := by
  pointwise [k0_pay32]
  exact (hx _).trans (congrArg x (by dsimp only))

theorem cut34 (Q : FVec Ideal S512x2048 .f32) (r : Fin 512) (x : ℕ → EReal) (hx : ∀ j : Fin 2048, Q (ix2 r j) = x j.val) (d : Fin 128) :
    k0_pay34 (F := Ideal) Q (ix2 r d) = x (1024 + d.val) := by
  pointwise [k0_pay34]
  exact (hx _).trans (congrArg x (by dsimp only))

theorem cut35 (Q : FVec Ideal S512x2048 .f32) (r : Fin 512) (x : ℕ → EReal) (hx : ∀ j : Fin 2048, Q (ix2 r j) = x j.val) (d : Fin 128) :
    k0_pay35 (F := Ideal) Q (ix2 r d) = x (1152 + d.val) := by
  pointwise [k0_pay35]
  exact (hx _).trans (congrArg x (by dsimp only))

theorem cut36 (Q : FVec Ideal S512x2048 .f32) (r : Fin 512) (x : ℕ → EReal) (hx : ∀ j : Fin 2048, Q (ix2 r j) = x j.val) (d : Fin 128) :
    k0_pay36 (F := Ideal) Q (ix2 r d) = x (1280 + d.val) := by
  pointwise [k0_pay36]
  exact (hx _).trans (congrArg x (by dsimp only))

theorem cut37 (Q : FVec Ideal S512x2048 .f32) (r : Fin 512) (x : ℕ → EReal) (hx : ∀ j : Fin 2048, Q (ix2 r j) = x j.val) (d : Fin 128) :
    k0_pay37 (F := Ideal) Q (ix2 r d) = x (1408 + d.val) := by
  pointwise [k0_pay37]
  exact (hx _).trans (congrArg x (by dsimp only))

theorem cut38 (Q : FVec Ideal S512x2048 .f32) (r : Fin 512) (x : ℕ → EReal) (hx : ∀ j : Fin 2048, Q (ix2 r j) = x j.val) (d : Fin 128) :
    k0_pay38 (F := Ideal) Q (ix2 r d) = x (1536 + d.val) := by
  pointwise [k0_pay38]
  exact (hx _).trans (congrArg x (by dsimp only))

theorem cut39 (Q : FVec Ideal S512x2048 .f32) (r : Fin 512) (x : ℕ → EReal) (hx : ∀ j : Fin 2048, Q (ix2 r j) = x j.val) (d : Fin 128) :
    k0_pay39 (F := Ideal) Q (ix2 r d) = x (1664 + d.val) := by
  pointwise [k0_pay39]
  exact (hx _).trans (congrArg x (by dsimp only))

theorem cut40 (Q : FVec Ideal S512x2048 .f32) (r : Fin 512) (x : ℕ → EReal) (hx : ∀ j : Fin 2048, Q (ix2 r j) = x j.val) (d : Fin 128) :
    k0_pay40 (F := Ideal) Q (ix2 r d) = x (1792 + d.val) := by
  pointwise [k0_pay40]
  exact (hx _).trans (congrArg x (by dsimp only))

theorem cut41 (Q : FVec Ideal S512x2048 .f32) (r : Fin 512) (x : ℕ → EReal) (hx : ∀ j : Fin 2048, Q (ix2 r j) = x j.val) (d : Fin 128) :
    k0_pay41 (F := Ideal) Q (ix2 r d) = x (1920 + d.val) := by
  pointwise [k0_pay41]
  exact (hx _).trans (congrArg x (by dsimp only))

theorem cut11 (X : Vec Ideal S512x512 .f32) (A : FVec Ideal S1x512 .f32) (B : FVec Ideal S512x1 .f32) (e : Ideal .f32) (W : Vec Ideal S512x2048 .bf16)
    (r : Fin 512) (x : ℕ → EReal) (hx : ∀ j : Fin 2048, k0_pay7 X A B e W (ix2 r j) = x j.val) (d : Fin 128) :
    k0_pay11 X A B e W (ix2 r d) = x (0 + d.val) := by
  have h : k0_pay11 X A B e W = truncf .bf16 (extractStridedSlice S512x128 ![0, 0] (k0_pay7 X A B e W) slices_S512x2048_o0_0_S512x128) bitsLt_bf16_f32 := rfl
  rw [h]
  generalize k0_pay7 X A B e W = Q at hx
  pointwise []
  exact (hx _).trans (congrArg x (by dsimp only))

theorem ones_at (y : S512x128.Idx) : k0_pay33 (F := Ideal) y = (1 : EReal) := by
  pointwise [k0_pay33]

end Cert.LatentUpIdeal.Lat

end
-- ==== Proof.LatRead.lean ====
/-
  The input blocks of the latent up projections' kernel, read as arrays: at point `t` the rows `512 * t` on, and the
  packed weights and the rotary tables as the host lays them out.
-/
module

public import proofs.«01_k».proof.Proof.Gen.LatentUpIdeal.Value
public import Idealize.ShloMosaic.Lib.Pipeline.ValueKit
public import Idealize.ShloMosaic.Lib.Pipeline.ReadBack
public import Idealize.ShloMosaic.Lib.Pointwise
public import proofs.«01_k».proof.Proof.LatMath

@[expose] public section

set_option maxRecDepth 16384

noncomputable section

namespace Cert.LatentUpIdeal.Lat

open Idealize.ShloMosaic Idealize.ShloMosaic.TcCoe Idealize.SL.Sem
open Cert.LatentUpIdeal Cert.LatentUpIdeal.Gen Cert.Lat
open Cert.Ret (pj ps num)

variable (m : (ℓ : Loc nD τ sig) → Buf (Elt Ideal) ℓ)

theorem idx0 : ∀ t : Fin grid0.N, win0_0.index t = ![t.val, 18] := by decide +kernel
theorem idx1 : ∀ t : Fin grid0.N, win0_1.index t = ![t.val, 19] := by decide +kernel
theorem idx2 : ∀ t : Fin grid0.N, win0_2.index t = ![t.val, 83] := by decide +kernel
theorem idx3 : ∀ t : Fin grid0.N, win0_3.index t = ![0, 0] := by decide +kernel
theorem idx4 : ∀ t : Fin grid0.N, win0_4.index t = ![0, 0] := by decide +kernel
theorem idx5 : ∀ t : Fin grid0.N, win0_5.index t = ![0, 0] := by decide +kernel
theorem idx6 : ∀ t : Fin grid0.N, win0_6.index t = ![0, 0] := by decide +kernel
theorem idx7 : ∀ t : Fin grid0.N, win0_7.index t = ![t.val, 0] := by decide +kernel
theorem idx8 : ∀ t : Fin grid0.N, win0_8.index t = ![t.val, 0] := by decide +kernel
theorem idx9 : ∀ t : Fin grid0.N, win0_9.index t = ![t.val, 0] := by decide +kernel

theorem cq_read (c : Dev nD) (t : Fin cfg0.N) (r k : Fin 512) :
    iblk m c 0 t (ix2 r k) = pj (m (c, Proc.tc.devRef main_arg0)) (t.val * 512 + r.val) (9216 + k.val) := by
  have ht : t.val < 32 := t.isLt
  unfold pj
  rw [dif_pos ⟨by omega, by omega⟩]
  blk_simp [iblk, idx0 t]
  entry_read
  pointwise []
  blk_ext [idx0 t]

theorem ckv_read (c : Dev nD) (t : Fin cfg0.N) (r k : Fin 512) :
    iblk m c 1 t (ix2 r k) = pj (m (c, Proc.tc.devRef main_arg0)) (t.val * 512 + r.val) (9728 + k.val) := by
  have ht : t.val < 32 := t.isLt
  unfold pj
  rw [dif_pos ⟨by omega, by omega⟩]
  blk_simp [iblk, idx1 t]
  entry_read
  pointwise []
  blk_ext [idx1 t]

theorem kpe_read (c : Dev nD) (t : Fin cfg0.N) (r : Fin 512) (k : Fin 128) :
    iblk m c 2 t (ix2 r k) = pj (m (c, Proc.tc.devRef main_arg0)) (t.val * 512 + r.val) (10624 + k.val) := by
  have ht : t.val < 32 := t.isLt
  unfold pj
  rw [dif_pos ⟨by omega, by omega⟩]
  blk_simp [iblk, idx2 t]
  entry_read
  pointwise []
  blk_ext [idx2 t]

theorem gq_read (c : Dev nD) (t : Fin cfg0.N) (k : Fin 512) :
    iblk m c 3 t (ix2 0 k) = gn (m (c, Proc.tc.devRef main_arg2)) k.val := by
  unfold gn
  rw [dif_pos k.isLt]
  blk_simp [iblk, idx3 t]
  entry_read
  pointwise []
  blk_ext [idx3 t]

theorem gkv_read (c : Dev nD) (t : Fin cfg0.N) (k : Fin 512) :
    iblk m c 4 t (ix2 0 k) = gn (m (c, Proc.tc.devRef main_arg3)) k.val := by
  unfold gn
  rw [dif_pos k.isLt]
  blk_simp [iblk, idx4 t]
  entry_read
  pointwise []
  blk_ext [idx4 t]

end Cert.LatentUpIdeal.Lat

end
-- ==== Proof.LatTab.lean ====
/-
  The packed weights and the rotary tables of the latent up projections, as the host lays them out, at an index.
-/
module

public import proofs.«01_k».proof.Proof.Gen.LatentUpIdeal.Value
public import Idealize.ShloMosaic.Lib.Pipeline.ValueKit
public import Idealize.ShloMosaic.Lib.Pipeline.ReadBack
public import Idealize.ShloMosaic.Lib.Pointwise
public import proofs.«01_k».proof.Proof.LatRead

@[expose] public section

set_option maxRecDepth 16384

noncomputable section

namespace Cert.LatentUpIdeal.Lat

open Idealize.ShloMosaic Idealize.ShloMosaic.TcCoe Idealize.SL.Sem
open Cert.LatentUpIdeal Cert.LatentUpIdeal.Gen Cert.Lat
open Cert.Ret (pj ps num)

variable (m : (ℓ : Loc nD τ sig) → Buf (Elt Ideal) ℓ)

/-- The queries' weight, each head's 192 columns widened to 256 by zeros. -/
def wqP (W : FVec Ideal S512x1536 .f32) : FVec Ideal S512x2048 .bf16 :=
  shapeCast _ (concatenate S512x8x256 2 [⟨S512x8x192, (shapeCast _ (truncf .bf16 W bitsLt_bf16_f32 : FVec Ideal S512x1536 .bf16) shapeCasts_S512x1536_S512x8x192 : FVec Ideal S512x8x192 .bf16)⟩, ⟨S512x8x64, (broadcastInDim S512x8x64 ![] bcast_S_S512x8x64 (constant S_ .bf16 0x0000#16) : FVec Ideal S512x8x64 .bf16)⟩] concatenates_S512x8x192_S512x8x64_S512x8x256_d2) shapeCasts_S512x8x256_S512x2048

/-- A half of the other weight's columns: the heads' keys, or their values. -/
def keyW (W : FVec Ideal S512x2048 .f32) : FVec Ideal S512x1024 .bf16 :=
  shapeCast _ (extractStridedSlice S512x8x128 ![0, 0, 0] (shapeCast _ (truncf .bf16 W bitsLt_bf16_f32 : FVec Ideal S512x2048 .bf16) shapeCasts_S512x2048_S512x8x256) slices_S512x8x256_S512x8x128_0_0_0 : FVec Ideal S512x8x128 .bf16) shapeCasts_S512x8x128_S512x1024
@[inherit_doc keyW] def valW (W : FVec Ideal S512x2048 .f32) : FVec Ideal S512x1024 .bf16 :=
  shapeCast _ (extractStridedSlice S512x8x128 ![0, 0, 128] (shapeCast _ (truncf .bf16 W bitsLt_bf16_f32 : FVec Ideal S512x2048 .bf16) shapeCasts_S512x2048_S512x8x256) slices_S512x8x256_S512x8x128_0_0_128 : FVec Ideal S512x8x128 .bf16) shapeCasts_S512x8x128_S512x1024

/-- The other weight, the keys' columns before the values'. -/
def wkvP (W : FVec Ideal S512x2048 .f32) : FVec Ideal S512x2048 .bf16 :=
  concatenate S512x2048 1 [⟨S512x1024, keyW W⟩, ⟨S512x1024, valW W⟩] concatenates_S512x1024_S512x1024_S512x2048_d1

/-- The rotary frequencies, zeros and ones. -/
def freqs : FVec Ideal S32 .f32 :=
  Host.powf (broadcastInDim S32 ![] bcast_S_S32 (constant S_ .f32 0x461C4000#32)) (Host.divf (Host.negf (addf (broadcastInDim S32 ![] bcast_S_S32 (constant S_ .f32 0x00000000#32)) (mulf (broadcastInDim S32 ![] bcast_S_S32 (constant S_ .f32 0x40000000#32)) (sitofp .f32 (iotaInDim S32 32 0))))) (broadcastInDim S32 ![] bcast_S_S32 (constant S_ .f32 0x42800000#32)))
@[inherit_doc freqs] def z32 : FVec Ideal S32 .f32 := broadcastInDim S32 ![] bcast_S_S32 (constant S_ .f32 0x00000000#32)
@[inherit_doc freqs] def o32 : FVec Ideal S32 .f32 := broadcastInDim S32 ![] bcast_S_S32 (constant S_ .f32 0x3F800000#32)

/-- Four rows of 32 lanes side by side. -/
def four (A B C D : FVec Ideal S32 .f32) : FVec Ideal S128 .f32 :=
  concatenate S128 0 [⟨S32, A⟩, ⟨S32, B⟩, ⟨S32, C⟩, ⟨S32, D⟩] concatenates_S32_S32_S32_S32_S128_d0

/-- A row of 128 lanes at every row. -/
def down (A : FVec Ideal S128 .f32) : FVec Ideal S16384x128 .f32 :=
  broadcastInDim S16384x128 ![0, 1] bcast_S1x128_S16384x128_0_1 (broadcastInDim S1x128 ![1] bcast_S128_S1x128_1 A)

/-- The angles. -/
def ang (p : IVec S4x4096 32) : FVec Ideal S16384x128 .f32 :=
  mulf (broadcastInDim S16384x128 ![0, 1] bcast_S16384x1_S16384x128_0_1 (sitofp .f32 (shapeCast _ p shapeCasts_S4x4096_S16384x1))) (down (four freqs freqs z32 z32))

/-- The three tables. -/
def tabC (p : IVec S4x4096 32) : FVec Ideal S16384x128 .f32 := mulf (Host.cos (ang p)) (down (four o32 o32 z32 z32))
@[inherit_doc tabC] def tabL (p : IVec S4x4096 32) : FVec Ideal S16384x128 .f32 := mulf (Host.sin (ang p)) (down (four (Host.negf o32) z32 z32 z32))
@[inherit_doc tabC] def tabR (p : IVec S4x4096 32) : FVec Ideal S16384x128 .f32 := mulf (Host.sin (ang p)) (down (four z32 o32 z32 z32))

theorem V39 (c : Dev nD) : V m c main_v39 = wqP (m ((c : Thread nD τ).loc main_arg4)) := by
  show StableHlo.after hostOps0 (fun b => m (c, b)) main_v39 = _
  simp only [hostOps0]
  open Idealize.ShloMosaic.StableHlo in
  after_results
  rfl

theorem V46 (c : Dev nD) : V m c main_v46 = wkvP (m ((c : Thread nD τ).loc main_arg5)) := by
  show StableHlo.after hostOps0 (fun b => m (c, b)) main_v46 = _
  simp only [hostOps0]
  open Idealize.ShloMosaic.StableHlo in
  after_results
  rfl

theorem V23 (c : Dev nD) : V m c main_v23 = tabC (m ((c : Thread nD τ).loc main_arg1)) := by
  show StableHlo.after hostOps0 (fun b => m (c, b)) main_v23 = _
  simp only [hostOps0]
  open Idealize.ShloMosaic.StableHlo in
  after_results
  rfl

theorem V29 (c : Dev nD) : V m c main_v29 = tabL (m ((c : Thread nD τ).loc main_arg1)) := by
  show StableHlo.after hostOps0 (fun b => m (c, b)) main_v29 = _
  simp only [hostOps0]
  open Idealize.ShloMosaic.StableHlo in
  after_results
  rfl

theorem V34 (c : Dev nD) : V m c main_v34 = tabR (m ((c : Thread nD τ).loc main_arg1)) := by
  show StableHlo.after hostOps0 (fun b => m (c, b)) main_v34 = _
  simp only [hostOps0]
  open Idealize.ShloMosaic.StableHlo in
  after_results
  rfl

/-! ## At an index -/

theorem wqP_at (W : FVec Ideal S512x1536 .f32) (k : Fin 512) (j : Fin 2048) :
    wqP W (ix2 k j) = if j.val % 256 < 192 then wt W k.val (j.val / 256 * 192 + j.val % 256) else 0 := by
  unfold wt
  pointwise [wqP]
  by_cases h : j.val % 256 < 192
  · rw [dif_pos h, if_pos h, dif_pos (by omega)]
  · rw [dif_neg h, if_neg h]

theorem keyW_at (W : FVec Ideal S512x2048 .f32) (k : Fin 512) (j : Fin 1024) : keyW W (ix2 k j) = wt W k.val (j.val / 128 * 256 + j.val % 128) := by
  unfold wt
  rw [dif_pos ⟨k.isLt, by omega⟩]
  pointwise [keyW]

theorem valW_at (W : FVec Ideal S512x2048 .f32) (k : Fin 512) (j : Fin 1024) : valW W (ix2 k j) = wt W k.val (j.val / 128 * 256 + (128 + j.val % 128)) := by
  unfold wt
  rw [dif_pos ⟨k.isLt, by omega⟩]
  pointwise [valW]

theorem wkvP_at (W : FVec Ideal S512x2048 .f32) (k : Fin 512) (j : Fin 2048) :
    wkvP W (ix2 k j) = if j.val < 1024 then wt W k.val (j.val / 128 * 256 + j.val % 128)
      else wt W k.val ((j.val - 1024) / 128 * 256 + (128 + (j.val - 1024) % 128)) := by
  pointwise [wkvP]
  by_cases h : j.val < 1024
  · rw [dif_pos h, if_pos h, keyW_at]
  · rw [dif_neg h, if_neg h, valW_at]

theorem four_at (A B C D : FVec Ideal S32 .f32) (a b c d : ℕ → EReal) (ha : ∀ n : Fin 32, A (ix1 n) = a n.val) (hb : ∀ n : Fin 32, B (ix1 n) = b n.val)
    (hc : ∀ n : Fin 32, C (ix1 n) = c n.val) (hd : ∀ n : Fin 32, D (ix1 n) = d n.val) (r : Fin 16384) (j : Fin 128) :
    down (four A B C D) (ix2 r j) = if j.val < 32 then a j.val else if j.val < 64 then b (j.val - 32) else if j.val < 96 then c (j.val - 64) else d (j.val - 96) := by
  pointwise [down, four]
  by_cases h : j.val < 32
  · rw [dif_pos h, if_pos h, ha]
  · rw [dif_neg h, if_neg h]
    by_cases h1 : j.val < 64
    · rw [dif_pos (by omega), if_pos h1, hb]
    · rw [dif_neg (by omega), if_neg h1]
      by_cases h2 : j.val < 96
      · rw [dif_pos (by omega), if_pos h2, hc]
        congr 1
      · rw [dif_neg (by omega), if_neg h2, hd]
        congr 1

theorem freqs_at (n : Fin 32) : freqs (ix1 n) = freq n.val := by
  unfold freq num
  pointwise [freqs]

theorem z32_at (n : Fin 32) : z32 (ix1 n) = (0 : EReal) := by pointwise [z32]
theorem o32_at (n : Fin 32) : o32 (ix1 n) = (1 : EReal) := by pointwise [o32]
theorem n32_at (n : Fin 32) : (Host.negf o32 : FVec Ideal S32 .f32) (ix1 n) = (-1 : EReal) := by
  pointwise []
  rw [o32_at]

theorem ang_at (p : IVec S4x4096 32) (r : Fin 16384) (j : Fin 128) (h : j.val < 64) : ang p (ix2 r j) = ps p r.val * freq (j.val % 32) := by
  unfold ps
  rw [dif_pos r.isLt]
  pointwise [ang]
  rw [four_at _ _ _ _ freq freq (fun _ => 0) (fun _ => 0) freqs_at freqs_at z32_at z32_at]
  by_cases h1 : j.val < 32
  · rw [if_pos h1, show j.val % 32 = j.val by omega]
  · rw [if_neg h1, if_pos h, show j.val % 32 = j.val - 32 by omega]

theorem tabC_at (p : IVec S4x4096 32) (r : Fin 16384) (j : Fin 128) : tabC p (ix2 r j) = if j.val < 64 then cs p r.val (j.val % 32) else 0 := by
  unfold cs
  pointwise [tabC]
  rw [four_at _ _ _ _ (fun _ => 1) (fun _ => 1) (fun _ => 0) (fun _ => 0) o32_at o32_at z32_at z32_at]
  by_cases h : j.val < 64
  · rw [if_pos h, ang_at p r j h]
    by_cases h1 : j.val < 32 <;> simp only [h, h1, if_true, if_false, mul_one]
  · by_cases h1 : j.val < 96 <;> simp only [h, h1, show ¬j.val < 32 by omega, if_true, if_false, mul_zero]

theorem tabL_at (p : IVec S4x4096 32) (r : Fin 16384) (j : Fin 128) : tabL p (ix2 r j) = if j.val < 32 then -sn p r.val j.val else 0 := by
  unfold sn
  pointwise [tabL]
  rw [four_at _ _ _ _ (fun _ => -1) (fun _ => 0) (fun _ => 0) (fun _ => 0) n32_at z32_at z32_at z32_at]
  by_cases h : j.val < 32
  · rw [if_pos h, if_pos h, ang_at p r j (by omega), show j.val % 32 = j.val by omega, mul_neg, mul_one]
  · simp only [h, if_false, ite_self, mul_zero]

theorem tabR_at (p : IVec S4x4096 32) (r : Fin 16384) (j : Fin 128) :
    tabR p (ix2 r j) = if j.val < 32 then 0 else if j.val < 64 then sn p r.val (j.val - 32) else 0 := by
  unfold sn
  pointwise [tabR]
  rw [four_at _ _ _ _ (fun _ => 0) (fun _ => 1) (fun _ => 0) (fun _ => 0) z32_at o32_at z32_at z32_at]
  by_cases h : j.val < 32
  · rw [if_pos h, if_pos h, mul_zero]
  · rw [if_neg h, if_neg h]
    by_cases h1 : j.val < 64
    · rw [if_pos h1, if_pos h1, ang_at p r j h1, show j.val % 32 = j.val - 32 by omega, mul_one]
    · rw [if_neg h1, if_neg h1, ite_self, mul_zero]

/-! ## The blocks -/

theorem wq_read (c : Dev nD) (t : Fin cfg0.N) (r : Fin 512) (j : Fin 2048) :
    iblk m c 5 t (ix2 r j) = wq (m (c, Proc.tc.devRef main_arg4)) r.val j.val := by
  have ht : t.val < 32 := t.isLt
  have e : iblk m c 5 t (ix2 r j) = V m c main_v39 (ix2 r j) := by
    blk_simp [iblk, idx5 t]
    refine congrArg _ ?_
    blk_ext [idx5 t]
  rw [e, V39]
  exact wqP_at _ r j

theorem wkv_read (c : Dev nD) (t : Fin cfg0.N) (r : Fin 512) (j : Fin 2048) :
    iblk m c 6 t (ix2 r j) = wkv (m (c, Proc.tc.devRef main_arg5)) r.val j.val := by
  have ht : t.val < 32 := t.isLt
  have e : iblk m c 6 t (ix2 r j) = V m c main_v46 (ix2 r j) := by
    blk_simp [iblk, idx6 t]
    refine congrArg _ ?_
    blk_ext [idx6 t]
  rw [e, V46]
  exact wkvP_at _ r j

theorem tc_read (c : Dev nD) (t : Fin cfg0.N) (r : Fin 512) (j : Fin 128) :
    iblk m c 7 t (ix2 r j) = tc (m (c, Proc.tc.devRef main_arg1)) (t.val * 512 + r.val) j.val := by
  have ht : t.val < 32 := t.isLt
  have e : iblk m c 7 t (ix2 r j) = V m c main_v23 (ix2 (⟨t.val * 512 + r.val, by omega⟩ : Fin 16384) j) := by
    blk_simp [iblk, idx7 t]
    refine congrArg _ ?_
    blk_ext [idx7 t]
  rw [e, V23]
  exact tabC_at _ _ j

theorem tl_read (c : Dev nD) (t : Fin cfg0.N) (r : Fin 512) (j : Fin 128) :
    iblk m c 8 t (ix2 r j) = tl (m (c, Proc.tc.devRef main_arg1)) (t.val * 512 + r.val) j.val := by
  have ht : t.val < 32 := t.isLt
  have e : iblk m c 8 t (ix2 r j) = V m c main_v29 (ix2 (⟨t.val * 512 + r.val, by omega⟩ : Fin 16384) j) := by
    blk_simp [iblk, idx8 t]
    refine congrArg _ ?_
    blk_ext [idx8 t]
  rw [e, V29]
  exact tabL_at _ _ j

theorem tr_read (c : Dev nD) (t : Fin cfg0.N) (r : Fin 512) (j : Fin 128) :
    iblk m c 9 t (ix2 r j) = tr (m (c, Proc.tc.devRef main_arg1)) (t.val * 512 + r.val) j.val := by
  have ht : t.val < 32 := t.isLt
  have e : iblk m c 9 t (ix2 r j) = V m c main_v34 (ix2 (⟨t.val * 512 + r.val, by omega⟩ : Fin 16384) j) := by
    blk_simp [iblk, idx9 t]
    refine congrArg _ ?_
    blk_ext [idx9 t]
  rw [e, V34]
  exact tabR_at _ _ j

end Cert.LatentUpIdeal.Lat

end
-- ==== Proof.LatOut.lean ====
/-
  The blocks the latent up projections' kernel stores at a point.
-/
module

public import proofs.«01_k».proof.Proof.Gen.LatentUpIdeal.Value
public import Idealize.ShloMosaic.Lib.Pipeline.ValueKit
public import Idealize.ShloMosaic.Lib.Pipeline.ReadBack
public import Idealize.ShloMosaic.Lib.Pointwise
public import proofs.«01_k».proof.Proof.LatPiece
public import proofs.«01_k».proof.Proof.LatTab

@[expose] public section

set_option maxRecDepth 16384

noncomputable section

namespace Cert.LatentUpIdeal.Lat

open Idealize.ShloMosaic Idealize.ShloMosaic.TcCoe Idealize.SL.Sem
open Cert.LatentUpIdeal Cert.LatentUpIdeal.Gen Cert.Lat
open Cert.Ret (pj ps num)

variable (m : (ℓ : Loc nD τ sig) → Buf (Elt Ideal) ℓ)

/-- The arrays the body computes once: the tables, the queries, and the keys with the values. -/
def tabs_C (c : Dev nD) (t : Fin cfg0.N) : FVec Ideal S512x128 .f32 :=
  k0_pay42 (iblk m c 0 t) (iblk m c 1 t) (iblk m c 2 t) (iblk m c 3 t) (iblk m c 4 t) (iblk m c 5 t) (iblk m c 6 t) (iblk m c 7 t) (iblk m c 8 t) (iblk m c 9 t)
@[inherit_doc tabs_C] def tabs_L (c : Dev nD) (t : Fin cfg0.N) : FVec Ideal S512x128 .f32 :=
  k0_pay43 (iblk m c 0 t) (iblk m c 1 t) (iblk m c 2 t) (iblk m c 3 t) (iblk m c 4 t) (iblk m c 5 t) (iblk m c 6 t) (iblk m c 7 t) (iblk m c 8 t) (iblk m c 9 t)
@[inherit_doc tabs_C] def tabs_R (c : Dev nD) (t : Fin cfg0.N) : FVec Ideal S512x128 .f32 :=
  k0_pay44 (iblk m c 0 t) (iblk m c 1 t) (iblk m c 2 t) (iblk m c 3 t) (iblk m c 4 t) (iblk m c 5 t) (iblk m c 6 t) (iblk m c 7 t) (iblk m c 8 t) (iblk m c 9 t)
@[inherit_doc tabs_C] def tabs_Q (c : Dev nD) (t : Fin cfg0.N) : FVec Ideal S512x2048 .f32 :=
  k0_pay45 (iblk m c 0 t) (iblk m c 1 t) (iblk m c 2 t) (iblk m c 3 t) (iblk m c 4 t) (iblk m c 5 t) (iblk m c 6 t) (iblk m c 7 t) (iblk m c 8 t) (iblk m c 9 t)
@[inherit_doc tabs_C] def tabs_KV (c : Dev nD) (t : Fin cfg0.N) : FVec Ideal S512x2048 .f32 :=
  k0_pay48 (iblk m c 0 t) (iblk m c 1 t) (iblk m c 2 t) (iblk m c 3 t) (iblk m c 4 t) (iblk m c 5 t) (iblk m c 6 t) (iblk m c 7 t) (iblk m c 8 t) (iblk m c 9 t)

theorem C_at (c : Dev nD) (t : Fin cfg0.N) (r : Fin 512) (d : Fin 128) : tabs_C m c t (ix2 r d) = tc (m (c, Proc.tc.devRef main_arg1)) (t.val * 512 + r.val) d.val := by
  have h : tabs_C m c t = iblk m c 7 t := by
    unfold tabs_C k0_pay42 k0_pay1
    frame_out
    funext y
    pointwise []
  rw [h]
  exact tc_read m c t r d

theorem L_at (c : Dev nD) (t : Fin cfg0.N) (r : Fin 512) (d : Fin 128) : tabs_L m c t (ix2 r d) = tl (m (c, Proc.tc.devRef main_arg1)) (t.val * 512 + r.val) d.val := by
  have h : tabs_L m c t = iblk m c 8 t := by
    unfold tabs_L k0_pay43 k0_pay2
    frame_out
    funext y
    pointwise []
  rw [h]
  exact tl_read m c t r d

theorem R_at (c : Dev nD) (t : Fin cfg0.N) (r : Fin 512) (d : Fin 128) : tabs_R m c t (ix2 r d) = tr (m (c, Proc.tc.devRef main_arg1)) (t.val * 512 + r.val) d.val := by
  have h : tabs_R m c t = iblk m c 9 t := by
    unfold tabs_R k0_pay44 k0_pay3
    frame_out
    funext y
    pointwise []
  rw [h]
  exact tr_read m c t r d

theorem Q_at (c : Dev nD) (t : Fin cfg0.N) (r : Fin 512) (j : Fin 2048) : tabs_Q m c t (ix2 r j) = qv (m (c, Proc.tc.devRef main_arg0)) (m (c, Proc.tc.devRef main_arg2)) (m (c, Proc.tc.devRef main_arg4)) (t.val * 512 + r.val) j.val := by
  unfold tabs_Q k0_pay45
  frame_out
  exact q_at _ _ _ r j _ _ _ (fun k => cq_read m c t r k) (fun k => gq_read m c t k) (fun k j => wq_read m c t k j)

theorem KV_at (c : Dev nD) (t : Fin cfg0.N) (r : Fin 512) (j : Fin 2048) : tabs_KV m c t (ix2 r j) = kvv (m (c, Proc.tc.devRef main_arg0)) (m (c, Proc.tc.devRef main_arg3)) (m (c, Proc.tc.devRef main_arg5)) (t.val * 512 + r.val) j.val := by
  unfold tabs_KV k0_pay48 k0_pay47 k0_pay46
  frame_out
  exact kv_at _ _ _ r j _ _ _ (fun k => ckv_read m c t r k) (fun k => gkv_read m c t k) (fun k j => wkv_read m c t k j)

/-- The shared key's rotary lanes, which every head's key holds. -/
def tabs_K (c : Dev nD) (t : Fin cfg0.N) : FVec Ideal S512x128 .bf16 :=
  k0_pay49 (iblk m c 0 t) (iblk m c 1 t) (iblk m c 2 t) (iblk m c 3 t) (iblk m c 4 t) (iblk m c 5 t) (iblk m c 6 t) (iblk m c 7 t) (iblk m c 8 t) (iblk m c 9 t)

theorem K_at (c : Dev nD) (t : Fin cfg0.N) (r : Fin 512) (d : Fin 128) :
    tabs_K m c t (ix2 r d) = turn (fun e => pj (m (c, Proc.tc.devRef main_arg0)) (t.val * 512 + r.val) (10624 + e)) (tc (m (c, Proc.tc.devRef main_arg1)) (t.val * 512 + r.val)) (tl (m (c, Proc.tc.devRef main_arg1)) (t.val * 512 + r.val)) (tr (m (c, Proc.tc.devRef main_arg1)) (t.val * 512 + r.val)) d.val := by
  unfold tabs_K k0_pay49
  frame_out
  exact turn_at (tabs_C m c t) (tabs_L m c t) (tabs_R m c t) (iblk m c 2 t) r _ _ _ _ (fun d => kpe_read m c t r d) (fun d => C_at m c t r d) (fun d => L_at m c t r d) (fun d => R_at m c t r d) d

/-- The first head's key, which the body multiplies out before it names the products. -/
theorem K0_at (c : Dev nD) (t : Fin cfg0.N) (r : Fin 512) (d : Fin 128) :
    k0_pay11 (iblk m c 1 t) (k0_pay46 (iblk m c 0 t) (iblk m c 1 t) (iblk m c 2 t) (iblk m c 3 t) (iblk m c 4 t) (iblk m c 5 t) (iblk m c 6 t) (iblk m c 7 t) (iblk m c 8 t) (iblk m c 9 t)) (k0_pay47 (iblk m c 0 t) (iblk m c 1 t) (iblk m c 2 t) (iblk m c 3 t) (iblk m c 4 t) (iblk m c 5 t) (iblk m c 6 t) (iblk m c 7 t) (iblk m c 8 t) (iblk m c 9 t)) (Scalar.ofBits .f32 0x358637BD#32) (iblk m c 6 t) (ix2 r d) = kvv (m (c, Proc.tc.devRef main_arg0)) (m (c, Proc.tc.devRef main_arg3)) (m (c, Proc.tc.devRef main_arg5)) (t.val * 512 + r.val) (0 + d.val) := by
  refine cut11 _ _ _ _ _ r (fun j => kvv (m (c, Proc.tc.devRef main_arg0)) (m (c, Proc.tc.devRef main_arg3)) (m (c, Proc.tc.devRef main_arg5)) (t.val * 512 + r.val) j) (fun j => ?_) d
  refine Eq.trans ?_ (KV_at m c t r j)
  unfold tabs_KV k0_pay48
  frame_out
  try rfl

theorem q_out (c : Dev nD) (t : Fin cfg0.N) (y : S512x2048.Idx) :
    out0_10 (iblk m c 0 t) (iblk m c 1 t) (iblk m c 2 t) (iblk m c 3 t) (iblk m c 4 t) (iblk m c 5 t) (iblk m c 6 t) (iblk m c 7 t) (iblk m c 8 t) (iblk m c 9 t) y
      = qAt (m (c, Proc.tc.devRef main_arg0)) (m (c, Proc.tc.devRef main_arg1)) (m (c, Proc.tc.devRef main_arg2)) (m (c, Proc.tc.devRef main_arg4)) (t.val * 512 + (y 0).val) ((y 1).val / 256) ((y 1).val % 256) := by
  frame_out
  canon_tiles x h
  case piece0 =>
    rw [h0, show (y 1).val / 256 = 7 by omega, show (y 1).val % 256 = 128 + (x 1).val by omega]
    refine (congrArg _ (ix2_eta x).symm).trans ((turn7 (tabs_C m c t) (tabs_L m c t) (tabs_R m c t) (tabs_Q m c t) (x 0) _ _ _ _ (fun j => Q_at m c t (x 0) j) (fun d => C_at m c t (x 0) d) (fun d => L_at m c t (x 0) d) (fun d => R_at m c t (x 0) d) (x 1)).trans ?_)
    exact q_rope _ _ _ _ _ 7 _ x1_lt
  case piece1 =>
    rw [h0, show (y 1).val / 256 = 7 by omega, show (y 1).val % 256 = (x 1).val by omega]
    refine (congrArg _ (ix2_eta x).symm).trans ((cut30 (tabs_Q m c t) (x 0) _ (fun j => Q_at m c t (x 0) j) (x 1)).trans ?_)
    exact q_nope _ _ _ _ _ 7 _ x1_lt
  case piece2 =>
    rw [h0, show (y 1).val / 256 = 6 by omega, show (y 1).val % 256 = 128 + (x 1).val by omega]
    refine (congrArg _ (ix2_eta x).symm).trans ((turn6 (tabs_C m c t) (tabs_L m c t) (tabs_R m c t) (tabs_Q m c t) (x 0) _ _ _ _ (fun j => Q_at m c t (x 0) j) (fun d => C_at m c t (x 0) d) (fun d => L_at m c t (x 0) d) (fun d => R_at m c t (x 0) d) (x 1)).trans ?_)
    exact q_rope _ _ _ _ _ 6 _ x1_lt
  case piece3 =>
    rw [h0, show (y 1).val / 256 = 6 by omega, show (y 1).val % 256 = (x 1).val by omega]
    refine (congrArg _ (ix2_eta x).symm).trans ((cut27 (tabs_Q m c t) (x 0) _ (fun j => Q_at m c t (x 0) j) (x 1)).trans ?_)
    exact q_nope _ _ _ _ _ 6 _ x1_lt
  case piece4 =>
    rw [h0, show (y 1).val / 256 = 5 by omega, show (y 1).val % 256 = 128 + (x 1).val by omega]
    refine (congrArg _ (ix2_eta x).symm).trans ((turn5 (tabs_C m c t) (tabs_L m c t) (tabs_R m c t) (tabs_Q m c t) (x 0) _ _ _ _ (fun j => Q_at m c t (x 0) j) (fun d => C_at m c t (x 0) d) (fun d => L_at m c t (x 0) d) (fun d => R_at m c t (x 0) d) (x 1)).trans ?_)
    exact q_rope _ _ _ _ _ 5 _ x1_lt
  case piece5 =>
    rw [h0, show (y 1).val / 256 = 5 by omega, show (y 1).val % 256 = (x 1).val by omega]
    refine (congrArg _ (ix2_eta x).symm).trans ((cut24 (tabs_Q m c t) (x 0) _ (fun j => Q_at m c t (x 0) j) (x 1)).trans ?_)
    exact q_nope _ _ _ _ _ 5 _ x1_lt
  case piece6 =>
    rw [h0, show (y 1).val / 256 = 4 by omega, show (y 1).val % 256 = 128 + (x 1).val by omega]
    refine (congrArg _ (ix2_eta x).symm).trans ((turn4 (tabs_C m c t) (tabs_L m c t) (tabs_R m c t) (tabs_Q m c t) (x 0) _ _ _ _ (fun j => Q_at m c t (x 0) j) (fun d => C_at m c t (x 0) d) (fun d => L_at m c t (x 0) d) (fun d => R_at m c t (x 0) d) (x 1)).trans ?_)
    exact q_rope _ _ _ _ _ 4 _ x1_lt
  case piece7 =>
    rw [h0, show (y 1).val / 256 = 4 by omega, show (y 1).val % 256 = (x 1).val by omega]
    refine (congrArg _ (ix2_eta x).symm).trans ((cut21 (tabs_Q m c t) (x 0) _ (fun j => Q_at m c t (x 0) j) (x 1)).trans ?_)
    exact q_nope _ _ _ _ _ 4 _ x1_lt
  case piece8 =>
    rw [h0, show (y 1).val / 256 = 3 by omega, show (y 1).val % 256 = 128 + (x 1).val by omega]
    refine (congrArg _ (ix2_eta x).symm).trans ((turn3 (tabs_C m c t) (tabs_L m c t) (tabs_R m c t) (tabs_Q m c t) (x 0) _ _ _ _ (fun j => Q_at m c t (x 0) j) (fun d => C_at m c t (x 0) d) (fun d => L_at m c t (x 0) d) (fun d => R_at m c t (x 0) d) (x 1)).trans ?_)
    exact q_rope _ _ _ _ _ 3 _ x1_lt
  case piece9 =>
    rw [h0, show (y 1).val / 256 = 3 by omega, show (y 1).val % 256 = (x 1).val by omega]
    refine (congrArg _ (ix2_eta x).symm).trans ((cut18 (tabs_Q m c t) (x 0) _ (fun j => Q_at m c t (x 0) j) (x 1)).trans ?_)
    exact q_nope _ _ _ _ _ 3 _ x1_lt
  case piece10 =>
    rw [h0, show (y 1).val / 256 = 2 by omega, show (y 1).val % 256 = 128 + (x 1).val by omega]
    refine (congrArg _ (ix2_eta x).symm).trans ((turn2 (tabs_C m c t) (tabs_L m c t) (tabs_R m c t) (tabs_Q m c t) (x 0) _ _ _ _ (fun j => Q_at m c t (x 0) j) (fun d => C_at m c t (x 0) d) (fun d => L_at m c t (x 0) d) (fun d => R_at m c t (x 0) d) (x 1)).trans ?_)
    exact q_rope _ _ _ _ _ 2 _ x1_lt
  case piece11 =>
    rw [h0, show (y 1).val / 256 = 2 by omega, show (y 1).val % 256 = (x 1).val by omega]
    refine (congrArg _ (ix2_eta x).symm).trans ((cut15 (tabs_Q m c t) (x 0) _ (fun j => Q_at m c t (x 0) j) (x 1)).trans ?_)
    exact q_nope _ _ _ _ _ 2 _ x1_lt
  case piece12 =>
    rw [h0, show (y 1).val / 256 = 1 by omega, show (y 1).val % 256 = 128 + (x 1).val by omega]
    refine (congrArg _ (ix2_eta x).symm).trans ((turn1 (tabs_C m c t) (tabs_L m c t) (tabs_R m c t) (tabs_Q m c t) (x 0) _ _ _ _ (fun j => Q_at m c t (x 0) j) (fun d => C_at m c t (x 0) d) (fun d => L_at m c t (x 0) d) (fun d => R_at m c t (x 0) d) (x 1)).trans ?_)
    exact q_rope _ _ _ _ _ 1 _ x1_lt
  case piece13 =>
    rw [h0, show (y 1).val / 256 = 1 by omega, show (y 1).val % 256 = (x 1).val by omega]
    refine (congrArg _ (ix2_eta x).symm).trans ((cut12 (tabs_Q m c t) (x 0) _ (fun j => Q_at m c t (x 0) j) (x 1)).trans ?_)
    exact q_nope _ _ _ _ _ 1 _ x1_lt
  case piece14 =>
    rw [h0, show (y 1).val / 256 = 0 by omega, show (y 1).val % 256 = 128 + (x 1).val by omega]
    refine (congrArg _ (ix2_eta x).symm).trans ((turn0 (tabs_C m c t) (tabs_L m c t) (tabs_R m c t) (tabs_Q m c t) (x 0) _ _ _ _ (fun j => Q_at m c t (x 0) j) (fun d => C_at m c t (x 0) d) (fun d => L_at m c t (x 0) d) (fun d => R_at m c t (x 0) d) (x 1)).trans ?_)
    exact q_rope _ _ _ _ _ 0 _ x1_lt
  case piece15 =>
    rw [h0, show (y 1).val / 256 = 0 by omega, show (y 1).val % 256 = (x 1).val by omega]
    refine (congrArg _ (ix2_eta x).symm).trans ((cut9 (tabs_Q m c t) (x 0) _ (fun j => Q_at m c t (x 0) j) (x 1)).trans ?_)
    exact q_nope _ _ _ _ _ 0 _ x1_lt

theorem k_out (c : Dev nD) (t : Fin cfg0.N) (y : S512x2048.Idx) :
    out0_11 (iblk m c 0 t) (iblk m c 1 t) (iblk m c 2 t) (iblk m c 3 t) (iblk m c 4 t) (iblk m c 5 t) (iblk m c 6 t) (iblk m c 7 t) (iblk m c 8 t) (iblk m c 9 t) y
      = kAt (m (c, Proc.tc.devRef main_arg0)) (m (c, Proc.tc.devRef main_arg1)) (m (c, Proc.tc.devRef main_arg3)) (m (c, Proc.tc.devRef main_arg5)) (t.val * 512 + (y 0).val) ((y 1).val / 256) ((y 1).val % 256) := by
  frame_out
  canon_tiles x h
  case piece0 =>
    rw [h0, show (y 1).val / 256 = 7 by omega, show (y 1).val % 256 = 128 + (x 1).val by omega]
    refine (congrArg (tabs_K m c t) (ix2_eta x).symm).trans ((K_at m c t (x 0) (x 1)).trans ?_)
    exact k_rope _ _ _ _ _ 7 _ x1_lt
  case piece1 =>
    rw [h0, show (y 1).val / 256 = 7 by omega, show (y 1).val % 256 = (x 1).val by omega]
    refine (congrArg _ (ix2_eta x).symm).trans ((cut32 (tabs_KV m c t) (x 0) _ (fun j => KV_at m c t (x 0) j) (x 1)).trans ?_)
    exact k_nope _ _ _ _ _ 7 _ x1_lt (by decide)
  case piece2 =>
    rw [h0, show (y 1).val / 256 = 6 by omega, show (y 1).val % 256 = 128 + (x 1).val by omega]
    refine (congrArg (tabs_K m c t) (ix2_eta x).symm).trans ((K_at m c t (x 0) (x 1)).trans ?_)
    exact k_rope _ _ _ _ _ 6 _ x1_lt
  case piece3 =>
    rw [h0, show (y 1).val / 256 = 6 by omega, show (y 1).val % 256 = (x 1).val by omega]
    refine (congrArg _ (ix2_eta x).symm).trans ((cut29 (tabs_KV m c t) (x 0) _ (fun j => KV_at m c t (x 0) j) (x 1)).trans ?_)
    exact k_nope _ _ _ _ _ 6 _ x1_lt (by decide)
  case piece4 =>
    rw [h0, show (y 1).val / 256 = 5 by omega, show (y 1).val % 256 = 128 + (x 1).val by omega]
    refine (congrArg (tabs_K m c t) (ix2_eta x).symm).trans ((K_at m c t (x 0) (x 1)).trans ?_)
    exact k_rope _ _ _ _ _ 5 _ x1_lt
  case piece5 =>
    rw [h0, show (y 1).val / 256 = 5 by omega, show (y 1).val % 256 = (x 1).val by omega]
    refine (congrArg _ (ix2_eta x).symm).trans ((cut26 (tabs_KV m c t) (x 0) _ (fun j => KV_at m c t (x 0) j) (x 1)).trans ?_)
    exact k_nope _ _ _ _ _ 5 _ x1_lt (by decide)
  case piece6 =>
    rw [h0, show (y 1).val / 256 = 4 by omega, show (y 1).val % 256 = 128 + (x 1).val by omega]
    refine (congrArg (tabs_K m c t) (ix2_eta x).symm).trans ((K_at m c t (x 0) (x 1)).trans ?_)
    exact k_rope _ _ _ _ _ 4 _ x1_lt
  case piece7 =>
    rw [h0, show (y 1).val / 256 = 4 by omega, show (y 1).val % 256 = (x 1).val by omega]
    refine (congrArg _ (ix2_eta x).symm).trans ((cut23 (tabs_KV m c t) (x 0) _ (fun j => KV_at m c t (x 0) j) (x 1)).trans ?_)
    exact k_nope _ _ _ _ _ 4 _ x1_lt (by decide)
  case piece8 =>
    rw [h0, show (y 1).val / 256 = 3 by omega, show (y 1).val % 256 = 128 + (x 1).val by omega]
    refine (congrArg (tabs_K m c t) (ix2_eta x).symm).trans ((K_at m c t (x 0) (x 1)).trans ?_)
    exact k_rope _ _ _ _ _ 3 _ x1_lt
  case piece9 =>
    rw [h0, show (y 1).val / 256 = 3 by omega, show (y 1).val % 256 = (x 1).val by omega]
    refine (congrArg _ (ix2_eta x).symm).trans ((cut20 (tabs_KV m c t) (x 0) _ (fun j => KV_at m c t (x 0) j) (x 1)).trans ?_)
    exact k_nope _ _ _ _ _ 3 _ x1_lt (by decide)
  case piece10 =>
    rw [h0, show (y 1).val / 256 = 2 by omega, show (y 1).val % 256 = 128 + (x 1).val by omega]
    refine (congrArg (tabs_K m c t) (ix2_eta x).symm).trans ((K_at m c t (x 0) (x 1)).trans ?_)
    exact k_rope _ _ _ _ _ 2 _ x1_lt
  case piece11 =>
    rw [h0, show (y 1).val / 256 = 2 by omega, show (y 1).val % 256 = (x 1).val by omega]
    refine (congrArg _ (ix2_eta x).symm).trans ((cut17 (tabs_KV m c t) (x 0) _ (fun j => KV_at m c t (x 0) j) (x 1)).trans ?_)
    exact k_nope _ _ _ _ _ 2 _ x1_lt (by decide)
  case piece12 =>
    rw [h0, show (y 1).val / 256 = 1 by omega, show (y 1).val % 256 = 128 + (x 1).val by omega]
    refine (congrArg (tabs_K m c t) (ix2_eta x).symm).trans ((K_at m c t (x 0) (x 1)).trans ?_)
    exact k_rope _ _ _ _ _ 1 _ x1_lt
  case piece13 =>
    rw [h0, show (y 1).val / 256 = 1 by omega, show (y 1).val % 256 = (x 1).val by omega]
    refine (congrArg _ (ix2_eta x).symm).trans ((cut14 (tabs_KV m c t) (x 0) _ (fun j => KV_at m c t (x 0) j) (x 1)).trans ?_)
    exact k_nope _ _ _ _ _ 1 _ x1_lt (by decide)
  case piece14 =>
    rw [h0, show (y 1).val / 256 = 0 by omega, show (y 1).val % 256 = 128 + (x 1).val by omega]
    refine (congrArg _ (ix2_eta x).symm).trans ((turn_at (tabs_C m c t) (tabs_L m c t) (tabs_R m c t) (iblk m c 2 t) (x 0) (fun e => pj (m (c, Proc.tc.devRef main_arg0)) (t.val * 512 + (x 0).val) (10624 + e)) _ _ _ (fun d => kpe_read m c t (x 0) d) (fun d => C_at m c t (x 0) d) (fun d => L_at m c t (x 0) d) (fun d => R_at m c t (x 0) d) (x 1)).trans ?_)
    exact k_rope _ _ _ _ _ 0 _ x1_lt
  case piece15 =>
    rw [h0, show (y 1).val / 256 = 0 by omega, show (y 1).val % 256 = (x 1).val by omega]
    refine (congrArg _ (ix2_eta x).symm).trans ((K0_at m c t (x 0) (x 1)).trans ?_)
    exact k_nope _ _ _ _ _ 0 _ x1_lt (by decide)

theorem v_out (c : Dev nD) (t : Fin cfg0.N) (y : S512x2048.Idx) :
    out0_12 (iblk m c 0 t) (iblk m c 1 t) (iblk m c 2 t) (iblk m c 3 t) (iblk m c 4 t) (iblk m c 5 t) (iblk m c 6 t) (iblk m c 7 t) (iblk m c 8 t) (iblk m c 9 t) y
      = vAt (m (c, Proc.tc.devRef main_arg0)) (m (c, Proc.tc.devRef main_arg3)) (m (c, Proc.tc.devRef main_arg5)) (t.val * 512 + (y 0).val) ((y 1).val / 256) ((y 1).val % 256) := by
  frame_out
  canon_tiles x h
  case piece0 =>
    rw [h0, show (y 1).val / 256 = 7 by omega, show (y 1).val % 256 = 128 + (x 1).val by omega]
    refine (congrArg _ (ix2_eta x).symm).trans ((ones_at _).trans ?_)
    exact v_one _ _ _ _ 7 _
  case piece1 =>
    rw [h0, show (y 1).val / 256 = 7 by omega, show (y 1).val % 256 = (x 1).val by omega]
    refine (congrArg _ (ix2_eta x).symm).trans ((cut41 (tabs_KV m c t) (x 0) _ (fun j => KV_at m c t (x 0) j) (x 1)).trans ?_)
    exact v_val _ _ _ _ 7 _ x1_lt
  case piece2 =>
    rw [h0, show (y 1).val / 256 = 6 by omega, show (y 1).val % 256 = 128 + (x 1).val by omega]
    refine (congrArg _ (ix2_eta x).symm).trans ((ones_at _).trans ?_)
    exact v_one _ _ _ _ 6 _
  case piece3 =>
    rw [h0, show (y 1).val / 256 = 6 by omega, show (y 1).val % 256 = (x 1).val by omega]
    refine (congrArg _ (ix2_eta x).symm).trans ((cut40 (tabs_KV m c t) (x 0) _ (fun j => KV_at m c t (x 0) j) (x 1)).trans ?_)
    exact v_val _ _ _ _ 6 _ x1_lt
  case piece4 =>
    rw [h0, show (y 1).val / 256 = 5 by omega, show (y 1).val % 256 = 128 + (x 1).val by omega]
    refine (congrArg _ (ix2_eta x).symm).trans ((ones_at _).trans ?_)
    exact v_one _ _ _ _ 5 _
  case piece5 =>
    rw [h0, show (y 1).val / 256 = 5 by omega, show (y 1).val % 256 = (x 1).val by omega]
    refine (congrArg _ (ix2_eta x).symm).trans ((cut39 (tabs_KV m c t) (x 0) _ (fun j => KV_at m c t (x 0) j) (x 1)).trans ?_)
    exact v_val _ _ _ _ 5 _ x1_lt
  case piece6 =>
    rw [h0, show (y 1).val / 256 = 4 by omega, show (y 1).val % 256 = 128 + (x 1).val by omega]
    refine (congrArg _ (ix2_eta x).symm).trans ((ones_at _).trans ?_)
    exact v_one _ _ _ _ 4 _
  case piece7 =>
    rw [h0, show (y 1).val / 256 = 4 by omega, show (y 1).val % 256 = (x 1).val by omega]
    refine (congrArg _ (ix2_eta x).symm).trans ((cut38 (tabs_KV m c t) (x 0) _ (fun j => KV_at m c t (x 0) j) (x 1)).trans ?_)
    exact v_val _ _ _ _ 4 _ x1_lt
  case piece8 =>
    rw [h0, show (y 1).val / 256 = 3 by omega, show (y 1).val % 256 = 128 + (x 1).val by omega]
    refine (congrArg _ (ix2_eta x).symm).trans ((ones_at _).trans ?_)
    exact v_one _ _ _ _ 3 _
  case piece9 =>
    rw [h0, show (y 1).val / 256 = 3 by omega, show (y 1).val % 256 = (x 1).val by omega]
    refine (congrArg _ (ix2_eta x).symm).trans ((cut37 (tabs_KV m c t) (x 0) _ (fun j => KV_at m c t (x 0) j) (x 1)).trans ?_)
    exact v_val _ _ _ _ 3 _ x1_lt
  case piece10 =>
    rw [h0, show (y 1).val / 256 = 2 by omega, show (y 1).val % 256 = 128 + (x 1).val by omega]
    refine (congrArg _ (ix2_eta x).symm).trans ((ones_at _).trans ?_)
    exact v_one _ _ _ _ 2 _
  case piece11 =>
    rw [h0, show (y 1).val / 256 = 2 by omega, show (y 1).val % 256 = (x 1).val by omega]
    refine (congrArg _ (ix2_eta x).symm).trans ((cut36 (tabs_KV m c t) (x 0) _ (fun j => KV_at m c t (x 0) j) (x 1)).trans ?_)
    exact v_val _ _ _ _ 2 _ x1_lt
  case piece12 =>
    rw [h0, show (y 1).val / 256 = 1 by omega, show (y 1).val % 256 = 128 + (x 1).val by omega]
    refine (congrArg _ (ix2_eta x).symm).trans ((ones_at _).trans ?_)
    exact v_one _ _ _ _ 1 _
  case piece13 =>
    rw [h0, show (y 1).val / 256 = 1 by omega, show (y 1).val % 256 = (x 1).val by omega]
    refine (congrArg _ (ix2_eta x).symm).trans ((cut35 (tabs_KV m c t) (x 0) _ (fun j => KV_at m c t (x 0) j) (x 1)).trans ?_)
    exact v_val _ _ _ _ 1 _ x1_lt
  case piece14 =>
    rw [h0, show (y 1).val / 256 = 0 by omega, show (y 1).val % 256 = 128 + (x 1).val by omega]
    refine (congrArg _ (ix2_eta x).symm).trans ((ones_at _).trans ?_)
    exact v_one _ _ _ _ 0 _
  case piece15 =>
    rw [h0, show (y 1).val / 256 = 0 by omega, show (y 1).val % 256 = (x 1).val by omega]
    refine (congrArg _ (ix2_eta x).symm).trans ((cut34 (tabs_KV m c t) (x 0) _ (fun j => KV_at m c t (x 0) j) (x 1)).trans ?_)
    exact v_val _ _ _ _ 0 _ x1_lt

end Cert.LatentUpIdeal.Lat

end
-- ==== Proof.LatRef.lean ====
/-
  The reference of the latent up projections at an index.
-/
module

public import proofs.«01_k».proof.Proof.Gen.LatentUpReferenceIdeal.Run
public import proofs.«01_k».proof.Proof.LatMath
public import Idealize.ShloMosaic.Lib.Pointwise

@[expose] public section

set_option maxRecDepth 16384

noncomputable section

namespace Cert.LatentUpReferenceIdeal.Val

open Idealize.ShloMosaic Idealize.ShloMosaic.TcCoe
open Cert.LatentUpReferenceIdeal Cert.LatentUpReferenceIdeal.Gen
open Cert.Lat
open Cert.Ret (pj ps num)

/-- The two latents and the shared key's rotary lanes. -/
def cq (X : FVec Ideal S16384x10752 .f32) : FVec Ideal S4x4096x512 .f32 :=
  extractStridedSlice S4x4096x512 ![0, 0, 9216] (shapeCast _ X shapeCasts_S16384x10752_S4x4096x10752) slices_S4x4096x10752_S4x4096x512_0_0_9216
@[inherit_doc cq] def ckv (X : FVec Ideal S16384x10752 .f32) : FVec Ideal S4x4096x512 .f32 :=
  extractStridedSlice S4x4096x512 ![0, 0, 9728] (shapeCast _ X shapeCasts_S16384x10752_S4x4096x10752) slices_S4x4096x10752_S4x4096x512_0_0_9728
@[inherit_doc cq] def kpe (X : FVec Ideal S16384x10752 .f32) : FVec Ideal S4x4096x1x64 .f32 :=
  broadcastInDim S4x4096x1x64 ![0, 1, 3] bcast_S4x4096x64_S4x4096x1x64_0_1_3 (extractStridedSlice S4x4096x64 ![0, 0, 10624] (shapeCast _ X shapeCasts_S16384x10752_S4x4096x10752) slices_S4x4096x10752_S4x4096x64_0_0_10624)

/-- A latent normalised. -/
def nrm (C : FVec Ideal S4x4096x512 .f32) (g : FVec Ideal S512 .f32) : FVec Ideal S4x4096x512 .f32 :=
  mulf (mulf C (broadcastInDim S4x4096x512 ![0, 1, 2] bcast_S4x4096x1_S4x4096x512_0_1_2 (Host.rsqrt (addf (Host.divf (broadcastInDim S4x4096x1 ![0, 1] bcast_S4x4096_S4x4096x1_0_1 (Host.reduceAdd (mulf C C) (constant S_ .f32 0x00000000#32) reducesTo_S4x4096x512_S4x4096_d2 h_S_)) (broadcastInDim S4x4096x1 ![] bcast_S_S4x4096x1 (constant S_ .f32 0x44000000#32))) (broadcastInDim S4x4096x1 ![] bcast_S_S4x4096x1 (constant S_ .f32 0x358637BD#32)))))) (broadcastInDim S4x4096x512 ![0, 1, 2] bcast_S1x1x512_S4x4096x512_0_1_2 (broadcastInDim S1x1x512 ![2] bcast_S512_S1x1x512_2 g))

/-- The heads. -/
def qh (A : FVec Ideal S4x4096x512 .f32) (W : FVec Ideal S512x1536 .f32) : FVec Ideal S4x4096x8x192 .f32 :=
  shapeCast _ (Host.dotGeneral dot_S4x4096x512_S512x1536_S4x4096x1536_2_0_01_1_n_n none A W) shapeCasts_S4x4096x1536_S4x4096x8x192
@[inherit_doc qh] def kvh (A : FVec Ideal S4x4096x512 .f32) (W : FVec Ideal S512x2048 .f32) : FVec Ideal S4x4096x8x256 .f32 :=
  shapeCast _ (Host.dotGeneral dot_S4x4096x512_S512x2048_S4x4096x2048_2_0_01_1_n_n none A W) shapeCasts_S4x4096x2048_S4x4096x8x256

/-- The angles of the rows, and their cosines and sines. -/
def ang (p : IVec S4x4096 32) : FVec Ideal S4x4096x32 .f32 :=
  mulf (broadcastInDim S4x4096x32 ![0, 1, 2] bcast_S4x4096x1_S4x4096x32_0_1_2 (broadcastInDim S4x4096x1 ![0, 1] bcast_S4x4096_S4x4096x1_0_1 (sitofp .f32 p))) (broadcastInDim S4x4096x32 ![0, 1, 2] bcast_S1x1x32_S4x4096x32_0_1_2 (broadcastInDim S1x1x32 ![2] bcast_S32_S1x1x32_2 (Host.powf (broadcastInDim S32 ![] bcast_S_S32 (constant S_ .f32 0x461C4000#32)) (Host.divf (Host.negf (addf (broadcastInDim S32 ![] bcast_S_S32 (constant S_ .f32 0x00000000#32)) (mulf (broadcastInDim S32 ![] bcast_S_S32 (constant S_ .f32 0x40000000#32)) (sitofp .f32 (iotaInDim S32 32 0))))) (broadcastInDim S32 ![] bcast_S_S32 (constant S_ .f32 0x42800000#32))))))
@[inherit_doc ang] def cosT (p : IVec S4x4096 32) : FVec Ideal S4x4096x1x32 .f32 :=
  broadcastInDim S4x4096x1x32 ![0, 1, 3] bcast_S4x4096x32_S4x4096x1x32_0_1_3 (Host.cos (ang p))
@[inherit_doc ang] def sinT (p : IVec S4x4096 32) : FVec Ideal S4x4096x1x32 .f32 :=
  broadcastInDim S4x4096x1x32 ![0, 1, 3] bcast_S4x4096x32_S4x4096x1x32_0_1_3 (Host.sin (ang p))

/-- The rotation of eight heads, and of one. -/
def rope8 (X : FVec Ideal S4x4096x8x64 .f32) (C S : FVec Ideal S4x4096x1x32 .f32) : FVec Ideal S4x4096x8x64 .f32 :=
  concatenate S4x4096x8x64 3 [⟨S4x4096x8x32, (subf (mulf (extractStridedSlice S4x4096x8x32 ![0, 0, 0, 0] X slices_S4x4096x8x64_S4x4096x8x32_0_0_0_0) (broadcastInDim S4x4096x8x32 ![0, 1, 2, 3] bcast_S4x4096x1x32_S4x4096x8x32_0_1_2_3 C)) (mulf (extractStridedSlice S4x4096x8x32 ![0, 0, 0, 32] X slices_S4x4096x8x64_S4x4096x8x32_0_0_0_32) (broadcastInDim S4x4096x8x32 ![0, 1, 2, 3] bcast_S4x4096x1x32_S4x4096x8x32_0_1_2_3 S)) : FVec Ideal S4x4096x8x32 .f32)⟩,
    ⟨S4x4096x8x32, (addf (mulf (extractStridedSlice S4x4096x8x32 ![0, 0, 0, 0] X slices_S4x4096x8x64_S4x4096x8x32_0_0_0_0) (broadcastInDim S4x4096x8x32 ![0, 1, 2, 3] bcast_S4x4096x1x32_S4x4096x8x32_0_1_2_3 S)) (mulf (extractStridedSlice S4x4096x8x32 ![0, 0, 0, 32] X slices_S4x4096x8x64_S4x4096x8x32_0_0_0_32) (broadcastInDim S4x4096x8x32 ![0, 1, 2, 3] bcast_S4x4096x1x32_S4x4096x8x32_0_1_2_3 C)) : FVec Ideal S4x4096x8x32 .f32)⟩] concatenates_S4x4096x8x32_S4x4096x8x32_S4x4096x8x64_d3
@[inherit_doc rope8] def rope1 (X : FVec Ideal S4x4096x1x64 .f32) (C S : FVec Ideal S4x4096x1x32 .f32) : FVec Ideal S4x4096x1x64 .f32 :=
  concatenate S4x4096x1x64 3 [⟨S4x4096x1x32, (subf (mulf (extractStridedSlice S4x4096x1x32 ![0, 0, 0, 0] X slices_S4x4096x1x64_S4x4096x1x32_0_0_0_0) C) (mulf (extractStridedSlice S4x4096x1x32 ![0, 0, 0, 32] X slices_S4x4096x1x64_S4x4096x1x32_0_0_0_32) S) : FVec Ideal S4x4096x1x32 .f32)⟩,
    ⟨S4x4096x1x32, (addf (mulf (extractStridedSlice S4x4096x1x32 ![0, 0, 0, 0] X slices_S4x4096x1x64_S4x4096x1x32_0_0_0_0) S) (mulf (extractStridedSlice S4x4096x1x32 ![0, 0, 0, 32] X slices_S4x4096x1x64_S4x4096x1x32_0_0_0_32) C) : FVec Ideal S4x4096x1x32 .f32)⟩] concatenates_S4x4096x1x32_S4x4096x1x32_S4x4096x1x64_d3

/-- Three parts of a head's lanes, the heads side by side. -/
def rows3 (A : FVec Ideal S4x4096x8x128 .f32) (B C : FVec Ideal S4x4096x8x64 .f32) : FVec Ideal S16384x2048 .bf16 :=
  truncf .bf16 (shapeCast _ (concatenate S4x4096x8x256 3 [⟨S4x4096x8x128, A⟩, ⟨S4x4096x8x64, B⟩, ⟨S4x4096x8x64, C⟩] concatenates_S4x4096x8x128_S4x4096x8x64_S4x4096x8x64_S4x4096x8x256_d3) shapeCasts_S4x4096x8x256_S16384x2048) bitsLt_bf16_f32
/-- The same of two parts. -/
def rows2 (A B : FVec Ideal S4x4096x8x128 .f32) : FVec Ideal S16384x2048 .bf16 :=
  truncf .bf16 (shapeCast _ (concatenate S4x4096x8x256 3 [⟨S4x4096x8x128, A⟩, ⟨S4x4096x8x128, B⟩] concatenates_S4x4096x8x128_S4x4096x8x128_S4x4096x8x256_d3) shapeCasts_S4x4096x8x256_S16384x2048) bitsLt_bf16_f32

def qres (X : FVec Ideal S16384x10752 .f32) (p : IVec S4x4096 32) (g : FVec Ideal S512 .f32) (W : FVec Ideal S512x1536 .f32) : FVec Ideal S16384x2048 .bf16 :=
  rows3 (mulf (extractStridedSlice S4x4096x8x128 ![0, 0, 0, 0] (qh (nrm (cq X) g) W) slices_S4x4096x8x192_S4x4096x8x128_0_0_0_0) (broadcastInDim S4x4096x8x128 ![] bcast_S_S4x4096x8x128 (constant S_ .f32 0x3DD53B95#32)))
    (mulf (rope8 (extractStridedSlice S4x4096x8x64 ![0, 0, 0, 128] (qh (nrm (cq X) g) W) slices_S4x4096x8x192_S4x4096x8x64_0_0_0_128) (cosT p) (sinT p)) (broadcastInDim S4x4096x8x64 ![] bcast_S_S4x4096x8x64 (constant S_ .f32 0x3DD53B95#32)))
    (broadcastInDim S4x4096x8x64 ![] bcast_S_S4x4096x8x64 (constant S_ .f32 0x00000000#32))

def kres (X : FVec Ideal S16384x10752 .f32) (p : IVec S4x4096 32) (g : FVec Ideal S512 .f32) (W : FVec Ideal S512x2048 .f32) : FVec Ideal S16384x2048 .bf16 :=
  rows3 (extractStridedSlice S4x4096x8x128 ![0, 0, 0, 0] (kvh (nrm (ckv X) g) W) slices_S4x4096x8x256_S4x4096x8x128_0_0_0_0)
    (broadcastInDim S4x4096x8x64 ![0, 1, 2, 3] bcast_S4x4096x1x64_S4x4096x8x64_0_1_2_3 (rope1 (kpe X) (cosT p) (sinT p)))
    (broadcastInDim S4x4096x8x64 ![] bcast_S_S4x4096x8x64 (constant S_ .f32 0x00000000#32))

def vres (X : FVec Ideal S16384x10752 .f32) (g : FVec Ideal S512 .f32) (W : FVec Ideal S512x2048 .f32) : FVec Ideal S16384x2048 .bf16 :=
  rows2 (extractStridedSlice S4x4096x8x128 ![0, 0, 0, 128] (kvh (nrm (ckv X) g) W) slices_S4x4096x8x256_S4x4096x8x128_0_0_0_128)
    (broadcastInDim S4x4096x8x128 ![] bcast_S_S4x4096x8x128 (constant S_ .f32 0x3F800000#32))

theorem qres_eq (m : (ℓ : Loc nD τ sig) → Buf (Elt Ideal) ℓ) (c : Dev nD) : Value.res_main_v110 m c
    = qres (m ((c.tc : Thread nD τ).loc main_arg0)) (m ((c.tc : Thread nD τ).loc main_arg1)) (m ((c.tc : Thread nD τ).loc main_arg2)) (m ((c.tc : Thread nD τ).loc main_arg4)) := by
  unfold Value.res_main_v110
  rfl

theorem kres_eq (m : (ℓ : Loc nD τ sig) → Buf (Elt Ideal) ℓ) (c : Dev nD) : Value.res_main_v113 m c
    = kres (m ((c.tc : Thread nD τ).loc main_arg0)) (m ((c.tc : Thread nD τ).loc main_arg1)) (m ((c.tc : Thread nD τ).loc main_arg3)) (m ((c.tc : Thread nD τ).loc main_arg5)) := by
  unfold Value.res_main_v113
  rfl

/-! ## At an index -/

theorem cq_at (X : FVec Ideal S16384x10752 .f32) (b : Fin 4) (s : Fin 4096) (k : Fin 512) : cq X (ix3 b s k) = pj X (b.val * 4096 + s.val) (9216 + k.val) := by
  unfold pj
  rw [dif_pos ⟨by omega, by omega⟩]
  pointwise [cq]

theorem ckv_at (X : FVec Ideal S16384x10752 .f32) (b : Fin 4) (s : Fin 4096) (k : Fin 512) : ckv X (ix3 b s k) = pj X (b.val * 4096 + s.val) (9728 + k.val) := by
  unfold pj
  rw [dif_pos ⟨by omega, by omega⟩]
  pointwise [ckv]

theorem kpe_at (X : FVec Ideal S16384x10752 .f32) (b : Fin 4) (s : Fin 4096) (z : Fin 1) (k : Fin 64) : kpe X (ix4 b s z k) = pj X (b.val * 4096 + s.val) (10624 + k.val) := by
  unfold pj
  rw [dif_pos ⟨by omega, by omega⟩]
  pointwise [kpe]

theorem nrm_at (C : FVec Ideal S4x4096x512 .f32) (g : FVec Ideal S512 .f32) (b : Fin 4) (s : Fin 4096) (f : ℕ → EReal) (hf : ∀ k : Fin 512, C (ix3 b s k) = f k.val) (k : Fin 512) :
    nrm C g (ix3 b s k) = nrow f (gn g) k.val := by
  unfold nrow gn
  rw [dif_pos k.isLt]
  pointwise [nrm]
  simp only [hf]

theorem qh_at (X : FVec Ideal S16384x10752 .f32) (g : FVec Ideal S512 .f32) (W : FVec Ideal S512x1536 .f32) (b : Fin 4) (s : Fin 4096) (h : Fin 8) (d : Fin 192) :
    qh (nrm (cq X) g) W (ix4 b s h d) = up X g W 9216 (b.val * 4096 + s.val) (h.val * 192 + d.val) := by
  unfold up wt
  pointwise [qh]
  refine Finset.sum_congr rfl fun k _ => ?_
  rw [nrm_at _ g b s (fun j => pj X (b.val * 4096 + s.val) (9216 + j)) (fun k => cq_at X b s k) k, dif_pos (by omega)]

theorem kvh_at (X : FVec Ideal S16384x10752 .f32) (g : FVec Ideal S512 .f32) (W : FVec Ideal S512x2048 .f32) (b : Fin 4) (s : Fin 4096) (h : Fin 8) (d : Fin 256) :
    kvh (nrm (ckv X) g) W (ix4 b s h d) = up X g W 9728 (b.val * 4096 + s.val) (h.val * 256 + d.val) := by
  unfold up wt
  pointwise [kvh]
  refine Finset.sum_congr rfl fun k _ => ?_
  rw [nrm_at _ g b s (fun j => pj X (b.val * 4096 + s.val) (9728 + j)) (fun k => ckv_at X b s k) k, dif_pos (by omega)]

theorem ang_at (p : IVec S4x4096 32) (b : Fin 4) (s : Fin 4096) (n : Fin 32) : ang p (ix3 b s n) = ps p (b.val * 4096 + s.val) * freq n.val := by
  unfold ps freq num
  rw [dif_pos (show b.val * 4096 + s.val < 16384 by omega)]
  pointwise [ang]
  have e0 : (⟨(b.val * 4096 + s.val) / 4096, by omega⟩ : Fin 4) = b := Fin.ext (by dsimp only; omega)
  have e1 : (⟨(b.val * 4096 + s.val) % 4096, Nat.mod_lt _ (by norm_num)⟩ : Fin 4096) = s := Fin.ext (by dsimp only; omega)
  rw [e0, e1]

theorem cosT_at (p : IVec S4x4096 32) (b : Fin 4) (s : Fin 4096) (z : Fin 1) (n : Fin 32) : cosT p (ix4 b s z n) = cs p (b.val * 4096 + s.val) n.val := by
  unfold cs
  rw [← ang_at]
  pointwise [cosT]

theorem sinT_at (p : IVec S4x4096 32) (b : Fin 4) (s : Fin 4096) (z : Fin 1) (n : Fin 32) : sinT p (ix4 b s z n) = sn p (b.val * 4096 + s.val) n.val := by
  unfold sn
  rw [← ang_at]
  pointwise [sinT]

theorem rope8_at (X : FVec Ideal S4x4096x8x64 .f32) (C S : FVec Ideal S4x4096x1x32 .f32) (b : Fin 4) (s : Fin 4096) (h : Fin 8) (x c t : ℕ → EReal)
    (hx : ∀ d : Fin 64, X (ix4 b s h d) = x d.val) (hc : ∀ (z : Fin 1) (n : Fin 32), C (ix4 b s z n) = c n.val) (hs : ∀ (z : Fin 1) (n : Fin 32), S (ix4 b s z n) = t n.val) (d : Fin 64) :
    rope8 X C S (ix4 b s h d) = rope x c t d.val := by
  unfold rope
  pointwise [rope8]
  by_cases hd : d.val < 32
  · simp only [hd, ↓reduceDIte, ↓reduceIte, hx, hc, hs]
    try rw [Nat.add_comm 32]
  · simp only [hd, ↓reduceDIte, ↓reduceIte, hx, hc, hs]
    try rw [show 32 + (d.val - 32) = d.val by omega]

theorem rope1_at (X : FVec Ideal S4x4096x1x64 .f32) (C S : FVec Ideal S4x4096x1x32 .f32) (b : Fin 4) (s : Fin 4096) (h : Fin 1) (x c t : ℕ → EReal)
    (hx : ∀ (z : Fin 1) (d : Fin 64), X (ix4 b s z d) = x d.val) (hc : ∀ (z : Fin 1) (n : Fin 32), C (ix4 b s z n) = c n.val) (hs : ∀ (z : Fin 1) (n : Fin 32), S (ix4 b s z n) = t n.val) (d : Fin 64) :
    rope1 X C S (ix4 b s h d) = rope x c t d.val := by
  unfold rope
  pointwise [rope1]
  by_cases hd : d.val < 32
  · simp only [hd, ↓reduceDIte, ↓reduceIte, hx, hc, hs]
    try rw [Nat.add_comm 32]
  · simp only [hd, ↓reduceDIte, ↓reduceIte, hx, hc, hs]
    try rw [show 32 + (d.val - 32) = d.val by omega]

theorem rows3_at (A : FVec Ideal S4x4096x8x128 .f32) (B C : FVec Ideal S4x4096x8x64 .f32) (r : Fin 16384) (c : Fin 2048) :
    rows3 A B C (ix2 r c) = if h : c.val % 256 < 128 then A (ix4 (⟨r.val / 4096, by omega⟩ : Fin 4) (⟨r.val % 4096, by omega⟩ : Fin 4096) (⟨c.val / 256, by omega⟩ : Fin 8) (⟨c.val % 256, h⟩ : Fin 128))
      else if h' : c.val % 256 < 192 then B (ix4 (⟨r.val / 4096, by omega⟩ : Fin 4) (⟨r.val % 4096, by omega⟩ : Fin 4096) (⟨c.val / 256, by omega⟩ : Fin 8) (⟨c.val % 256 - 128, by omega⟩ : Fin 64))
      else C (ix4 (⟨r.val / 4096, by omega⟩ : Fin 4) (⟨r.val % 4096, by omega⟩ : Fin 4096) (⟨c.val / 256, by omega⟩ : Fin 8) (⟨c.val % 256 - 192, by omega⟩ : Fin 64)) := by
  pointwise [rows3]
  by_cases h : c.val % 256 < 128
  · simp only [h, ↓reduceDIte]
  · by_cases h' : c.val % 256 < 192
    · simp only [h, h', ↓reduceDIte]
      rw [dif_pos (show c.val % 256 - 128 < 64 by omega)]
    · simp only [h, h', ↓reduceDIte]
      rw [dif_neg (show ¬c.val % 256 - 128 < 64 by omega)]
      rfl

theorem rows2_at (A B : FVec Ideal S4x4096x8x128 .f32) (r : Fin 16384) (c : Fin 2048) :
    rows2 A B (ix2 r c) = if h : c.val % 256 < 128 then A (ix4 (⟨r.val / 4096, by omega⟩ : Fin 4) (⟨r.val % 4096, by omega⟩ : Fin 4096) (⟨c.val / 256, by omega⟩ : Fin 8) (⟨c.val % 256, h⟩ : Fin 128))
      else B (ix4 (⟨r.val / 4096, by omega⟩ : Fin 4) (⟨r.val % 4096, by omega⟩ : Fin 4096) (⟨c.val / 256, by omega⟩ : Fin 8) (⟨c.val % 256 - 128, by omega⟩ : Fin 128)) := by
  pointwise [rows2]

theorem qres_ix (X : FVec Ideal S16384x10752 .f32) (p : IVec S4x4096 32) (g : FVec Ideal S512 .f32) (W : FVec Ideal S512x1536 .f32) (r : Fin 16384) (c : Fin 2048) : qres X p g W (ix2 r c) = qs X p g W (ix2 r c) := by
  have er : r.val / 4096 * 4096 + r.val % 4096 = r.val := by omega
  rw [qres, rows3_at]
  show _ = qAt X p g W r.val (c.val / 256) (c.val % 256)
  unfold qAt
  by_cases h : c.val % 256 < 128
  · rw [dif_pos h, if_pos h]
    pointwise []
    simp only [qh_at, er]
  · rw [dif_neg h, if_neg h]
    by_cases h' : c.val % 256 < 192
    · rw [dif_pos h', if_pos h']
      pointwise []
      rw [rope8_at _ _ _ _ _ _ (fun d => up X g W 9216 (r.val / 4096 * 4096 + r.val % 4096) (c.val / 256 * 192 + (128 + d))) _ _ (fun d => by pointwise []; rw [qh_at]) (fun z n => cosT_at p _ _ z n) (fun z n => sinT_at p _ _ z n)]
      simp only [er]
    · rw [dif_neg h', if_neg h']
      pointwise []

theorem kp_at (X : FVec Ideal S16384x10752 .f32) (p : IVec S4x4096 32) (b : Fin 4) (s : Fin 4096) (z : Fin 1) (d : Fin 64) :
    rope1 (kpe X) (cosT p) (sinT p) (ix4 b s z d)
      = rope (fun d => pj X (b.val * 4096 + s.val) (10624 + d)) (cs p (b.val * 4096 + s.val)) (sn p (b.val * 4096 + s.val)) d.val :=
  rope1_at _ _ _ b s z _ _ _ (fun z d => kpe_at X b s z d) (fun z n => cosT_at p b s z n) (fun z n => sinT_at p b s z n) d

theorem kres_ix (X : FVec Ideal S16384x10752 .f32) (p : IVec S4x4096 32) (g : FVec Ideal S512 .f32) (W : FVec Ideal S512x2048 .f32) (r : Fin 16384) (c : Fin 2048) : kres X p g W (ix2 r c) = ks X p g W (ix2 r c) := by
  have er : r.val / 4096 * 4096 + r.val % 4096 = r.val := by omega
  rw [kres, rows3_at]
  show _ = kAt X p g W r.val (c.val / 256) (c.val % 256)
  unfold kAt
  by_cases h : c.val % 256 < 128
  · rw [dif_pos h, if_pos h]
    pointwise []
    simp only [kvh_at, er]
  · rw [dif_neg h, if_neg h]
    by_cases h' : c.val % 256 < 192
    · rw [dif_pos h', if_pos h']
      pointwise []
      rw [kp_at]
      simp only [er]
    · rw [dif_neg h', if_neg h']
      pointwise []

theorem vres_ix (X : FVec Ideal S16384x10752 .f32) (g : FVec Ideal S512 .f32) (W : FVec Ideal S512x2048 .f32) (r : Fin 16384) (c : Fin 2048) : vres X g W (ix2 r c) = vs X g W (ix2 r c) := by
  have er : r.val / 4096 * 4096 + r.val % 4096 = r.val := by omega
  rw [vres, rows2_at]
  show _ = vAt X g W r.val (c.val / 256) (c.val % 256)
  unfold vAt
  by_cases h : c.val % 256 < 128
  · rw [dif_pos h, if_pos h]
    pointwise []
    simp only [kvh_at, er]
  · rw [dif_neg h, if_neg h]
    pointwise []

theorem qres_at (X : FVec Ideal S16384x10752 .f32) (p : IVec S4x4096 32) (g : FVec Ideal S512 .f32) (W : FVec Ideal S512x1536 .f32) : qres X p g W = qs X p g W :=
  funext fun i => by rw [← ix2_eta i]; exact qres_ix X p g W (i 0) (i 1)

theorem kres_at (X : FVec Ideal S16384x10752 .f32) (p : IVec S4x4096 32) (g : FVec Ideal S512 .f32) (W : FVec Ideal S512x2048 .f32) : kres X p g W = ks X p g W :=
  funext fun i => by rw [← ix2_eta i]; exact kres_ix X p g W (i 0) (i 1)

theorem vres_at (X : FVec Ideal S16384x10752 .f32) (g : FVec Ideal S512 .f32) (W : FVec Ideal S512x2048 .f32) : vres X g W = vs X g W :=
  funext fun i => by rw [← ix2_eta i]; exact vres_ix X g W (i 0) (i 1)

end Cert.LatentUpReferenceIdeal.Val

end
-- ==== Proof.CallLatentUp.lean ====
/-
  The latent up projections: two latents of a row normalised and multiplied out into queries, keys and values of eight
  heads, with the rotary lanes turned by tables; the reference turns them pair by pair.
-/
module

public import proofs.«01_k».proof.Defs
public import proofs.«01_k».proof.Proof.Gen.LatentUp.Frame
public import proofs.«01_k».proof.Proof.LatOut
public import proofs.«01_k».proof.Proof.LatRef

@[expose] public section

set_option maxRecDepth 16384

noncomputable section

namespace Cert.LatentUpIdeal.Lat

open Idealize.ShloMosaic Idealize.ShloMosaic.TcCoe Idealize.SL.Sem
open Cert.LatentUpIdeal Cert.LatentUpIdeal.Gen Cert.Lat

variable (m : (ℓ : Loc nD τ sig) → Buf (Elt Ideal) ℓ)

theorem idx10 : ∀ t : Fin cfg0.N, win0_10.index t = ![t.val, 0] := (by decide +kernel : ∀ t : Fin grid0.N, _)
theorem row10 (t : Fin cfg0.N) (y : S512x2048.Idx) : ((((cfg0.win 10).blk t).view.emb y) 0).val = t.val * 512 + (y 0).val := by
  blk_simp [idx10 t]
theorem col10 (t : Fin cfg0.N) (y : S512x2048.Idx) : ((((cfg0.win 10).blk t).view.emb y) 1).val = (y 1).val := by
  blk_simp [idx10 t]

theorem final_q (c : Dev nD) : (dats m 0 c).arrAt 10 (cfgs 0).N = qs (m (c, Proc.tc.devRef main_arg0)) (m (c, Proc.tc.devRef main_arg1)) (m (c, Proc.tc.devRef main_arg2)) (m (c, Proc.tc.devRef main_arg4)) := by
  refine (dats m 0 c).arrAt_eq_of_covers 10 _ (by decide +kernel) fun t _ y => ?_
  blk_simp
  rw [after0_10]
  refine (q_out m c t y).trans ?_
  unfold qs
  rw [row10 t y, col10 t y]

theorem idx11 : ∀ t : Fin cfg0.N, win0_11.index t = ![t.val, 0] := (by decide +kernel : ∀ t : Fin grid0.N, _)
theorem row11 (t : Fin cfg0.N) (y : S512x2048.Idx) : ((((cfg0.win 11).blk t).view.emb y) 0).val = t.val * 512 + (y 0).val := by
  blk_simp [idx11 t]
theorem col11 (t : Fin cfg0.N) (y : S512x2048.Idx) : ((((cfg0.win 11).blk t).view.emb y) 1).val = (y 1).val := by
  blk_simp [idx11 t]

theorem final_k (c : Dev nD) : (dats m 0 c).arrAt 11 (cfgs 0).N = ks (m (c, Proc.tc.devRef main_arg0)) (m (c, Proc.tc.devRef main_arg1)) (m (c, Proc.tc.devRef main_arg3)) (m (c, Proc.tc.devRef main_arg5)) := by
  refine (dats m 0 c).arrAt_eq_of_covers 11 _ (by decide +kernel) fun t _ y => ?_
  blk_simp
  rw [after0_11]
  refine (k_out m c t y).trans ?_
  unfold ks
  rw [row11 t y, col11 t y]

theorem idx12 : ∀ t : Fin cfg0.N, win0_12.index t = ![t.val, 0] := (by decide +kernel : ∀ t : Fin grid0.N, _)
theorem row12 (t : Fin cfg0.N) (y : S512x2048.Idx) : ((((cfg0.win 12).blk t).view.emb y) 0).val = t.val * 512 + (y 0).val := by
  blk_simp [idx12 t]
theorem col12 (t : Fin cfg0.N) (y : S512x2048.Idx) : ((((cfg0.win 12).blk t).view.emb y) 1).val = (y 1).val := by
  blk_simp [idx12 t]

theorem final_v (c : Dev nD) : (dats m 0 c).arrAt 12 (cfgs 0).N = vs (m (c, Proc.tc.devRef main_arg0)) (m (c, Proc.tc.devRef main_arg3)) (m (c, Proc.tc.devRef main_arg5)) := by
  refine (dats m 0 c).arrAt_eq_of_covers 12 _ (by decide +kernel) fun t _ y => ?_
  blk_simp
  rw [after0_12]
  refine (v_out m c t y).trans ?_
  unfold vs
  rw [row12 t y, col12 t y]

end Cert.LatentUpIdeal.Lat

namespace Cert.CallLatentUp

open Idealize.ShloMosaic Idealize.SL.Sem

attribute [local instance] Cert.LatentUpIdeal.Gen.facts Cert.LatentUpReferenceIdeal.Gen.facts

theorem frame_ref : Cert.quiescent_LatentUpReferenceIdeal (hLatentUpReferenceIdeal := Cert.LatentUpReferenceIdeal.Gen.facts) := fun m ρ _ =>
  (θ_run Cert.LatentUpReferenceIdeal.defs _ _).mono (fun r h => ⟨fun c => (h c).2.2.2, sem_eq_zero_of_no_sems (by decide) r.2⟩)
    (Cert.LatentUpReferenceIdeal.Value.run (F := Ideal) m ρ)

theorem algebraic : Cert.algebraic_LatentUpIdeal_LatentUpReferenceIdeal (hLatentUpIdeal := Cert.LatentUpIdeal.Gen.facts)
    (hLatentUpReferenceIdeal := Cert.LatentUpReferenceIdeal.Gen.facts) := by
  intro m ρ m' ρ' _ hag
  refine ⟨fun c => Cert.Lat.qs (m ((c.tc : Thread Cert.LatentUpIdeal.nD Cert.LatentUpIdeal.τ).loc Cert.LatentUpIdeal.main_arg0)) (m ((c.tc : Thread Cert.LatentUpIdeal.nD Cert.LatentUpIdeal.τ).loc Cert.LatentUpIdeal.main_arg1)) (m ((c.tc : Thread Cert.LatentUpIdeal.nD Cert.LatentUpIdeal.τ).loc Cert.LatentUpIdeal.main_arg2)) (m ((c.tc : Thread Cert.LatentUpIdeal.nD Cert.LatentUpIdeal.τ).loc Cert.LatentUpIdeal.main_arg4)),
    fun c => Cert.Lat.ks (m ((c.tc : Thread Cert.LatentUpIdeal.nD Cert.LatentUpIdeal.τ).loc Cert.LatentUpIdeal.main_arg0)) (m ((c.tc : Thread Cert.LatentUpIdeal.nD Cert.LatentUpIdeal.τ).loc Cert.LatentUpIdeal.main_arg1)) (m ((c.tc : Thread Cert.LatentUpIdeal.nD Cert.LatentUpIdeal.τ).loc Cert.LatentUpIdeal.main_arg3)) (m ((c.tc : Thread Cert.LatentUpIdeal.nD Cert.LatentUpIdeal.τ).loc Cert.LatentUpIdeal.main_arg5)),
    fun c => Cert.Lat.vs (m ((c.tc : Thread Cert.LatentUpIdeal.nD Cert.LatentUpIdeal.τ).loc Cert.LatentUpIdeal.main_arg0)) (m ((c.tc : Thread Cert.LatentUpIdeal.nD Cert.LatentUpIdeal.τ).loc Cert.LatentUpIdeal.main_arg3)) (m ((c.tc : Thread Cert.LatentUpIdeal.nD Cert.LatentUpIdeal.τ).loc Cert.LatentUpIdeal.main_arg5)), ?_, ?_⟩
  · exact (θ_run _ _ _).mono (fun r h c => ⟨(h c).1.trans (Cert.LatentUpIdeal.Lat.final_q m c), (h c).2.1.trans (Cert.LatentUpIdeal.Lat.final_k m c),
      (h c).2.2.1.trans (Cert.LatentUpIdeal.Lat.final_v m c), (h c).2.2.2⟩)
      (Cert.LatentUpIdeal.Value.run_blocks (F := Ideal) m ρ)
  · refine (θ_run _ _ _).mono (fun r h c => ⟨(h c).1.trans ?_, (h c).2.1.trans ?_, (h c).2.2.1.trans ?_, (h c).2.2.2⟩) (Cert.LatentUpReferenceIdeal.Value.run (F := Ideal) m' ρ')
    · refine (Cert.LatentUpReferenceIdeal.Val.qres_eq m' c).trans ((Cert.LatentUpReferenceIdeal.Val.qres_at _ _ _ _).trans ?_)
      rw [(hag c).1, (hag c).2.1, (hag c).2.2.1, (hag c).2.2.2.2.1]
    · refine (Cert.LatentUpReferenceIdeal.Val.kres_eq m' c).trans ((Cert.LatentUpReferenceIdeal.Val.kres_at _ _ _ _).trans ?_)
      rw [(hag c).1, (hag c).2.1, (hag c).2.2.2.1, (hag c).2.2.2.2.2]
    · refine (Cert.LatentUpReferenceIdeal.Val.vres_at (m' ((c.tc : Thread Cert.LatentUpReferenceIdeal.nD Cert.LatentUpReferenceIdeal.τ).loc Cert.LatentUpReferenceIdeal.main_arg0)) (m' ((c.tc : Thread Cert.LatentUpReferenceIdeal.nD Cert.LatentUpReferenceIdeal.τ).loc Cert.LatentUpReferenceIdeal.main_arg3)) (m' ((c.tc : Thread Cert.LatentUpReferenceIdeal.nD Cert.LatentUpReferenceIdeal.τ).loc Cert.LatentUpReferenceIdeal.main_arg5))).trans ?_
      rw [(hag c).1, (hag c).2.2.2.1, (hag c).2.2.2.2.2]

end Cert.CallLatentUp

end
-- ==== Proof.CallFfnNorm.lean ====
/-
  The norm before the first feed-forward layer: each block of 512 rows is normalised on its own, and is what the whole array's norm has there.
-/
module

public import proofs.«01_k».proof.Defs
public import proofs.«01_k».proof.Proof.Gen.FfnNorm.Frame
public import proofs.«01_k».proof.Proof.Gen.FfnNormIdeal.Value
public import proofs.«01_k».proof.Proof.Gen.FfnNormReferenceIdeal.Run
public import Idealize.ShloMosaic.Lib.Pipeline.ValueKit
public import Idealize.ShloMosaic.Lib.Pointwise

@[expose] public section

set_option maxRecDepth 16384

noncomputable section

namespace Cert.FfnNormReferenceIdeal.Val

open Idealize.ShloMosaic Idealize.ShloMosaic.TcCoe
open Cert.FfnNormReferenceIdeal Cert.FfnNormReferenceIdeal.Gen

/-- The normalised rows, as the reference computes them. -/
abbrev result (X0 : FVec Ideal S4x4096x4096 .f32) (X1 : FVec Ideal S4x4096 .f32) : FVec Ideal S16384x4096 .bf16 :=
  truncf .bf16 (shapeCast _ (mulf (mulf X0 (broadcastInDim S4x4096x4096 ![0, 1, 2] bcast_S4x4096x1_S4x4096x4096_0_1_2 (Host.rsqrt (addf (Host.divf (broadcastInDim S4x4096x1 ![0, 1] bcast_S4x4096_S4x4096x1_0_1 (Host.reduceAdd (mulf X0 X0) (constant S_ .f32 0x00000000#32) reducesTo_S4x4096x4096_S4x4096_d2 h_S_)) (broadcastInDim S4x4096x1 ![] bcast_S_S4x4096x1 (constant S_ .f32 0x45800000#32))) (broadcastInDim S4x4096x1 ![] bcast_S_S4x4096x1 (constant S_ .f32 0x358637BD#32)))))) (broadcastInDim S4x4096x4096 ![0, 1, 2] bcast_S1x1x4096_S4x4096x4096_0_1_2 (broadcastInDim S1x1x4096 ![2] bcast_S4096_S1x1x4096_2 (shapeCast _ (extractStridedSlice S1x4096 ![0, 0] X1 slices_S4x4096_S1x4096_0_0) shapeCasts_S1x4096_S4096)))) shapeCasts_S4x4096x4096_S16384x4096) bitsLt_bf16_f32

end Cert.FfnNormReferenceIdeal.Val

namespace Cert.FfnNormIdeal.Val

open Idealize.ShloMosaic Idealize.ShloMosaic.TcCoe Idealize.SL.Sem
open Cert.FfnNormIdeal Cert.FfnNormIdeal.Gen
open Cert.FfnNormReferenceIdeal.Val (result)

variable (m : (ℓ : Loc nD τ sig) → Buf (Elt Ideal) ℓ)

theorem idx : ∀ t : Fin cfg0.N, win0_0.index t = ![t.val, 0] ∧ win0_1.index t = ![0, 0] ∧ win0_2.index t = ![t.val, 0] :=
  (by decide +kernel : ∀ t : Fin grid0.N, _)

theorem lt_t (t : Fin cfg0.N) : t.val < 32 := t.isLt

/-- Row `r` of the block of point `t`, as a batch and a token. -/
def at3 (t : Fin cfg0.N) (r : Fin 512) (j : Fin 4096) : S4x4096x4096.Idx :=
  ix3 ⟨(t.val * 512 + r.val) / 4096, by have := lt_t t; have := r.isLt; omega⟩ ⟨(t.val * 512 + r.val) % 4096, Nat.mod_lt _ (by decide)⟩ j

theorem at3_of (i : S16384x4096.Idx) (t : Fin cfg0.N) (r : Fin 512) (j : Fin 4096) (h0 : (i 0).val = t.val * 512 + r.val)
    (p : (i 0).val / 4096 < 4) (q : (i 0).val % 4096 < 4096) : (ix3 ⟨(i 0).val / 4096, p⟩ ⟨(i 0).val % 4096, q⟩ j : S4x4096x4096.Idx) = at3 t r j := by
  unfold at3
  congr 1 <;> exact Fin.ext (by simp only [h0])

theorem row0 (t : Fin cfg0.N) (y : S512x4096.Idx) : ((((cfg0.win 0).blk t).view.emb y) 0).val = t.val * 512 + (y 0).val := by
  blk_simp [(idx t).1]

theorem col0 (t : Fin cfg0.N) (y : S512x4096.Idx) : (((cfg0.win 0).blk t).view.emb y) 1 = y 1 := by
  refine Fin.ext ?_
  blk_simp [(idx t).1]

theorem row2 (t : Fin cfg0.N) (y : S512x4096.Idx) : ((((cfg0.win 2).blk t).view.emb y) 0).val = t.val * 512 + (y 0).val := by
  blk_simp [(idx t).2.2]

theorem col2 (t : Fin cfg0.N) (y : S512x4096.Idx) : (((cfg0.win 2).blk t).view.emb y) 1 = y 1 := by
  refine Fin.ext ?_
  blk_simp [(idx t).2.2]

theorem col1 (t : Fin cfg0.N) (y : S1x4096.Idx) : (((cfg0.win 1).blk t).view.emb y) 1 = y 1 := by
  refine Fin.ext ?_
  blk_simp [(idx t).2.1]

theorem blk0 (c : Dev nD) (t : Fin cfg0.N) (y : S512x4096.Idx) :
    iblk m c 0 t y = m ((c : Thread nD τ).loc main_arg0) (at3 t (y 0) (y 1)) := by
  have e := (idx t).1
  blk_simp [iblk, e]
  entry_read
  pointwise []
  exact congrArg _ ((congrArg _ (col0 t y)).trans (at3_of _ t (y 0) (y 1) (row0 t y) _ _))

theorem blk1 (c : Dev nD) (t : Fin cfg0.N) (y : S1x4096.Idx) :
    iblk m c 1 t y = m ((c : Thread nD τ).loc main_arg1) (ix2 0 (y 1)) := by
  have e := (idx t).2.1
  blk_simp [iblk, e]
  entry_read
  pointwise []
  exact congrArg (fun j => m ((c : Thread nD τ).loc main_arg1) (ix2 0 j)) (col1 t y)

/-- What the body stores at an index of point `t`'s block. -/
theorem point (c : Dev nD) (t : Fin cfg0.N) (y : S512x4096.Idx) (i : S16384x4096.Idx) (h0 : (i 0).val = t.val * 512 + (y 0).val) (h1 : i 1 = y 1) :
    k0_pay1 (iblk m c 0 t) (iblk m c 1 t) y
      = result (m ((c : Thread nD τ).loc main_arg0)) (m ((c : Thread nD τ).loc main_arg1)) i := by
  pointwise [k0_pay1, result]
  simp only [blk0, blk1, at3, h0, h1]
  rfl

theorem final (c : Dev nD) : (dats m 0 c).arrAt 2 (cfgs 0).N
      = result (m ((c : Thread nD τ).loc main_arg0)) (m ((c : Thread nD τ).loc main_arg1)) := by
  refine (dats m 0 c).arrAt_eq_of_covers 2 _ (by decide +kernel) fun t _ y => ?_
  blk_simp
  rw [after0_2]
  frame_out
  exact point m c t y _ (row2 t y) (col2 t y)

end Cert.FfnNormIdeal.Val

namespace Cert.CallFfnNorm

open Idealize.ShloMosaic Idealize.SL.Sem

attribute [local instance] Cert.FfnNormIdeal.Gen.facts Cert.FfnNormReferenceIdeal.Gen.facts

theorem frame_ref : Cert.quiescent_FfnNormReferenceIdeal (hFfnNormReferenceIdeal := Cert.FfnNormReferenceIdeal.Gen.facts) := fun m ρ _ =>
  (θ_run Cert.FfnNormReferenceIdeal.defs _ _).mono (fun r h => ⟨fun c => (h c).2, sem_eq_zero_of_no_sems (by decide) r.2⟩)
    (Cert.FfnNormReferenceIdeal.Value.run (F := Ideal) m ρ)

theorem algebraic : Cert.algebraic_FfnNormIdeal_FfnNormReferenceIdeal (hFfnNormIdeal := Cert.FfnNormIdeal.Gen.facts)
    (hFfnNormReferenceIdeal := Cert.FfnNormReferenceIdeal.Gen.facts) := by
  intro m ρ m' ρ' _ hag
  refine ⟨fun c => Cert.FfnNormReferenceIdeal.Val.result (m ((c.tc : Thread Cert.FfnNormIdeal.nD Cert.FfnNormIdeal.τ).loc Cert.FfnNormIdeal.main_arg0))
    (m ((c.tc : Thread Cert.FfnNormIdeal.nD Cert.FfnNormIdeal.τ).loc Cert.FfnNormIdeal.main_arg1)), ?_, ?_⟩
  · exact (θ_run _ _ _).mono (fun r h c => ⟨(h c).1.trans (Cert.FfnNormIdeal.Val.final m c), (h c).2⟩)
      (Cert.FfnNormIdeal.Value.run_blocks (F := Ideal) m ρ)
  · refine (θ_run _ _ _).mono (fun r h c => ⟨(h c).1.trans ?_, (h c).2⟩) (Cert.FfnNormReferenceIdeal.Value.run (F := Ideal) m' ρ')
    rw [(hag c).1, (hag c).2]

end Cert.CallFfnNorm

end
-- ==== Proof.lean ====
module

public import proofs.«01_k».proof.Proof.Gen.LatentUp
public import proofs.«01_k».proof.Proof.Gen.LatentUp.Skeleton
public import proofs.«01_k».proof.Proof.Gen.LatentUp.Launch
public import proofs.«01_k».proof.Proof.Gen.LatentUp.Points
public import proofs.«01_k».proof.Proof.Gen.LatentUp.Frame
public import proofs.«01_k».proof.Proof.Gen.LatentUpIdeal
public import proofs.«01_k».proof.Proof.Gen.LatentUpIdeal.Skeleton
public import proofs.«01_k».proof.Proof.Gen.LatentUpIdeal.Launch
public import proofs.«01_k».proof.Proof.Gen.LatentUpIdeal.Points
public import proofs.«01_k».proof.Proof.Gen.LatentUpIdeal.Frame
public import proofs.«01_k».proof.Proof.Gen.LatentUpIdeal.Value
public import proofs.«01_k».proof.Proof.Gen.LatentUpReferenceIdeal
public import proofs.«01_k».proof.Proof.Gen.LatentUpReferenceIdeal.Run
public import proofs.«01_k».proof.Proof.Gen.FfnNorm
public import proofs.«01_k».proof.Proof.Gen.FfnNorm.Skeleton
public import proofs.«01_k».proof.Proof.Gen.FfnNorm.Launch
public import proofs.«01_k».proof.Proof.Gen.FfnNorm.Points
public import proofs.«01_k».proof.Proof.Gen.FfnNorm.Frame
public import proofs.«01_k».proof.Proof.Gen.FfnNormIdeal
public import proofs.«01_k».proof.Proof.Gen.FfnNormIdeal.Skeleton
public import proofs.«01_k».proof.Proof.Gen.FfnNormIdeal.Launch
public import proofs.«01_k».proof.Proof.Gen.FfnNormIdeal.Points
public import proofs.«01_k».proof.Proof.Gen.FfnNormIdeal.Frame
public import proofs.«01_k».proof.Proof.Gen.FfnNormIdeal.Value
public import proofs.«01_k».proof.Proof.Gen.FfnNormReferenceIdeal
public import proofs.«01_k».proof.Proof.Gen.FfnNormReferenceIdeal.Run
public import proofs.«01_k».proof.Proof.Gen.Attention
public import proofs.«01_k».proof.Proof.Gen.Attention.Skeleton
public import proofs.«01_k».proof.Proof.Gen.Attention.Launch
public import proofs.«01_k».proof.Proof.Gen.Attention.Points
public import proofs.«01_k».proof.Proof.Gen.Attention.Frame
public import proofs.«01_k».proof.Proof.Gen.AttentionIdeal
public import proofs.«01_k».proof.Proof.Gen.AttentionIdeal.Skeleton
public import proofs.«01_k».proof.Proof.Gen.AttentionIdeal.Launch
public import proofs.«01_k».proof.Proof.Gen.AttentionIdeal.Points
public import proofs.«01_k».proof.Proof.Gen.AttentionIdeal.Frame
public import proofs.«01_k».proof.Proof.Gen.AttentionIdeal.Value
public import proofs.«01_k».proof.Proof.Gen.AttentionReferenceIdeal
public import proofs.«01_k».proof.Proof.Gen.AttentionReferenceIdeal.Run
public import proofs.«01_k».proof.Proof.Retention
public import proofs.«01_k».proof.Proof.CallGateUp
public import proofs.«01_k».proof.Proof.CallTail
public import proofs.«01_k».proof.Proof.CallDownFirst
public import proofs.«01_k».proof.Proof.CallDownSecond
public import proofs.«01_k».proof.Proof.CallInProj
public import proofs.«01_k».proof.Proof.CallOutProj
public import proofs.«01_k».proof.Proof.CallFinal
public import proofs.«01_k».proof.Proof.CallAttention
public import proofs.«01_k».proof.Proof.CallLatentUp
public import proofs.«01_k».proof.Proof.CallFfnNorm
public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.GateUp
public import proofs.«01_k».proof.Proof.Gen.GateUp.Skeleton
public import proofs.«01_k».proof.Proof.Gen.GateUp.Launch
public import proofs.«01_k».proof.Proof.Gen.GateUp.Points
public import proofs.«01_k».proof.Proof.Gen.GateUp.Frame
public import proofs.«01_k».proof.Proof.Gen.GateUpIdeal
public import proofs.«01_k».proof.Proof.Gen.GateUpIdeal.Skeleton
public import proofs.«01_k».proof.Proof.Gen.GateUpIdeal.Launch
public import proofs.«01_k».proof.Proof.Gen.GateUpIdeal.Points
public import proofs.«01_k».proof.Proof.Gen.GateUpIdeal.Frame
public import proofs.«01_k».proof.Proof.Gen.GateUpIdeal.Value
public import proofs.«01_k».proof.Proof.Gen.GateUpReferenceIdeal
public import proofs.«01_k».proof.Proof.Gen.GateUpReferenceIdeal.Run
public import proofs.«01_k».proof.Proof.Gen.Tail
public import proofs.«01_k».proof.Proof.Gen.Tail.Skeleton
public import proofs.«01_k».proof.Proof.Gen.Tail.Launch
public import proofs.«01_k».proof.Proof.Gen.Tail.Points
public import proofs.«01_k».proof.Proof.Gen.Tail.Frame
public import proofs.«01_k».proof.Proof.Gen.TailIdeal
public import proofs.«01_k».proof.Proof.Gen.TailIdeal.Skeleton
public import proofs.«01_k».proof.Proof.Gen.TailIdeal.Launch
public import proofs.«01_k».proof.Proof.Gen.TailIdeal.Points
public import proofs.«01_k».proof.Proof.Gen.TailIdeal.Frame
public import proofs.«01_k».proof.Proof.Gen.TailIdeal.Value
public import proofs.«01_k».proof.Proof.Gen.TailReferenceIdeal
public import proofs.«01_k».proof.Proof.Gen.TailReferenceIdeal.Run
public import proofs.«01_k».proof.Proof.Gen.DownFirst
public import proofs.«01_k».proof.Proof.Gen.DownSecond
public import proofs.«01_k».proof.Proof.Gen.DownFirst.Skeleton
public import proofs.«01_k».proof.Proof.Gen.DownSecond.Skeleton
public import proofs.«01_k».proof.Proof.Gen.DownFirst.Launch
public import proofs.«01_k».proof.Proof.Gen.DownSecond.Launch
public import proofs.«01_k».proof.Proof.Gen.DownFirst.Points
public import proofs.«01_k».proof.Proof.Gen.DownSecond.Points
public import proofs.«01_k».proof.Proof.Gen.DownFirst.Frame
public import proofs.«01_k».proof.Proof.Gen.DownSecond.Frame
public import proofs.«01_k».proof.Proof.Gen.DownFirstIdeal
public import proofs.«01_k».proof.Proof.Gen.DownSecondIdeal
public import proofs.«01_k».proof.Proof.Gen.DownFirstIdeal.Skeleton
public import proofs.«01_k».proof.Proof.Gen.DownSecondIdeal.Skeleton
public import proofs.«01_k».proof.Proof.Gen.DownFirstIdeal.Launch
public import proofs.«01_k».proof.Proof.Gen.DownSecondIdeal.Launch
public import proofs.«01_k».proof.Proof.Gen.DownFirstIdeal.Points
public import proofs.«01_k».proof.Proof.Gen.DownSecondIdeal.Points
public import proofs.«01_k».proof.Proof.Gen.DownFirstIdeal.Frame
public import proofs.«01_k».proof.Proof.Gen.DownSecondIdeal.Frame
public import proofs.«01_k».proof.Proof.Gen.DownFirstIdeal.Value
public import proofs.«01_k».proof.Proof.Gen.DownSecondIdeal.Value
public import proofs.«01_k».proof.Proof.Gen.DownFirstReferenceIdeal
public import proofs.«01_k».proof.Proof.Gen.DownSecondReferenceIdeal
public import proofs.«01_k».proof.Proof.Gen.DownFirstReferenceIdeal.Run
public import proofs.«01_k».proof.Proof.Gen.DownSecondReferenceIdeal.Run
public import proofs.«01_k».proof.Proof.Gen.InProj
public import proofs.«01_k».proof.Proof.Gen.InProj.Skeleton
public import proofs.«01_k».proof.Proof.Gen.InProj.Launch
public import proofs.«01_k».proof.Proof.Gen.InProj.Points
public import proofs.«01_k».proof.Proof.Gen.InProj.Frame
public import proofs.«01_k».proof.Proof.Gen.InProjIdeal
public import proofs.«01_k».proof.Proof.Gen.InProjIdeal.Skeleton
public import proofs.«01_k».proof.Proof.Gen.InProjIdeal.Launch
public import proofs.«01_k».proof.Proof.Gen.InProjIdeal.Points
public import proofs.«01_k».proof.Proof.Gen.InProjIdeal.Frame
public import proofs.«01_k».proof.Proof.Gen.InProjIdeal.Value
public import proofs.«01_k».proof.Proof.Gen.InProjReferenceIdeal
public import proofs.«01_k».proof.Proof.Gen.InProjReferenceIdeal.Run
public import proofs.«01_k».proof.Proof.Gen.OutProj
public import proofs.«01_k».proof.Proof.Gen.OutProj.Skeleton
public import proofs.«01_k».proof.Proof.Gen.OutProj.Launch
public import proofs.«01_k».proof.Proof.Gen.OutProj.Points
public import proofs.«01_k».proof.Proof.Gen.OutProj.Frame
public import proofs.«01_k».proof.Proof.Gen.OutProjIdeal
public import proofs.«01_k».proof.Proof.Gen.OutProjIdeal.Skeleton
public import proofs.«01_k».proof.Proof.Gen.OutProjIdeal.Launch
public import proofs.«01_k».proof.Proof.Gen.OutProjIdeal.Points
public import proofs.«01_k».proof.Proof.Gen.OutProjIdeal.Frame
public import proofs.«01_k».proof.Proof.Gen.OutProjIdeal.Value
public import proofs.«01_k».proof.Proof.Gen.OutProjReferenceIdeal
public import proofs.«01_k».proof.Proof.Gen.OutProjReferenceIdeal.Run
public import proofs.«01_k».proof.Proof.Gen.Final
public import proofs.«01_k».proof.Proof.Gen.Final.Skeleton
public import proofs.«01_k».proof.Proof.Gen.Final.Launch
public import proofs.«01_k».proof.Proof.Gen.Final.Points
public import proofs.«01_k».proof.Proof.Gen.Final.Frame
public import proofs.«01_k».proof.Proof.Gen.FinalIdeal
public import proofs.«01_k».proof.Proof.Gen.FinalIdeal.Skeleton
public import proofs.«01_k».proof.Proof.Gen.FinalIdeal.Launch
public import proofs.«01_k».proof.Proof.Gen.FinalIdeal.Points
public import proofs.«01_k».proof.Proof.Gen.FinalIdeal.Frame
public import proofs.«01_k».proof.Proof.Gen.FinalIdeal.Value
public import proofs.«01_k».proof.Proof.Gen.FinalReferenceIdeal
public import proofs.«01_k».proof.Proof.Gen.FinalReferenceIdeal.Run
public import proofs.«01_k».proof.Proof.Gen.On_main_columns
public import Idealize.ShloMosaic.Adequacy
public import Idealize.ShloMosaic.Init

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts,
  Cert.GateUp.Gen.facts, Cert.GateUpIdeal.Gen.facts, Cert.GateUpReferenceIdeal.Gen.facts,
  Cert.Tail.Gen.facts, Cert.TailIdeal.Gen.facts, Cert.TailReferenceIdeal.Gen.facts,
  Cert.DownFirst.Gen.facts, Cert.DownFirstIdeal.Gen.facts, Cert.DownFirstReferenceIdeal.Gen.facts,
  Cert.DownSecond.Gen.facts, Cert.DownSecondIdeal.Gen.facts, Cert.DownSecondReferenceIdeal.Gen.facts,
  Cert.InProj.Gen.facts, Cert.InProjIdeal.Gen.facts, Cert.InProjReferenceIdeal.Gen.facts,
  Cert.OutProj.Gen.facts, Cert.OutProjIdeal.Gen.facts, Cert.OutProjReferenceIdeal.Gen.facts,
  Cert.Final.Gen.facts, Cert.FinalIdeal.Gen.facts, Cert.FinalReferenceIdeal.Gen.facts,
  Cert.Attention.Gen.facts, Cert.AttentionIdeal.Gen.facts, Cert.AttentionReferenceIdeal.Gen.facts,
  Cert.LatentUp.Gen.facts, Cert.LatentUpIdeal.Gen.facts, Cert.LatentUpReferenceIdeal.Gen.facts,
  Cert.FfnNorm.Gen.facts, Cert.FfnNormIdeal.Gen.facts, Cert.FfnNormReferenceIdeal.Gen.facts,
  Cert.CallAttention.pre_facts, Cert.On_main_columns.Gen.facts,
  fun m ρ _ => Cert.Kernel.Gen.frame m ρ, fun m ρ _ => Cert.KernelIdeal.Gen.frame m ρ, Cert.Retention.frame_ref,
  fun m ρ _ => Cert.GateUp.Gen.frame m ρ, fun m ρ _ => Cert.GateUpIdeal.Gen.frame m ρ, Cert.CallGateUp.frame_ref,
  fun m ρ _ => Cert.Tail.Gen.frame m ρ, fun m ρ _ => Cert.TailIdeal.Gen.frame m ρ, Cert.CallTail.frame_ref,
  fun m ρ _ => Cert.DownFirst.Gen.frame m ρ, fun m ρ _ => Cert.DownFirstIdeal.Gen.frame m ρ, Cert.CallDownFirst.frame_ref,
  fun m ρ _ => Cert.DownSecond.Gen.frame m ρ, fun m ρ _ => Cert.DownSecondIdeal.Gen.frame m ρ, Cert.CallDownSecond.frame_ref,
  fun m ρ _ => Cert.InProj.Gen.frame m ρ, fun m ρ _ => Cert.InProjIdeal.Gen.frame m ρ, Cert.CallInProj.frame_ref,
  fun m ρ _ => Cert.OutProj.Gen.frame m ρ, fun m ρ _ => Cert.OutProjIdeal.Gen.frame m ρ, Cert.CallOutProj.frame_ref,
  fun m ρ _ => Cert.Final.Gen.frame m ρ, fun m ρ _ => Cert.FinalIdeal.Gen.frame m ρ, Cert.CallFinal.frame_ref,
  fun m ρ _ => Cert.Attention.Gen.frame m ρ, fun m ρ _ => Cert.AttentionIdeal.Gen.frame m ρ, Cert.CallAttention.frame_pre,
  Cert.CallAttention.frame_ref, Cert.CallAttention.frame_ref_pre,
  fun m ρ _ => Cert.LatentUp.Gen.frame m ρ, fun m ρ _ => Cert.LatentUpIdeal.Gen.frame m ρ, Cert.CallLatentUp.frame_ref,
  fun m ρ _ => Cert.FfnNorm.Gen.frame m ρ, fun m ρ _ => Cert.FfnNormIdeal.Gen.frame m ρ, Cert.CallFfnNorm.frame_ref,
  trivial, Cert.Retention.algebraic,
  trivial, Cert.CallGateUp.algebraic,
  trivial, Cert.CallTail.algebraic,
  trivial, Cert.CallDownFirst.algebraic,
  trivial, Cert.CallDownSecond.algebraic,
  trivial, Cert.CallInProj.algebraic,
  trivial, Cert.CallOutProj.algebraic,
  trivial, Cert.CallFinal.algebraic,
  trivial, Cert.CallAttention.algebraic,
  trivial, Cert.CallLatentUp.algebraic,
  trivial, Cert.CallFfnNorm.algebraic⟩

end Cert.Proof

end
